-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_LookupIdeal (m : (ℓ : Loc Cert.LookupIdeal.nD Cert.LookupIdeal.τ Cert.LookupIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_LookupIdeal [hLookupIdeal : Cert.LookupIdeal.Facts] : Prop :=
  ∀ (m : (ℓ : Loc Cert.LookupIdeal.nD Cert.LookupIdeal.τ Cert.LookupIdeal.sig) → Buf (Elt Ideal) ℓ) (g : Dev Cert.LookupIdeal.nD → PrngReg), Pre_LookupIdeal m →
    θ_run (Cert.LookupIdeal.defs (F := Ideal)) (onTc (τ := Cert.LookupIdeal.τ) (Cert.LookupIdeal.main (F := Ideal))) ⟨m, fun _ => 0, g⟩ (fun r => (∀ c : Dev Cert.LookupIdeal.nD,
      r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
      ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gather_GatherIdeal : Prop :=
  True

def algebraic_GatherIdeal_LookupIdeal [hGatherIdeal : Cert.GatherIdeal.Facts] [hLookupIdeal : Cert.LookupIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.LookupIdeal.nD Cert.LookupIdeal.τ Cert.LookupIdeal.sig) → Buf (Elt Ideal) ℓ) (g' : Dev Cert.LookupIdeal.nD → PrngReg), Pre_GatherIdeal m →
    (∀ c : Dev Cert.GatherIdeal.nD,
      m' ((c.tc : Thread Cert.LookupIdeal.nD Cert.LookupIdeal.τ).loc Cert.LookupIdeal.main_arg0) = m ((c.tc : Thread Cert.GatherIdeal.nD Cert.GatherIdeal.τ).loc Cert.GatherIdeal.main_arg0)
      ∧ m' ((c.tc : Thread Cert.LookupIdeal.nD Cert.LookupIdeal.τ).loc Cert.LookupIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v4)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v4) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.LookupIdeal.defs (F := Ideal)) (onTc (τ := Cert.LookupIdeal.τ) (Cert.LookupIdeal.main (F := Ideal))) ⟨m', fun _ => 0, g'⟩ (fun r => ∀ c : Dev Cert.LookupIdeal.nD,
          r.2.mem ((c.tc : Thread Cert.LookupIdeal.nD Cert.LookupIdeal.τ).loc Cert.LookupIdeal.main_v18) = v0 c
          ∧ r.2.mem ((c.tc : Thread Cert.LookupIdeal.nD Cert.LookupIdeal.τ).loc Cert.LookupIdeal.main_arg0) = m' ((c.tc : Thread Cert.LookupIdeal.nD Cert.LookupIdeal.τ).loc Cert.LookupIdeal.main_arg0)
          ∧ r.2.mem ((c.tc : Thread Cert.LookupIdeal.nD Cert.LookupIdeal.τ).loc Cert.LookupIdeal.main_arg1) = m' ((c.tc : Thread Cert.LookupIdeal.nD Cert.LookupIdeal.τ).loc Cert.LookupIdeal.main_arg1))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hLookupIdeal : Cert.LookupIdeal.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather)
    ∧ quiescent_GatherIdeal (hGatherIdeal := hGatherIdeal)
    ∧ quiescent_LookupIdeal (hLookupIdeal := hLookupIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_LookupIdeal (hGatherIdeal := hGatherIdeal) (hLookupIdeal := hLookupIdeal)
-- ==== Kernel.lean ====
abbrev S3x640x3584 : Shape := ⟨3, ![3, 640, 3584]⟩
abbrev S12x448x2x128 : Shape := ⟨4, ![12, 448, 2, 128]⟩
abbrev S40x448x2x128 : Shape := ⟨4, ![40, 448, 2, 128]⟩
abbrev S96x448x2x128 : Shape := ⟨4, ![96, 448, 2, 128]⟩
abbrev S18944 : Shape := ⟨1, ![18944]⟩
abbrev S1920x3584 : Shape := ⟨2, ![1920, 3584]⟩
abbrev S1x18944 : Shape := ⟨2, ![1, 18944]⟩
abbrev S12x112x8x128 : Shape := ⟨4, ![12, 112, 8, 128]⟩
abbrev S1920x18944 : Shape := ⟨2, ![1920, 18944]⟩
abbrev S4x112x8x128 : Shape := ⟨4, ![4, 112, 8, 128]⟩
abbrev S1x512 : Shape := ⟨2, ![1, 512]⟩
abbrev S1920x512 : Shape := ⟨2, ![1920, 512]⟩
abbrev S1x112x8x128 : Shape := ⟨4, ![1, 112, 8, 128]⟩
abbrev S112x8x128 : Shape := ⟨3, ![112, 8, 128]⟩
abbrev S896x128 : Shape := ⟨2, ![896, 128]⟩
abbrev S3584x128 : Shape := ⟨2, ![3584, 128]⟩
abbrev S3584x512 : Shape := ⟨2, ![3584, 512]⟩
abbrev S40x112x8x128 : Shape := ⟨4, ![40, 112, 8, 128]⟩
abbrev S96x112x8x128 : Shape := ⟨4, ![96, 112, 8, 128]⟩
abbrev S3x640x18944 : Shape := ⟨3, ![3, 640, 18944]⟩

abbrev nBuf : Space → Nat
  | .hbm => 14
  | .vmem => 21
  | .smem => 0
  | _ => 0

abbrev bufTy : (tb : Table) → Fin (tcTables nBuf tb) → BufTy
  | .hbm, ⟨0, _⟩ => ⟨S3x640x3584, .bf16⟩
  | .hbm, ⟨1, _⟩ => ⟨S12x448x2x128, .i32⟩
  | .hbm, ⟨2, _⟩ => ⟨S40x448x2x128, .i32⟩
  | .hbm, ⟨3, _⟩ => ⟨S96x448x2x128, .i32⟩
  | .hbm, ⟨4, _⟩ => ⟨S18944, .f32⟩
  | .hbm, ⟨5, _⟩ => ⟨S1920x3584, .bf16⟩
  | .hbm, ⟨6, _⟩ => ⟨S1x18944, .f32⟩
  | .hbm, ⟨7, _⟩ => ⟨S12x112x8x128, .i32⟩
  | .hbm, ⟨8, _⟩ => ⟨S1920x18944, .bf16⟩
  | .hbm, ⟨9, _⟩ => ⟨S40x112x8x128, .i32⟩
  | .hbm, ⟨10, _⟩ => ⟨S1920x18944, .bf16⟩
  | .hbm, ⟨11, _⟩ => ⟨S96x112x8x128, .i32⟩
  | .hbm, ⟨12, _⟩ => ⟨S1920x18944, .bf16⟩
  | .hbm, ⟨13, _⟩ => ⟨S3x640x18944, .bf16⟩
  | .local _ .vmem, ⟨0, _⟩ => ⟨S1920x3584, .bf16⟩
  | .local _ .vmem, ⟨1, _⟩ => ⟨S4x112x8x128, .i32⟩
  | .local _ .vmem, ⟨2, _⟩ => ⟨S4x112x8x128, .i32⟩
  | .local _ .vmem, ⟨3, _⟩ => ⟨S1x512, .f32⟩
  | .local _ .vmem, ⟨4, _⟩ => ⟨S1x512, .f32⟩
  | .local _ .vmem, ⟨5, _⟩ => ⟨S1920x512, .bf16⟩
  | .local _ .vmem, ⟨6, _⟩ => ⟨S1920x512, .bf16⟩
  | .local _ .vmem, ⟨7, _⟩ => ⟨S1920x3584, .bf16⟩
  | .local _ .vmem, ⟨8, _⟩ => ⟨S4x112x8x128, .i32⟩
  | .local _ .vmem, ⟨9, _⟩ => ⟨S4x112x8x128, .i32⟩
  | .local _ .vmem, ⟨10, _⟩ => ⟨S1x512, .f32⟩
  | .local _ .vmem, ⟨11, _⟩ => ⟨S1x512, .f32⟩
  | .local _ .vmem, ⟨12, _⟩ => ⟨S1920x512, .bf16⟩
  | .local _ .vmem, ⟨13, _⟩ => ⟨S1920x512, .bf16⟩
  | .local _ .vmem, ⟨14, _⟩ => ⟨S1920x3584, .bf16⟩
  | .local _ .vmem, ⟨15, _⟩ => ⟨S4x112x8x128, .i32⟩
  | .local _ .vmem, ⟨16, _⟩ => ⟨S4x112x8x128, .i32⟩
  | .local _ .vmem, ⟨17, _⟩ => ⟨S1x512, .f32⟩
  | .local _ .vmem, ⟨18, _⟩ => ⟨S1x512, .f32⟩
  | .local _ .vmem, ⟨19, _⟩ => ⟨S1920x512, .bf16⟩
  | .local _ .vmem, ⟨20, _⟩ => ⟨S1920x512, .bf16⟩
  | _, _ => ⟨S3x640x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S1920x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x112x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1920x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![c0_i32.toNat, v0.toNat]

abbrev stage1_0 : Fin 1 → Memref sig .tc .vmem S1920x3584 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x112x8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1920x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![24], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 2 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let c13_i32 : BitVec 32 := 13#32
  let v0 : BitVec 32 := Scalar.addi c13_i32 arg0
  let c0_i32 : BitVec 32 := 0#32
  let c0_i32_0 : BitVec 32 := 0#32
  ![c0_i32.toNat, v0.toNat]

abbrev stage2_0 : Fin 1 → Memref sig .tc .vmem S1920x3584 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4x112x8x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1920x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S3x640x3584 : Shape := ⟨3, ![3, 640, 3584]⟩
abbrev S12x448x2x128 : Shape := ⟨4, ![12, 448, 2, 128]⟩
abbrev S40x448x2x128 : Shape := ⟨4, ![40, 448, 2, 128]⟩
abbrev S96x448x2x128 : Shape := ⟨4, ![96, 448, 2, 128]⟩
abbrev S18944 : Shape := ⟨1, ![18944]⟩
abbrev S148x448x2x128 : Shape := ⟨4, ![148, 448, 2, 128]⟩
abbrev S148x896x128 : Shape := ⟨3, ![148, 896, 128]⟩
abbrev S148x896x128x4 : Shape := ⟨4, ![148, 896, 128, 4]⟩
abbrev S896x4x148x128 : Shape := ⟨4, ![896, 4, 148, 128]⟩
abbrev S3584x18944 : Shape := ⟨2, ![3584, 18944]⟩
abbrev S1920x3584 : Shape := ⟨2, ![1920, 3584]⟩
abbrev S1x18944 : Shape := ⟨2, ![1, 18944]⟩
abbrev S1920x18944 : Shape := ⟨2, ![1920, 18944]⟩
abbrev S3x640x18944 : Shape := ⟨3, ![3, 640, 18944]⟩

abbrev nBuf : Space → Nat
  | .hbm => 14
  | .vmem => 4
  | .smem => 0
  | _ => 0

abbrev bufTy : (tb : Table) → Fin (tcTables nBuf tb) → BufTy
  | .hbm, ⟨0, _⟩ => ⟨S3x640x3584, .bf16⟩
  | .hbm, ⟨1, _⟩ => ⟨S12x448x2x128, .i32⟩
  | .hbm, ⟨2, _⟩ => ⟨S40x448x2x128, .i32⟩
  | .hbm, ⟨3, _⟩ => ⟨S96x448x2x128, .i32⟩
  | .hbm, ⟨4, _⟩ => ⟨S18944, .f32⟩
  | .hbm, ⟨5, _⟩ => ⟨S148x448x2x128, .i32⟩
  | .hbm, ⟨6, _⟩ => ⟨S148x896x128, .i32⟩
  | .hbm, ⟨7, _⟩ => ⟨S148x896x128x4, .fp8e4m3⟩
  | .hbm, ⟨8, _⟩ => ⟨S896x4x148x128, .fp8e4m3⟩
  | .hbm, ⟨9, _⟩ => ⟨S3584x18944, .fp8e4m3⟩
  | .hbm, ⟨10, _⟩ => ⟨S1920x3584, .bf16⟩
  | .hbm, ⟨11, _⟩ => ⟨S1x18944, .f32⟩
  | .hbm, ⟨12, _⟩ => ⟨S1920x18944, .bf16⟩
  | .hbm, ⟨13, _⟩ => ⟨S3x640x18944, .bf16⟩
  | .local _ .vmem, ⟨0, _⟩ => ⟨S1920x3584, .bf16⟩
  | .local _ .vmem, ⟨1, _⟩ => ⟨S3584x18944, .fp8e4m3⟩
  | .local _ .vmem, ⟨2, _⟩ => ⟨S1x18944, .f32⟩
  | .local _ .vmem, ⟨3, _⟩ => ⟨S1920x18944, .bf16⟩
  | _, _ => ⟨S3x640x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1920x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x18944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gather.lean ====
abbrev S18944x224 : Shape := ⟨2, ![18944, 224]⟩
abbrev S65536x2 : Shape := ⟨2, ![65536, 2]⟩
abbrev S224x18944 : Shape := ⟨2, ![224, 18944]⟩
abbrev S28x8x148x128 : Shape := ⟨4, ![28, 8, 148, 128]⟩
abbrev S28x148x8x128 : Shape := ⟨4, ![28, 148, 8, 128]⟩
abbrev S2x65536 : Shape := ⟨2, ![2, 65536]⟩
abbrev S12x448x2x128 : Shape := ⟨4, ![12, 448, 2, 128]⟩
abbrev S65536 : Shape := ⟨1, ![65536]⟩
abbrev S2x4x8x128 : Shape := ⟨4, ![2, 4, 8, 128]⟩
abbrev S2x4x16x128 : Shape := ⟨4, ![2, 4, 16, 128]⟩
abbrev S_ : Shape := ⟨0, ![]⟩
abbrev S2 : Shape := ⟨1, ![2]⟩
abbrev S1x65536 : Shape := ⟨2, ![1, 65536]⟩
abbrev S1x4x8x128 : Shape := ⟨4, ![1, 4, 8, 128]⟩
abbrev S4x8x128 : Shape := ⟨3, ![4, 8, 128]⟩
abbrev S1 : Shape := ⟨1, ![1]⟩
abbrev S1x4x16x128 : Shape := ⟨4, ![1, 4, 16, 128]⟩
abbrev S4x16x128 : Shape := ⟨3, ![4, 16, 128]⟩
abbrev S4x16x1x128 : Shape := ⟨4, ![4, 16, 1, 128]⟩
abbrev S16 : Shape := ⟨1, ![16]⟩
abbrev S1x1x1x16 : Shape := ⟨4, ![1, 1, 1, 16]⟩

abbrev nBuf : Table → Nat
  | .hbm => 7
  | .local .scVector .vmem => 3
  | _ => 0

abbrev bufTy : (tb : Table) → Fin (nBuf tb) → BufTy
  | .hbm, ⟨0, _⟩ => ⟨S18944x224, .i32⟩
  | .hbm, ⟨1, _⟩ => ⟨S65536x2, .i32⟩
  | .hbm, ⟨2, _⟩ => ⟨S224x18944, .i32⟩
  | .hbm, ⟨3, _⟩ => ⟨S28x8x148x128, .i32⟩
  | .hbm, ⟨4, _⟩ => ⟨S28x148x8x128, .i32⟩
  | .hbm, ⟨5, _⟩ => ⟨S2x65536, .i32⟩
  | .hbm, ⟨6, _⟩ => ⟨S12x448x2x128, .i32⟩
  | .local .scVector .vmem, ⟨0, _⟩ => ⟨S65536, .i32⟩
  | .local .scVector .vmem, ⟨1, _⟩ => ⟨S2x4x8x128, .i32⟩
  | .local .scVector .vmem, ⟨2, _⟩ => ⟨S2x4x16x128, .i32⟩
  | _, _ => ⟨S18944x224, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v2_scv : Ref sig .scVector := ⟨.hbm, 4, rfl⟩
abbrev main_v3_scv : Ref sig .scVector := ⟨.hbm, 5, rfl⟩
abbrev main_v4_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c0_i32_6 : BitVec 32 := 0#32
  ![arg0.toNat, 0]
def k0_cond1 (i : grid0.Coords) : BitVec 1 :=
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c0_i32_8 : BitVec 32 := 0#32
  let v24 : BitVec 1 := Scalar.cmpi .sgt v19 c0_i32_8
  let v25 : BitVec 32 := Scalar.extui v24
  let c0_i32_9 : BitVec 32 := 0#32
  let v26 : BitVec 1 := Scalar.cmpi .ne v25 c0_i32_9
  v26

def k0_off2 (i : grid0.Coords) : Fin 4 → Nat :=
  let arg1 : BitVec 32 := BitVec.ofNat 32 (i 1).val
  let c0_i32_33 : BitVec 32 := 0#32
  let v64 : BitVec 32 := Scalar.addi arg1 c0_i32_33
  let c28_i32 : BitVec 32 := 28#32
  let v65 : BitVec 32 := Scalar.remsi v64 c28_i32
  let c0_i32_35 : BitVec 32 := 0#32
  let c28_i32_34 : BitVec 32 := 28#32
  let v66 : BitVec 32 := Scalar.divsi v64 c28_i32_34
  let c4_i32 : BitVec 32 := 4#32
  let v67 : BitVec 32 := Scalar.muli v66 c4_i32
  let v68 : BitVec 32 := Scalar.addi c0_i32_35 v67
  let c0_i32_41 : BitVec 32 := 0#32
  let c0_i32_42 : BitVec 32 := 0#32
  ![v65.toNat, v68.toNat, 0, 0]
@[reducible] def k0_t1_loop (i : grid0.Coords) : Scf.Loop 32 :=
  let c0_i32_25 : BitVec 32 := 0#32
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_27 : BitVec 32 := 1#32
  ⟨c0_i32_25, v57, c1_i32_27⟩
def k0_off3 (i : grid0.Coords) (k0_t1 : Fin (k0_t1_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c16_i32_34 : BitVec 32 := 16#32
  let v67 : BitVec 32 := Scalar.muli v66 c16_i32_34
  let v68 : BitVec 32 := Scalar.addi arg1 v67
  let c28_i32 : BitVec 32 := 28#32
  let v69 : BitVec 32 := Scalar.remsi v68 c28_i32
  let c0_i32_36 : BitVec 32 := 0#32
  let c28_i32_35 : BitVec 32 := 28#32
  let v70 : BitVec 32 := Scalar.divsi v68 c28_i32_35
  let c4_i32 : BitVec 32 := 4#32
  let v71 : BitVec 32 := Scalar.muli v70 c4_i32
  let v72 : BitVec 32 := Scalar.addi c0_i32_36 v71
  let c0_i32_42 : BitVec 32 := 0#32
  let c0_i32_43 : BitVec 32 := 0#32
  ![v69.toNat, v72.toNat, 0, 0]
def k0_cond2 (i : grid0.Coords) (k0_t1 : Fin (k0_t1_loop i).trips) : BitVec 1 :=
  let c2_i32_33 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c1_i32_49 : BitVec 32 := 1#32
  let v83 : BitVec 32 := Scalar.addi v66 c1_i32_49
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let v84 : BitVec 1 := Scalar.cmpi .slt v83 v19
  let v85 : BitVec 32 := Scalar.extui v84
  let c0_i32_50 : BitVec 32 := 0#32
  let v86 : BitVec 1 := Scalar.cmpi .ne v85 c0_i32_50
  v86

def k0_off4 (i : grid0.Coords) (k0_t1 : Fin (k0_t1_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c1_i32_74 : BitVec 32 := 1#32
  let v112 : BitVec 32 := Scalar.addi v66 c1_i32_74
  let c16_i32_75 : BitVec 32 := 16#32
  let v113 : BitVec 32 := Scalar.muli v112 c16_i32_75
  let v114 : BitVec 32 := Scalar.addi arg1 v113
  let c28_i32_76 : BitVec 32 := 28#32
  let v115 : BitVec 32 := Scalar.remsi v114 c28_i32_76
  let c0_i32_79 : BitVec 32 := 0#32
  let c28_i32_77 : BitVec 32 := 28#32
  let v116 : BitVec 32 := Scalar.divsi v114 c28_i32_77
  let c4_i32_78 : BitVec 32 := 4#32
  let v117 : BitVec 32 := Scalar.muli v116 c4_i32_78
  let v118 : BitVec 32 := Scalar.addi c0_i32_79 v117
  let c0_i32_85 : BitVec 32 := 0#32
  let c0_i32_86 : BitVec 32 := 0#32
  ![v115.toNat, v118.toNat, 0, 0]
def k0_cond3 (i : grid0.Coords) (k0_t1 : Fin (k0_t1_loop i).trips) : BitVec 1 :=
  let c2_i32_33 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c2_i32_51 : BitVec 32 := 2#32
  let v87 : BitVec 1 := Scalar.cmpi .sge v66 c2_i32_51
  let v88 : BitVec 32 := Scalar.extui v87
  let c0_i32_52 : BitVec 32 := 0#32
  let v89 : BitVec 1 := Scalar.cmpi .ne v88 c0_i32_52
  v89

def k0_off5 (i : grid0.Coords) (k0_t1 : Fin (k0_t1_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c2_i32_74 : BitVec 32 := 2#32
  let v112 : BitVec 32 := Scalar.subi v66 c2_i32_74
  let c16_i32_75 : BitVec 32 := 16#32
  let v113 : BitVec 32 := Scalar.muli v112 c16_i32_75
  let v114 : BitVec 32 := Scalar.addi arg1 v113
  let c28_i32_77 : BitVec 32 := 28#32
  let v116 : BitVec 32 := Scalar.divsi v114 c28_i32_77
  let c4_i32_78 : BitVec 32 := 4#32
  let v117 : BitVec 32 := Scalar.muli v116 c4_i32_78
  let c28_i32_76 : BitVec 32 := 28#32
  let v115 : BitVec 32 := Scalar.remsi v114 c28_i32_76
  let c16_i32_79 : BitVec 32 := 16#32
  let v118 : BitVec 32 := Scalar.muli v115 c16_i32_79
  let arg0 : BitVec 32 := BitVec.ofNat 32 (i 0).val
  let c0_i32_85 : BitVec 32 := 0#32
  ![v117.toNat, v118.toNat, arg0.toNat, 0]
@[reducible] def k0_t2_loop : Scf.Loop 32 :=
  let c0_i32_53 : BitVec 32 := 0#32
  let c32_i32 : BitVec 32 := 32#32
  let v90 : BitVec 32 := Scalar.addi c0_i32_53 c32_i32
  let c1_i32_54 : BitVec 32 := 1#32
  ⟨c0_i32_53, v90, c1_i32_54⟩
def k0_off6 (k0_t2 : Fin k0_t2_loop.trips) : Fin 4 → Nat :=
  let c0_i32_76 : BitVec 32 := 0#32
  let v116 : Index := Scalar.indexCast c0_i32_76
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v117 : Index := Scalar.indexCast v114
  let c7_i32 : BitVec 32 := 7#32
  let v115 : BitVec 32 := Scalar.andi v113 c7_i32
  let v118 : Index := Scalar.indexCast v115
  let c0 : Index := 0#32
  ![0, v117.toNat, v118.toNat, 0]

def k0_chk1 (v121 : IVec S16 32) : Prop :=
  (∀ a x, ((![v121] : Fin 1 → IVec S16 32) a x).toNat < S65536.size a)
theorem k0_idx1_inb : ∀ (v121 : IVec S16 32) (k0_hw1 : k0_chk1 v121), ∀ a x, ((![v121] : Fin 1 → IVec S16 32) a x).toNat < S65536.size a := fun v121 k0_hw1 => k0_hw1
def k0_off7 (k0_t2 : Fin k0_t2_loop.trips) : Fin 4 → Nat :=
  let c0_i32_79 : BitVec 32 := 0#32
  let v126 : Index := Scalar.indexCast c0_i32_79
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v127 : Index := Scalar.indexCast v114
  let c2_i32_78 : BitVec 32 := 2#32
  let c7_i32 : BitVec 32 := 7#32
  let v115 : BitVec 32 := Scalar.andi v113 c7_i32
  let v125 : BitVec 32 := Scalar.muli c2_i32_78 v115
  let v128 : Index := Scalar.indexCast v125
  let c0_80 : Index := 0#32
  ![0, v127.toNat, v128.toNat, 0]

def k0_chk2 (v123 : IVec S16 32) : Prop :=
  (∀ a x, ((![v123] : Fin 1 → IVec S16 32) a x).toNat < S65536.size a)
theorem k0_idx2_inb : ∀ (v123 : IVec S16 32) (k0_hw2 : k0_chk2 v123), ∀ a x, ((![v123] : Fin 1 → IVec S16 32) a x).toNat < S65536.size a := fun v123 k0_hw2 => k0_hw2
def k0_off8 (k0_t2 : Fin k0_t2_loop.trips) : Fin 4 → Nat :=
  let c0_i32_83 : BitVec 32 := 0#32
  let v133 : Index := Scalar.indexCast c0_i32_83
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v134 : Index := Scalar.indexCast v114
  let c2_i32_81 : BitVec 32 := 2#32
  let c7_i32 : BitVec 32 := 7#32
  let v115 : BitVec 32 := Scalar.andi v113 c7_i32
  let v131 : BitVec 32 := Scalar.muli c2_i32_81 v115
  let c1_i32_82 : BitVec 32 := 1#32
  let v132 : BitVec 32 := Scalar.addi v131 c1_i32_82
  let v135 : Index := Scalar.indexCast v132
  let c0_84 : Index := 0#32
  ![0, v134.toNat, v135.toNat, 0]
def k0_off9 (k0_t2 : Fin k0_t2_loop.trips) : Fin 4 → Nat :=
  let c0_i32_85 : BitVec 32 := 0#32
  let v137 : Index := Scalar.indexCast c0_i32_85
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v138 : Index := Scalar.indexCast v114
  let c7_i32 : BitVec 32 := 7#32
  let v115 : BitVec 32 := Scalar.andi v113 c7_i32
  let v139 : Index := Scalar.indexCast v115
  let c16 : Index := 16#32
  ![0, v138.toNat, v139.toNat, 16]

def k0_chk3 (v142 : IVec S16 32) : Prop :=
  (∀ a x, ((![v142] : Fin 1 → IVec S16 32) a x).toNat < S65536.size a)
theorem k0_idx3_inb : ∀ (v142 : IVec S16 32) (k0_hw3 : k0_chk3 v142), ∀ a x, ((![v142] : Fin 1 → IVec S16 32) a x).toNat < S65536.size a := fun v142 k0_hw3 => k0_hw3
def k0_off10 (k0_t2 : Fin k0_t2_loop.trips) : Fin 4 → Nat :=
  let c0_i32_89 : BitVec 32 := 0#32
  let v147 : Index := Scalar.indexCast c0_i32_89
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v148 : Index := Scalar.indexCast v114
  let c2_i32_88 : BitVec 32 := 2#32
  let c7_i32 : BitVec 32 := 7#32
  let v115 : BitVec 32 := Scalar.andi v113 c7_i32
  let v146 : BitVec 32 := Scalar.muli c2_i32_88 v115
  let v149 : Index := Scalar.indexCast v146
  let c16_90 : Index := 16#32
  ![0, v148.toNat, v149.toNat, 16]

def k0_chk4 (v144 : IVec S16 32) : Prop :=
  (∀ a x, ((![v144] : Fin 1 → IVec S16 32) a x).toNat < S65536.size a)
theorem k0_idx4_inb : ∀ (v144 : IVec S16 32) (k0_hw4 : k0_chk4 v144), ∀ a x, ((![v144] : Fin 1 → IVec S16 32) a x).toNat < S65536.size a := fun v144 k0_hw4 => k0_hw4
def k0_off11 (k0_t2 : Fin k0_t2_loop.trips) : Fin 4 → Nat :=
  let c0_i32_93 : BitVec 32 := 0#32
  let v154 : Index := Scalar.indexCast c0_i32_93
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v155 : Index := Scalar.indexCast v114
  let c2_i32_91 : BitVec 32 := 2#32
  let c7_i32 : BitVec 32 := 7#32
  let v115 : BitVec 32 := Scalar.andi v113 c7_i32
  let v152 : BitVec 32 := Scalar.muli c2_i32_91 v115
  let c1_i32_92 : BitVec 32 := 1#32
  let v153 : BitVec 32 := Scalar.addi v152 c1_i32_92
  let v156 : Index := Scalar.indexCast v153
  let c16_94 : Index := 16#32
  ![0, v155.toNat, v156.toNat, 16]
def k0_off12 (k0_t2 : Fin k0_t2_loop.trips) : Fin 4 → Nat :=
  let c0_i32_95 : BitVec 32 := 0#32
  let v158 : Index := Scalar.indexCast c0_i32_95
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v159 : Index := Scalar.indexCast v114
  let c7_i32 : BitVec 32 := 7#32
  let v115 : BitVec 32 := Scalar.andi v113 c7_i32
  let v160 : Index := Scalar.indexCast v115
  let c32 : Index := 32#32
  ![0, v159.toNat, v160.toNat, 32]

def k0_chk5 (v163 : IVec S16 32) : Prop :=
  (∀ a x, ((![v163] : Fin 1 → IVec S16 32) a x).toNat < S65536.size a)
theorem k0_idx5_inb : ∀ (v163 : IVec S16 32) (k0_hw5 : k0_chk5 v163), ∀ a x, ((![v163] : Fin 1 → IVec S16 32) a x).toNat < S65536.size a := fun v163 k0_hw5 => k0_hw5
def k0_off13 (k0_t2 : Fin k0_t2_loop.trips) : Fin 4 → Nat :=
  let c0_i32_99 : BitVec 32 := 0#32
  let v168 : Index := Scalar.indexCast c0_i32_99
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v169 : Index := Scalar.indexCast v114
  let c2_i32_98 : BitVec 32 := 2#32
  let c7_i32 : BitVec 32 := 7#32
  let v115 : BitVec 32 := Scalar.andi v113 c7_i32
  let v167 : BitVec 32 := Scalar.muli c2_i32_98 v115
  let v170 : Index := Scalar.indexCast v167
  let c32_100 : Index := 32#32
  ![0, v169.toNat, v170.toNat, 32]

def k0_chk6 (v165 : IVec S16 32) : Prop :=
  (∀ a x, ((![v165] : Fin 1 → IVec S16 32) a x).toNat < S65536.size a)
theorem k0_idx6_inb : ∀ (v165 : IVec S16 32) (k0_hw6 : k0_chk6 v165), ∀ a x, ((![v165] : Fin 1 → IVec S16 32) a x).toNat < S65536.size a := fun v165 k0_hw6 => k0_hw6
def k0_off14 (k0_t2 : Fin k0_t2_loop.trips) : Fin 4 → Nat :=
  let c0_i32_103 : BitVec 32 := 0#32
  let v175 : Index := Scalar.indexCast c0_i32_103
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v176 : Index := Scalar.indexCast v114
  let c2_i32_101 : BitVec 32 := 2#32
  let c7_i32 : BitVec 32 := 7#32
  let v115 : BitVec 32 := Scalar.andi v113 c7_i32
  let v173 : BitVec 32 := Scalar.muli c2_i32_101 v115
  let c1_i32_102 : BitVec 32 := 1#32
  let v174 : BitVec 32 := Scalar.addi v173 c1_i32_102
  let v177 : Index := Scalar.indexCast v174
  let c32_104 : Index := 32#32
  ![0, v176.toNat, v177.toNat, 32]
def k0_off15 (k0_t2 : Fin k0_t2_loop.trips) : Fin 4 → Nat :=
  let c0_i32_105 : BitVec 32 := 0#32
  let v179 : Index := Scalar.indexCast c0_i32_105
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v180 : Index := Scalar.indexCast v114
  let c7_i32 : BitVec 32 := 7#32
  let v115 : BitVec 32 := Scalar.andi v113 c7_i32
  let v181 : Index := Scalar.indexCast v115
  let c48 : Index := 48#32
  ![0, v180.toNat, v181.toNat, 48]

def k0_chk7 (v184 : IVec S16 32) : Prop :=
  (∀ a x, ((![v184] : Fin 1 → IVec S16 32) a x).toNat < S65536.size a)
theorem k0_idx7_inb : ∀ (v184 : IVec S16 32) (k0_hw7 : k0_chk7 v184), ∀ a x, ((![v184] : Fin 1 → IVec S16 32) a x).toNat < S65536.size a := fun v184 k0_hw7 => k0_hw7
def k0_off16 (k0_t2 : Fin k0_t2_loop.trips) : Fin 4 → Nat :=
  let c0_i32_109 : BitVec 32 := 0#32
  let v189 : Index := Scalar.indexCast c0_i32_109
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v190 : Index := Scalar.indexCast v114
  let c2_i32_108 : BitVec 32 := 2#32
  let c7_i32 : BitVec 32 := 7#32
  let v115 : BitVec 32 := Scalar.andi v113 c7_i32
  let v188 : BitVec 32 := Scalar.muli c2_i32_108 v115
  let v191 : Index := Scalar.indexCast v188
  let c48_110 : Index := 48#32
  ![0, v190.toNat, v191.toNat, 48]

def k0_chk8 (v186 : IVec S16 32) : Prop :=
  (∀ a x, ((![v186] : Fin 1 → IVec S16 32) a x).toNat < S65536.size a)
theorem k0_idx8_inb : ∀ (v186 : IVec S16 32) (k0_hw8 : k0_chk8 v186), ∀ a x, ((![v186] : Fin 1 → IVec S16 32) a x).toNat < S65536.size a := fun v186 k0_hw8 => k0_hw8
def k0_off17 (k0_t2 : Fin k0_t2_loop.trips) : Fin 4 → Nat :=
  let c0_i32_113 : BitVec 32 := 0#32
  let v196 : Index := Scalar.indexCast c0_i32_113
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v197 : Index := Scalar.indexCast v114
  let c2_i32_111 : BitVec 32 := 2#32
  let c7_i32 : BitVec 32 := 7#32
  let v115 : BitVec 32 := Scalar.andi v113 c7_i32
  let v194 : BitVec 32 := Scalar.muli c2_i32_111 v115
  let c1_i32_112 : BitVec 32 := 1#32
  let v195 : BitVec 32 := Scalar.addi v194 c1_i32_112
  let v198 : Index := Scalar.indexCast v195
  let c48_114 : Index := 48#32
  ![0, v197.toNat, v198.toNat, 48]
def k0_off18 (k0_t2 : Fin k0_t2_loop.trips) : Fin 4 → Nat :=
  let c0_i32_115 : BitVec 32 := 0#32
  let v200 : Index := Scalar.indexCast c0_i32_115
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v201 : Index := Scalar.indexCast v114
  let c7_i32 : BitVec 32 := 7#32
  let v115 : BitVec 32 := Scalar.andi v113 c7_i32
  let v202 : Index := Scalar.indexCast v115
  let c64 : Index := 64#32
  ![0, v201.toNat, v202.toNat, 64]

def k0_chk9 (v205 : IVec S16 32) : Prop :=
  (∀ a x, ((![v205] : Fin 1 → IVec S16 32) a x).toNat < S65536.size a)
theorem k0_idx9_inb : ∀ (v205 : IVec S16 32) (k0_hw9 : k0_chk9 v205), ∀ a x, ((![v205] : Fin 1 → IVec S16 32) a x).toNat < S65536.size a := fun v205 k0_hw9 => k0_hw9
def k0_off19 (k0_t2 : Fin k0_t2_loop.trips) : Fin 4 → Nat :=
  let c0_i32_119 : BitVec 32 := 0#32
  let v210 : Index := Scalar.indexCast c0_i32_119
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v211 : Index := Scalar.indexCast v114
  let c2_i32_118 : BitVec 32 := 2#32
  let c7_i32 : BitVec 32 := 7#32
  let v115 : BitVec 32 := Scalar.andi v113 c7_i32
  let v209 : BitVec 32 := Scalar.muli c2_i32_118 v115
  let v212 : Index := Scalar.indexCast v209
  let c64_120 : Index := 64#32
  ![0, v211.toNat, v212.toNat, 64]

def k0_chk10 (v207 : IVec S16 32) : Prop :=
  (∀ a x, ((![v207] : Fin 1 → IVec S16 32) a x).toNat < S65536.size a)
theorem k0_idx10_inb : ∀ (v207 : IVec S16 32) (k0_hw10 : k0_chk10 v207), ∀ a x, ((![v207] : Fin 1 → IVec S16 32) a x).toNat < S65536.size a := fun v207 k0_hw10 => k0_hw10
def k0_off20 (k0_t2 : Fin k0_t2_loop.trips) : Fin 4 → Nat :=
  let c0_i32_123 : BitVec 32 := 0#32
  let v217 : Index := Scalar.indexCast c0_i32_123
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v218 : Index := Scalar.indexCast v114
  let c2_i32_121 : BitVec 32 := 2#32
  let c7_i32 : BitVec 32 := 7#32
  let v115 : BitVec 32 := Scalar.andi v113 c7_i32
  let v215 : BitVec 32 := Scalar.muli c2_i32_121 v115
  let c1_i32_122 : BitVec 32 := 1#32
  let v216 : BitVec 32 := Scalar.addi v215 c1_i32_122
  let v219 : Index := Scalar.indexCast v216
  let c64_124 : Index := 64#32
  ![0, v218.toNat, v219.toNat, 64]
def k0_off21 (k0_t2 : Fin k0_t2_loop.trips) : Fin 4 → Nat :=
  let c0_i32_125 : BitVec 32 := 0#32
  let v221 : Index := Scalar.indexCast c0_i32_125
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v222 : Index := Scalar.indexCast v114
  let c7_i32 : BitVec 32 := 7#32
  let v115 : BitVec 32 := Scalar.andi v113 c7_i32
  let v223 : Index := Scalar.indexCast v115
  let c80 : Index := 80#32
  ![0, v222.toNat, v223.toNat, 80]

def k0_chk11 (v226 : IVec S16 32) : Prop :=
  (∀ a x, ((![v226] : Fin 1 → IVec S16 32) a x).toNat < S65536.size a)
theorem k0_idx11_inb : ∀ (v226 : IVec S16 32) (k0_hw11 : k0_chk11 v226), ∀ a x, ((![v226] : Fin 1 → IVec S16 32) a x).toNat < S65536.size a := fun v226 k0_hw11 => k0_hw11
def k0_off22 (k0_t2 : Fin k0_t2_loop.trips) : Fin 4 → Nat :=
  let c0_i32_129 : BitVec 32 := 0#32
  let v231 : Index := Scalar.indexCast c0_i32_129
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v232 : Index := Scalar.indexCast v114
  let c2_i32_128 : BitVec 32 := 2#32
  let c7_i32 : BitVec 32 := 7#32
  let v115 : BitVec 32 := Scalar.andi v113 c7_i32
  let v230 : BitVec 32 := Scalar.muli c2_i32_128 v115
  let v233 : Index := Scalar.indexCast v230
  let c80_130 : Index := 80#32
  ![0, v232.toNat, v233.toNat, 80]

def k0_chk12 (v228 : IVec S16 32) : Prop :=
  (∀ a x, ((![v228] : Fin 1 → IVec S16 32) a x).toNat < S65536.size a)
theorem k0_idx12_inb : ∀ (v228 : IVec S16 32) (k0_hw12 : k0_chk12 v228), ∀ a x, ((![v228] : Fin 1 → IVec S16 32) a x).toNat < S65536.size a := fun v228 k0_hw12 => k0_hw12
def k0_off23 (k0_t2 : Fin k0_t2_loop.trips) : Fin 4 → Nat :=
  let c0_i32_133 : BitVec 32 := 0#32
  let v238 : Index := Scalar.indexCast c0_i32_133
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v239 : Index := Scalar.indexCast v114
  let c2_i32_131 : BitVec 32 := 2#32
  let c7_i32 : BitVec 32 := 7#32
  let v115 : BitVec 32 := Scalar.andi v113 c7_i32
  let v236 : BitVec 32 := Scalar.muli c2_i32_131 v115
  let c1_i32_132 : BitVec 32 := 1#32
  let v237 : BitVec 32 := Scalar.addi v236 c1_i32_132
  let v240 : Index := Scalar.indexCast v237
  let c80_134 : Index := 80#32
  ![0, v239.toNat, v240.toNat, 80]
def k0_off24 (k0_t2 : Fin k0_t2_loop.trips) : Fin 4 → Nat :=
  let c0_i32_135 : BitVec 32 := 0#32
  let v242 : Index := Scalar.indexCast c0_i32_135
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v243 : Index := Scalar.indexCast v114
  let c7_i32 : BitVec 32 := 7#32
  let v115 : BitVec 32 := Scalar.andi v113 c7_i32
  let v244 : Index := Scalar.indexCast v115
  let c96 : Index := 96#32
  ![0, v243.toNat, v244.toNat, 96]

def k0_chk13 (v247 : IVec S16 32) : Prop :=
  (∀ a x, ((![v247] : Fin 1 → IVec S16 32) a x).toNat < S65536.size a)
theorem k0_idx13_inb : ∀ (v247 : IVec S16 32) (k0_hw13 : k0_chk13 v247), ∀ a x, ((![v247] : Fin 1 → IVec S16 32) a x).toNat < S65536.size a := fun v247 k0_hw13 => k0_hw13
def k0_off25 (k0_t2 : Fin k0_t2_loop.trips) : Fin 4 → Nat :=
  let c0_i32_139 : BitVec 32 := 0#32
  let v252 : Index := Scalar.indexCast c0_i32_139
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v253 : Index := Scalar.indexCast v114
  let c2_i32_138 : BitVec 32 := 2#32
  let c7_i32 : BitVec 32 := 7#32
  let v115 : BitVec 32 := Scalar.andi v113 c7_i32
  let v251 : BitVec 32 := Scalar.muli c2_i32_138 v115
  let v254 : Index := Scalar.indexCast v251
  let c96_140 : Index := 96#32
  ![0, v253.toNat, v254.toNat, 96]

def k0_chk14 (v249 : IVec S16 32) : Prop :=
  (∀ a x, ((![v249] : Fin 1 → IVec S16 32) a x).toNat < S65536.size a)
theorem k0_idx14_inb : ∀ (v249 : IVec S16 32) (k0_hw14 : k0_chk14 v249), ∀ a x, ((![v249] : Fin 1 → IVec S16 32) a x).toNat < S65536.size a := fun v249 k0_hw14 => k0_hw14
def k0_off26 (k0_t2 : Fin k0_t2_loop.trips) : Fin 4 → Nat :=
  let c0_i32_143 : BitVec 32 := 0#32
  let v259 : Index := Scalar.indexCast c0_i32_143
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v260 : Index := Scalar.indexCast v114
  let c2_i32_141 : BitVec 32 := 2#32
  let c7_i32 : BitVec 32 := 7#32
  let v115 : BitVec 32 := Scalar.andi v113 c7_i32
  let v257 : BitVec 32 := Scalar.muli c2_i32_141 v115
  let c1_i32_142 : BitVec 32 := 1#32
  let v258 : BitVec 32 := Scalar.addi v257 c1_i32_142
  let v261 : Index := Scalar.indexCast v258
  let c96_144 : Index := 96#32
  ![0, v260.toNat, v261.toNat, 96]
def k0_off27 (k0_t2 : Fin k0_t2_loop.trips) : Fin 4 → Nat :=
  let c0_i32_145 : BitVec 32 := 0#32
  let v263 : Index := Scalar.indexCast c0_i32_145
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v264 : Index := Scalar.indexCast v114
  let c7_i32 : BitVec 32 := 7#32
  let v115 : BitVec 32 := Scalar.andi v113 c7_i32
  let v265 : Index := Scalar.indexCast v115
  let c112 : Index := 112#32
  ![0, v264.toNat, v265.toNat, 112]

def k0_chk15 (v268 : IVec S16 32) : Prop :=
  (∀ a x, ((![v268] : Fin 1 → IVec S16 32) a x).toNat < S65536.size a)
theorem k0_idx15_inb : ∀ (v268 : IVec S16 32) (k0_hw15 : k0_chk15 v268), ∀ a x, ((![v268] : Fin 1 → IVec S16 32) a x).toNat < S65536.size a := fun v268 k0_hw15 => k0_hw15
def k0_off28 (k0_t2 : Fin k0_t2_loop.trips) : Fin 4 → Nat :=
  let c0_i32_149 : BitVec 32 := 0#32
  let v273 : Index := Scalar.indexCast c0_i32_149
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v274 : Index := Scalar.indexCast v114
  let c2_i32_148 : BitVec 32 := 2#32
  let c7_i32 : BitVec 32 := 7#32
  let v115 : BitVec 32 := Scalar.andi v113 c7_i32
  let v272 : BitVec 32 := Scalar.muli c2_i32_148 v115
  let v275 : Index := Scalar.indexCast v272
  let c112_150 : Index := 112#32
  ![0, v274.toNat, v275.toNat, 112]

def k0_chk16 (v270 : IVec S16 32) : Prop :=
  (∀ a x, ((![v270] : Fin 1 → IVec S16 32) a x).toNat < S65536.size a)
theorem k0_idx16_inb : ∀ (v270 : IVec S16 32) (k0_hw16 : k0_chk16 v270), ∀ a x, ((![v270] : Fin 1 → IVec S16 32) a x).toNat < S65536.size a := fun v270 k0_hw16 => k0_hw16
def k0_off29 (k0_t2 : Fin k0_t2_loop.trips) : Fin 4 → Nat :=
  let c0_i32_153 : BitVec 32 := 0#32
  let v280 : Index := Scalar.indexCast c0_i32_153
  let c0_i32_75 : BitVec 32 := 0#32
  let c0_i32_53 : BitVec 32 := 0#32
  let c1_i32_54 : BitVec 32 := 1#32
  let arg12 : BitVec 32 := Scf.iv c0_i32_53 c1_i32_54 k0_t2
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v281 : Index := Scalar.indexCast v114
  let c2_i32_151 : BitVec 32 := 2#32
  let c7_i32 : BitVec 32 := 7#32
  let v115 : BitVec 32 := Scalar.andi v113 c7_i32
  let v278 : BitVec 32 := Scalar.muli c2_i32_151 v115
  let c1_i32_152 : BitVec 32 := 1#32
  let v279 : BitVec 32 := Scalar.addi v278 c1_i32_152
  let v282 : Index := Scalar.indexCast v279
  let c112_154 : Index := 112#32
  ![0, v281.toNat, v282.toNat, 112]
def k0_off30 (i : grid0.Coords) (k0_t1 : Fin (k0_t1_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c16_i32_56 : BitVec 32 := 16#32
  let v91 : BitVec 32 := Scalar.muli v66 c16_i32_56
  let v92 : BitVec 32 := Scalar.addi arg1 v91
  let c28_i32_58 : BitVec 32 := 28#32
  let v94 : BitVec 32 := Scalar.divsi v92 c28_i32_58
  let c4_i32_59 : BitVec 32 := 4#32
  let v95 : BitVec 32 := Scalar.muli v94 c4_i32_59
  let c28_i32_57 : BitVec 32 := 28#32
  let v93 : BitVec 32 := Scalar.remsi v92 c28_i32_57
  let c16_i32_60 : BitVec 32 := 16#32
  let v96 : BitVec 32 := Scalar.muli v93 c16_i32_60
  let arg0 : BitVec 32 := BitVec.ofNat 32 (i 0).val
  let c0_i32_66 : BitVec 32 := 0#32
  ![v95.toNat, v96.toNat, arg0.toNat, 0]
def k0_cond4 (i : grid0.Coords) (k0_t1 : Fin (k0_t1_loop i).trips) : BitVec 1 :=
  let c2_i32_71 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v107 : BitVec 32 := Scalar.muli c2_i32_71 v65
  let c1_i32_72 : BitVec 32 := 1#32
  let v108 : BitVec 32 := Scalar.addi v107 c1_i32_72
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let v109 : BitVec 1 := Scalar.cmpi .slt v108 v19
  let v110 : BitVec 32 := Scalar.extui v109
  let c0_i32_73 : BitVec 32 := 0#32
  let v111 : BitVec 1 := Scalar.cmpi .ne v110 c0_i32_73
  v111

def k0_off31 (i : grid0.Coords) (k0_t1 : Fin (k0_t1_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c16_i32_76 : BitVec 32 := 16#32
  let v114 : BitVec 32 := Scalar.muli v113 c16_i32_76
  let v115 : BitVec 32 := Scalar.addi arg1 v114
  let c28_i32_77 : BitVec 32 := 28#32
  let v116 : BitVec 32 := Scalar.remsi v115 c28_i32_77
  let c0_i32_80 : BitVec 32 := 0#32
  let c28_i32_78 : BitVec 32 := 28#32
  let v117 : BitVec 32 := Scalar.divsi v115 c28_i32_78
  let c4_i32_79 : BitVec 32 := 4#32
  let v118 : BitVec 32 := Scalar.muli v117 c4_i32_79
  let v119 : BitVec 32 := Scalar.addi c0_i32_80 v118
  let c0_i32_86 : BitVec 32 := 0#32
  let c0_i32_87 : BitVec 32 := 0#32
  ![v116.toNat, v119.toNat, 0, 0]
def k0_cond5 (i : grid0.Coords) (k0_t1 : Fin (k0_t1_loop i).trips) : BitVec 1 :=
  let c2_i32_74 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c1_i32_93 : BitVec 32 := 1#32
  let v130 : BitVec 32 := Scalar.addi v113 c1_i32_93
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let v131 : BitVec 1 := Scalar.cmpi .slt v130 v19
  let v132 : BitVec 32 := Scalar.extui v131
  let c0_i32_94 : BitVec 32 := 0#32
  let v133 : BitVec 1 := Scalar.cmpi .ne v132 c0_i32_94
  v133

def k0_off32 (i : grid0.Coords) (k0_t1 : Fin (k0_t1_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c1_i32_116 : BitVec 32 := 1#32
  let v154 : BitVec 32 := Scalar.addi v113 c1_i32_116
  let c16_i32_117 : BitVec 32 := 16#32
  let v155 : BitVec 32 := Scalar.muli v154 c16_i32_117
  let v156 : BitVec 32 := Scalar.addi arg1 v155
  let c28_i32_118 : BitVec 32 := 28#32
  let v157 : BitVec 32 := Scalar.remsi v156 c28_i32_118
  let c0_i32_121 : BitVec 32 := 0#32
  let c28_i32_119 : BitVec 32 := 28#32
  let v158 : BitVec 32 := Scalar.divsi v156 c28_i32_119
  let c4_i32_120 : BitVec 32 := 4#32
  let v159 : BitVec 32 := Scalar.muli v158 c4_i32_120
  let v160 : BitVec 32 := Scalar.addi c0_i32_121 v159
  let c0_i32_127 : BitVec 32 := 0#32
  let c0_i32_128 : BitVec 32 := 0#32
  ![v157.toNat, v160.toNat, 0, 0]
def k0_cond6 (i : grid0.Coords) (k0_t1 : Fin (k0_t1_loop i).trips) : BitVec 1 :=
  let c2_i32_74 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c2_i32_95 : BitVec 32 := 2#32
  let v134 : BitVec 1 := Scalar.cmpi .sge v113 c2_i32_95
  let v135 : BitVec 32 := Scalar.extui v134
  let c0_i32_96 : BitVec 32 := 0#32
  let v136 : BitVec 1 := Scalar.cmpi .ne v135 c0_i32_96
  v136

def k0_off33 (i : grid0.Coords) (k0_t1 : Fin (k0_t1_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c2_i32_116 : BitVec 32 := 2#32
  let v154 : BitVec 32 := Scalar.subi v113 c2_i32_116
  let c16_i32_117 : BitVec 32 := 16#32
  let v155 : BitVec 32 := Scalar.muli v154 c16_i32_117
  let v156 : BitVec 32 := Scalar.addi arg1 v155
  let c28_i32_119 : BitVec 32 := 28#32
  let v158 : BitVec 32 := Scalar.divsi v156 c28_i32_119
  let c4_i32_120 : BitVec 32 := 4#32
  let v159 : BitVec 32 := Scalar.muli v158 c4_i32_120
  let c28_i32_118 : BitVec 32 := 28#32
  let v157 : BitVec 32 := Scalar.remsi v156 c28_i32_118
  let c16_i32_121 : BitVec 32 := 16#32
  let v160 : BitVec 32 := Scalar.muli v157 c16_i32_121
  let arg0 : BitVec 32 := BitVec.ofNat 32 (i 0).val
  let c0_i32_127 : BitVec 32 := 0#32
  ![v159.toNat, v160.toNat, arg0.toNat, 0]
@[reducible] def k0_t3_loop : Scf.Loop 32 :=
  let c0_i32_97 : BitVec 32 := 0#32
  let c32_i32_98 : BitVec 32 := 32#32
  let v137 : BitVec 32 := Scalar.addi c0_i32_97 c32_i32_98
  let c1_i32_99 : BitVec 32 := 1#32
  ⟨c0_i32_97, v137, c1_i32_99⟩
def k0_off34 (k0_t3 : Fin k0_t3_loop.trips) : Fin 4 → Nat :=
  let c1_i32_118 : BitVec 32 := 1#32
  let v158 : Index := Scalar.indexCast c1_i32_118
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v159 : Index := Scalar.indexCast v156
  let c7_i32 : BitVec 32 := 7#32
  let v157 : BitVec 32 := Scalar.andi v155 c7_i32
  let v160 : Index := Scalar.indexCast v157
  let c0 : Index := 0#32
  ![1, v159.toNat, v160.toNat, 0]

def k0_chk17 (i : grid0.Coords) (k0_t1 : Fin (k0_t1_loop i).trips) (v163 : IVec S16 32) : Prop :=
  (∀ (k0_h4 : k0_cond4 i k0_t1 = 1#1), ∀ a x, ((![v163] : Fin 1 → IVec S16 32) a x).toNat < S65536.size a)
theorem k0_idx17_inb : ∀ (i : grid0.Coords) (k0_t1 : Fin (k0_t1_loop i).trips) (v163 : IVec S16 32) (k0_hw17 : k0_chk17 i k0_t1 v163), ∀ (k0_h4 : k0_cond4 i k0_t1 = 1#1), ∀ a x, ((![v163] : Fin 1 → IVec S16 32) a x).toNat < S65536.size a := fun i k0_t1 v163 k0_hw17 k0_h4 => k0_hw17 k0_h4
def k0_off35 (k0_t3 : Fin k0_t3_loop.trips) : Fin 4 → Nat :=
  let c1_i32_121 : BitVec 32 := 1#32
  let v168 : Index := Scalar.indexCast c1_i32_121
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v169 : Index := Scalar.indexCast v156
  let c2_i32_120 : BitVec 32 := 2#32
  let c7_i32 : BitVec 32 := 7#32
  let v157 : BitVec 32 := Scalar.andi v155 c7_i32
  let v167 : BitVec 32 := Scalar.muli c2_i32_120 v157
  let v170 : Index := Scalar.indexCast v167
  let c0_122 : Index := 0#32
  ![1, v169.toNat, v170.toNat, 0]

def k0_chk18 (i : grid0.Coords) (k0_t1 : Fin (k0_t1_loop i).trips) (v165 : IVec S16 32) : Prop :=
  (∀ (k0_h4 : k0_cond4 i k0_t1 = 1#1), ∀ a x, ((![v165] : Fin 1 → IVec S16 32) a x).toNat < S65536.size a)
theorem k0_idx18_inb : ∀ (i : grid0.Coords) (k0_t1 : Fin (k0_t1_loop i).trips) (v165 : IVec S16 32) (k0_hw18 : k0_chk18 i k0_t1 v165), ∀ (k0_h4 : k0_cond4 i k0_t1 = 1#1), ∀ a x, ((![v165] : Fin 1 → IVec S16 32) a x).toNat < S65536.size a := fun i k0_t1 v165 k0_hw18 k0_h4 => k0_hw18 k0_h4
def k0_off36 (k0_t3 : Fin k0_t3_loop.trips) : Fin 4 → Nat :=
  let c1_i32_125 : BitVec 32 := 1#32
  let v175 : Index := Scalar.indexCast c1_i32_125
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v176 : Index := Scalar.indexCast v156
  let c2_i32_123 : BitVec 32 := 2#32
  let c7_i32 : BitVec 32 := 7#32
  let v157 : BitVec 32 := Scalar.andi v155 c7_i32
  let v173 : BitVec 32 := Scalar.muli c2_i32_123 v157
  let c1_i32_124 : BitVec 32 := 1#32
  let v174 : BitVec 32 := Scalar.addi v173 c1_i32_124
  let v177 : Index := Scalar.indexCast v174
  let c0_126 : Index := 0#32
  ![1, v176.toNat, v177.toNat, 0]
def k0_off37 (k0_t3 : Fin k0_t3_loop.trips) : Fin 4 → Nat :=
  let c1_i32_127 : BitVec 32 := 1#32
  let v179 : Index := Scalar.indexCast c1_i32_127
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v180 : Index := Scalar.indexCast v156
  let c7_i32 : BitVec 32 := 7#32
  let v157 : BitVec 32 := Scalar.andi v155 c7_i32
  let v181 : Index := Scalar.indexCast v157
  let c16 : Index := 16#32
  ![1, v180.toNat, v181.toNat, 16]

def k0_chk19 (i : grid0.Coords) (k0_t1 : Fin (k0_t1_loop i).trips) (v184 : IVec S16 32) : Prop :=
  (∀ (k0_h4 : k0_cond4 i k0_t1 = 1#1), ∀ a x, ((![v184] : Fin 1 → IVec S16 32) a x).toNat < S65536.size a)
theorem k0_idx19_inb : ∀ (i : grid0.Coords) (k0_t1 : Fin (k0_t1_loop i).trips) (v184 : IVec S16 32) (k0_hw19 : k0_chk19 i k0_t1 v184), ∀ (k0_h4 : k0_cond4 i k0_t1 = 1#1), ∀ a x, ((![v184] : Fin 1 → IVec S16 32) a x).toNat < S65536.size a := fun i k0_t1 v184 k0_hw19 k0_h4 => k0_hw19 k0_h4
def k0_off38 (k0_t3 : Fin k0_t3_loop.trips) : Fin 4 → Nat :=
  let c1_i32_131 : BitVec 32 := 1#32
  let v189 : Index := Scalar.indexCast c1_i32_131
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v190 : Index := Scalar.indexCast v156
  let c2_i32_130 : BitVec 32 := 2#32
  let c7_i32 : BitVec 32 := 7#32
  let v157 : BitVec 32 := Scalar.andi v155 c7_i32
  let v188 : BitVec 32 := Scalar.muli c2_i32_130 v157
  let v191 : Index := Scalar.indexCast v188
  let c16_132 : Index := 16#32
  ![1, v190.toNat, v191.toNat, 16]

def k0_chk20 (i : grid0.Coords) (k0_t1 : Fin (k0_t1_loop i).trips) (v186 : IVec S16 32) : Prop :=
  (∀ (k0_h4 : k0_cond4 i k0_t1 = 1#1), ∀ a x, ((![v186] : Fin 1 → IVec S16 32) a x).toNat < S65536.size a)
theorem k0_idx20_inb : ∀ (i : grid0.Coords) (k0_t1 : Fin (k0_t1_loop i).trips) (v186 : IVec S16 32) (k0_hw20 : k0_chk20 i k0_t1 v186), ∀ (k0_h4 : k0_cond4 i k0_t1 = 1#1), ∀ a x, ((![v186] : Fin 1 → IVec S16 32) a x).toNat < S65536.size a := fun i k0_t1 v186 k0_hw20 k0_h4 => k0_hw20 k0_h4
def k0_off39 (k0_t3 : Fin k0_t3_loop.trips) : Fin 4 → Nat :=
  let c1_i32_135 : BitVec 32 := 1#32
  let v196 : Index := Scalar.indexCast c1_i32_135
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v197 : Index := Scalar.indexCast v156
  let c2_i32_133 : BitVec 32 := 2#32
  let c7_i32 : BitVec 32 := 7#32
  let v157 : BitVec 32 := Scalar.andi v155 c7_i32
  let v194 : BitVec 32 := Scalar.muli c2_i32_133 v157
  let c1_i32_134 : BitVec 32 := 1#32
  let v195 : BitVec 32 := Scalar.addi v194 c1_i32_134
  let v198 : Index := Scalar.indexCast v195
  let c16_136 : Index := 16#32
  ![1, v197.toNat, v198.toNat, 16]
def k0_off40 (k0_t3 : Fin k0_t3_loop.trips) : Fin 4 → Nat :=
  let c1_i32_137 : BitVec 32 := 1#32
  let v200 : Index := Scalar.indexCast c1_i32_137
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v201 : Index := Scalar.indexCast v156
  let c7_i32 : BitVec 32 := 7#32
  let v157 : BitVec 32 := Scalar.andi v155 c7_i32
  let v202 : Index := Scalar.indexCast v157
  let c32 : Index := 32#32
  ![1, v201.toNat, v202.toNat, 32]

def k0_chk21 (i : grid0.Coords) (k0_t1 : Fin (k0_t1_loop i).trips) (v205 : IVec S16 32) : Prop :=
  (∀ (k0_h4 : k0_cond4 i k0_t1 = 1#1), ∀ a x, ((![v205] : Fin 1 → IVec S16 32) a x).toNat < S65536.size a)
theorem k0_idx21_inb : ∀ (i : grid0.Coords) (k0_t1 : Fin (k0_t1_loop i).trips) (v205 : IVec S16 32) (k0_hw21 : k0_chk21 i k0_t1 v205), ∀ (k0_h4 : k0_cond4 i k0_t1 = 1#1), ∀ a x, ((![v205] : Fin 1 → IVec S16 32) a x).toNat < S65536.size a := fun i k0_t1 v205 k0_hw21 k0_h4 => k0_hw21 k0_h4
def k0_off41 (k0_t3 : Fin k0_t3_loop.trips) : Fin 4 → Nat :=
  let c1_i32_141 : BitVec 32 := 1#32
  let v210 : Index := Scalar.indexCast c1_i32_141
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v211 : Index := Scalar.indexCast v156
  let c2_i32_140 : BitVec 32 := 2#32
  let c7_i32 : BitVec 32 := 7#32
  let v157 : BitVec 32 := Scalar.andi v155 c7_i32
  let v209 : BitVec 32 := Scalar.muli c2_i32_140 v157
  let v212 : Index := Scalar.indexCast v209
  let c32_142 : Index := 32#32
  ![1, v211.toNat, v212.toNat, 32]

def k0_chk22 (i : grid0.Coords) (k0_t1 : Fin (k0_t1_loop i).trips) (v207 : IVec S16 32) : Prop :=
  (∀ (k0_h4 : k0_cond4 i k0_t1 = 1#1), ∀ a x, ((![v207] : Fin 1 → IVec S16 32) a x).toNat < S65536.size a)
theorem k0_idx22_inb : ∀ (i : grid0.Coords) (k0_t1 : Fin (k0_t1_loop i).trips) (v207 : IVec S16 32) (k0_hw22 : k0_chk22 i k0_t1 v207), ∀ (k0_h4 : k0_cond4 i k0_t1 = 1#1), ∀ a x, ((![v207] : Fin 1 → IVec S16 32) a x).toNat < S65536.size a := fun i k0_t1 v207 k0_hw22 k0_h4 => k0_hw22 k0_h4
def k0_off42 (k0_t3 : Fin k0_t3_loop.trips) : Fin 4 → Nat :=
  let c1_i32_145 : BitVec 32 := 1#32
  let v217 : Index := Scalar.indexCast c1_i32_145
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v218 : Index := Scalar.indexCast v156
  let c2_i32_143 : BitVec 32 := 2#32
  let c7_i32 : BitVec 32 := 7#32
  let v157 : BitVec 32 := Scalar.andi v155 c7_i32
  let v215 : BitVec 32 := Scalar.muli c2_i32_143 v157
  let c1_i32_144 : BitVec 32 := 1#32
  let v216 : BitVec 32 := Scalar.addi v215 c1_i32_144
  let v219 : Index := Scalar.indexCast v216
  let c32_146 : Index := 32#32
  ![1, v218.toNat, v219.toNat, 32]
def k0_off43 (k0_t3 : Fin k0_t3_loop.trips) : Fin 4 → Nat :=
  let c1_i32_147 : BitVec 32 := 1#32
  let v221 : Index := Scalar.indexCast c1_i32_147
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v222 : Index := Scalar.indexCast v156
  let c7_i32 : BitVec 32 := 7#32
  let v157 : BitVec 32 := Scalar.andi v155 c7_i32
  let v223 : Index := Scalar.indexCast v157
  let c48 : Index := 48#32
  ![1, v222.toNat, v223.toNat, 48]

def k0_chk23 (i : grid0.Coords) (k0_t1 : Fin (k0_t1_loop i).trips) (v226 : IVec S16 32) : Prop :=
  (∀ (k0_h4 : k0_cond4 i k0_t1 = 1#1), ∀ a x, ((![v226] : Fin 1 → IVec S16 32) a x).toNat < S65536.size a)
theorem k0_idx23_inb : ∀ (i : grid0.Coords) (k0_t1 : Fin (k0_t1_loop i).trips) (v226 : IVec S16 32) (k0_hw23 : k0_chk23 i k0_t1 v226), ∀ (k0_h4 : k0_cond4 i k0_t1 = 1#1), ∀ a x, ((![v226] : Fin 1 → IVec S16 32) a x).toNat < S65536.size a := fun i k0_t1 v226 k0_hw23 k0_h4 => k0_hw23 k0_h4
def k0_off44 (k0_t3 : Fin k0_t3_loop.trips) : Fin 4 → Nat :=
  let c1_i32_151 : BitVec 32 := 1#32
  let v231 : Index := Scalar.indexCast c1_i32_151
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v232 : Index := Scalar.indexCast v156
  let c2_i32_150 : BitVec 32 := 2#32
  let c7_i32 : BitVec 32 := 7#32
  let v157 : BitVec 32 := Scalar.andi v155 c7_i32
  let v230 : BitVec 32 := Scalar.muli c2_i32_150 v157
  let v233 : Index := Scalar.indexCast v230
  let c48_152 : Index := 48#32
  ![1, v232.toNat, v233.toNat, 48]

def k0_chk24 (i : grid0.Coords) (k0_t1 : Fin (k0_t1_loop i).trips) (v228 : IVec S16 32) : Prop :=
  (∀ (k0_h4 : k0_cond4 i k0_t1 = 1#1), ∀ a x, ((![v228] : Fin 1 → IVec S16 32) a x).toNat < S65536.size a)
theorem k0_idx24_inb : ∀ (i : grid0.Coords) (k0_t1 : Fin (k0_t1_loop i).trips) (v228 : IVec S16 32) (k0_hw24 : k0_chk24 i k0_t1 v228), ∀ (k0_h4 : k0_cond4 i k0_t1 = 1#1), ∀ a x, ((![v228] : Fin 1 → IVec S16 32) a x).toNat < S65536.size a := fun i k0_t1 v228 k0_hw24 k0_h4 => k0_hw24 k0_h4
def k0_off45 (k0_t3 : Fin k0_t3_loop.trips) : Fin 4 → Nat :=
  let c1_i32_155 : BitVec 32 := 1#32
  let v238 : Index := Scalar.indexCast c1_i32_155
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v239 : Index := Scalar.indexCast v156
  let c2_i32_153 : BitVec 32 := 2#32
  let c7_i32 : BitVec 32 := 7#32
  let v157 : BitVec 32 := Scalar.andi v155 c7_i32
  let v236 : BitVec 32 := Scalar.muli c2_i32_153 v157
  let c1_i32_154 : BitVec 32 := 1#32
  let v237 : BitVec 32 := Scalar.addi v236 c1_i32_154
  let v240 : Index := Scalar.indexCast v237
  let c48_156 : Index := 48#32
  ![1, v239.toNat, v240.toNat, 48]
def k0_off46 (k0_t3 : Fin k0_t3_loop.trips) : Fin 4 → Nat :=
  let c1_i32_157 : BitVec 32 := 1#32
  let v242 : Index := Scalar.indexCast c1_i32_157
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v243 : Index := Scalar.indexCast v156
  let c7_i32 : BitVec 32 := 7#32
  let v157 : BitVec 32 := Scalar.andi v155 c7_i32
  let v244 : Index := Scalar.indexCast v157
  let c64 : Index := 64#32
  ![1, v243.toNat, v244.toNat, 64]

def k0_chk25 (i : grid0.Coords) (k0_t1 : Fin (k0_t1_loop i).trips) (v247 : IVec S16 32) : Prop :=
  (∀ (k0_h4 : k0_cond4 i k0_t1 = 1#1), ∀ a x, ((![v247] : Fin 1 → IVec S16 32) a x).toNat < S65536.size a)
theorem k0_idx25_inb : ∀ (i : grid0.Coords) (k0_t1 : Fin (k0_t1_loop i).trips) (v247 : IVec S16 32) (k0_hw25 : k0_chk25 i k0_t1 v247), ∀ (k0_h4 : k0_cond4 i k0_t1 = 1#1), ∀ a x, ((![v247] : Fin 1 → IVec S16 32) a x).toNat < S65536.size a := fun i k0_t1 v247 k0_hw25 k0_h4 => k0_hw25 k0_h4
def k0_off47 (k0_t3 : Fin k0_t3_loop.trips) : Fin 4 → Nat :=
  let c1_i32_161 : BitVec 32 := 1#32
  let v252 : Index := Scalar.indexCast c1_i32_161
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v253 : Index := Scalar.indexCast v156
  let c2_i32_160 : BitVec 32 := 2#32
  let c7_i32 : BitVec 32 := 7#32
  let v157 : BitVec 32 := Scalar.andi v155 c7_i32
  let v251 : BitVec 32 := Scalar.muli c2_i32_160 v157
  let v254 : Index := Scalar.indexCast v251
  let c64_162 : Index := 64#32
  ![1, v253.toNat, v254.toNat, 64]

def k0_chk26 (i : grid0.Coords) (k0_t1 : Fin (k0_t1_loop i).trips) (v249 : IVec S16 32) : Prop :=
  (∀ (k0_h4 : k0_cond4 i k0_t1 = 1#1), ∀ a x, ((![v249] : Fin 1 → IVec S16 32) a x).toNat < S65536.size a)
theorem k0_idx26_inb : ∀ (i : grid0.Coords) (k0_t1 : Fin (k0_t1_loop i).trips) (v249 : IVec S16 32) (k0_hw26 : k0_chk26 i k0_t1 v249), ∀ (k0_h4 : k0_cond4 i k0_t1 = 1#1), ∀ a x, ((![v249] : Fin 1 → IVec S16 32) a x).toNat < S65536.size a := fun i k0_t1 v249 k0_hw26 k0_h4 => k0_hw26 k0_h4
def k0_off48 (k0_t3 : Fin k0_t3_loop.trips) : Fin 4 → Nat :=
  let c1_i32_165 : BitVec 32 := 1#32
  let v259 : Index := Scalar.indexCast c1_i32_165
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v260 : Index := Scalar.indexCast v156
  let c2_i32_163 : BitVec 32 := 2#32
  let c7_i32 : BitVec 32 := 7#32
  let v157 : BitVec 32 := Scalar.andi v155 c7_i32
  let v257 : BitVec 32 := Scalar.muli c2_i32_163 v157
  let c1_i32_164 : BitVec 32 := 1#32
  let v258 : BitVec 32 := Scalar.addi v257 c1_i32_164
  let v261 : Index := Scalar.indexCast v258
  let c64_166 : Index := 64#32
  ![1, v260.toNat, v261.toNat, 64]
def k0_off49 (k0_t3 : Fin k0_t3_loop.trips) : Fin 4 → Nat :=
  let c1_i32_167 : BitVec 32 := 1#32
  let v263 : Index := Scalar.indexCast c1_i32_167
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v264 : Index := Scalar.indexCast v156
  let c7_i32 : BitVec 32 := 7#32
  let v157 : BitVec 32 := Scalar.andi v155 c7_i32
  let v265 : Index := Scalar.indexCast v157
  let c80 : Index := 80#32
  ![1, v264.toNat, v265.toNat, 80]

def k0_chk27 (i : grid0.Coords) (k0_t1 : Fin (k0_t1_loop i).trips) (v268 : IVec S16 32) : Prop :=
  (∀ (k0_h4 : k0_cond4 i k0_t1 = 1#1), ∀ a x, ((![v268] : Fin 1 → IVec S16 32) a x).toNat < S65536.size a)
theorem k0_idx27_inb : ∀ (i : grid0.Coords) (k0_t1 : Fin (k0_t1_loop i).trips) (v268 : IVec S16 32) (k0_hw27 : k0_chk27 i k0_t1 v268), ∀ (k0_h4 : k0_cond4 i k0_t1 = 1#1), ∀ a x, ((![v268] : Fin 1 → IVec S16 32) a x).toNat < S65536.size a := fun i k0_t1 v268 k0_hw27 k0_h4 => k0_hw27 k0_h4
def k0_off50 (k0_t3 : Fin k0_t3_loop.trips) : Fin 4 → Nat :=
  let c1_i32_171 : BitVec 32 := 1#32
  let v273 : Index := Scalar.indexCast c1_i32_171
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v274 : Index := Scalar.indexCast v156
  let c2_i32_170 : BitVec 32 := 2#32
  let c7_i32 : BitVec 32 := 7#32
  let v157 : BitVec 32 := Scalar.andi v155 c7_i32
  let v272 : BitVec 32 := Scalar.muli c2_i32_170 v157
  let v275 : Index := Scalar.indexCast v272
  let c80_172 : Index := 80#32
  ![1, v274.toNat, v275.toNat, 80]

def k0_chk28 (i : grid0.Coords) (k0_t1 : Fin (k0_t1_loop i).trips) (v270 : IVec S16 32) : Prop :=
  (∀ (k0_h4 : k0_cond4 i k0_t1 = 1#1), ∀ a x, ((![v270] : Fin 1 → IVec S16 32) a x).toNat < S65536.size a)
theorem k0_idx28_inb : ∀ (i : grid0.Coords) (k0_t1 : Fin (k0_t1_loop i).trips) (v270 : IVec S16 32) (k0_hw28 : k0_chk28 i k0_t1 v270), ∀ (k0_h4 : k0_cond4 i k0_t1 = 1#1), ∀ a x, ((![v270] : Fin 1 → IVec S16 32) a x).toNat < S65536.size a := fun i k0_t1 v270 k0_hw28 k0_h4 => k0_hw28 k0_h4
def k0_off51 (k0_t3 : Fin k0_t3_loop.trips) : Fin 4 → Nat :=
  let c1_i32_175 : BitVec 32 := 1#32
  let v280 : Index := Scalar.indexCast c1_i32_175
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v281 : Index := Scalar.indexCast v156
  let c2_i32_173 : BitVec 32 := 2#32
  let c7_i32 : BitVec 32 := 7#32
  let v157 : BitVec 32 := Scalar.andi v155 c7_i32
  let v278 : BitVec 32 := Scalar.muli c2_i32_173 v157
  let c1_i32_174 : BitVec 32 := 1#32
  let v279 : BitVec 32 := Scalar.addi v278 c1_i32_174
  let v282 : Index := Scalar.indexCast v279
  let c80_176 : Index := 80#32
  ![1, v281.toNat, v282.toNat, 80]
def k0_off52 (k0_t3 : Fin k0_t3_loop.trips) : Fin 4 → Nat :=
  let c1_i32_177 : BitVec 32 := 1#32
  let v284 : Index := Scalar.indexCast c1_i32_177
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v285 : Index := Scalar.indexCast v156
  let c7_i32 : BitVec 32 := 7#32
  let v157 : BitVec 32 := Scalar.andi v155 c7_i32
  let v286 : Index := Scalar.indexCast v157
  let c96 : Index := 96#32
  ![1, v285.toNat, v286.toNat, 96]

def k0_chk29 (i : grid0.Coords) (k0_t1 : Fin (k0_t1_loop i).trips) (v289 : IVec S16 32) : Prop :=
  (∀ (k0_h4 : k0_cond4 i k0_t1 = 1#1), ∀ a x, ((![v289] : Fin 1 → IVec S16 32) a x).toNat < S65536.size a)
theorem k0_idx29_inb : ∀ (i : grid0.Coords) (k0_t1 : Fin (k0_t1_loop i).trips) (v289 : IVec S16 32) (k0_hw29 : k0_chk29 i k0_t1 v289), ∀ (k0_h4 : k0_cond4 i k0_t1 = 1#1), ∀ a x, ((![v289] : Fin 1 → IVec S16 32) a x).toNat < S65536.size a := fun i k0_t1 v289 k0_hw29 k0_h4 => k0_hw29 k0_h4
def k0_off53 (k0_t3 : Fin k0_t3_loop.trips) : Fin 4 → Nat :=
  let c1_i32_181 : BitVec 32 := 1#32
  let v294 : Index := Scalar.indexCast c1_i32_181
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v295 : Index := Scalar.indexCast v156
  let c2_i32_180 : BitVec 32 := 2#32
  let c7_i32 : BitVec 32 := 7#32
  let v157 : BitVec 32 := Scalar.andi v155 c7_i32
  let v293 : BitVec 32 := Scalar.muli c2_i32_180 v157
  let v296 : Index := Scalar.indexCast v293
  let c96_182 : Index := 96#32
  ![1, v295.toNat, v296.toNat, 96]

def k0_chk30 (i : grid0.Coords) (k0_t1 : Fin (k0_t1_loop i).trips) (v291 : IVec S16 32) : Prop :=
  (∀ (k0_h4 : k0_cond4 i k0_t1 = 1#1), ∀ a x, ((![v291] : Fin 1 → IVec S16 32) a x).toNat < S65536.size a)
theorem k0_idx30_inb : ∀ (i : grid0.Coords) (k0_t1 : Fin (k0_t1_loop i).trips) (v291 : IVec S16 32) (k0_hw30 : k0_chk30 i k0_t1 v291), ∀ (k0_h4 : k0_cond4 i k0_t1 = 1#1), ∀ a x, ((![v291] : Fin 1 → IVec S16 32) a x).toNat < S65536.size a := fun i k0_t1 v291 k0_hw30 k0_h4 => k0_hw30 k0_h4
def k0_off54 (k0_t3 : Fin k0_t3_loop.trips) : Fin 4 → Nat :=
  let c1_i32_185 : BitVec 32 := 1#32
  let v301 : Index := Scalar.indexCast c1_i32_185
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v302 : Index := Scalar.indexCast v156
  let c2_i32_183 : BitVec 32 := 2#32
  let c7_i32 : BitVec 32 := 7#32
  let v157 : BitVec 32 := Scalar.andi v155 c7_i32
  let v299 : BitVec 32 := Scalar.muli c2_i32_183 v157
  let c1_i32_184 : BitVec 32 := 1#32
  let v300 : BitVec 32 := Scalar.addi v299 c1_i32_184
  let v303 : Index := Scalar.indexCast v300
  let c96_186 : Index := 96#32
  ![1, v302.toNat, v303.toNat, 96]
def k0_off55 (k0_t3 : Fin k0_t3_loop.trips) : Fin 4 → Nat :=
  let c1_i32_187 : BitVec 32 := 1#32
  let v305 : Index := Scalar.indexCast c1_i32_187
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v306 : Index := Scalar.indexCast v156
  let c7_i32 : BitVec 32 := 7#32
  let v157 : BitVec 32 := Scalar.andi v155 c7_i32
  let v307 : Index := Scalar.indexCast v157
  let c112 : Index := 112#32
  ![1, v306.toNat, v307.toNat, 112]

def k0_chk31 (i : grid0.Coords) (k0_t1 : Fin (k0_t1_loop i).trips) (v310 : IVec S16 32) : Prop :=
  (∀ (k0_h4 : k0_cond4 i k0_t1 = 1#1), ∀ a x, ((![v310] : Fin 1 → IVec S16 32) a x).toNat < S65536.size a)
theorem k0_idx31_inb : ∀ (i : grid0.Coords) (k0_t1 : Fin (k0_t1_loop i).trips) (v310 : IVec S16 32) (k0_hw31 : k0_chk31 i k0_t1 v310), ∀ (k0_h4 : k0_cond4 i k0_t1 = 1#1), ∀ a x, ((![v310] : Fin 1 → IVec S16 32) a x).toNat < S65536.size a := fun i k0_t1 v310 k0_hw31 k0_h4 => k0_hw31 k0_h4
def k0_off56 (k0_t3 : Fin k0_t3_loop.trips) : Fin 4 → Nat :=
  let c1_i32_191 : BitVec 32 := 1#32
  let v315 : Index := Scalar.indexCast c1_i32_191
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v316 : Index := Scalar.indexCast v156
  let c2_i32_190 : BitVec 32 := 2#32
  let c7_i32 : BitVec 32 := 7#32
  let v157 : BitVec 32 := Scalar.andi v155 c7_i32
  let v314 : BitVec 32 := Scalar.muli c2_i32_190 v157
  let v317 : Index := Scalar.indexCast v314
  let c112_192 : Index := 112#32
  ![1, v316.toNat, v317.toNat, 112]

def k0_chk32 (i : grid0.Coords) (k0_t1 : Fin (k0_t1_loop i).trips) (v312 : IVec S16 32) : Prop :=
  (∀ (k0_h4 : k0_cond4 i k0_t1 = 1#1), ∀ a x, ((![v312] : Fin 1 → IVec S16 32) a x).toNat < S65536.size a)
theorem k0_idx32_inb : ∀ (i : grid0.Coords) (k0_t1 : Fin (k0_t1_loop i).trips) (v312 : IVec S16 32) (k0_hw32 : k0_chk32 i k0_t1 v312), ∀ (k0_h4 : k0_cond4 i k0_t1 = 1#1), ∀ a x, ((![v312] : Fin 1 → IVec S16 32) a x).toNat < S65536.size a := fun i k0_t1 v312 k0_hw32 k0_h4 => k0_hw32 k0_h4
def k0_off57 (k0_t3 : Fin k0_t3_loop.trips) : Fin 4 → Nat :=
  let c1_i32_195 : BitVec 32 := 1#32
  let v322 : Index := Scalar.indexCast c1_i32_195
  let c0_i32_117 : BitVec 32 := 0#32
  let c0_i32_97 : BitVec 32 := 0#32
  let c1_i32_99 : BitVec 32 := 1#32
  let arg12 : BitVec 32 := Scf.iv c0_i32_97 c1_i32_99 k0_t3
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v323 : Index := Scalar.indexCast v156
  let c2_i32_193 : BitVec 32 := 2#32
  let c7_i32 : BitVec 32 := 7#32
  let v157 : BitVec 32 := Scalar.andi v155 c7_i32
  let v320 : BitVec 32 := Scalar.muli c2_i32_193 v157
  let c1_i32_194 : BitVec 32 := 1#32
  let v321 : BitVec 32 := Scalar.addi v320 c1_i32_194
  let v324 : Index := Scalar.indexCast v321
  let c112_196 : Index := 112#32
  ![1, v323.toNat, v324.toNat, 112]
def k0_off58 (i : grid0.Coords) (k0_t1 : Fin (k0_t1_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c1_i32_27 : BitVec 32 := 1#32
  let arg11 : BitVec 32 := Scf.iv c0_i32_25 c1_i32_27 k0_t1
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c16_i32_101 : BitVec 32 := 16#32
  let v138 : BitVec 32 := Scalar.muli v113 c16_i32_101
  let v139 : BitVec 32 := Scalar.addi arg1 v138
  let c28_i32_103 : BitVec 32 := 28#32
  let v141 : BitVec 32 := Scalar.divsi v139 c28_i32_103
  let c4_i32_104 : BitVec 32 := 4#32
  let v142 : BitVec 32 := Scalar.muli v141 c4_i32_104
  let c28_i32_102 : BitVec 32 := 28#32
  let v140 : BitVec 32 := Scalar.remsi v139 c28_i32_102
  let c16_i32_105 : BitVec 32 := 16#32
  let v143 : BitVec 32 := Scalar.muli v140 c16_i32_105
  let arg0 : BitVec 32 := BitVec.ofNat 32 (i 0).val
  let c0_i32_111 : BitVec 32 := 0#32
  ![v142.toNat, v143.toNat, arg0.toNat, 0]
@[reducible] def k0_t4_loop (i : grid0.Coords) : Scf.Loop 32 :=
  let c0_i32_25 : BitVec 32 := 0#32
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let v54 : BitVec 32 := Scalar.addi c0_i32_25 v53
  let c1_i32_28 : BitVec 32 := 1#32
  ⟨v57, v54, c1_i32_28⟩
def k0_off59 (i : grid0.Coords) (k0_t4 : Fin (k0_t4_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c16_i32_34 : BitVec 32 := 16#32
  let v67 : BitVec 32 := Scalar.muli v66 c16_i32_34
  let v68 : BitVec 32 := Scalar.addi arg1 v67
  let c28_i32 : BitVec 32 := 28#32
  let v69 : BitVec 32 := Scalar.remsi v68 c28_i32
  let c0_i32_36 : BitVec 32 := 0#32
  let c28_i32_35 : BitVec 32 := 28#32
  let v70 : BitVec 32 := Scalar.divsi v68 c28_i32_35
  let c4_i32 : BitVec 32 := 4#32
  let v71 : BitVec 32 := Scalar.muli v70 c4_i32
  let v72 : BitVec 32 := Scalar.addi c0_i32_36 v71
  let c0_i32_42 : BitVec 32 := 0#32
  let c0_i32_43 : BitVec 32 := 0#32
  ![v69.toNat, v72.toNat, 0, 0]
def k0_cond7 (i : grid0.Coords) (k0_t4 : Fin (k0_t4_loop i).trips) : BitVec 1 :=
  let c2_i32_33 : BitVec 32 := 2#32
  let c0_i32_24 : BitVec 32 := 0#32
  let c0_i32_25 : BitVec 32 := 0#32
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c1_i32_49 : BitVec 32 := 1#32
  let v83 : BitVec 32 := Scalar.addi v66 c1_i32_49
  let v84 : BitVec 1 := Scalar.cmpi .slt v83 v19
  let v85 : BitVec 32 := Scalar.extui v84
  let c0_i32_50 : BitVec 32 := 0#32
  let v86 : BitVec 1 := Scalar.cmpi .ne v85 c0_i32_50
  v86

def k0_off60 (i : grid0.Coords) (k0_t4 : Fin (k0_t4_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c1_i32_74 : BitVec 32 := 1#32
  let v112 : BitVec 32 := Scalar.addi v66 c1_i32_74
  let c16_i32_75 : BitVec 32 := 16#32
  let v113 : BitVec 32 := Scalar.muli v112 c16_i32_75
  let v114 : BitVec 32 := Scalar.addi arg1 v113
  let c28_i32_76 : BitVec 32 := 28#32
  let v115 : BitVec 32 := Scalar.remsi v114 c28_i32_76
  let c0_i32_79 : BitVec 32 := 0#32
  let c28_i32_77 : BitVec 32 := 28#32
  let v116 : BitVec 32 := Scalar.divsi v114 c28_i32_77
  let c4_i32_78 : BitVec 32 := 4#32
  let v117 : BitVec 32 := Scalar.muli v116 c4_i32_78
  let v118 : BitVec 32 := Scalar.addi c0_i32_79 v117
  let c0_i32_85 : BitVec 32 := 0#32
  let c0_i32_86 : BitVec 32 := 0#32
  ![v115.toNat, v118.toNat, 0, 0]
def k0_cond8 (i : grid0.Coords) (k0_t4 : Fin (k0_t4_loop i).trips) : BitVec 1 :=
  let c2_i32_33 : BitVec 32 := 2#32
  let c0_i32_24 : BitVec 32 := 0#32
  let c0_i32_25 : BitVec 32 := 0#32
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c2_i32_51 : BitVec 32 := 2#32
  let v87 : BitVec 1 := Scalar.cmpi .sge v66 c2_i32_51
  let v88 : BitVec 32 := Scalar.extui v87
  let c0_i32_52 : BitVec 32 := 0#32
  let v89 : BitVec 1 := Scalar.cmpi .ne v88 c0_i32_52
  v89

def k0_off61 (i : grid0.Coords) (k0_t4 : Fin (k0_t4_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c2_i32_74 : BitVec 32 := 2#32
  let v112 : BitVec 32 := Scalar.subi v66 c2_i32_74
  let c16_i32_75 : BitVec 32 := 16#32
  let v113 : BitVec 32 := Scalar.muli v112 c16_i32_75
  let v114 : BitVec 32 := Scalar.addi arg1 v113
  let c28_i32_77 : BitVec 32 := 28#32
  let v116 : BitVec 32 := Scalar.divsi v114 c28_i32_77
  let c4_i32_78 : BitVec 32 := 4#32
  let v117 : BitVec 32 := Scalar.muli v116 c4_i32_78
  let c28_i32_76 : BitVec 32 := 28#32
  let v115 : BitVec 32 := Scalar.remsi v114 c28_i32_76
  let c16_i32_79 : BitVec 32 := 16#32
  let v118 : BitVec 32 := Scalar.muli v115 c16_i32_79
  let arg0 : BitVec 32 := BitVec.ofNat 32 (i 0).val
  let c0_i32_85 : BitVec 32 := 0#32
  ![v117.toNat, v118.toNat, arg0.toNat, 0]
@[reducible] def k0_t5_loop : Scf.Loop 32 :=
  let c0_i32_53 : BitVec 32 := 0#32
  let c32_i32 : BitVec 32 := 32#32
  let v90 : BitVec 32 := Scalar.addi c0_i32_53 c32_i32
  let c1_i32_54 : BitVec 32 := 1#32
  ⟨c0_i32_53, v90, c1_i32_54⟩
def k0_off62 (k0_t5 : Fin k0_t5_loop.trips) : Fin 4 → Nat :=
  let c0_i32_76 : BitVec 32 := 0#32
  let v116 : Index := Scalar.indexCast c0_i32_76
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v117 : Index := Scalar.indexCast v114
  let c7_i32 : BitVec 32 := 7#32
  let v115 : BitVec 32 := Scalar.andi v113 c7_i32
  let v118 : Index := Scalar.indexCast v115
  let c0 : Index := 0#32
  ![0, v117.toNat, v118.toNat, 0]

def k0_chk33 (i : grid0.Coords) (k0_t4 : Fin (k0_t4_loop i).trips) (v121 : IVec S16 32) : Prop :=
  (∀ a x, ((![v121] : Fin 1 → IVec S16 32) a x).toNat < S65536.size a)
theorem k0_idx33_inb : ∀ (i : grid0.Coords) (k0_t4 : Fin (k0_t4_loop i).trips) (v121 : IVec S16 32) (k0_hw33 : k0_chk33 i k0_t4 v121), ∀ a x, ((![v121] : Fin 1 → IVec S16 32) a x).toNat < S65536.size a := fun i k0_t4 v121 k0_hw33 => k0_hw33
def k0_off63 (k0_t5 : Fin k0_t5_loop.trips) : Fin 4 → Nat :=
  let c0_i32_79 : BitVec 32 := 0#32
  let v126 : Index := Scalar.indexCast c0_i32_79
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v127 : Index := Scalar.indexCast v114
  let c2_i32_78 : BitVec 32 := 2#32
  let c7_i32 : BitVec 32 := 7#32
  let v115 : BitVec 32 := Scalar.andi v113 c7_i32
  let v125 : BitVec 32 := Scalar.muli c2_i32_78 v115
  let v128 : Index := Scalar.indexCast v125
  let c0_80 : Index := 0#32
  ![0, v127.toNat, v128.toNat, 0]

def k0_chk34 (i : grid0.Coords) (k0_t4 : Fin (k0_t4_loop i).trips) (v123 : IVec S16 32) : Prop :=
  (∀ a x, ((![v123] : Fin 1 → IVec S16 32) a x).toNat < S65536.size a)
theorem k0_idx34_inb : ∀ (i : grid0.Coords) (k0_t4 : Fin (k0_t4_loop i).trips) (v123 : IVec S16 32) (k0_hw34 : k0_chk34 i k0_t4 v123), ∀ a x, ((![v123] : Fin 1 → IVec S16 32) a x).toNat < S65536.size a := fun i k0_t4 v123 k0_hw34 => k0_hw34
def k0_off64 (k0_t5 : Fin k0_t5_loop.trips) : Fin 4 → Nat :=
  let c0_i32_83 : BitVec 32 := 0#32
  let v133 : Index := Scalar.indexCast c0_i32_83
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v134 : Index := Scalar.indexCast v114
  let c2_i32_81 : BitVec 32 := 2#32
  let c7_i32 : BitVec 32 := 7#32
  let v115 : BitVec 32 := Scalar.andi v113 c7_i32
  let v131 : BitVec 32 := Scalar.muli c2_i32_81 v115
  let c1_i32_82 : BitVec 32 := 1#32
  let v132 : BitVec 32 := Scalar.addi v131 c1_i32_82
  let v135 : Index := Scalar.indexCast v132
  let c0_84 : Index := 0#32
  ![0, v134.toNat, v135.toNat, 0]
def k0_off65 (k0_t5 : Fin k0_t5_loop.trips) : Fin 4 → Nat :=
  let c0_i32_85 : BitVec 32 := 0#32
  let v137 : Index := Scalar.indexCast c0_i32_85
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v138 : Index := Scalar.indexCast v114
  let c7_i32 : BitVec 32 := 7#32
  let v115 : BitVec 32 := Scalar.andi v113 c7_i32
  let v139 : Index := Scalar.indexCast v115
  let c16 : Index := 16#32
  ![0, v138.toNat, v139.toNat, 16]

def k0_chk35 (i : grid0.Coords) (k0_t4 : Fin (k0_t4_loop i).trips) (v142 : IVec S16 32) : Prop :=
  (∀ a x, ((![v142] : Fin 1 → IVec S16 32) a x).toNat < S65536.size a)
theorem k0_idx35_inb : ∀ (i : grid0.Coords) (k0_t4 : Fin (k0_t4_loop i).trips) (v142 : IVec S16 32) (k0_hw35 : k0_chk35 i k0_t4 v142), ∀ a x, ((![v142] : Fin 1 → IVec S16 32) a x).toNat < S65536.size a := fun i k0_t4 v142 k0_hw35 => k0_hw35
def k0_off66 (k0_t5 : Fin k0_t5_loop.trips) : Fin 4 → Nat :=
  let c0_i32_89 : BitVec 32 := 0#32
  let v147 : Index := Scalar.indexCast c0_i32_89
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v148 : Index := Scalar.indexCast v114
  let c2_i32_88 : BitVec 32 := 2#32
  let c7_i32 : BitVec 32 := 7#32
  let v115 : BitVec 32 := Scalar.andi v113 c7_i32
  let v146 : BitVec 32 := Scalar.muli c2_i32_88 v115
  let v149 : Index := Scalar.indexCast v146
  let c16_90 : Index := 16#32
  ![0, v148.toNat, v149.toNat, 16]

def k0_chk36 (i : grid0.Coords) (k0_t4 : Fin (k0_t4_loop i).trips) (v144 : IVec S16 32) : Prop :=
  (∀ a x, ((![v144] : Fin 1 → IVec S16 32) a x).toNat < S65536.size a)
theorem k0_idx36_inb : ∀ (i : grid0.Coords) (k0_t4 : Fin (k0_t4_loop i).trips) (v144 : IVec S16 32) (k0_hw36 : k0_chk36 i k0_t4 v144), ∀ a x, ((![v144] : Fin 1 → IVec S16 32) a x).toNat < S65536.size a := fun i k0_t4 v144 k0_hw36 => k0_hw36
def k0_off67 (k0_t5 : Fin k0_t5_loop.trips) : Fin 4 → Nat :=
  let c0_i32_93 : BitVec 32 := 0#32
  let v154 : Index := Scalar.indexCast c0_i32_93
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v155 : Index := Scalar.indexCast v114
  let c2_i32_91 : BitVec 32 := 2#32
  let c7_i32 : BitVec 32 := 7#32
  let v115 : BitVec 32 := Scalar.andi v113 c7_i32
  let v152 : BitVec 32 := Scalar.muli c2_i32_91 v115
  let c1_i32_92 : BitVec 32 := 1#32
  let v153 : BitVec 32 := Scalar.addi v152 c1_i32_92
  let v156 : Index := Scalar.indexCast v153
  let c16_94 : Index := 16#32
  ![0, v155.toNat, v156.toNat, 16]
def k0_off68 (k0_t5 : Fin k0_t5_loop.trips) : Fin 4 → Nat :=
  let c0_i32_95 : BitVec 32 := 0#32
  let v158 : Index := Scalar.indexCast c0_i32_95
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v159 : Index := Scalar.indexCast v114
  let c7_i32 : BitVec 32 := 7#32
  let v115 : BitVec 32 := Scalar.andi v113 c7_i32
  let v160 : Index := Scalar.indexCast v115
  let c32 : Index := 32#32
  ![0, v159.toNat, v160.toNat, 32]

def k0_chk37 (i : grid0.Coords) (k0_t4 : Fin (k0_t4_loop i).trips) (v163 : IVec S16 32) : Prop :=
  (∀ a x, ((![v163] : Fin 1 → IVec S16 32) a x).toNat < S65536.size a)
theorem k0_idx37_inb : ∀ (i : grid0.Coords) (k0_t4 : Fin (k0_t4_loop i).trips) (v163 : IVec S16 32) (k0_hw37 : k0_chk37 i k0_t4 v163), ∀ a x, ((![v163] : Fin 1 → IVec S16 32) a x).toNat < S65536.size a := fun i k0_t4 v163 k0_hw37 => k0_hw37
def k0_off69 (k0_t5 : Fin k0_t5_loop.trips) : Fin 4 → Nat :=
  let c0_i32_99 : BitVec 32 := 0#32
  let v168 : Index := Scalar.indexCast c0_i32_99
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v169 : Index := Scalar.indexCast v114
  let c2_i32_98 : BitVec 32 := 2#32
  let c7_i32 : BitVec 32 := 7#32
  let v115 : BitVec 32 := Scalar.andi v113 c7_i32
  let v167 : BitVec 32 := Scalar.muli c2_i32_98 v115
  let v170 : Index := Scalar.indexCast v167
  let c32_100 : Index := 32#32
  ![0, v169.toNat, v170.toNat, 32]

def k0_chk38 (i : grid0.Coords) (k0_t4 : Fin (k0_t4_loop i).trips) (v165 : IVec S16 32) : Prop :=
  (∀ a x, ((![v165] : Fin 1 → IVec S16 32) a x).toNat < S65536.size a)
theorem k0_idx38_inb : ∀ (i : grid0.Coords) (k0_t4 : Fin (k0_t4_loop i).trips) (v165 : IVec S16 32) (k0_hw38 : k0_chk38 i k0_t4 v165), ∀ a x, ((![v165] : Fin 1 → IVec S16 32) a x).toNat < S65536.size a := fun i k0_t4 v165 k0_hw38 => k0_hw38
def k0_off70 (k0_t5 : Fin k0_t5_loop.trips) : Fin 4 → Nat :=
  let c0_i32_103 : BitVec 32 := 0#32
  let v175 : Index := Scalar.indexCast c0_i32_103
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v176 : Index := Scalar.indexCast v114
  let c2_i32_101 : BitVec 32 := 2#32
  let c7_i32 : BitVec 32 := 7#32
  let v115 : BitVec 32 := Scalar.andi v113 c7_i32
  let v173 : BitVec 32 := Scalar.muli c2_i32_101 v115
  let c1_i32_102 : BitVec 32 := 1#32
  let v174 : BitVec 32 := Scalar.addi v173 c1_i32_102
  let v177 : Index := Scalar.indexCast v174
  let c32_104 : Index := 32#32
  ![0, v176.toNat, v177.toNat, 32]
def k0_off71 (k0_t5 : Fin k0_t5_loop.trips) : Fin 4 → Nat :=
  let c0_i32_105 : BitVec 32 := 0#32
  let v179 : Index := Scalar.indexCast c0_i32_105
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v180 : Index := Scalar.indexCast v114
  let c7_i32 : BitVec 32 := 7#32
  let v115 : BitVec 32 := Scalar.andi v113 c7_i32
  let v181 : Index := Scalar.indexCast v115
  let c48 : Index := 48#32
  ![0, v180.toNat, v181.toNat, 48]

def k0_chk39 (i : grid0.Coords) (k0_t4 : Fin (k0_t4_loop i).trips) (v184 : IVec S16 32) : Prop :=
  (∀ a x, ((![v184] : Fin 1 → IVec S16 32) a x).toNat < S65536.size a)
theorem k0_idx39_inb : ∀ (i : grid0.Coords) (k0_t4 : Fin (k0_t4_loop i).trips) (v184 : IVec S16 32) (k0_hw39 : k0_chk39 i k0_t4 v184), ∀ a x, ((![v184] : Fin 1 → IVec S16 32) a x).toNat < S65536.size a := fun i k0_t4 v184 k0_hw39 => k0_hw39
def k0_off72 (k0_t5 : Fin k0_t5_loop.trips) : Fin 4 → Nat :=
  let c0_i32_109 : BitVec 32 := 0#32
  let v189 : Index := Scalar.indexCast c0_i32_109
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v190 : Index := Scalar.indexCast v114
  let c2_i32_108 : BitVec 32 := 2#32
  let c7_i32 : BitVec 32 := 7#32
  let v115 : BitVec 32 := Scalar.andi v113 c7_i32
  let v188 : BitVec 32 := Scalar.muli c2_i32_108 v115
  let v191 : Index := Scalar.indexCast v188
  let c48_110 : Index := 48#32
  ![0, v190.toNat, v191.toNat, 48]

def k0_chk40 (i : grid0.Coords) (k0_t4 : Fin (k0_t4_loop i).trips) (v186 : IVec S16 32) : Prop :=
  (∀ a x, ((![v186] : Fin 1 → IVec S16 32) a x).toNat < S65536.size a)
theorem k0_idx40_inb : ∀ (i : grid0.Coords) (k0_t4 : Fin (k0_t4_loop i).trips) (v186 : IVec S16 32) (k0_hw40 : k0_chk40 i k0_t4 v186), ∀ a x, ((![v186] : Fin 1 → IVec S16 32) a x).toNat < S65536.size a := fun i k0_t4 v186 k0_hw40 => k0_hw40
def k0_off73 (k0_t5 : Fin k0_t5_loop.trips) : Fin 4 → Nat :=
  let c0_i32_113 : BitVec 32 := 0#32
  let v196 : Index := Scalar.indexCast c0_i32_113
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v197 : Index := Scalar.indexCast v114
  let c2_i32_111 : BitVec 32 := 2#32
  let c7_i32 : BitVec 32 := 7#32
  let v115 : BitVec 32 := Scalar.andi v113 c7_i32
  let v194 : BitVec 32 := Scalar.muli c2_i32_111 v115
  let c1_i32_112 : BitVec 32 := 1#32
  let v195 : BitVec 32 := Scalar.addi v194 c1_i32_112
  let v198 : Index := Scalar.indexCast v195
  let c48_114 : Index := 48#32
  ![0, v197.toNat, v198.toNat, 48]
def k0_off74 (k0_t5 : Fin k0_t5_loop.trips) : Fin 4 → Nat :=
  let c0_i32_115 : BitVec 32 := 0#32
  let v200 : Index := Scalar.indexCast c0_i32_115
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v201 : Index := Scalar.indexCast v114
  let c7_i32 : BitVec 32 := 7#32
  let v115 : BitVec 32 := Scalar.andi v113 c7_i32
  let v202 : Index := Scalar.indexCast v115
  let c64 : Index := 64#32
  ![0, v201.toNat, v202.toNat, 64]

def k0_chk41 (i : grid0.Coords) (k0_t4 : Fin (k0_t4_loop i).trips) (v205 : IVec S16 32) : Prop :=
  (∀ a x, ((![v205] : Fin 1 → IVec S16 32) a x).toNat < S65536.size a)
theorem k0_idx41_inb : ∀ (i : grid0.Coords) (k0_t4 : Fin (k0_t4_loop i).trips) (v205 : IVec S16 32) (k0_hw41 : k0_chk41 i k0_t4 v205), ∀ a x, ((![v205] : Fin 1 → IVec S16 32) a x).toNat < S65536.size a := fun i k0_t4 v205 k0_hw41 => k0_hw41
def k0_off75 (k0_t5 : Fin k0_t5_loop.trips) : Fin 4 → Nat :=
  let c0_i32_119 : BitVec 32 := 0#32
  let v210 : Index := Scalar.indexCast c0_i32_119
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v211 : Index := Scalar.indexCast v114
  let c2_i32_118 : BitVec 32 := 2#32
  let c7_i32 : BitVec 32 := 7#32
  let v115 : BitVec 32 := Scalar.andi v113 c7_i32
  let v209 : BitVec 32 := Scalar.muli c2_i32_118 v115
  let v212 : Index := Scalar.indexCast v209
  let c64_120 : Index := 64#32
  ![0, v211.toNat, v212.toNat, 64]

def k0_chk42 (i : grid0.Coords) (k0_t4 : Fin (k0_t4_loop i).trips) (v207 : IVec S16 32) : Prop :=
  (∀ a x, ((![v207] : Fin 1 → IVec S16 32) a x).toNat < S65536.size a)
theorem k0_idx42_inb : ∀ (i : grid0.Coords) (k0_t4 : Fin (k0_t4_loop i).trips) (v207 : IVec S16 32) (k0_hw42 : k0_chk42 i k0_t4 v207), ∀ a x, ((![v207] : Fin 1 → IVec S16 32) a x).toNat < S65536.size a := fun i k0_t4 v207 k0_hw42 => k0_hw42
def k0_off76 (k0_t5 : Fin k0_t5_loop.trips) : Fin 4 → Nat :=
  let c0_i32_123 : BitVec 32 := 0#32
  let v217 : Index := Scalar.indexCast c0_i32_123
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v218 : Index := Scalar.indexCast v114
  let c2_i32_121 : BitVec 32 := 2#32
  let c7_i32 : BitVec 32 := 7#32
  let v115 : BitVec 32 := Scalar.andi v113 c7_i32
  let v215 : BitVec 32 := Scalar.muli c2_i32_121 v115
  let c1_i32_122 : BitVec 32 := 1#32
  let v216 : BitVec 32 := Scalar.addi v215 c1_i32_122
  let v219 : Index := Scalar.indexCast v216
  let c64_124 : Index := 64#32
  ![0, v218.toNat, v219.toNat, 64]
def k0_off77 (k0_t5 : Fin k0_t5_loop.trips) : Fin 4 → Nat :=
  let c0_i32_125 : BitVec 32 := 0#32
  let v221 : Index := Scalar.indexCast c0_i32_125
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v222 : Index := Scalar.indexCast v114
  let c7_i32 : BitVec 32 := 7#32
  let v115 : BitVec 32 := Scalar.andi v113 c7_i32
  let v223 : Index := Scalar.indexCast v115
  let c80 : Index := 80#32
  ![0, v222.toNat, v223.toNat, 80]

def k0_chk43 (i : grid0.Coords) (k0_t4 : Fin (k0_t4_loop i).trips) (v226 : IVec S16 32) : Prop :=
  (∀ a x, ((![v226] : Fin 1 → IVec S16 32) a x).toNat < S65536.size a)
theorem k0_idx43_inb : ∀ (i : grid0.Coords) (k0_t4 : Fin (k0_t4_loop i).trips) (v226 : IVec S16 32) (k0_hw43 : k0_chk43 i k0_t4 v226), ∀ a x, ((![v226] : Fin 1 → IVec S16 32) a x).toNat < S65536.size a := fun i k0_t4 v226 k0_hw43 => k0_hw43
def k0_off78 (k0_t5 : Fin k0_t5_loop.trips) : Fin 4 → Nat :=
  let c0_i32_129 : BitVec 32 := 0#32
  let v231 : Index := Scalar.indexCast c0_i32_129
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v232 : Index := Scalar.indexCast v114
  let c2_i32_128 : BitVec 32 := 2#32
  let c7_i32 : BitVec 32 := 7#32
  let v115 : BitVec 32 := Scalar.andi v113 c7_i32
  let v230 : BitVec 32 := Scalar.muli c2_i32_128 v115
  let v233 : Index := Scalar.indexCast v230
  let c80_130 : Index := 80#32
  ![0, v232.toNat, v233.toNat, 80]

def k0_chk44 (i : grid0.Coords) (k0_t4 : Fin (k0_t4_loop i).trips) (v228 : IVec S16 32) : Prop :=
  (∀ a x, ((![v228] : Fin 1 → IVec S16 32) a x).toNat < S65536.size a)
theorem k0_idx44_inb : ∀ (i : grid0.Coords) (k0_t4 : Fin (k0_t4_loop i).trips) (v228 : IVec S16 32) (k0_hw44 : k0_chk44 i k0_t4 v228), ∀ a x, ((![v228] : Fin 1 → IVec S16 32) a x).toNat < S65536.size a := fun i k0_t4 v228 k0_hw44 => k0_hw44
def k0_off79 (k0_t5 : Fin k0_t5_loop.trips) : Fin 4 → Nat :=
  let c0_i32_133 : BitVec 32 := 0#32
  let v238 : Index := Scalar.indexCast c0_i32_133
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v239 : Index := Scalar.indexCast v114
  let c2_i32_131 : BitVec 32 := 2#32
  let c7_i32 : BitVec 32 := 7#32
  let v115 : BitVec 32 := Scalar.andi v113 c7_i32
  let v236 : BitVec 32 := Scalar.muli c2_i32_131 v115
  let c1_i32_132 : BitVec 32 := 1#32
  let v237 : BitVec 32 := Scalar.addi v236 c1_i32_132
  let v240 : Index := Scalar.indexCast v237
  let c80_134 : Index := 80#32
  ![0, v239.toNat, v240.toNat, 80]
def k0_off80 (k0_t5 : Fin k0_t5_loop.trips) : Fin 4 → Nat :=
  let c0_i32_135 : BitVec 32 := 0#32
  let v242 : Index := Scalar.indexCast c0_i32_135
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v243 : Index := Scalar.indexCast v114
  let c7_i32 : BitVec 32 := 7#32
  let v115 : BitVec 32 := Scalar.andi v113 c7_i32
  let v244 : Index := Scalar.indexCast v115
  let c96 : Index := 96#32
  ![0, v243.toNat, v244.toNat, 96]

def k0_chk45 (i : grid0.Coords) (k0_t4 : Fin (k0_t4_loop i).trips) (v247 : IVec S16 32) : Prop :=
  (∀ a x, ((![v247] : Fin 1 → IVec S16 32) a x).toNat < S65536.size a)
theorem k0_idx45_inb : ∀ (i : grid0.Coords) (k0_t4 : Fin (k0_t4_loop i).trips) (v247 : IVec S16 32) (k0_hw45 : k0_chk45 i k0_t4 v247), ∀ a x, ((![v247] : Fin 1 → IVec S16 32) a x).toNat < S65536.size a := fun i k0_t4 v247 k0_hw45 => k0_hw45
def k0_off81 (k0_t5 : Fin k0_t5_loop.trips) : Fin 4 → Nat :=
  let c0_i32_139 : BitVec 32 := 0#32
  let v252 : Index := Scalar.indexCast c0_i32_139
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v253 : Index := Scalar.indexCast v114
  let c2_i32_138 : BitVec 32 := 2#32
  let c7_i32 : BitVec 32 := 7#32
  let v115 : BitVec 32 := Scalar.andi v113 c7_i32
  let v251 : BitVec 32 := Scalar.muli c2_i32_138 v115
  let v254 : Index := Scalar.indexCast v251
  let c96_140 : Index := 96#32
  ![0, v253.toNat, v254.toNat, 96]

def k0_chk46 (i : grid0.Coords) (k0_t4 : Fin (k0_t4_loop i).trips) (v249 : IVec S16 32) : Prop :=
  (∀ a x, ((![v249] : Fin 1 → IVec S16 32) a x).toNat < S65536.size a)
theorem k0_idx46_inb : ∀ (i : grid0.Coords) (k0_t4 : Fin (k0_t4_loop i).trips) (v249 : IVec S16 32) (k0_hw46 : k0_chk46 i k0_t4 v249), ∀ a x, ((![v249] : Fin 1 → IVec S16 32) a x).toNat < S65536.size a := fun i k0_t4 v249 k0_hw46 => k0_hw46
def k0_off82 (k0_t5 : Fin k0_t5_loop.trips) : Fin 4 → Nat :=
  let c0_i32_143 : BitVec 32 := 0#32
  let v259 : Index := Scalar.indexCast c0_i32_143
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v260 : Index := Scalar.indexCast v114
  let c2_i32_141 : BitVec 32 := 2#32
  let c7_i32 : BitVec 32 := 7#32
  let v115 : BitVec 32 := Scalar.andi v113 c7_i32
  let v257 : BitVec 32 := Scalar.muli c2_i32_141 v115
  let c1_i32_142 : BitVec 32 := 1#32
  let v258 : BitVec 32 := Scalar.addi v257 c1_i32_142
  let v261 : Index := Scalar.indexCast v258
  let c96_144 : Index := 96#32
  ![0, v260.toNat, v261.toNat, 96]
def k0_off83 (k0_t5 : Fin k0_t5_loop.trips) : Fin 4 → Nat :=
  let c0_i32_145 : BitVec 32 := 0#32
  let v263 : Index := Scalar.indexCast c0_i32_145
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v264 : Index := Scalar.indexCast v114
  let c7_i32 : BitVec 32 := 7#32
  let v115 : BitVec 32 := Scalar.andi v113 c7_i32
  let v265 : Index := Scalar.indexCast v115
  let c112 : Index := 112#32
  ![0, v264.toNat, v265.toNat, 112]

def k0_chk47 (i : grid0.Coords) (k0_t4 : Fin (k0_t4_loop i).trips) (v268 : IVec S16 32) : Prop :=
  (∀ a x, ((![v268] : Fin 1 → IVec S16 32) a x).toNat < S65536.size a)
theorem k0_idx47_inb : ∀ (i : grid0.Coords) (k0_t4 : Fin (k0_t4_loop i).trips) (v268 : IVec S16 32) (k0_hw47 : k0_chk47 i k0_t4 v268), ∀ a x, ((![v268] : Fin 1 → IVec S16 32) a x).toNat < S65536.size a := fun i k0_t4 v268 k0_hw47 => k0_hw47
def k0_off84 (k0_t5 : Fin k0_t5_loop.trips) : Fin 4 → Nat :=
  let c0_i32_149 : BitVec 32 := 0#32
  let v273 : Index := Scalar.indexCast c0_i32_149
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v274 : Index := Scalar.indexCast v114
  let c2_i32_148 : BitVec 32 := 2#32
  let c7_i32 : BitVec 32 := 7#32
  let v115 : BitVec 32 := Scalar.andi v113 c7_i32
  let v272 : BitVec 32 := Scalar.muli c2_i32_148 v115
  let v275 : Index := Scalar.indexCast v272
  let c112_150 : Index := 112#32
  ![0, v274.toNat, v275.toNat, 112]

def k0_chk48 (i : grid0.Coords) (k0_t4 : Fin (k0_t4_loop i).trips) (v270 : IVec S16 32) : Prop :=
  (∀ a x, ((![v270] : Fin 1 → IVec S16 32) a x).toNat < S65536.size a)
theorem k0_idx48_inb : ∀ (i : grid0.Coords) (k0_t4 : Fin (k0_t4_loop i).trips) (v270 : IVec S16 32) (k0_hw48 : k0_chk48 i k0_t4 v270), ∀ a x, ((![v270] : Fin 1 → IVec S16 32) a x).toNat < S65536.size a := fun i k0_t4 v270 k0_hw48 => k0_hw48
def k0_off85 (k0_t5 : Fin k0_t5_loop.trips) : Fin 4 → Nat :=
  let c0_i32_153 : BitVec 32 := 0#32
  let v280 : Index := Scalar.indexCast c0_i32_153
  let c0_i32_75 : BitVec 32 := 0#32
  let c0_i32_53 : BitVec 32 := 0#32
  let c1_i32_54 : BitVec 32 := 1#32
  let arg12 : BitVec 32 := Scf.iv c0_i32_53 c1_i32_54 k0_t5
  let c1_i32_74 : BitVec 32 := 1#32
  let v112 : BitVec 32 := Scalar.muli arg12 c1_i32_74
  let v113 : BitVec 32 := Scalar.addi c0_i32_75 v112
  let c3_i32 : BitVec 32 := 3#32
  let v114 : BitVec 32 := Scalar.shrui v113 c3_i32
  let v281 : Index := Scalar.indexCast v114
  let c2_i32_151 : BitVec 32 := 2#32
  let c7_i32 : BitVec 32 := 7#32
  let v115 : BitVec 32 := Scalar.andi v113 c7_i32
  let v278 : BitVec 32 := Scalar.muli c2_i32_151 v115
  let c1_i32_152 : BitVec 32 := 1#32
  let v279 : BitVec 32 := Scalar.addi v278 c1_i32_152
  let v282 : Index := Scalar.indexCast v279
  let c112_154 : Index := 112#32
  ![0, v281.toNat, v282.toNat, 112]
def k0_off86 (i : grid0.Coords) (k0_t4 : Fin (k0_t4_loop i).trips) : Fin 4 → Nat :=
  let arg1 : BitVec 32 := BitVec.ofNat 32 (i 1).val
  let c2_i32_33 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v66 : BitVec 32 := Scalar.muli c2_i32_33 v65
  let c16_i32_56 : BitVec 32 := 16#32
  let v91 : BitVec 32 := Scalar.muli v66 c16_i32_56
  let v92 : BitVec 32 := Scalar.addi arg1 v91
  let c28_i32_58 : BitVec 32 := 28#32
  let v94 : BitVec 32 := Scalar.divsi v92 c28_i32_58
  let c4_i32_59 : BitVec 32 := 4#32
  let v95 : BitVec 32 := Scalar.muli v94 c4_i32_59
  let c28_i32_57 : BitVec 32 := 28#32
  let v93 : BitVec 32 := Scalar.remsi v92 c28_i32_57
  let c16_i32_60 : BitVec 32 := 16#32
  let v96 : BitVec 32 := Scalar.muli v93 c16_i32_60
  let arg0 : BitVec 32 := BitVec.ofNat 32 (i 0).val
  let c0_i32_66 : BitVec 32 := 0#32
  ![v95.toNat, v96.toNat, arg0.toNat, 0]
def k0_cond9 (i : grid0.Coords) (k0_t4 : Fin (k0_t4_loop i).trips) : BitVec 1 :=
  let c2_i32_71 : BitVec 32 := 2#32
  let c0_i32_24 : BitVec 32 := 0#32
  let c0_i32_25 : BitVec 32 := 0#32
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v107 : BitVec 32 := Scalar.muli c2_i32_71 v65
  let c1_i32_72 : BitVec 32 := 1#32
  let v108 : BitVec 32 := Scalar.addi v107 c1_i32_72
  let v109 : BitVec 1 := Scalar.cmpi .slt v108 v19
  let v110 : BitVec 32 := Scalar.extui v109
  let c0_i32_73 : BitVec 32 := 0#32
  let v111 : BitVec 1 := Scalar.cmpi .ne v110 c0_i32_73
  v111

def k0_off87 (i : grid0.Coords) (k0_t4 : Fin (k0_t4_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c16_i32_76 : BitVec 32 := 16#32
  let v114 : BitVec 32 := Scalar.muli v113 c16_i32_76
  let v115 : BitVec 32 := Scalar.addi arg1 v114
  let c28_i32_77 : BitVec 32 := 28#32
  let v116 : BitVec 32 := Scalar.remsi v115 c28_i32_77
  let c0_i32_80 : BitVec 32 := 0#32
  let c28_i32_78 : BitVec 32 := 28#32
  let v117 : BitVec 32 := Scalar.divsi v115 c28_i32_78
  let c4_i32_79 : BitVec 32 := 4#32
  let v118 : BitVec 32 := Scalar.muli v117 c4_i32_79
  let v119 : BitVec 32 := Scalar.addi c0_i32_80 v118
  let c0_i32_86 : BitVec 32 := 0#32
  let c0_i32_87 : BitVec 32 := 0#32
  ![v116.toNat, v119.toNat, 0, 0]
def k0_cond10 (i : grid0.Coords) (k0_t4 : Fin (k0_t4_loop i).trips) : BitVec 1 :=
  let c2_i32_74 : BitVec 32 := 2#32
  let c0_i32_24 : BitVec 32 := 0#32
  let c0_i32_25 : BitVec 32 := 0#32
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c1_i32_93 : BitVec 32 := 1#32
  let v130 : BitVec 32 := Scalar.addi v113 c1_i32_93
  let v131 : BitVec 1 := Scalar.cmpi .slt v130 v19
  let v132 : BitVec 32 := Scalar.extui v131
  let c0_i32_94 : BitVec 32 := 0#32
  let v133 : BitVec 1 := Scalar.cmpi .ne v132 c0_i32_94
  v133

def k0_off88 (i : grid0.Coords) (k0_t4 : Fin (k0_t4_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c1_i32_116 : BitVec 32 := 1#32
  let v154 : BitVec 32 := Scalar.addi v113 c1_i32_116
  let c16_i32_117 : BitVec 32 := 16#32
  let v155 : BitVec 32 := Scalar.muli v154 c16_i32_117
  let v156 : BitVec 32 := Scalar.addi arg1 v155
  let c28_i32_118 : BitVec 32 := 28#32
  let v157 : BitVec 32 := Scalar.remsi v156 c28_i32_118
  let c0_i32_121 : BitVec 32 := 0#32
  let c28_i32_119 : BitVec 32 := 28#32
  let v158 : BitVec 32 := Scalar.divsi v156 c28_i32_119
  let c4_i32_120 : BitVec 32 := 4#32
  let v159 : BitVec 32 := Scalar.muli v158 c4_i32_120
  let v160 : BitVec 32 := Scalar.addi c0_i32_121 v159
  let c0_i32_127 : BitVec 32 := 0#32
  let c0_i32_128 : BitVec 32 := 0#32
  ![v157.toNat, v160.toNat, 0, 0]
def k0_cond11 (i : grid0.Coords) (k0_t4 : Fin (k0_t4_loop i).trips) : BitVec 1 :=
  let c2_i32_74 : BitVec 32 := 2#32
  let c0_i32_24 : BitVec 32 := 0#32
  let c0_i32_25 : BitVec 32 := 0#32
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c2_i32_95 : BitVec 32 := 2#32
  let v134 : BitVec 1 := Scalar.cmpi .sge v113 c2_i32_95
  let v135 : BitVec 32 := Scalar.extui v134
  let c0_i32_96 : BitVec 32 := 0#32
  let v136 : BitVec 1 := Scalar.cmpi .ne v135 c0_i32_96
  v136

def k0_off89 (i : grid0.Coords) (k0_t4 : Fin (k0_t4_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c2_i32_116 : BitVec 32 := 2#32
  let v154 : BitVec 32 := Scalar.subi v113 c2_i32_116
  let c16_i32_117 : BitVec 32 := 16#32
  let v155 : BitVec 32 := Scalar.muli v154 c16_i32_117
  let v156 : BitVec 32 := Scalar.addi arg1 v155
  let c28_i32_119 : BitVec 32 := 28#32
  let v158 : BitVec 32 := Scalar.divsi v156 c28_i32_119
  let c4_i32_120 : BitVec 32 := 4#32
  let v159 : BitVec 32 := Scalar.muli v158 c4_i32_120
  let c28_i32_118 : BitVec 32 := 28#32
  let v157 : BitVec 32 := Scalar.remsi v156 c28_i32_118
  let c16_i32_121 : BitVec 32 := 16#32
  let v160 : BitVec 32 := Scalar.muli v157 c16_i32_121
  let arg0 : BitVec 32 := BitVec.ofNat 32 (i 0).val
  let c0_i32_127 : BitVec 32 := 0#32
  ![v159.toNat, v160.toNat, arg0.toNat, 0]
@[reducible] def k0_t6_loop : Scf.Loop 32 :=
  let c0_i32_97 : BitVec 32 := 0#32
  let c32_i32_98 : BitVec 32 := 32#32
  let v137 : BitVec 32 := Scalar.addi c0_i32_97 c32_i32_98
  let c1_i32_99 : BitVec 32 := 1#32
  ⟨c0_i32_97, v137, c1_i32_99⟩
def k0_off90 (k0_t6 : Fin k0_t6_loop.trips) : Fin 4 → Nat :=
  let c1_i32_118 : BitVec 32 := 1#32
  let v158 : Index := Scalar.indexCast c1_i32_118
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v159 : Index := Scalar.indexCast v156
  let c7_i32 : BitVec 32 := 7#32
  let v157 : BitVec 32 := Scalar.andi v155 c7_i32
  let v160 : Index := Scalar.indexCast v157
  let c0 : Index := 0#32
  ![1, v159.toNat, v160.toNat, 0]

def k0_chk49 (i : grid0.Coords) (k0_t4 : Fin (k0_t4_loop i).trips) (v163 : IVec S16 32) : Prop :=
  (∀ (k0_h9 : k0_cond9 i k0_t4 = 1#1), ∀ a x, ((![v163] : Fin 1 → IVec S16 32) a x).toNat < S65536.size a)
theorem k0_idx49_inb : ∀ (i : grid0.Coords) (k0_t4 : Fin (k0_t4_loop i).trips) (v163 : IVec S16 32) (k0_hw49 : k0_chk49 i k0_t4 v163), ∀ (k0_h9 : k0_cond9 i k0_t4 = 1#1), ∀ a x, ((![v163] : Fin 1 → IVec S16 32) a x).toNat < S65536.size a := fun i k0_t4 v163 k0_hw49 k0_h9 => k0_hw49 k0_h9
def k0_off91 (k0_t6 : Fin k0_t6_loop.trips) : Fin 4 → Nat :=
  let c1_i32_121 : BitVec 32 := 1#32
  let v168 : Index := Scalar.indexCast c1_i32_121
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v169 : Index := Scalar.indexCast v156
  let c2_i32_120 : BitVec 32 := 2#32
  let c7_i32 : BitVec 32 := 7#32
  let v157 : BitVec 32 := Scalar.andi v155 c7_i32
  let v167 : BitVec 32 := Scalar.muli c2_i32_120 v157
  let v170 : Index := Scalar.indexCast v167
  let c0_122 : Index := 0#32
  ![1, v169.toNat, v170.toNat, 0]

def k0_chk50 (i : grid0.Coords) (k0_t4 : Fin (k0_t4_loop i).trips) (v165 : IVec S16 32) : Prop :=
  (∀ (k0_h9 : k0_cond9 i k0_t4 = 1#1), ∀ a x, ((![v165] : Fin 1 → IVec S16 32) a x).toNat < S65536.size a)
theorem k0_idx50_inb : ∀ (i : grid0.Coords) (k0_t4 : Fin (k0_t4_loop i).trips) (v165 : IVec S16 32) (k0_hw50 : k0_chk50 i k0_t4 v165), ∀ (k0_h9 : k0_cond9 i k0_t4 = 1#1), ∀ a x, ((![v165] : Fin 1 → IVec S16 32) a x).toNat < S65536.size a := fun i k0_t4 v165 k0_hw50 k0_h9 => k0_hw50 k0_h9
def k0_off92 (k0_t6 : Fin k0_t6_loop.trips) : Fin 4 → Nat :=
  let c1_i32_125 : BitVec 32 := 1#32
  let v175 : Index := Scalar.indexCast c1_i32_125
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v176 : Index := Scalar.indexCast v156
  let c2_i32_123 : BitVec 32 := 2#32
  let c7_i32 : BitVec 32 := 7#32
  let v157 : BitVec 32 := Scalar.andi v155 c7_i32
  let v173 : BitVec 32 := Scalar.muli c2_i32_123 v157
  let c1_i32_124 : BitVec 32 := 1#32
  let v174 : BitVec 32 := Scalar.addi v173 c1_i32_124
  let v177 : Index := Scalar.indexCast v174
  let c0_126 : Index := 0#32
  ![1, v176.toNat, v177.toNat, 0]
def k0_off93 (k0_t6 : Fin k0_t6_loop.trips) : Fin 4 → Nat :=
  let c1_i32_127 : BitVec 32 := 1#32
  let v179 : Index := Scalar.indexCast c1_i32_127
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v180 : Index := Scalar.indexCast v156
  let c7_i32 : BitVec 32 := 7#32
  let v157 : BitVec 32 := Scalar.andi v155 c7_i32
  let v181 : Index := Scalar.indexCast v157
  let c16 : Index := 16#32
  ![1, v180.toNat, v181.toNat, 16]

def k0_chk51 (i : grid0.Coords) (k0_t4 : Fin (k0_t4_loop i).trips) (v184 : IVec S16 32) : Prop :=
  (∀ (k0_h9 : k0_cond9 i k0_t4 = 1#1), ∀ a x, ((![v184] : Fin 1 → IVec S16 32) a x).toNat < S65536.size a)
theorem k0_idx51_inb : ∀ (i : grid0.Coords) (k0_t4 : Fin (k0_t4_loop i).trips) (v184 : IVec S16 32) (k0_hw51 : k0_chk51 i k0_t4 v184), ∀ (k0_h9 : k0_cond9 i k0_t4 = 1#1), ∀ a x, ((![v184] : Fin 1 → IVec S16 32) a x).toNat < S65536.size a := fun i k0_t4 v184 k0_hw51 k0_h9 => k0_hw51 k0_h9
def k0_off94 (k0_t6 : Fin k0_t6_loop.trips) : Fin 4 → Nat :=
  let c1_i32_131 : BitVec 32 := 1#32
  let v189 : Index := Scalar.indexCast c1_i32_131
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v190 : Index := Scalar.indexCast v156
  let c2_i32_130 : BitVec 32 := 2#32
  let c7_i32 : BitVec 32 := 7#32
  let v157 : BitVec 32 := Scalar.andi v155 c7_i32
  let v188 : BitVec 32 := Scalar.muli c2_i32_130 v157
  let v191 : Index := Scalar.indexCast v188
  let c16_132 : Index := 16#32
  ![1, v190.toNat, v191.toNat, 16]

def k0_chk52 (i : grid0.Coords) (k0_t4 : Fin (k0_t4_loop i).trips) (v186 : IVec S16 32) : Prop :=
  (∀ (k0_h9 : k0_cond9 i k0_t4 = 1#1), ∀ a x, ((![v186] : Fin 1 → IVec S16 32) a x).toNat < S65536.size a)
theorem k0_idx52_inb : ∀ (i : grid0.Coords) (k0_t4 : Fin (k0_t4_loop i).trips) (v186 : IVec S16 32) (k0_hw52 : k0_chk52 i k0_t4 v186), ∀ (k0_h9 : k0_cond9 i k0_t4 = 1#1), ∀ a x, ((![v186] : Fin 1 → IVec S16 32) a x).toNat < S65536.size a := fun i k0_t4 v186 k0_hw52 k0_h9 => k0_hw52 k0_h9
def k0_off95 (k0_t6 : Fin k0_t6_loop.trips) : Fin 4 → Nat :=
  let c1_i32_135 : BitVec 32 := 1#32
  let v196 : Index := Scalar.indexCast c1_i32_135
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v197 : Index := Scalar.indexCast v156
  let c2_i32_133 : BitVec 32 := 2#32
  let c7_i32 : BitVec 32 := 7#32
  let v157 : BitVec 32 := Scalar.andi v155 c7_i32
  let v194 : BitVec 32 := Scalar.muli c2_i32_133 v157
  let c1_i32_134 : BitVec 32 := 1#32
  let v195 : BitVec 32 := Scalar.addi v194 c1_i32_134
  let v198 : Index := Scalar.indexCast v195
  let c16_136 : Index := 16#32
  ![1, v197.toNat, v198.toNat, 16]
def k0_off96 (k0_t6 : Fin k0_t6_loop.trips) : Fin 4 → Nat :=
  let c1_i32_137 : BitVec 32 := 1#32
  let v200 : Index := Scalar.indexCast c1_i32_137
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v201 : Index := Scalar.indexCast v156
  let c7_i32 : BitVec 32 := 7#32
  let v157 : BitVec 32 := Scalar.andi v155 c7_i32
  let v202 : Index := Scalar.indexCast v157
  let c32 : Index := 32#32
  ![1, v201.toNat, v202.toNat, 32]

def k0_chk53 (i : grid0.Coords) (k0_t4 : Fin (k0_t4_loop i).trips) (v205 : IVec S16 32) : Prop :=
  (∀ (k0_h9 : k0_cond9 i k0_t4 = 1#1), ∀ a x, ((![v205] : Fin 1 → IVec S16 32) a x).toNat < S65536.size a)
theorem k0_idx53_inb : ∀ (i : grid0.Coords) (k0_t4 : Fin (k0_t4_loop i).trips) (v205 : IVec S16 32) (k0_hw53 : k0_chk53 i k0_t4 v205), ∀ (k0_h9 : k0_cond9 i k0_t4 = 1#1), ∀ a x, ((![v205] : Fin 1 → IVec S16 32) a x).toNat < S65536.size a := fun i k0_t4 v205 k0_hw53 k0_h9 => k0_hw53 k0_h9
def k0_off97 (k0_t6 : Fin k0_t6_loop.trips) : Fin 4 → Nat :=
  let c1_i32_141 : BitVec 32 := 1#32
  let v210 : Index := Scalar.indexCast c1_i32_141
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v211 : Index := Scalar.indexCast v156
  let c2_i32_140 : BitVec 32 := 2#32
  let c7_i32 : BitVec 32 := 7#32
  let v157 : BitVec 32 := Scalar.andi v155 c7_i32
  let v209 : BitVec 32 := Scalar.muli c2_i32_140 v157
  let v212 : Index := Scalar.indexCast v209
  let c32_142 : Index := 32#32
  ![1, v211.toNat, v212.toNat, 32]

def k0_chk54 (i : grid0.Coords) (k0_t4 : Fin (k0_t4_loop i).trips) (v207 : IVec S16 32) : Prop :=
  (∀ (k0_h9 : k0_cond9 i k0_t4 = 1#1), ∀ a x, ((![v207] : Fin 1 → IVec S16 32) a x).toNat < S65536.size a)
theorem k0_idx54_inb : ∀ (i : grid0.Coords) (k0_t4 : Fin (k0_t4_loop i).trips) (v207 : IVec S16 32) (k0_hw54 : k0_chk54 i k0_t4 v207), ∀ (k0_h9 : k0_cond9 i k0_t4 = 1#1), ∀ a x, ((![v207] : Fin 1 → IVec S16 32) a x).toNat < S65536.size a := fun i k0_t4 v207 k0_hw54 k0_h9 => k0_hw54 k0_h9
def k0_off98 (k0_t6 : Fin k0_t6_loop.trips) : Fin 4 → Nat :=
  let c1_i32_145 : BitVec 32 := 1#32
  let v217 : Index := Scalar.indexCast c1_i32_145
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v218 : Index := Scalar.indexCast v156
  let c2_i32_143 : BitVec 32 := 2#32
  let c7_i32 : BitVec 32 := 7#32
  let v157 : BitVec 32 := Scalar.andi v155 c7_i32
  let v215 : BitVec 32 := Scalar.muli c2_i32_143 v157
  let c1_i32_144 : BitVec 32 := 1#32
  let v216 : BitVec 32 := Scalar.addi v215 c1_i32_144
  let v219 : Index := Scalar.indexCast v216
  let c32_146 : Index := 32#32
  ![1, v218.toNat, v219.toNat, 32]
def k0_off99 (k0_t6 : Fin k0_t6_loop.trips) : Fin 4 → Nat :=
  let c1_i32_147 : BitVec 32 := 1#32
  let v221 : Index := Scalar.indexCast c1_i32_147
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v222 : Index := Scalar.indexCast v156
  let c7_i32 : BitVec 32 := 7#32
  let v157 : BitVec 32 := Scalar.andi v155 c7_i32
  let v223 : Index := Scalar.indexCast v157
  let c48 : Index := 48#32
  ![1, v222.toNat, v223.toNat, 48]

def k0_chk55 (i : grid0.Coords) (k0_t4 : Fin (k0_t4_loop i).trips) (v226 : IVec S16 32) : Prop :=
  (∀ (k0_h9 : k0_cond9 i k0_t4 = 1#1), ∀ a x, ((![v226] : Fin 1 → IVec S16 32) a x).toNat < S65536.size a)
theorem k0_idx55_inb : ∀ (i : grid0.Coords) (k0_t4 : Fin (k0_t4_loop i).trips) (v226 : IVec S16 32) (k0_hw55 : k0_chk55 i k0_t4 v226), ∀ (k0_h9 : k0_cond9 i k0_t4 = 1#1), ∀ a x, ((![v226] : Fin 1 → IVec S16 32) a x).toNat < S65536.size a := fun i k0_t4 v226 k0_hw55 k0_h9 => k0_hw55 k0_h9
def k0_off100 (k0_t6 : Fin k0_t6_loop.trips) : Fin 4 → Nat :=
  let c1_i32_151 : BitVec 32 := 1#32
  let v231 : Index := Scalar.indexCast c1_i32_151
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v232 : Index := Scalar.indexCast v156
  let c2_i32_150 : BitVec 32 := 2#32
  let c7_i32 : BitVec 32 := 7#32
  let v157 : BitVec 32 := Scalar.andi v155 c7_i32
  let v230 : BitVec 32 := Scalar.muli c2_i32_150 v157
  let v233 : Index := Scalar.indexCast v230
  let c48_152 : Index := 48#32
  ![1, v232.toNat, v233.toNat, 48]

def k0_chk56 (i : grid0.Coords) (k0_t4 : Fin (k0_t4_loop i).trips) (v228 : IVec S16 32) : Prop :=
  (∀ (k0_h9 : k0_cond9 i k0_t4 = 1#1), ∀ a x, ((![v228] : Fin 1 → IVec S16 32) a x).toNat < S65536.size a)
theorem k0_idx56_inb : ∀ (i : grid0.Coords) (k0_t4 : Fin (k0_t4_loop i).trips) (v228 : IVec S16 32) (k0_hw56 : k0_chk56 i k0_t4 v228), ∀ (k0_h9 : k0_cond9 i k0_t4 = 1#1), ∀ a x, ((![v228] : Fin 1 → IVec S16 32) a x).toNat < S65536.size a := fun i k0_t4 v228 k0_hw56 k0_h9 => k0_hw56 k0_h9
def k0_off101 (k0_t6 : Fin k0_t6_loop.trips) : Fin 4 → Nat :=
  let c1_i32_155 : BitVec 32 := 1#32
  let v238 : Index := Scalar.indexCast c1_i32_155
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v239 : Index := Scalar.indexCast v156
  let c2_i32_153 : BitVec 32 := 2#32
  let c7_i32 : BitVec 32 := 7#32
  let v157 : BitVec 32 := Scalar.andi v155 c7_i32
  let v236 : BitVec 32 := Scalar.muli c2_i32_153 v157
  let c1_i32_154 : BitVec 32 := 1#32
  let v237 : BitVec 32 := Scalar.addi v236 c1_i32_154
  let v240 : Index := Scalar.indexCast v237
  let c48_156 : Index := 48#32
  ![1, v239.toNat, v240.toNat, 48]
def k0_off102 (k0_t6 : Fin k0_t6_loop.trips) : Fin 4 → Nat :=
  let c1_i32_157 : BitVec 32 := 1#32
  let v242 : Index := Scalar.indexCast c1_i32_157
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v243 : Index := Scalar.indexCast v156
  let c7_i32 : BitVec 32 := 7#32
  let v157 : BitVec 32 := Scalar.andi v155 c7_i32
  let v244 : Index := Scalar.indexCast v157
  let c64 : Index := 64#32
  ![1, v243.toNat, v244.toNat, 64]

def k0_chk57 (i : grid0.Coords) (k0_t4 : Fin (k0_t4_loop i).trips) (v247 : IVec S16 32) : Prop :=
  (∀ (k0_h9 : k0_cond9 i k0_t4 = 1#1), ∀ a x, ((![v247] : Fin 1 → IVec S16 32) a x).toNat < S65536.size a)
theorem k0_idx57_inb : ∀ (i : grid0.Coords) (k0_t4 : Fin (k0_t4_loop i).trips) (v247 : IVec S16 32) (k0_hw57 : k0_chk57 i k0_t4 v247), ∀ (k0_h9 : k0_cond9 i k0_t4 = 1#1), ∀ a x, ((![v247] : Fin 1 → IVec S16 32) a x).toNat < S65536.size a := fun i k0_t4 v247 k0_hw57 k0_h9 => k0_hw57 k0_h9
def k0_off103 (k0_t6 : Fin k0_t6_loop.trips) : Fin 4 → Nat :=
  let c1_i32_161 : BitVec 32 := 1#32
  let v252 : Index := Scalar.indexCast c1_i32_161
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v253 : Index := Scalar.indexCast v156
  let c2_i32_160 : BitVec 32 := 2#32
  let c7_i32 : BitVec 32 := 7#32
  let v157 : BitVec 32 := Scalar.andi v155 c7_i32
  let v251 : BitVec 32 := Scalar.muli c2_i32_160 v157
  let v254 : Index := Scalar.indexCast v251
  let c64_162 : Index := 64#32
  ![1, v253.toNat, v254.toNat, 64]

def k0_chk58 (i : grid0.Coords) (k0_t4 : Fin (k0_t4_loop i).trips) (v249 : IVec S16 32) : Prop :=
  (∀ (k0_h9 : k0_cond9 i k0_t4 = 1#1), ∀ a x, ((![v249] : Fin 1 → IVec S16 32) a x).toNat < S65536.size a)
theorem k0_idx58_inb : ∀ (i : grid0.Coords) (k0_t4 : Fin (k0_t4_loop i).trips) (v249 : IVec S16 32) (k0_hw58 : k0_chk58 i k0_t4 v249), ∀ (k0_h9 : k0_cond9 i k0_t4 = 1#1), ∀ a x, ((![v249] : Fin 1 → IVec S16 32) a x).toNat < S65536.size a := fun i k0_t4 v249 k0_hw58 k0_h9 => k0_hw58 k0_h9
def k0_off104 (k0_t6 : Fin k0_t6_loop.trips) : Fin 4 → Nat :=
  let c1_i32_165 : BitVec 32 := 1#32
  let v259 : Index := Scalar.indexCast c1_i32_165
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v260 : Index := Scalar.indexCast v156
  let c2_i32_163 : BitVec 32 := 2#32
  let c7_i32 : BitVec 32 := 7#32
  let v157 : BitVec 32 := Scalar.andi v155 c7_i32
  let v257 : BitVec 32 := Scalar.muli c2_i32_163 v157
  let c1_i32_164 : BitVec 32 := 1#32
  let v258 : BitVec 32 := Scalar.addi v257 c1_i32_164
  let v261 : Index := Scalar.indexCast v258
  let c64_166 : Index := 64#32
  ![1, v260.toNat, v261.toNat, 64]
def k0_off105 (k0_t6 : Fin k0_t6_loop.trips) : Fin 4 → Nat :=
  let c1_i32_167 : BitVec 32 := 1#32
  let v263 : Index := Scalar.indexCast c1_i32_167
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v264 : Index := Scalar.indexCast v156
  let c7_i32 : BitVec 32 := 7#32
  let v157 : BitVec 32 := Scalar.andi v155 c7_i32
  let v265 : Index := Scalar.indexCast v157
  let c80 : Index := 80#32
  ![1, v264.toNat, v265.toNat, 80]

def k0_chk59 (i : grid0.Coords) (k0_t4 : Fin (k0_t4_loop i).trips) (v268 : IVec S16 32) : Prop :=
  (∀ (k0_h9 : k0_cond9 i k0_t4 = 1#1), ∀ a x, ((![v268] : Fin 1 → IVec S16 32) a x).toNat < S65536.size a)
theorem k0_idx59_inb : ∀ (i : grid0.Coords) (k0_t4 : Fin (k0_t4_loop i).trips) (v268 : IVec S16 32) (k0_hw59 : k0_chk59 i k0_t4 v268), ∀ (k0_h9 : k0_cond9 i k0_t4 = 1#1), ∀ a x, ((![v268] : Fin 1 → IVec S16 32) a x).toNat < S65536.size a := fun i k0_t4 v268 k0_hw59 k0_h9 => k0_hw59 k0_h9
def k0_off106 (k0_t6 : Fin k0_t6_loop.trips) : Fin 4 → Nat :=
  let c1_i32_171 : BitVec 32 := 1#32
  let v273 : Index := Scalar.indexCast c1_i32_171
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v274 : Index := Scalar.indexCast v156
  let c2_i32_170 : BitVec 32 := 2#32
  let c7_i32 : BitVec 32 := 7#32
  let v157 : BitVec 32 := Scalar.andi v155 c7_i32
  let v272 : BitVec 32 := Scalar.muli c2_i32_170 v157
  let v275 : Index := Scalar.indexCast v272
  let c80_172 : Index := 80#32
  ![1, v274.toNat, v275.toNat, 80]

def k0_chk60 (i : grid0.Coords) (k0_t4 : Fin (k0_t4_loop i).trips) (v270 : IVec S16 32) : Prop :=
  (∀ (k0_h9 : k0_cond9 i k0_t4 = 1#1), ∀ a x, ((![v270] : Fin 1 → IVec S16 32) a x).toNat < S65536.size a)
theorem k0_idx60_inb : ∀ (i : grid0.Coords) (k0_t4 : Fin (k0_t4_loop i).trips) (v270 : IVec S16 32) (k0_hw60 : k0_chk60 i k0_t4 v270), ∀ (k0_h9 : k0_cond9 i k0_t4 = 1#1), ∀ a x, ((![v270] : Fin 1 → IVec S16 32) a x).toNat < S65536.size a := fun i k0_t4 v270 k0_hw60 k0_h9 => k0_hw60 k0_h9
def k0_off107 (k0_t6 : Fin k0_t6_loop.trips) : Fin 4 → Nat :=
  let c1_i32_175 : BitVec 32 := 1#32
  let v280 : Index := Scalar.indexCast c1_i32_175
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v281 : Index := Scalar.indexCast v156
  let c2_i32_173 : BitVec 32 := 2#32
  let c7_i32 : BitVec 32 := 7#32
  let v157 : BitVec 32 := Scalar.andi v155 c7_i32
  let v278 : BitVec 32 := Scalar.muli c2_i32_173 v157
  let c1_i32_174 : BitVec 32 := 1#32
  let v279 : BitVec 32 := Scalar.addi v278 c1_i32_174
  let v282 : Index := Scalar.indexCast v279
  let c80_176 : Index := 80#32
  ![1, v281.toNat, v282.toNat, 80]
def k0_off108 (k0_t6 : Fin k0_t6_loop.trips) : Fin 4 → Nat :=
  let c1_i32_177 : BitVec 32 := 1#32
  let v284 : Index := Scalar.indexCast c1_i32_177
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v285 : Index := Scalar.indexCast v156
  let c7_i32 : BitVec 32 := 7#32
  let v157 : BitVec 32 := Scalar.andi v155 c7_i32
  let v286 : Index := Scalar.indexCast v157
  let c96 : Index := 96#32
  ![1, v285.toNat, v286.toNat, 96]

def k0_chk61 (i : grid0.Coords) (k0_t4 : Fin (k0_t4_loop i).trips) (v289 : IVec S16 32) : Prop :=
  (∀ (k0_h9 : k0_cond9 i k0_t4 = 1#1), ∀ a x, ((![v289] : Fin 1 → IVec S16 32) a x).toNat < S65536.size a)
theorem k0_idx61_inb : ∀ (i : grid0.Coords) (k0_t4 : Fin (k0_t4_loop i).trips) (v289 : IVec S16 32) (k0_hw61 : k0_chk61 i k0_t4 v289), ∀ (k0_h9 : k0_cond9 i k0_t4 = 1#1), ∀ a x, ((![v289] : Fin 1 → IVec S16 32) a x).toNat < S65536.size a := fun i k0_t4 v289 k0_hw61 k0_h9 => k0_hw61 k0_h9
def k0_off109 (k0_t6 : Fin k0_t6_loop.trips) : Fin 4 → Nat :=
  let c1_i32_181 : BitVec 32 := 1#32
  let v294 : Index := Scalar.indexCast c1_i32_181
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v295 : Index := Scalar.indexCast v156
  let c2_i32_180 : BitVec 32 := 2#32
  let c7_i32 : BitVec 32 := 7#32
  let v157 : BitVec 32 := Scalar.andi v155 c7_i32
  let v293 : BitVec 32 := Scalar.muli c2_i32_180 v157
  let v296 : Index := Scalar.indexCast v293
  let c96_182 : Index := 96#32
  ![1, v295.toNat, v296.toNat, 96]

def k0_chk62 (i : grid0.Coords) (k0_t4 : Fin (k0_t4_loop i).trips) (v291 : IVec S16 32) : Prop :=
  (∀ (k0_h9 : k0_cond9 i k0_t4 = 1#1), ∀ a x, ((![v291] : Fin 1 → IVec S16 32) a x).toNat < S65536.size a)
theorem k0_idx62_inb : ∀ (i : grid0.Coords) (k0_t4 : Fin (k0_t4_loop i).trips) (v291 : IVec S16 32) (k0_hw62 : k0_chk62 i k0_t4 v291), ∀ (k0_h9 : k0_cond9 i k0_t4 = 1#1), ∀ a x, ((![v291] : Fin 1 → IVec S16 32) a x).toNat < S65536.size a := fun i k0_t4 v291 k0_hw62 k0_h9 => k0_hw62 k0_h9
def k0_off110 (k0_t6 : Fin k0_t6_loop.trips) : Fin 4 → Nat :=
  let c1_i32_185 : BitVec 32 := 1#32
  let v301 : Index := Scalar.indexCast c1_i32_185
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v302 : Index := Scalar.indexCast v156
  let c2_i32_183 : BitVec 32 := 2#32
  let c7_i32 : BitVec 32 := 7#32
  let v157 : BitVec 32 := Scalar.andi v155 c7_i32
  let v299 : BitVec 32 := Scalar.muli c2_i32_183 v157
  let c1_i32_184 : BitVec 32 := 1#32
  let v300 : BitVec 32 := Scalar.addi v299 c1_i32_184
  let v303 : Index := Scalar.indexCast v300
  let c96_186 : Index := 96#32
  ![1, v302.toNat, v303.toNat, 96]
def k0_off111 (k0_t6 : Fin k0_t6_loop.trips) : Fin 4 → Nat :=
  let c1_i32_187 : BitVec 32 := 1#32
  let v305 : Index := Scalar.indexCast c1_i32_187
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v306 : Index := Scalar.indexCast v156
  let c7_i32 : BitVec 32 := 7#32
  let v157 : BitVec 32 := Scalar.andi v155 c7_i32
  let v307 : Index := Scalar.indexCast v157
  let c112 : Index := 112#32
  ![1, v306.toNat, v307.toNat, 112]

def k0_chk63 (i : grid0.Coords) (k0_t4 : Fin (k0_t4_loop i).trips) (v310 : IVec S16 32) : Prop :=
  (∀ (k0_h9 : k0_cond9 i k0_t4 = 1#1), ∀ a x, ((![v310] : Fin 1 → IVec S16 32) a x).toNat < S65536.size a)
theorem k0_idx63_inb : ∀ (i : grid0.Coords) (k0_t4 : Fin (k0_t4_loop i).trips) (v310 : IVec S16 32) (k0_hw63 : k0_chk63 i k0_t4 v310), ∀ (k0_h9 : k0_cond9 i k0_t4 = 1#1), ∀ a x, ((![v310] : Fin 1 → IVec S16 32) a x).toNat < S65536.size a := fun i k0_t4 v310 k0_hw63 k0_h9 => k0_hw63 k0_h9
def k0_off112 (k0_t6 : Fin k0_t6_loop.trips) : Fin 4 → Nat :=
  let c1_i32_191 : BitVec 32 := 1#32
  let v315 : Index := Scalar.indexCast c1_i32_191
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v316 : Index := Scalar.indexCast v156
  let c2_i32_190 : BitVec 32 := 2#32
  let c7_i32 : BitVec 32 := 7#32
  let v157 : BitVec 32 := Scalar.andi v155 c7_i32
  let v314 : BitVec 32 := Scalar.muli c2_i32_190 v157
  let v317 : Index := Scalar.indexCast v314
  let c112_192 : Index := 112#32
  ![1, v316.toNat, v317.toNat, 112]

def k0_chk64 (i : grid0.Coords) (k0_t4 : Fin (k0_t4_loop i).trips) (v312 : IVec S16 32) : Prop :=
  (∀ (k0_h9 : k0_cond9 i k0_t4 = 1#1), ∀ a x, ((![v312] : Fin 1 → IVec S16 32) a x).toNat < S65536.size a)
theorem k0_idx64_inb : ∀ (i : grid0.Coords) (k0_t4 : Fin (k0_t4_loop i).trips) (v312 : IVec S16 32) (k0_hw64 : k0_chk64 i k0_t4 v312), ∀ (k0_h9 : k0_cond9 i k0_t4 = 1#1), ∀ a x, ((![v312] : Fin 1 → IVec S16 32) a x).toNat < S65536.size a := fun i k0_t4 v312 k0_hw64 k0_h9 => k0_hw64 k0_h9
def k0_off113 (k0_t6 : Fin k0_t6_loop.trips) : Fin 4 → Nat :=
  let c1_i32_195 : BitVec 32 := 1#32
  let v322 : Index := Scalar.indexCast c1_i32_195
  let c0_i32_117 : BitVec 32 := 0#32
  let c0_i32_97 : BitVec 32 := 0#32
  let c1_i32_99 : BitVec 32 := 1#32
  let arg12 : BitVec 32 := Scf.iv c0_i32_97 c1_i32_99 k0_t6
  let c1_i32_116 : BitVec 32 := 1#32
  let v154 : BitVec 32 := Scalar.muli arg12 c1_i32_116
  let v155 : BitVec 32 := Scalar.addi c0_i32_117 v154
  let c3_i32 : BitVec 32 := 3#32
  let v156 : BitVec 32 := Scalar.shrui v155 c3_i32
  let v323 : Index := Scalar.indexCast v156
  let c2_i32_193 : BitVec 32 := 2#32
  let c7_i32 : BitVec 32 := 7#32
  let v157 : BitVec 32 := Scalar.andi v155 c7_i32
  let v320 : BitVec 32 := Scalar.muli c2_i32_193 v157
  let c1_i32_194 : BitVec 32 := 1#32
  let v321 : BitVec 32 := Scalar.addi v320 c1_i32_194
  let v324 : Index := Scalar.indexCast v321
  let c112_196 : Index := 112#32
  ![1, v323.toNat, v324.toNat, 112]
def k0_off114 (i : grid0.Coords) (k0_t4 : Fin (k0_t4_loop i).trips) : Fin 4 → Nat :=
  let arg1 : BitVec 32 := BitVec.ofNat 32 (i 1).val
  let c2_i32_74 : BitVec 32 := 2#32
  let c0_i32_24 : BitVec 32 := 0#32
  let c0_i32_25 : BitVec 32 := 0#32
  let c84_i32 : BitVec 32 := 84#32
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_12 : BitVec 32 := 1#32
  let v31 : BitVec 32 := Scalar.addi v19 c1_i32_12
  let c0_i32_13 : BitVec 32 := 0#32
  let v33 : BitVec 1 := Scalar.cmpi .sgt v31 c0_i32_13
  let v34 : BitVec 32 := Scalar.extui v33
  let c0_i32_14 : BitVec 32 := 0#32
  let v35 : BitVec 1 := Scalar.cmpi .slt v31 c0_i32_14
  let v36 : BitVec 32 := Scalar.extui v35
  let v37 : BitVec 32 := Scalar.subi v34 v36
  let c2_i32 : BitVec 32 := 2#32
  let c0_i32_15 : BitVec 32 := 0#32
  let v38 : BitVec 1 := Scalar.cmpi .sgt c2_i32 c0_i32_15
  let v39 : BitVec 32 := Scalar.extui v38
  let c0_i32_16 : BitVec 32 := 0#32
  let v40 : BitVec 1 := Scalar.cmpi .slt c2_i32 c0_i32_16
  let v41 : BitVec 32 := Scalar.extui v40
  let v42 : BitVec 32 := Scalar.subi v39 v41
  let v43 : BitVec 1 := Scalar.cmpi .ne v37 v42
  let v44 : BitVec 32 := Scalar.remsi v31 c2_i32
  let c0_i32_17 : BitVec 32 := 0#32
  let v45 : BitVec 1 := Scalar.cmpi .ne v44 c0_i32_17
  let v46 : BitVec 1 := Scalar.andi v43 v45
  let v32 : BitVec 32 := Scalar.divsi v31 c2_i32
  let c1_i32_18 : BitVec 32 := 1#32
  let v47 : BitVec 32 := Scalar.subi v32 c1_i32_18
  let v48 : BitVec 32 := Scalar.select v46 v47 v32
  let c0_i32_19 : BitVec 32 := 0#32
  let v49 : BitVec 32 := Scalar.subi v48 c0_i32_19
  let c1_i32_20 : BitVec 32 := 1#32
  let c1_i32_21 : BitVec 32 := 1#32
  let v50 : BitVec 32 := Scalar.subi c1_i32_20 c1_i32_21
  let v51 : BitVec 32 := Scalar.addi v49 v50
  let c1_i32_22 : BitVec 32 := 1#32
  let v52 : BitVec 32 := Scalar.divsi v51 c1_i32_22
  let v53 : BitVec 32 := Scalar.subi v52 c0_i32_25
  let c1_i32_26 : BitVec 32 := 1#32
  let v55 : BitVec 32 := Scalar.divsi v53 c1_i32_26
  let v56 : BitVec 32 := Scalar.muli v55 c1_i32_26
  let v57 : BitVec 32 := Scalar.addi c0_i32_25 v56
  let c1_i32_28 : BitVec 32 := 1#32
  let arg11 : BitVec 32 := Scf.iv v57 c1_i32_28 k0_t4
  let c1_i32_23 : BitVec 32 := 1#32
  let v64 : BitVec 32 := Scalar.muli arg11 c1_i32_23
  let v65 : BitVec 32 := Scalar.addi c0_i32_24 v64
  let v112 : BitVec 32 := Scalar.muli c2_i32_74 v65
  let c1_i32_75 : BitVec 32 := 1#32
  let v113 : BitVec 32 := Scalar.addi v112 c1_i32_75
  let c16_i32_101 : BitVec 32 := 16#32
  let v138 : BitVec 32 := Scalar.muli v113 c16_i32_101
  let v139 : BitVec 32 := Scalar.addi arg1 v138
  let c28_i32_103 : BitVec 32 := 28#32
  let v141 : BitVec 32 := Scalar.divsi v139 c28_i32_103
  let c4_i32_104 : BitVec 32 := 4#32
  let v142 : BitVec 32 := Scalar.muli v141 c4_i32_104
  let c28_i32_102 : BitVec 32 := 28#32
  let v140 : BitVec 32 := Scalar.remsi v139 c28_i32_102
  let c16_i32_105 : BitVec 32 := 16#32
  let v143 : BitVec 32 := Scalar.muli v140 c16_i32_105
  let arg0 : BitVec 32 := BitVec.ofNat 32 (i 0).val
  let c0_i32_111 : BitVec 32 := 0#32
  ![v142.toNat, v143.toNat, arg0.toNat, 0]
def k0_cond12 (i : grid0.Coords) : BitVec 1 :=
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c0_i32_29 : BitVec 32 := 0#32
  let v58 : BitVec 1 := Scalar.cmpi .sgt v19 c0_i32_29
  let v59 : BitVec 32 := Scalar.extui v58
  let c0_i32_30 : BitVec 32 := 0#32
  let v60 : BitVec 1 := Scalar.cmpi .ne v59 c0_i32_30
  v60

def k0_off115 (i : grid0.Coords) : Fin 4 → Nat :=
  let arg1 : BitVec 32 := BitVec.ofNat 32 (i 1).val
  let c0_i32_33 : BitVec 32 := 0#32
  let v64 : BitVec 32 := Scalar.addi arg1 c0_i32_33
  let c28_i32_34 : BitVec 32 := 28#32
  let v66 : BitVec 32 := Scalar.divsi v64 c28_i32_34
  let c4_i32 : BitVec 32 := 4#32
  let v67 : BitVec 32 := Scalar.muli v66 c4_i32
  let c28_i32 : BitVec 32 := 28#32
  let v65 : BitVec 32 := Scalar.remsi v64 c28_i32
  let c16_i32_35 : BitVec 32 := 16#32
  let v68 : BitVec 32 := Scalar.muli v65 c16_i32_35
  let arg0 : BitVec 32 := BitVec.ofNat 32 (i 0).val
  let c0_i32_41 : BitVec 32 := 0#32
  ![v67.toNat, v68.toNat, arg0.toNat, 0]
def k0_cond13 (i : grid0.Coords) : BitVec 1 :=
  let c84_i32 : BitVec 32 := 84#32
  let arg1 : BitVec 32 := BitVec.ofNat 32 (i 1).val
  let v0 : BitVec 32 := Scalar.subi c84_i32 arg1
  let c16_i32 : BitVec 32 := 16#32
  let v1 : BitVec 32 := Scalar.addi v0 c16_i32
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32_0 : BitVec 32 := 16#32
  let c0_i32_2 : BitVec 32 := 0#32
  let v9 : BitVec 1 := Scalar.cmpi .sgt c16_i32_0 c0_i32_2
  let v10 : BitVec 32 := Scalar.extui v9
  let c0_i32_3 : BitVec 32 := 0#32
  let v11 : BitVec 1 := Scalar.cmpi .slt c16_i32_0 c0_i32_3
  let v12 : BitVec 32 := Scalar.extui v11
  let v13 : BitVec 32 := Scalar.subi v10 v12
  let v14 : BitVec 1 := Scalar.cmpi .ne v8 v13
  let v15 : BitVec 32 := Scalar.remsi v2 c16_i32_0
  let c0_i32_4 : BitVec 32 := 0#32
  let v16 : BitVec 1 := Scalar.cmpi .ne v15 c0_i32_4
  let v17 : BitVec 1 := Scalar.andi v14 v16
  let v3 : BitVec 32 := Scalar.divsi v2 c16_i32_0
  let c1_i32_5 : BitVec 32 := 1#32
  let v18 : BitVec 32 := Scalar.subi v3 c1_i32_5
  let v19 : BitVec 32 := Scalar.select v17 v18 v3
  let c1_i32_31 : BitVec 32 := 1#32
  let v61 : BitVec 1 := Scalar.cmpi .sgt v19 c1_i32_31
  let v62 : BitVec 32 := Scalar.extui v61
  let c0_i32_32 : BitVec 32 := 0#32
  let v63 : BitVec 1 := Scalar.cmpi .ne v62 c0_i32_32
  v63

def k0_off116 (i : grid0.Coords) : Fin 4 → Nat :=
  let arg1 : BitVec 32 := BitVec.ofNat 32 (i 1).val
  let c0_i32_33 : BitVec 32 := 0#32
  let v64 : BitVec 32 := Scalar.addi arg1 c0_i32_33
  let c28_i32_34 : BitVec 32 := 28#32
  let v66 : BitVec 32 := Scalar.divsi v64 c28_i32_34
  let c4_i32 : BitVec 32 := 4#32
  let v67 : BitVec 32 := Scalar.muli v66 c4_i32
  let c28_i32 : BitVec 32 := 28#32
  let v65 : BitVec 32 := Scalar.remsi v64 c28_i32
  let c16_i32_35 : BitVec 32 := 16#32
  let v68 : BitVec 32 := Scalar.muli v65 c16_i32_35
  let arg0 : BitVec 32 := BitVec.ofNat 32 (i 0).val
  let c0_i32_41 : BitVec 32 := 0#32
  ![v67.toNat, v68.toNat, arg0.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LookupIdeal.lean ====
abbrev S18944x224 : Shape := ⟨2, ![18944, 224]⟩
abbrev S65536x2 : Shape := ⟨2, ![65536, 2]⟩
abbrev S_ : Shape := ⟨0, ![]⟩
abbrev S18944x224x1 : Shape := ⟨3, ![18944, 224, 1]⟩
abbrev S18944x224x2 : Shape := ⟨3, ![18944, 224, 2]⟩
abbrev S18944x224x2x1 : Shape := ⟨4, ![18944, 224, 2, 1]⟩
abbrev S18944x224x2x2 : Shape := ⟨4, ![18944, 224, 2, 2]⟩
abbrev S148x128x448x2 : Shape := ⟨4, ![148, 128, 448, 2]⟩
abbrev S148x448x2x128 : Shape := ⟨4, ![148, 448, 2, 128]⟩
abbrev S12x448x2x128 : Shape := ⟨4, ![12, 448, 2, 128]⟩

abbrev nBuf : Space → Nat
  | .hbm => 26
  | .vmem => 0
  | .smem => 0
  | _ => 0

abbrev bufTy : (tb : Table) → Fin (tcTables nBuf tb) → BufTy
  | .hbm, ⟨0, _⟩ => ⟨S18944x224, .i32⟩
  | .hbm, ⟨1, _⟩ => ⟨S65536x2, .i32⟩
  | .hbm, ⟨2, _⟩ => ⟨S_, .i32⟩
  | .hbm, ⟨3, _⟩ => ⟨S18944x224, .i32⟩
  | .hbm, ⟨4, _⟩ => ⟨S18944x224, .i32⟩
  | .hbm, ⟨5, _⟩ => ⟨S_, .i32⟩
  | .hbm, ⟨6, _⟩ => ⟨S18944x224, .i32⟩
  | .hbm, ⟨7, _⟩ => ⟨S18944x224, .i32⟩
  | .hbm, ⟨8, _⟩ => ⟨S_, .i32⟩
  | .hbm, ⟨9, _⟩ => ⟨S18944x224, .i32⟩
  | .hbm, ⟨10, _⟩ => ⟨S18944x224, .i32⟩
  | .hbm, ⟨11, _⟩ => ⟨S18944x224x1, .i32⟩
  | .hbm, ⟨12, _⟩ => ⟨S18944x224x1, .i32⟩
  | .hbm, ⟨13, _⟩ => ⟨S18944x224x2, .i32⟩
  | .hbm, ⟨14, _⟩ => ⟨S_, .i32⟩
  | .hbm, ⟨15, _⟩ => ⟨S18944x224x2, .i32⟩
  | .hbm, ⟨16, _⟩ => ⟨S18944x224x2, .i1⟩
  | .hbm, ⟨17, _⟩ => ⟨S_, .i32⟩
  | .hbm, ⟨18, _⟩ => ⟨S18944x224x2, .i32⟩
  | .hbm, ⟨19, _⟩ => ⟨S18944x224x2, .i32⟩
  | .hbm, ⟨20, _⟩ => ⟨S18944x224x2, .i32⟩
  | .hbm, ⟨21, _⟩ => ⟨S18944x224x2x1, .i32⟩
  | .hbm, ⟨22, _⟩ => ⟨S18944x224x2x2, .i32⟩
  | .hbm, ⟨23, _⟩ => ⟨S148x128x448x2, .i32⟩
  | .hbm, ⟨24, _⟩ => ⟨S148x448x2x128, .i32⟩
  | .hbm, ⟨25, _⟩ => ⟨S12x448x2x128, .i32⟩
  | _, _ => ⟨S18944x224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.KernelRun.lean ====
/- THE RUN OF THE THREE CALLS WITH ITS RESULT: every execution ends with the result array at what the calls leave (the contents at
   the last boundary of the run, `W7`), the arguments as launched and every counter at zero. -/
module

public import proofs.«01_k».proof.Proof.Gen.KernelIdeal.Frame

@[expose] public section

set_option maxRecDepth 16384

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with the result at the last boundary's contents and the arguments unchanged. -/
theorem run : θ_run defs (onTc (τ := τ) (main (F := F))) ⟨m, fun _ => 0, ρ⟩ (fun r => (∀ c : Dev nD,
      r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩), funext fun g => hz g (.inr (no_unscoped g.2))⟩)

end Cert.Proof.Run
-- ==== Proof.Bytes.lean ====
/- The byte of a word that an 8-bit reinterpretation of a column of 32-bit words reads: row `p` of the result is byte `p % 4`,
   counted from the low end, of word row `p / 4`. -/
module

public import Idealize.ShloMosaic.Lib.BitcastPair
public import Idealize.ShloMosaic.Lib.Pointwise

@[expose] public section

namespace Cert.Proof

open Idealize.ShloMosaic

/-- Byte `b` of a 32-bit word, counted from the low end. -/
def byteOf (v : BitVec 32) (b : Nat) : BitVec 8 := v.extractLsb' (b * 8) 8

/-- A matrix of words read as bytes, at an index: row `p` is byte `p % 4` of word row `p / 4` of the same column. -/
theorem bitcast_bytes {n m c : Nat} (x : (⟨2, ![n, c]⟩ : Shape).Idx → BitVec 32)
    (h : (⟨2, ![n, c]⟩ : Shape).Bitcasts 32 ⟨2, ![m, c]⟩ 8) (p : Fin m) (l : Fin c) (hp : p.val / 4 < n) :
    bitcast ⟨2, ![m, c]⟩ 8 x h (ix2 p l) = byteOf (x (ix2 ⟨p.val / 4, hp⟩ l)) (p.val % 4) := by
  apply BitVec.eq_of_getLsbD_eq
  intro q hq
  rw [bitcast_getLsbD x h _ q hq (by decide)]
  have hrow : Shape.row ⟨2, ![m, c]⟩ (ix2 p l) = p.val := rfl
  unfold byteOf
  rw [BitVec.getLsbD_extractLsb']
  simp only [hq, decide_true, Bool.true_and]
  have e1 : ((⟨2, ![m, c]⟩ : Shape).row (ix2 p l) * 8 + q) / 32 = p.val / 4 := by rw [hrow]; omega
  have e2 : ((⟨2, ![m, c]⟩ : Shape).row (ix2 p l) * 8 + q) % 32 = p.val % 4 * 8 + q := by rw [hrow]; omega
  rw [e2]
  congr 2
  funext a
  apply Fin.ext
  match a with
  | ⟨0, h0⟩ => exact (Shape.Bitcasts.srcIdx_row h _ _ _ ⟨0, h0⟩ rfl).trans e1
  | ⟨1, h1⟩ => exact Shape.Bitcasts.srcIdx_other h _ _ _ ⟨1, h1⟩ (by show ¬ (1 + 2 = 2); omega)

end Cert.Proof
-- ==== Proof.Block.lean ====
/- ONE BLOCK OF THE PRODUCT. Each of the three calls stores, at every grid point, the same value: 1920 rows of activations
   times four tiles of 128 columns whose weights are the bytes of the words in the tile, times a row of scales. This module
   reads that value at a row and a column, over the extended reals. -/
module

public import proofs.«01_k».proof.Proof.Gen.KernelIdeal.Skeleton
public import proofs.«01_k».proof.Proof.Bytes
public import Idealize.ShloMosaic.Lib.Pointwise
public import Idealize.ShloMosaic.Lib.Pipeline.Value
public import Idealize.ShloMosaic.PureOps.Ideal

@[expose] public section

set_option maxRecDepth 16384

noncomputable section

namespace Cert.Proof

open Idealize.ShloMosaic Cert.KernelIdeal Cert.KernelIdeal.Gen

/-- The weight in byte `b` of a word: the number the byte encodes as an 8-bit float. -/
def dec (v : BitVec 32) (b : Nat) : EReal := Ideal.ofBits FTy.fp8e4m3 (byteOf v b)

/-- The word of a tile that holds weight row `k` of column `l`: row `k / 4` of the tile's words, stored as groups of eight. -/
def wordIx {n : Nat} (q : Fin n) (k : Fin 3584) (l : Fin 128) : (⟨4, ![n, 112, 8, 128]⟩ : Shape).Idx :=
  ix4 q ⟨k.val / 32, by omega⟩ ⟨k.val / 4 % 8, by omega⟩ l

/-- A tile's words laid out in rows and read as bytes: row `k` of column `l` is byte `k % 4` of the word holding it. -/
theorem tile_bytes (v : Vec Ideal S1x112x8x128 .i32) (h : S1x112x8x128.ShapeCasts S896x128)
    (h' : S896x128.Bitcasts 32 S3584x128 8) (k : Fin 3584) (l : Fin 128) :
    bitcast S3584x128 8 (shapeCast S896x128 v h) h' (ix2 k l) = byteOf (v (wordIx 0 k l)) (k.val % 4) := by
  rw [bitcast_bytes (shapeCast S896x128 v h) h' k l (by omega)]
  congr 1
  unfold wordIx
  pointwise []
  congr 1
  rw [show (⟨k.val / 4 / 8, by omega⟩ : Fin 112) = ⟨k.val / 32, by omega⟩ from Fin.ext (by show k.val / 4 / 8 = k.val / 32; omega)]

/-- Row `i`, column `j` of a block: the sum over the weight rows, times the column's scale. -/
def blockAt (x : Vec Ideal S1920x3584 .bf16) (x1 : Vec Ideal S4x112x8x128 .i32) (s : Vec Ideal S1x512 .f32)
    (i : Fin 1920) (j : Fin 512) : EReal :=
  (∑ k : Fin 3584, x (ix2 i k) * dec (x1 (wordIx ⟨j.val / 128, by omega⟩ k ⟨j.val % 128, by omega⟩)) (k.val % 4)) * s (ix2 0 j)

/-- A weight read at two equal places of a block of words. -/
theorem dec_congr {n : Nat} (x1 : (⟨4, ![n, 112, 8, 128]⟩ : Shape).Idx → BitVec 32) (q q' : Fin n) (k : Fin 3584) (l l' : Fin 128)
    (hq : q.val = q'.val) (hl : l.val = l'.val) :
    dec (x1 (wordIx q k l)) (k.val % 4) = dec (x1 (wordIx q' k l')) (k.val % 4) := by
  obtain rfl := Fin.ext hq; obtain rfl := Fin.ext hl; rfl

/-- The stored value at a row and a column, from the four tiles of the words' block. -/
theorem pay_apply (x1 : Vec Ideal S4x112x8x128 .i32) (v0 v1 v2 v3 : Vec Ideal S1x112x8x128 .i32) (x : Vec Ideal S1920x3584 .bf16)
    (s : Vec Ideal S1x512 .f32)
    (h0 : ∀ k l, v0 (wordIx 0 k l) = x1 (wordIx 0 k l)) (h1 : ∀ k l, v1 (wordIx 0 k l) = x1 (wordIx 1 k l))
    (h2 : ∀ k l, v2 (wordIx 0 k l) = x1 (wordIx 2 k l)) (h3 : ∀ k l, v3 (wordIx 0 k l) = x1 (wordIx 3 k l))
    (i : Fin 1920) (j : Fin 512) : k0_pay1 (F := Ideal) v0 v1 v2 v3 x s (ix2 i j) = blockAt x x1 s i j := by
  unfold k0_pay1 blockAt
  pointwise []
  congr 1
  refine Finset.sum_congr rfl fun k _ => ?_
  congr 1
  by_cases c0 : j.val < 128
  · rw [dif_pos c0, tile_bytes, h0]
    exact dec_congr x1 _ _ _ _ _ (by show 0 = j.val / 128; omega) (by show j.val = j.val % 128; omega)
  rw [dif_neg c0]
  by_cases c1 : j.val - 128 < 128
  · rw [dif_pos c1, tile_bytes, h1]
    exact dec_congr x1 _ _ _ _ _ (by show 1 = j.val / 128; omega) (by show j.val - 128 = j.val % 128; omega)
  rw [dif_neg c1]
  by_cases c2 : j.val - 128 - 128 < 128
  · rw [dif_pos c2, tile_bytes, h2]
    exact dec_congr x1 _ _ _ _ _ (by show 2 = j.val / 128; omega) (by show j.val - 128 - 128 = j.val % 128; omega)
  rw [dif_neg c2, tile_bytes, h3]
  exact dec_congr x1 _ _ _ _ _ (by show 3 = j.val / 128; omega) (by show j.val - 128 - 128 - 128 = j.val % 128; omega)

/-- The second and the third call store the same value as the first. -/
theorem k1_pay1_eq : k1_pay1 (F := Ideal) = k0_pay1 := rfl
theorem k2_pay1_eq : k2_pay1 (F := Ideal) = k0_pay1 := rfl

end Cert.Proof
-- ==== Proof.Regions.lean ====
/- WHAT EACH CALL LEAVES IN THE RESULT. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen
open Idealize.ShloMosaic.Pipeline (Dat Cfg Window)

/-- Row `i`, column `j` of a product of activations by the weights of `n` tiles, the first tile's first column being column `base`. -/
def prodAt {n : Nat} (base : Nat) (x : Vec Ideal S1920x3584 .bf16) (g : (⟨4, ![n, 112, 8, 128]⟩ : Shape).Idx → BitVec 32)
    (s : Vec Ideal S1x18944 .f32) (i : Fin 1920) (j : Fin 18944) : EReal :=
  if h : (j.val - base) / 128 < n then
    (∑ k : Fin 3584, x (ix2 i k) * dec (g (wordIx ⟨(j.val - base) / 128, h⟩ k ⟨(j.val - base) % 128, by omega⟩)) (k.val % 4)) * s (ix2 0 j)
  else 0

/-- A block whose operands are the rows of `x`, tiles `4t` to `4t + 3` and scales `base + 512t` to `base + 512t + 511` is the
    product's columns `base + 512t` to `base + 512t + 511`. -/
theorem blockAt_eq {n : Nat} (base t : Nat) (x : Vec Ideal S1920x3584 .bf16) (g : (⟨4, ![n, 112, 8, 128]⟩ : Shape).Idx → BitVec 32)
    (s : Vec Ideal S1x18944 .f32) (x0 : Vec Ideal S1920x3584 .bf16) (x1 : Vec Ideal S4x112x8x128 .i32) (x2 : Vec Ideal S1x512 .f32)
    (ht : 4 * t + 4 ≤ n) (hx : ∀ i k, x0 (ix2 i k) = x (ix2 i k))
    (hg : ∀ (q : Fin 4) k l, x1 (wordIx q k l) = g (wordIx ⟨4 * t + q.val, by omega⟩ k l))
    (hs : ∀ (a : Fin 512) (b : Fin 18944), b.val = base + 512 * t + a.val → x2 (ix2 0 a) = s (ix2 0 b))
    (i : Fin 1920) (a : Fin 512) (i' : Fin 1920) (b : Fin 18944) (hi : i'.val = i.val) (hb : b.val = base + 512 * t + a.val) :
    blockAt x0 x1 x2 i a = prodAt base x g s i' b := by
  obtain rfl := Fin.ext hi
  unfold blockAt prodAt
  rw [dif_pos (show (b.val - base) / 128 < n by omega), hs a b hb]
  congr 1
  refine Finset.sum_congr rfl fun k _ => ?_
  rw [hx, hg]
  congr 1
  exact dec_congr g _ _ k _ _ (by show 4 * t + a.val / 128 = (b.val - base) / 128; omega) (by show a.val % 128 = (b.val - base) % 128; omega)

/-- The four reads of a tile from the block of words. -/
theorem ld_tiles (x1 : Vec Ideal S4x112x8x128 .i32) (x : Vec Ideal S1920x3584 .bf16) (s : Vec Ideal S1x512 .f32) (i : Fin 1920) (j : Fin 512) :
    k0_pay1 (F := Ideal) (View.ld x1 r0_0) (View.ld x1 r0_1) (View.ld x1 r0_2) (View.ld x1 r0_3) x s (ix2 i j) = blockAt x x1 s i j := by
  refine pay_apply x1 _ _ _ _ x s (fun k l => ?_) (fun k l => ?_) (fun k l => ?_) (fun k l => ?_) i j
  all_goals
    refine congrArg x1 (funext fun a => Fin.ext ?_)
    match a with
    | ⟨0, _⟩ => rfl
    | ⟨1, _⟩ => exact (Nat.zero_add _).trans (Nat.one_mul _)
    | ⟨2, _⟩ => exact (Nat.zero_add _).trans (Nat.one_mul _)
    | ⟨3, _⟩ => exact (Nat.zero_add _).trans (Nat.one_mul _)

variable (V : (c : Dev nD) → (b : Ref sig .tc) → Buf (Elt Ideal) ((c : Thread nD τ).loc b))

/-- The block the first call stores at a point, at a row and a column. -/
theorem out0_apply (c : Dev nD) (t : Fin cfg0.N) (i : Fin 1920) (j : Fin 512) :
    out0_3 (F := Ideal) (iblk0 V c 0 t) (iblk0 V c 1 t) (iblk0 V c 2 t) (ix2 i j) = blockAt (iblk0 V c 0 t) (iblk0 V c 1 t) (iblk0 V c 2 t) i j := by
  frame_out
  exact ld_tiles _ _ _ i j

/-- Which blocks the call's windows take at a point. -/
theorem index0 : ∀ t : Fin grid0.N, t.val < 3 ∧ win0_0.index t 0 = 0 ∧ win0_0.index t 1 = 0 ∧ win0_1.index t 0 = t.val ∧ win0_1.index t 1 = 0
    ∧ win0_1.index t 2 = 0 ∧ win0_1.index t 3 = 0 ∧ win0_2.index t 0 = 0 ∧ win0_2.index t 1 = 0 + t.val ∧ win0_3.index t 0 = 0
    ∧ win0_3.index t 1 = 0 + t.val := by decide +kernel

/-- After the call, columns 0 to 1535 of the result hold the product; every other element is what it was on entry. -/
theorem exit0 (c : Dev nD) : (dat0 (F := Ideal) V c).arrAt 3 cfg0.N
    = fun i => if (i 1 : ℕ) < 1536 then prodAt 0 (V c main_v0) (V c main_v2) (V c main_v1) (i 0) (i 1) else V c main_v3 i := by
  refine (dat0 V c).arrAt_eq_of_coversWhere 3 (fun i => prodAt 0 (V c main_v0) (V c main_v2) (V c main_v1) (i 0) (i 1))
    (fun β => β (1 : Fin 2) < 3) (by decide +kernel) (fun t hf y => ?_) (fun j => by blk_simp [Pipeline.Window.cell_apply]; omega)
  obtain ⟨hN, h00, h01, h10, h11, h12, h13, h20, h21, h30, h31⟩ := index0 t
  blk_simp
  rw [after0_3, show y = ix2 (y 0) (y 1) from funext fun a => by match a with | ⟨0, _⟩ => rfl | ⟨1, _⟩ => rfl]
  refine (out0_apply V c t (y 0) (y 1)).trans
    (blockAt_eq 0 t.val _ _ _ _ _ _ (by omega) (fun i k => ?_) (fun q k l => ?_) (fun a b hb => ?_) _ _ _ _ ?_ ?_)
  · blk_ext [iblk0, h00, h01]
  · blk_ext [iblk0, h10, h11, h12, h13, wordIx]
  · blk_ext [iblk0, h20, h21, hb]
  · blk_simp [h30]
  · blk_simp [h31]; omega

/-- The block the call at offset 1536 stores at a point, at a row and a column. -/
theorem out1_apply (c : Dev nD) (t : Fin cfg1.N) (i : Fin 1920) (j : Fin 512) :
    outsAt1 (F := Ideal) V c t (ix2 i j) = blockAt (iblk1 V c 0 t) (iblk1 V c 1 t) (iblk1 V c 2 t) i j := by
  unfold outsAt1 out1_A_3
  frame_out
  rw [k1_pay1_eq]
  exact ld_tiles _ _ _ i j

/-- Which blocks the call's windows take at a point. -/
theorem index1 : ∀ t : Fin grid1.N, t.val < 10 ∧ win1_0.index t 0 = 0 ∧ win1_0.index t 1 = 0 ∧ win1_1.index t 0 = t.val ∧ win1_1.index t 1 = 0
    ∧ win1_1.index t 2 = 0 ∧ win1_1.index t 3 = 0 ∧ win1_2.index t 0 = 0 ∧ win1_2.index t 1 = 3 + t.val ∧ win1_3.index t 0 = 0
    ∧ win1_3.index t 1 = 3 + t.val := by decide +kernel

/-- After the call, columns 1536 to 6655 of the result hold the product; every other element is what it was on entry. -/
theorem exit1 (c : Dev nD) : (dat1 (F := Ideal) V c).arrAt 3 cfg1.N
    = fun i => if 1536 ≤ (i 1 : ℕ) ∧ (i 1 : ℕ) < 6656 then prodAt 1536 (V c main_v0) (V c main_v4) (V c main_v1) (i 0) (i 1) else V c main_v5 i := by
  refine (dat1 V c).arrAt_eq_of_coversWhere 3 (fun i => prodAt 1536 (V c main_v0) (V c main_v4) (V c main_v1) (i 0) (i 1))
    (fun β => 3 ≤ β (1 : Fin 2) ∧ β (1 : Fin 2) < 13) (by decide +kernel) (fun t hf y => ?_) (fun j => by blk_simp [Pipeline.Window.cell_apply]; omega)
  obtain ⟨hN, h00, h01, h10, h11, h12, h13, h20, h21, h30, h31⟩ := index1 t
  blk_simp
  rw [after1_3, show y = ix2 (y 0) (y 1) from funext fun a => by match a with | ⟨0, _⟩ => rfl | ⟨1, _⟩ => rfl]
  refine (out1_apply V c t (y 0) (y 1)).trans
    (blockAt_eq 1536 t.val _ _ _ _ _ _ (by omega) (fun i k => ?_) (fun q k l => ?_) (fun a b hb => ?_) _ _ _ _ ?_ ?_)
  · blk_ext [iblk1, h00, h01]
  · blk_ext [iblk1, h10, h11, h12, h13, wordIx]
  · blk_ext [iblk1, h20, h21, hb]
  · blk_simp [h30]
  · blk_simp [h31]; omega

/-- The block the call at offset 6656 stores at a point, at a row and a column. -/
theorem out2_apply (c : Dev nD) (t : Fin cfg2.N) (i : Fin 1920) (j : Fin 512) :
    outsAt2 (F := Ideal) V c t (ix2 i j) = blockAt (iblk2 V c 0 t) (iblk2 V c 1 t) (iblk2 V c 2 t) i j := by
  unfold outsAt2 out2_A_3
  frame_out
  rw [k2_pay1_eq]
  exact ld_tiles _ _ _ i j

/-- Which blocks the call's windows take at a point. -/
theorem index2 : ∀ t : Fin grid2.N, t.val < 24 ∧ win2_0.index t 0 = 0 ∧ win2_0.index t 1 = 0 ∧ win2_1.index t 0 = t.val ∧ win2_1.index t 1 = 0
    ∧ win2_1.index t 2 = 0 ∧ win2_1.index t 3 = 0 ∧ win2_2.index t 0 = 0 ∧ win2_2.index t 1 = 13 + t.val ∧ win2_3.index t 0 = 0
    ∧ win2_3.index t 1 = 13 + t.val := by decide +kernel

/-- After the call, columns 6656 to 18943 of the result hold the product; every other element is what it was on entry. -/
theorem exit2 (c : Dev nD) : (dat2 (F := Ideal) V c).arrAt 3 cfg2.N
    = fun i => if 6656 ≤ (i 1 : ℕ) ∧ (i 1 : ℕ) < 18944 then prodAt 6656 (V c main_v0) (V c main_v6) (V c main_v1) (i 0) (i 1) else V c main_v7 i := by
  refine (dat2 V c).arrAt_eq_of_coversWhere 3 (fun i => prodAt 6656 (V c main_v0) (V c main_v6) (V c main_v1) (i 0) (i 1))
    (fun β => 13 ≤ β (1 : Fin 2) ∧ β (1 : Fin 2) < 37) (by decide +kernel) (fun t hf y => ?_) (fun j => by blk_simp [Pipeline.Window.cell_apply]; omega)
  obtain ⟨hN, h00, h01, h10, h11, h12, h13, h20, h21, h30, h31⟩ := index2 t
  blk_simp
  rw [after2_3, show y = ix2 (y 0) (y 1) from funext fun a => by match a with | ⟨0, _⟩ => rfl | ⟨1, _⟩ => rfl]
  refine (out2_apply V c t (y 0) (y 1)).trans
    (blockAt_eq 6656 t.val _ _ _ _ _ _ (by omega) (fun i k => ?_) (fun q k l => ?_) (fun a b hb => ?_) _ _ _ _ ?_ ?_)
  · blk_ext [iblk2, h00, h01]
  · blk_ext [iblk2, h10, h11, h12, h13, wordIx]
  · blk_ext [iblk2, h20, h21, hb]
  · blk_simp [h30]
  · blk_simp [h31]; omega

end Cert.Proof
-- ==== Proof.KernelValue.lean ====
/- THE RESULT OF THE THREE CALLS, as a function of the arguments: each call fills its own range of columns and keeps the others. -/
module

public import proofs.«01_k».proof.Proof.Regions
public import Idealize.ShloMosaic.Lib.StableHlo.Run

@[expose] public section

set_option maxRecDepth 16384

noncomputable section

namespace Cert.Proof

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

/-- The activations as a matrix, the scales as a row, and each call's words as groups of eight rows. -/
def kX (c : Dev nD) : Vec Ideal S1920x3584 .bf16 := shapeCast S1920x3584 (m ((c : Thread nD τ).loc main_arg0)) shapeCasts_S3x640x3584_S1920x3584
def kS (c : Dev nD) : Vec Ideal S1x18944 .f32 := shapeCast S1x18944 (m ((c : Thread nD τ).loc main_arg4)) shapeCasts_S18944_S1x18944
def kG0 (c : Dev nD) : Vec Ideal S12x112x8x128 .i32 := shapeCast S12x112x8x128 (m ((c : Thread nD τ).loc main_arg1)) shapeCasts_S12x448x2x128_S12x112x8x128
def kG1 (c : Dev nD) : Vec Ideal S40x112x8x128 .i32 := shapeCast S40x112x8x128 (m ((c : Thread nD τ).loc main_arg2)) shapeCasts_S40x448x2x128_S40x112x8x128
def kG2 (c : Dev nD) : Vec Ideal S96x112x8x128 .i32 := shapeCast S96x112x8x128 (m ((c : Thread nD τ).loc main_arg3)) shapeCasts_S96x448x2x128_S96x112x8x128

theorem V1_v0 (c : Dev nD) : V1 m ρ c main_v0 = kX m c := by
  show after hostOps0 (W0 m ρ c) (Proc.devRef .tc main_v0) = _
  unfold hostOps0
  after_results <;> rfl
theorem V1_v1 (c : Dev nD) : V1 m ρ c main_v1 = kS m c := by
  show after hostOps0 (W0 m ρ c) (Proc.devRef .tc main_v1) = _
  unfold hostOps0
  after_results <;> rfl
theorem V1_v2 (c : Dev nD) : V1 m ρ c main_v2 = kG0 m c := by
  show after hostOps0 (W0 m ρ c) (Proc.devRef .tc main_v2) = _
  unfold hostOps0
  after_results <;> rfl

theorem V3_v0 (c : Dev nD) : V3 m ρ c main_v0 = kX m c :=
  (W3_of m ρ c main_v0 (by decide)).trans ((W2_of m ρ c main_v0 (by decide)).trans (V1_v0 m ρ c))
theorem V3_v1 (c : Dev nD) : V3 m ρ c main_v1 = kS m c :=
  (W3_of m ρ c main_v1 (by decide)).trans ((W2_of m ρ c main_v1 (by decide)).trans (V1_v1 m ρ c))
theorem V3_v4 (c : Dev nD) : V3 m ρ c main_v4 = kG1 m c := by
  have h : V3 m ρ c main_v4 = shapeCast S40x112x8x128 (W2 m ρ c (Proc.devRef .tc main_arg2)) shapeCasts_S40x448x2x128_S40x112x8x128 := by
    show after hostOps1 (W2 m ρ c) (Proc.devRef .tc main_v4) = _
    unfold hostOps1
    after_results <;> rfl
  rw [h, W2_args m ρ c main_arg2 (by decide)]; rfl
/-- The second call starts from the first one's result. -/
theorem V3_v5 (c : Dev nD) : V3 m ρ c main_v5 = W2 m ρ c (Proc.devRef .tc main_v3) := by
  show after hostOps1 (W2 m ρ c) (Proc.devRef .tc main_v5) = _
  unfold hostOps1
  after_results <;> rfl

theorem V5_v0 (c : Dev nD) : V5 m ρ c main_v0 = kX m c :=
  (W5_of m ρ c main_v0 (by decide)).trans ((W4_of m ρ c main_v0 (by decide)).trans (V3_v0 m ρ c))
theorem V5_v1 (c : Dev nD) : V5 m ρ c main_v1 = kS m c :=
  (W5_of m ρ c main_v1 (by decide)).trans ((W4_of m ρ c main_v1 (by decide)).trans (V3_v1 m ρ c))
theorem V5_v6 (c : Dev nD) : V5 m ρ c main_v6 = kG2 m c := by
  have h : V5 m ρ c main_v6 = shapeCast S96x112x8x128 (W4 m ρ c (Proc.devRef .tc main_arg3)) shapeCasts_S96x448x2x128_S96x112x8x128 := by
    show after hostOps2 (W4 m ρ c) (Proc.devRef .tc main_v6) = _
    unfold hostOps2
    after_results <;> rfl
  rw [h, W4_args m ρ c main_arg3 (by decide)]; rfl
/-- The third call starts from the second one's result. -/
theorem V5_v7 (c : Dev nD) : V5 m ρ c main_v7 = W4 m ρ c (Proc.devRef .tc main_v5) := by
  show after hostOps2 (W4 m ρ c) (Proc.devRef .tc main_v7) = _
  unfold hostOps2
  after_results <;> rfl

/-- Row `i`, column `j` of the chained product: by the range of columns `j` is in. -/
def chainAt (c : Dev nD) (i : Fin 1920) (j : Fin 18944) : EReal :=
  if j.val < 1536 then prodAt 0 (kX m c) (kG0 m c) (kS m c) i j
  else if j.val < 6656 then prodAt 1536 (kX m c) (kG1 m c) (kS m c) i j
  else prodAt 6656 (kX m c) (kG2 m c) (kS m c) i j

/-- Three ranges of columns, asked for from the last to the first or from the first to the last. -/
theorem ranges (j : Fin 18944) (a b d e : EReal) :
    (if 6656 ≤ j.val ∧ j.val < 18944 then a else if 1536 ≤ j.val ∧ j.val < 6656 then b else if j.val < 1536 then d else e)
      = if j.val < 1536 then d else if j.val < 6656 then b else a := by
  by_cases h0 : j.val < 1536
  · rw [if_neg (by omega), if_neg (by omega), if_pos h0, if_pos h0]
  by_cases h1 : j.val < 6656
  · rw [if_neg (by omega), if_pos (by omega), if_neg h0, if_pos h1]
  rw [if_pos (by omega), if_neg h0, if_neg h1]

/-- The last call leaves the whole product in the result. -/
theorem W6_v7 (c : Dev nD) : W6 m ρ c (Proc.devRef .tc main_v7) = fun i => chainAt m c (i 0) (i 1) := by
  refine (W6_arr m ρ c 3).trans ?_
  rw [exit2, V5_v0, V5_v1, V5_v6, V5_v7, show W4 m ρ c (Proc.devRef .tc main_v5) = _ from W4_arr m ρ c 3, exit1, V3_v0, V3_v1, V3_v4, V3_v5,
    show W2 m ρ c (Proc.devRef .tc main_v3) = _ from W2_arr m ρ c 3, exit0, V1_v0, V1_v1, V1_v2]
  funext i
  exact ranges (i 1) _ _ _ _

/-- The result: the product, reshaped. -/
theorem W7_v8 (c : Dev nD) : W7 m ρ c (Proc.devRef .tc main_v8)
    = shapeCast S3x640x18944 (fun i => chainAt m c (i 0) (i 1)) shapeCasts_S1920x18944_S3x640x18944 := by
  have h : W7 m ρ c (Proc.devRef .tc main_v8) = shapeCast S3x640x18944 (W6 m ρ c (Proc.devRef .tc main_v7)) shapeCasts_S1920x18944_S3x640x18944 := by
    show after hostOps3 (W6 m ρ c) (Proc.devRef .tc main_v8) = _
    unfold hostOps3
    after_results <;> rfl
  rw [h, W6_v7]; rfl

end Cert.Proof
-- ==== Proof.RefValue.lean ====
/- THE REFERENCE'S RESULT, as a function of the arguments. -/
module

public import proofs.«01_k».proof.Proof.Gen.ReferenceIdeal.Run
public import proofs.«01_k».proof.Proof.Block
public import Idealize.ShloMosaic.Lib.Pipeline.ValueKit
public import Idealize.ShloMosaic.Lib.BitcastConvert

@[expose] public section

set_option maxRecDepth 16384

noncomputable section

namespace Cert.Proof

open Idealize.ShloMosaic Idealize.ShloMosaic.TcCoe Idealize.SL.Sem Cert.ReferenceIdeal Cert.ReferenceIdeal.Gen Idealize.ShloMosaic.StableHlo

variable (m : (ℓ : Loc nD τ sig) → Buf (Elt Ideal) ℓ) (ρ : Dev nD → PrngReg)

/-- The activations as a matrix, the scales as a row, and the words of all tiles. -/
def rX (c : Dev nD) : Vec Ideal S1920x3584 .bf16 := shapeCast S1920x3584 (m ((c : Thread nD τ).loc main_arg0)) shapeCasts_S3x640x3584_S1920x3584
def rS (c : Dev nD) : Vec Ideal S1x18944 .f32 := shapeCast S1x18944 (m ((c : Thread nD τ).loc main_arg4)) shapeCasts_S18944_S1x18944
def rG (c : Dev nD) : Vec Ideal S148x448x2x128 .i32 :=
  concatenate S148x448x2x128 0 [⟨S12x448x2x128, m ((c : Thread nD τ).loc main_arg1)⟩, ⟨S40x448x2x128, m ((c : Thread nD τ).loc main_arg2)⟩,
    ⟨S96x448x2x128, m ((c : Thread nD τ).loc main_arg3)⟩] concatenates_S12x448x2x128_S40x448x2x128_S96x448x2x128_S148x448x2x128_d0
/-- The weights: the words' bytes, transposed into a matrix. -/
def rW (c : Dev nD) : Vec Ideal S3584x18944 .fp8e4m3 :=
  shapeCast S3584x18944 (transpose S896x4x148x128 [1, 3, 0, 2] (bitcastToFloat (F := Ideal) .fp8e4m3 (Host.bitcastConvertNarrow S148x896x128x4 8
    (shapeCast S148x896x128 (rG m c) shapeCasts_S148x448x2x128_S148x896x128) splits_S148x896x128_w32_S148x896x128x4_w8))
    transposes_S148x896x128x4_S896x4x148x128_1_3_0_2) shapeCasts_S896x4x148x128_S3584x18944

theorem V_v4 (c : Dev nD) : V m c main_v4 = rW m c := by
  show after (List.flatten [hostOps0]) (fun b => m (c, b)) (Proc.devRef .tc main_v4) = _
  simp only [hostOps0, List.flatten_cons, List.flatten_nil, List.append_nil, List.cons_append, List.nil_append]
  after_results <;> rfl
theorem V_v5 (c : Dev nD) : V m c main_v5 = rX m c := by
  show after (List.flatten [hostOps0]) (fun b => m (c, b)) (Proc.devRef .tc main_v5) = _
  simp only [hostOps0, List.flatten_cons, List.flatten_nil, List.append_nil, List.cons_append, List.nil_append]
  after_results <;> rfl
theorem V_v6 (c : Dev nD) : V m c main_v6 = rS m c := by
  show after (List.flatten [hostOps0]) (fun b => m (c, b)) (Proc.devRef .tc main_v6) = _
  simp only [hostOps0, List.flatten_cons, List.flatten_nil, List.append_nil, List.cons_append, List.nil_append]
  after_results <;> rfl

/-- The reference's product at a row and a column. -/
theorem refpay_apply (x : Vec Ideal S1920x3584 .bf16) (w : Vec Ideal S3584x18944 .fp8e4m3) (s : Vec Ideal S1x18944 .f32) (i : Fin 1920) (j : Fin 18944) :
    k0_pay1 (F := Ideal) x w s (ix2 i j) = (∑ k : Fin 3584, x (ix2 i k) * w (ix2 k j)) * s (ix2 0 j) := by
  unfold k0_pay1
  pointwise []

/-- The one block of each window starts at the origin. -/
theorem rindex : ∀ t : Fin grid0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 := by decide +kernel

/-- The call's three operands are read whole. -/
theorem blk_x (c : Dev nD) (t : Fin cfg0.N) : iblk m c 0 t = rX m c := by
  funext y; rw [← V_v5]; obtain ⟨h00, h01, h10, h11, h20, h21, h30, h31⟩ := rindex t; blk_ext [iblk, h00, h01, h10, h11, h20, h21]
theorem blk_w (c : Dev nD) (t : Fin cfg0.N) : iblk m c 1 t = rW m c := by
  funext y; rw [← V_v4]; obtain ⟨h00, h01, h10, h11, h20, h21, h30, h31⟩ := rindex t; blk_ext [iblk, h00, h01, h10, h11, h20, h21]
theorem blk_s (c : Dev nD) (t : Fin cfg0.N) : iblk m c 2 t = rS m c := by
  funext y; rw [← V_v6]; obtain ⟨h00, h01, h10, h11, h20, h21, h30, h31⟩ := rindex t; blk_ext [iblk, h00, h01, h10, h11, h20, h21]

/-- What the reference's call leaves: the product. -/
theorem reg_eq (c : Dev nD) : Value.reg_main_v7 (F := Ideal) m c = k0_pay1 (F := Ideal) (rX m c) (rW m c) (rS m c) := by
  unfold Value.reg_main_v7
  refine (dats m 0 c).arrAt_eq_of_covers 3 _ (by decide +kernel) (fun t hf y => ?_)
  blk_simp
  rw [after0_3]
  frame_out
  rw [blk_x, blk_w, blk_s]
  obtain ⟨h00, h01, h10, h11, h20, h21, h30, h31⟩ := rindex t
  blk_ext [h30, h31]

/-- The word of the reference's tile that holds weight row `k` of column `l`. -/
def rwordIx {n : Nat} (q : Fin n) (k : Fin 3584) (l : Fin 128) : (⟨4, ![n, 448, 2, 128]⟩ : Shape).Idx :=
  ix4 q ⟨k.val / 8, by omega⟩ ⟨k.val / 4 % 2, by omega⟩ l

/-- The reference's weight at row `k`, column `j`: byte `k % 4` of the word that holds it. -/
theorem rW_apply (c : Dev nD) (k : Fin 3584) (j : Fin 18944) :
    rW m c (ix2 k j) = dec (rG m c (rwordIx ⟨j.val / 128, by omega⟩ k ⟨j.val % 128, by omega⟩)) (k.val % 4) := by
  unfold rW
  pointwise []
  unfold dec byteOf
  refine congrArg (fun v : BitVec 32 => Ideal.ofBits FTy.fp8e4m3 (v.extractLsb' (k.val % 4 * 8) 8)) ?_
  refine congrArg (rG m c) (funext fun a => Fin.ext ?_)
  match a with
  | ⟨0, _⟩ => rfl
  | ⟨1, _⟩ => show k.val / 4 / 2 = k.val / 8; omega
  | ⟨2, _⟩ => rfl
  | ⟨3, _⟩ => rfl

/-- The reference's words, by the tile: the first 12 tiles' words are the first array's, the next 40 the second's, the rest the third's. -/
theorem rG_apply (c : Dev nD) (q : Fin 148) (k : Fin 3584) (l : Fin 128) :
    rG m c (rwordIx q k l) =
      if h : q.val < 12 then (m ((c : Thread nD τ).loc main_arg1) : Vec Ideal S12x448x2x128 .i32) (rwordIx ⟨q.val, h⟩ k l)
      else if h' : q.val - 12 < 40 then (m ((c : Thread nD τ).loc main_arg2) : Vec Ideal S40x448x2x128 .i32) (rwordIx ⟨q.val - 12, h'⟩ k l)
      else (m ((c : Thread nD τ).loc main_arg3) : Vec Ideal S96x448x2x128 .i32) (rwordIx ⟨q.val - 12 - 40, by omega⟩ k l) := by
  unfold rG rwordIx
  pointwise []

end Cert.Proof
-- ==== Proof.Equation.lean ====
/- THE EQUATION: the three chained calls' result and the reference's are one array whenever the arguments agree. -/
module

public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem

/-- Words stored as pairs of rows and as groups of eight rows: the same word of a tile. -/
theorem regroup {n : Nat} (g : (⟨4, ![n, 448, 2, 128]⟩ : Shape).Idx → BitVec 32)
    (h : (⟨4, ![n, 448, 2, 128]⟩ : Shape).ShapeCasts ⟨4, ![n, 112, 8, 128]⟩) (q : Fin n) (k : Fin 3584) (l : Fin 128) :
    shapeCast ⟨4, ![n, 112, 8, 128]⟩ g h (wordIx q k l) = g (rwordIx q k l) := by
  refine shapeCast_apply g h _ _ ?_
  rw [Shape.rowMajor_val_four, Shape.rowMajor_val_four]
  show ((q.val * 448 + k.val / 8) * 2 + k.val / 4 % 2) * 128 + l.val = ((q.val * 112 + k.val / 32) * 8 + k.val / 4 % 8) * 128 + l.val
  omega

/-- A weight read at two equal places of an array of words. -/
theorem rdec_congr {n : Nat} (g : (⟨4, ![n, 448, 2, 128]⟩ : Shape).Idx → BitVec 32) (q q' : Fin n) (k : Fin 3584) (l l' : Fin 128)
    (hq : q.val = q'.val) (hl : l.val = l'.val) :
    dec (g (rwordIx q k l)) (k.val % 4) = dec (g (rwordIx q' k l')) (k.val % 4) := by
  obtain rfl := Fin.ext hq; obtain rfl := Fin.ext hl; rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- One element of the two products. -/
theorem chainAt_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (i : Fin 1920) (j : Fin 18944) :
    Cert.ReferenceIdeal.Gen.k0_pay1 (F := Ideal) (rX m' c) (rW m' c) (rS m' c) (ix2 i j) = chainAt m c i j := by
  rw [refpay_apply]
  have hX : rX m' c = kX m c := by unfold rX kX; rw [h0]
  have hS : rS m' c = kS m c := by unfold rS kS; rw [h4]
  rw [hX, hS]
  simp only [rW_apply, rG_apply]
  rw [h1, h2, h3]
  unfold chainAt prodAt
  by_cases c0 : j.val < 1536
  · rw [if_pos c0, dif_pos (by omega)]
    congr 1
    refine Finset.sum_congr rfl fun k _ => ?_
    congr 1
    rw [dif_pos (by show j.val / 128 < 12; omega)]
    unfold kG0; rw [regroup]; rfl
  by_cases c1 : j.val < 6656
  · rw [if_neg c0, if_pos c1, dif_pos (by omega)]
    congr 1
    refine Finset.sum_congr rfl fun k _ => ?_
    congr 1
    rw [dif_neg (by show ¬ j.val / 128 < 12; omega), dif_pos (by show j.val / 128 - 12 < 40; omega)]
    unfold kG1; rw [regroup]
    exact rdec_congr _ _ _ _ _ _ (by show j.val / 128 - 12 = (j.val - 1536) / 128; omega) (by show j.val % 128 = (j.val - 1536) % 128; omega)
  · rw [if_neg c0, if_neg c1, dif_pos (by omega)]
    congr 1
    refine Finset.sum_congr rfl fun k _ => ?_
    congr 1
    rw [dif_neg (by show ¬ j.val / 128 < 12; omega), dif_neg (by show ¬ j.val / 128 - 12 < 40; omega)]
    unfold kG2; rw [regroup]
    exact rdec_congr _ _ _ _ _ _ (by show j.val / 128 - 12 - 40 = (j.val - 6656) / 128; omega) (by show j.val % 128 = (j.val - 6656) % 128; omega)

end Cert.Proof
-- ==== Proof.G.Base.lean ====
/- THE GATHER CALL AS THE LAUNCH THEOREM SEES IT: the configuration of the one vector-subcore call, the resource algebra, the
   buffers and scoped cells a vector subcore owns, and the memrefs as the body receives them. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.Gather
public import proofs.«01_k».proof.Proof.Gen.Gather.Skeleton

@[expose] public section

noncomputable section

namespace Cert.Proof.G

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The transfers' counters: the second component of the certificate's own algebra. -/
abbrev EC : UEmb Counters (MT nD τ sig (HIx 1) (Elt F) ℕ UU ℕ) := (UEmb.inr : UEmb Counters (UH × Counters)).trans uEmb

/-! ## The memrefs as the body receives them -/

abbrev cV : Memref sig .scVector .hbm S28x148x8x128 .i32 := Memref.whole main_v2_scv
abbrev wV : Memref sig .scVector .hbm S2x65536 .i32 := Memref.whole main_v3_scv
abbrev oV : Memref sig .scVector .hbm S12x448x2x128 .i32 := Memref.whole main_v4_scv
abbrev tB : Memref sig .scVector .vmem S65536 .i32 := Memref.whole cc0_scratch0
abbrev cB : Memref sig .scVector .vmem S2x4x8x128 .i32 := Memref.whole cc0_scratch1
abbrev oB : Memref sig .scVector .vmem S2x4x16x128 .i32 := Memref.whole cc0_scratch2

abbrev cT (L : grid0.Coords) : Fin τ.nSC := (L 0).castLE hcore0
abbrev jT (L : grid0.Coords) : Fin τ.nSub := (L 1).castLE hsub0
abbrev thr (d : Dev nD) (L : grid0.Coords) : Thread nD τ := V d (cT L) (jT L)

/-! ## The subcore's own cells and buffers -/

section Own
variable (d : Dev nD) (L : grid0.Coords)

/-- The five scoped semaphores: the table's, the two of the code slots, the two of the output slots. -/
abbrev semT : DmaSem sig := cc0_scratch3.sem
abbrev semC0 : DmaSem sig := ((cc0_scratch4.slice (Rect.unit (s := S2) ![0] S1.size inb_S2_S1_0)).squeeze S_ squeezes_S1_S_).sem
abbrev semC1 : DmaSem sig := ((cc0_scratch4.slice (Rect.unit (s := S2) ![1] S1.size inb_S2_S1_1)).squeeze S_ squeezes_S1_S_).sem
abbrev semO0 : DmaSem sig := ((cc0_scratch5.slice (Rect.unit (s := S2) ![0] S1.size inb_S2_S1_0)).squeeze S_ squeezes_S1_S_).sem
abbrev semO1 : DmaSem sig := ((cc0_scratch5.slice (Rect.unit (s := S2) ![1] S1.size inb_S2_S1_1)).squeeze S_ squeezes_S1_S_).sem
abbrev gc (s : DmaSem sig) : GSem nD τ sig := (thr d L, .dma s)

theorem gc_ne {s s' : DmaSem sig} (h : s ≠ s') : gc d L s ≠ gc d L s' := fun e => h (by injection (congrArg Prod.snd e))

theorem mem_gc (s : DmaSem sig) (h : (SemLoc.dma s : SemLoc sig).isScoped .scVector = true) : gc d L s ∈ ownCells (thr d L) :=
  (mem_ownCells (g := gc d L s)).mpr ⟨rfl, h⟩

theorem ownSems0_V :
    (ownSems0 (thr d L) : sProp 𝕄)
      = iprop(semVal (gc d L semT) 0 ∗ semVal (gc d L semC0) 0 ∗ semVal (gc d L semC1) 0 ∗ semVal (gc d L semO0) 0 ∗ semVal (gc d L semO1) 0
          ∗ bigSep ((((((ownCells (thr d L)).erase (gc d L semT)).erase (gc d L semC0)).erase (gc d L semC1)).erase (gc d L semO0)).erase (gc d L semO1))
              fun g => semVal g 0) := by
  unfold SparseCore.Cfg.ownSems0
  rw [SparseCore.bigSep_erase' (mem_gc d L semT (by decide)),
    SparseCore.bigSep_erase' (Finset.mem_erase.mpr ⟨gc_ne d L (by decide), mem_gc d L semC0 (by decide)⟩),
    SparseCore.bigSep_erase' (Finset.mem_erase.mpr ⟨gc_ne d L (by decide), Finset.mem_erase.mpr ⟨gc_ne d L (by decide), mem_gc d L semC1 (by decide)⟩⟩),
    SparseCore.bigSep_erase' (Finset.mem_erase.mpr ⟨gc_ne d L (by decide), Finset.mem_erase.mpr ⟨gc_ne d L (by decide),
      Finset.mem_erase.mpr ⟨gc_ne d L (by decide), mem_gc d L semO0 (by decide)⟩⟩⟩),
    SparseCore.bigSep_erase' (Finset.mem_erase.mpr ⟨gc_ne d L (by decide), Finset.mem_erase.mpr ⟨gc_ne d L (by decide),
      Finset.mem_erase.mpr ⟨gc_ne d L (by decide), Finset.mem_erase.mpr ⟨gc_ne d L (by decide), mem_gc d L semO1 (by decide)⟩⟩⟩⟩)]

/-- The subcore's own buffers are the three scratches, each at some contents, together with the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cT L) (jT L))).erase ((Proc.scVector (cT L) (jT L)).devRef cc0_scratch0)).erase
              ((Proc.scVector (cT L) (jT L)).devRef cc0_scratch1)).erase ((Proc.scVector (cT L) (jT L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cT L) (jT L))
    (b := (Proc.scVector (cT L) (jT L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cT L) (jT L)) (b := (Proc.scVector (cT L) (jT L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cT L) (jT L)) (b := (Proc.scVector (cT L) (jT L)).devRef cc0_scratch2) rfl⟩⟩)]

end Own

end Cert.Proof.G
-- ==== Proof.G.Inner.lean ====
/- ONE LANE GROUP OF THE INNER LOOP: sixteen packed words are loaded from the code slot, split into their low and high halves, the
   table is read at both, and the two vectors are stored in two neighbouring rows of the output slot. `GV` is the value the output
   slot is to hold; a store of a vector read extends the part of the slot holding it. -/
module

public import proofs.«01_k».proof.Proof.G.Base

@[expose] public section

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Half `h` of a packed word: the low sixteen bits, or the high sixteen. -/
def hw (h : ℕ) (w : BitVec 32) : BitVec 32 := if h = 0 then w &&& 65535#32 else w >>> 16

theorem and_lt (w : BitVec 32) : (w &&& 65535#32).toNat < 65536 := by
  rw [BitVec.toNat_and]
  exact Nat.lt_of_le_of_lt Nat.and_le_right (by decide)
theorem shr_lt (w : BitVec 32) : (w >>> 16).toNat < 65536 := by
  rw [BitVec.toNat_ushiftRight, Nat.shiftRight_eq_div_pow]
  have := w.isLt
  omega
theorem hw_lt (h : ℕ) (w : BitVec 32) : (hw h w).toNat < 65536 := by
  unfold hw; split
  · exact and_lt w
  · exact shr_lt w

/-- The table's multi-index at a word below 65536. -/
def tix (w : BitVec 32) (h : w.toNat < 65536) : S65536.Idx := fun | 0 => ⟨w.toNat, h⟩

/-- A multi-index of the code slots. -/
def cix (a : Fin 2) (b : Fin 4) (c : Fin 8) (e : Fin 128) : S2x4x8x128.Idx := fun | 0 => a | 1 => b | 2 => c | 3 => e

/-- What the output slots are to hold: row `k`, lane `l` of subtile `a` of slot `σ` is the table at half `k % 2` of the code word in row `k / 2`. -/
def GV (tb : S65536.Idx → BitVec 32) (f : S2x4x8x128.Idx → BitVec 32) (x : S2x4x16x128.Idx) : BitVec 32 :=
  let w := hw ((x 2).val % 2) (f (cix (x 0) (x 1) ⟨(x 2).val / 2, by have h := (x 2).isLt; change _ < 16 at h; omega⟩ (x 3)))
  tb (tix w (hw_lt _ _))

/-- `x` lies in the run of sixteen lanes at `off`. -/
def inR (off : Fin 4 → ℕ) (x : S2x4x16x128.Idx) : Prop := ∀ a, off a ≤ (x a).val ∧ (x a).val < off a + S1x1x1x16.size a

abbrev slotC (σ : ℕ) : Finset S2x4x8x128.Idx := Finset.univ.filter fun x => (x 0).val = σ
abbrev slotO (σ : ℕ) : Finset S2x4x16x128.Idx := Finset.univ.filter fun x => (x 0).val = σ

variable [FloatOps F]
section
variable (d : Dev nD) (L : grid0.Coords)

abbrev tPts (tb : S65536.Idx → BitVec 32) : sProp 𝕄 := tB.view.loc (thr d L) ↦{fullShare} tb
abbrev cPts (σ : ℕ) (f : S2x4x8x128.Idx → BitVec 32) : sProp 𝕄 := cB.view.loc (thr d L) ↦[slotC σ]{fullShare} f
abbrev oPts (σ : ℕ) (g : S2x4x16x128.Idx → BitVec 32) : sProp 𝕄 := oB.view.loc (thr d L) ↦[slotO σ]{fullShare} g
/-- Output slot `σ` holds the value wherever `P` says so. -/
abbrev oGood (σ : ℕ) (tb : S65536.Idx → BitVec 32) (f : S2x4x8x128.Idx → BitVec 32) (P : S2x4x16x128.Idx → Prop) : sProp 𝕄 :=
  iprop(∃ g, ⌜∀ x, P x → g x = GV tb f x⌝ ∗ oPts (F := F) d L σ g)

/-- What a vector load at sixteen lanes of the code slots reads. -/
theorem ld_cB (oc : Fin 4 → ℕ) (hc : ∀ a, oc a + S1x1x1x16.size a ≤ S2x4x8x128.size a) (f : S2x4x8x128.Idx → BitVec 32) (j : S1x1x1x16.Idx) :
    cB.view.readAt (Elt F) (Rect.unit (s := S2x4x8x128) oc S1x1x1x16.size hc).toLoadRect f j
      = f (cix ⟨oc 0, by have := hc 0; change _ + 1 ≤ 2 at this; omega⟩ ⟨oc 1, by have := hc 1; change _ + 1 ≤ 4 at this; omega⟩
          ⟨oc 2, by have := hc 2; change _ + 1 ≤ 8 at this; omega⟩ ⟨oc 3 + (j 3).val, by have := hc 3; have h := (j 3).isLt; change _ < 16 at h; change _ + 16 ≤ 128 at this; omega⟩) := by
  show f _ = f _
  congr 1
  funext a
  match a with
  | 0 => apply Fin.ext; have h := (j 0).isLt; change _ < 1 at h; show oc 0 + 1 * (j 0).val = oc 0; omega
  | 1 => apply Fin.ext; have h := (j 1).isLt; change _ < 1 at h; show oc 1 + 1 * (j 1).val = oc 1; omega
  | 2 => apply Fin.ext; have h := (j 2).isLt; change _ < 1 at h; show oc 2 + 1 * (j 2).val = oc 2; omega
  | 3 => apply Fin.ext; show oc 3 + 1 * (j 3).val = oc 3 + (j 3).val; omega

/-- The cast from sixteen lanes to a (1, 1, 1, 16) block keeps the lane. -/
theorem cast_lane (x : S1x1x1x16.Idx → BitVec 32) (h : S1x1x1x16.ShapeCasts S16) (h' : S16.ShapeCasts S1x1x1x16) (j : S1x1x1x16.Idx) :
    Shape.reshapeEquiv h (Shape.reshapeEquiv h' j) = j := by
  simp [Shape.reshapeEquiv]

/-- A vector of sixteen words, each half of the loaded code word. -/
abbrev lowOf (ld : Vec F S1x1x1x16 .i32) : IVec S16 32 := andi (shapeCast S16 ld shapeCasts_S1x1x1x16_S16) (broadcast S16 65535#32)
abbrev highOf (ld : Vec F S1x1x1x16 .i32) : IVec S16 32 := shrui (shapeCast S16 ld shapeCasts_S1x1x1x16_S16) (broadcast S16 16#32)

theorem low_apply (ld : Vec F S1x1x1x16 .i32) (x : S16.Idx) : lowOf ld x = hw 0 (ld (Shape.reshapeEquiv shapeCasts_S1x1x1x16_S16 x)) := rfl
theorem high_apply (ld : Vec F S1x1x1x16 .i32) (x : S16.Idx) : highOf ld x = hw 1 (ld (Shape.reshapeEquiv shapeCasts_S1x1x1x16_S16 x)) := by
  simp [highOf, hw, shrui, broadcast, shapeCast]
  try rfl

theorem chk_low (ld : Vec F S1x1x1x16 .i32) : ∀ a x, ((![lowOf ld] : Fin 1 → IVec S16 32) a x).toNat < S65536.size a := by
  intro a x
  match a with
  | 0 => show (lowOf ld x).toNat < 65536; rw [low_apply]; exact hw_lt _ _
theorem chk_high (ld : Vec F S1x1x1x16 .i32) : ∀ a x, ((![highOf ld] : Fin 1 → IVec S16 32) a x).toNat < S65536.size a := by
  intro a x
  match a with
  | 0 => show (highOf ld x).toNat < 65536; rw [high_apply]; exact hw_lt _ _

/-- The stored vector: the table at a half of each loaded word is the value at the run of lanes it is stored in. -/
theorem half_value (tb : S65536.Idx → BitVec 32) (f : S2x4x8x128.Idx → BitVec 32) (oc o : Fin 4 → ℕ) (h : ℕ) (hh : h < 2)
    (ho : o = ![oc 0, oc 1, 2 * oc 2 + h, oc 3])
    (hc : ∀ a, oc a + S1x1x1x16.size a ≤ S2x4x8x128.size a) (hi : ∀ a, o a + S1x1x1x16.size a ≤ S2x4x16x128.size a)
    (ix : IVec S16 32) (hix : ∀ a x, ((![ix] : Fin 1 → IVec S16 32) a x).toNat < S65536.size a)
    (hv : ∀ x, ix x = hw h (cB.view.readAt (Elt F) (Rect.unit (s := S2x4x8x128) oc S1x1x1x16.size hc).toLoadRect f (Shape.reshapeEquiv shapeCasts_S1x1x1x16_S16 x)))
    (j : S1x1x1x16.Idx) :
    shapeCast S1x1x1x16 (loadIdx (F := F) (e := .i32) tb ![ix] hix) shapeCasts_S16_S1x1x1x16 j
      = GV tb f ((Rect.unit (s := S2x4x16x128) o S1x1x1x16.size hi).emb j) := by
  have h0 := hc 0; have h1 := hc 1; have h2 := hc 2; have h3 := hc 3
  change oc 0 + 1 ≤ 2 at h0; change oc 1 + 1 ≤ 4 at h1; change oc 2 + 1 ≤ 8 at h2; change oc 3 + 16 ≤ 128 at h3
  have j0 := (j 0).isLt; have j1 := (j 1).isLt; have j2 := (j 2).isLt; have j3 := (j 3).isLt
  change _ < 1 at j0; change _ < 1 at j1; change _ < 1 at j2; change _ < 16 at j3
  have e0 : ((Rect.unit (s := S2x4x16x128) o S1x1x1x16.size hi).emb j 0).val = oc 0 := by rw [Rect.emb_apply]; subst ho; show oc 0 + 1 * (j 0).val = _; omega
  have e1 : ((Rect.unit (s := S2x4x16x128) o S1x1x1x16.size hi).emb j 1).val = oc 1 := by rw [Rect.emb_apply]; subst ho; show oc 1 + 1 * (j 1).val = _; omega
  have e2 : ((Rect.unit (s := S2x4x16x128) o S1x1x1x16.size hi).emb j 2).val = 2 * oc 2 + h := by
    rw [Rect.emb_apply]; subst ho; show 2 * oc 2 + h + 1 * (j 2).val = _; omega
  have e3 : ((Rect.unit (s := S2x4x16x128) o S1x1x1x16.size hi).emb j 3).val = oc 3 + (j 3).val := by
    rw [Rect.emb_apply]; subst ho; show oc 3 + 1 * (j 3).val = _; omega
  show tb (idxAt _ _ _) = tb _
  congr 1
  funext a
  match a with
  | 0 =>
    apply Fin.ext
    show (ix (Shape.reshapeEquiv shapeCasts_S16_S1x1x1x16 j)).toNat = (hw _ (f _)).toNat
    rw [hv, cast_lane (fun _ => 0#32), ld_cB]
    congr 2
    · rw [e2]; omega
    · congr 1
      funext b
      match b with
      | 0 => exact Fin.ext e0.symm
      | 1 => exact Fin.ext e1.symm
      | 2 => apply Fin.ext; show oc 2 = (_ : ℕ) / 2; rw [e2]; omega
      | 3 => exact Fin.ext e3.symm

/-- A store of the value into a run keeps what was good and adds the run. -/
theorem good_store (tb : S65536.Idx → BitVec 32) (f : S2x4x8x128.Idx → BitVec 32) (o : Fin 4 → ℕ)
    (hi : ∀ a, o a + S1x1x1x16.size a ≤ S2x4x16x128.size a) (w : S1x1x1x16.Idx → BitVec 32)
    (hw : ∀ j, w j = GV tb f ((Rect.unit (s := S2x4x16x128) o S1x1x1x16.size hi).emb j)) (P : S2x4x16x128.Idx → Prop)
    (g : S2x4x16x128.Idx → BitVec 32) (hg : ∀ x, P x → g x = GV tb f x) :
    ∀ x, (P x ∨ inR o x) → (oB.access (Rect.unit (s := S2x4x16x128) o S1x1x1x16.size hi)).write (Elt F) g w Finset.univ x = GV tb f x := by
  intro x hx
  by_cases hm : x ∈ (Rect.unit (s := S2x4x16x128) o S1x1x1x16.size hi).set
  · rw [← Rect.map_emb_univ] at hm
    obtain ⟨j, -, rfl⟩ := Finset.mem_map.mp hm
    refine (View.write_emb_of_mem (v := oB.access (Rect.unit (s := S2x4x16x128) o S1x1x1x16.size hi)) (Val := Elt F) g w (Finset.mem_univ j)).trans ?_
    exact hw j
  · have hP : P x := hx.resolve_right fun h => hm (Rect.mem_set_unit.mpr h)
    refine (View.write_of_not_mem (v := oB.access (Rect.unit (s := S2x4x16x128) o S1x1x1x16.size hi)) (Val := Elt F) g w Finset.univ ?_).trans (hg x hP)
    intro h
    apply hm
    rw [← Rect.map_emb_univ]
    obtain ⟨j, -, e⟩ := Finset.mem_map.mp h
    exact Finset.mem_map.mpr ⟨j, Finset.mem_univ _, e⟩

theorem sub_slotC (σ : ℕ) (oc : Fin 4 → ℕ) (hσ : oc 0 = σ) (hc : ∀ a, oc a + S1x1x1x16.size a ≤ S2x4x8x128.size a) :
    cB.view.setOn (Rect.unit (s := S2x4x8x128) oc S1x1x1x16.size hc).toLoadRect.set ⊆ slotC σ := by
  intro x hx
  obtain ⟨y, hy, rfl⟩ := Finset.mem_map.mp hx
  have := Rect.mem_set_unit.mp hy 0
  change oc 0 ≤ (y 0).val ∧ (y 0).val < oc 0 + 1 at this
  exact Finset.mem_filter.mpr ⟨Finset.mem_univ _, show (y 0).val = σ by omega⟩

theorem sub_slotO (σ : ℕ) (o : Fin 4 → ℕ) (hσ : o 0 = σ) (hi : ∀ a, o a + S1x1x1x16.size a ≤ S2x4x16x128.size a) :
    (Rect.unit (s := S2x4x16x128) o S1x1x1x16.size hi).set ⊆ slotO σ := by
  intro x hx
  have := Rect.mem_set_unit.mp hx 0
  change o 0 ≤ (x 0).val ∧ (x 0).val < o 0 + 1 at this
  exact Finset.mem_filter.mpr ⟨Finset.mem_univ _, show (x 0).val = σ by omega⟩

theorem sub_slotO' (σ : ℕ) (o : Fin 4 → ℕ) (hσ : o 0 = σ) (hi : ∀ a, o a + S1x1x1x16.size a ≤ S2x4x16x128.size a) :
    (oB.access (Rect.unit (s := S2x4x16x128) o S1x1x1x16.size hi)).setOn Finset.univ ⊆ slotO σ := by
  intro x hx
  obtain ⟨j, -, rfl⟩ := Finset.mem_map.mp hx
  exact sub_slotO σ o hσ hi (by rw [← Rect.map_emb_univ]; exact Finset.mem_map.mpr ⟨j, Finset.mem_univ _, rfl⟩)

theorem sub_slotO'' (σ : ℕ) (o : Fin 4 → ℕ) (hσ : o 0 = σ) (hi : ∀ a, o a + S1x1x1x16.size a ≤ S2x4x16x128.size a) :
    oB.view.setOn (Rect.unit (s := S2x4x16x128) o S1x1x1x16.size hi).toLoadRect.set ⊆ slotO σ := by
  intro x hx
  obtain ⟨y, hy, rfl⟩ := Finset.mem_map.mp hx
  exact sub_slotO σ o hσ hi hy

/-- A load of the whole table reads the table. -/
theorem read_tB (tb : S65536.Idx → BitVec 32) : (tB.access (Rect.whole S65536)).read (Elt F) tb = tb := by
  funext x
  show tb _ = tb x
  congr 1
  funext a
  apply Fin.ext
  show 0 + 1 * (x a).val = (x a).val
  omega

abbrev Pr (α : Type) := Prog (TpuEff nD τ sig (Elt F) Λ₀ (.scVector (cT L) (jT L))) α

end
end Cert.Proof.G
-- ==== Proof.G.Steps.lean ====
/- THE STEPS OF A LANE GROUP, each as a rule: load sixteen code words, check the indices, read the table, store the vector read. -/
module

public import proofs.«01_k».proof.Proof.G.Inner

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- What a tile owns while it works on slot `σ`: the codes of the slot, the table, and the output slot, good where `P` says so. -/
abbrev RES (σ : ℕ) (tb : S65536.Idx → BitVec 32) (f : S2x4x8x128.Idx → BitVec 32) (P : S2x4x16x128.Idx → Prop) : sProp 𝕄 :=
  iprop(cPts d L σ f ∗ tPts d L tb ∗ oGood d L σ tb f P)

/-- The sixteen code words a load at `oc` reads. -/
abbrev LD (f : S2x4x8x128.Idx → BitVec 32) (oc : Fin 4 → ℕ) (hc : ∀ a, oc a + S1x1x1x16.size a ≤ S2x4x8x128.size a) : Vec F S1x1x1x16 .i32 :=
  cB.view.readAt (Elt F) (Rect.unit (s := S2x4x8x128) oc S1x1x1x16.size hc).toLoadRect f

/-- `v` is the load at `oc`, as a vector of sixteen lanes. -/
def IsLd (f : S2x4x8x128.Idx → BitVec 32) (oc : Fin 4 → ℕ) (v : Vec F S16 .i32) : Prop :=
  ∃ hc, v = shapeCast S16 (LD (F := F) f oc hc) shapeCasts_S1x1x1x16_S16
/-- `v` is half `h` of each code word at `oc`. -/
def IsIx (f : S2x4x8x128.Idx → BitVec 32) (oc : Fin 4 → ℕ) (h : ℕ) (v : IVec S16 32) : Prop :=
  ∃ hc, ∀ x, v x = hw h (LD (F := F) f oc hc (Shape.reshapeEquiv shapeCasts_S1x1x1x16_S16 x))
/-- `v` is the table read at half `h` of each code word at `oc`. -/
def IsW (tb : S65536.Idx → BitVec 32) (f : S2x4x8x128.Idx → BitVec 32) (oc : Fin 4 → ℕ) (h : ℕ) (v : Vec F S16 .i32) : Prop :=
  ∃ ix hix, IsIx (F := F) f oc h ix ∧ v = loadIdx (F := F) (e := .i32) tb ![ix] hix

theorem isIx_low {f : S2x4x8x128.Idx → BitVec 32} {oc : Fin 4 → ℕ} {v : IVec S16 32} (hc) (h : v = lowOf (LD (F := F) f oc hc)) : IsIx (F := F) f oc 0 v :=
  ⟨hc, fun x => by rw [h]; exact low_apply _ x⟩
theorem isIx_high {f : S2x4x8x128.Idx → BitVec 32} {oc : Fin 4 → ℕ} {v : IVec S16 32} (hc) (h : v = highOf (LD (F := F) f oc hc)) : IsIx (F := F) f oc 1 v :=
  ⟨hc, fun x => by rw [h]; exact high_apply _ x⟩
theorem isIx_high' {f : S2x4x8x128.Idx → BitVec 32} {oc : Fin 4 → ℕ} {v : Vec F S16 .i32} {w : IVec S16 32} (hv : IsLd f oc v)
    (h : w = shrui v (broadcast S16 16#32)) : IsIx (F := F) f oc 1 w := by
  obtain ⟨hc, rfl⟩ := hv
  exact isIx_high hc h
theorem chk_of {f : S2x4x8x128.Idx → BitVec 32} {oc : Fin 4 → ℕ} {h : ℕ} {v : IVec S16 32} (hv : IsIx (F := F) f oc h v) :
    ∀ a x, ((![v] : Fin 1 → IVec S16 32) a x).toNat < S65536.size a := by
  obtain ⟨hc, hv⟩ := hv
  intro a x
  match a with
  | 0 => show (v x).toNat < 65536; rw [hv]; exact hw_lt _ _

variable (tb : S65536.Idx → BitVec 32) (f : S2x4x8x128.Idx → BitVec 32) (σ : ℕ) (P : S2x4x16x128.Idx → Prop)

theorem s_C {α : Type} (Q : α → sProp 𝕄) (oc : Fin 4 → ℕ) (hc : ∀ a, oc a + S1x1x1x16.size a ≤ S2x4x8x128.size a) (hσ : oc 0 = σ) (hl) (k : Vec F S1x1x1x16 .i32 → Pr (F := F) L α)
    (hk : RES (F := F) d L σ tb f P ⊢ wp frame (wpE (defs₀ (F := F)) 𝒱₀ (thr d L) none) Set.univ (k (LD (F := F) f oc hc)) Q) :
    RES (F := F) d L σ tb f P ⊢ wp frame (wpE (defs₀ (F := F)) 𝒱₀ (thr d L) none) Set.univ
      (.op (.load cB (Rect.unit (s := S2x4x8x128) oc S1x1x1x16.size hc).toLoadRect hl) k) Q := by
  iintro ⟨HC, HR⟩
  iapply (wp_load 𝒱₀ (thr d L) none Set.univ (m := cB) (S := slotC σ) (sub_slotC σ oc hσ hc)) $$ HC
  iintro HC
  iapply hk
  isplitl [HC]; · iexact HC
  iexact HR

theorem s_A {α : Type} (Q : α → sProp 𝕄) (C : Prop) (dec : Decidable C) (h : C) (k : _ → Pr (F := F) L α) (R : sProp 𝕄)
    (hk : R ⊢ wp frame (wpE (defs₀ (F := F)) 𝒱₀ (thr d L) none) Set.univ (k ⟨h⟩) Q) :
    R ⊢ wp frame (wpE (defs₀ (F := F)) 𝒱₀ (thr d L) none) Set.univ (.op (.assume C dec) k) Q := by
  iintro H
  iapply (wp_assume 𝒱₀ (thr d L) none Set.univ h)
  iapply hk
  iexact H

theorem s_G {α : Type} (Q : α → sProp 𝕄) (hl) (k : Vec F S65536 .i32 → Pr (F := F) L α)
    (hk : RES (F := F) d L σ tb f P ⊢ wp frame (wpE (defs₀ (F := F)) 𝒱₀ (thr d L) none) Set.univ (k tb) Q) :
    RES (F := F) d L σ tb f P ⊢ wp frame (wpE (defs₀ (F := F)) 𝒱₀ (thr d L) none) Set.univ (.op (.load tB (.whole S65536) hl) k) Q := by
  iintro ⟨HC, HT, HO⟩
  iapply (wp_load_rect 𝒱₀ (thr d L) none Set.univ (m := tB) (r := Rect.whole S65536) (S := Finset.univ) (Finset.subset_univ _)) $$ HT
  iintro HT
  rw [read_tB]
  iapply hk
  isplitl [HC]; · iexact HC
  isplitl [HT]; · iexact HT
  iexact HO

theorem s_S {α : Type} (Q : α → sProp 𝕄) (oc o : Fin 4 → ℕ) (h : ℕ) (hh : h < 2) (hi : ∀ a, o a + S1x1x1x16.size a ≤ S2x4x16x128.size a) (hσ : oc 0 = σ)
    (e : o = ![oc 0, oc 1, 2 * oc 2 + h, oc 3]) (v : Vec F S16 .i32) (hv : IsW (F := F) tb f oc h v) (hl hs hm) (k : PUnit → Pr (F := F) L α)
    (hk : RES (F := F) d L σ tb f (fun x => P x ∨ inR o x) ⊢ wp frame (wpE (defs₀ (F := F)) 𝒱₀ (thr d L) none) Set.univ (k ⟨⟩) Q) :
    RES (F := F) d L σ tb f P ⊢ wp frame (wpE (defs₀ (F := F)) 𝒱₀ (thr d L) none) Set.univ
      (.op (.load oB (Rect.unit (s := S2x4x16x128) o S1x1x1x16.size hi).toLoadRect hl) fun _ =>
        .op (.store oB (Rect.unit (s := S2x4x16x128) o S1x1x1x16.size hi) (shapeCast S1x1x1x16 v shapeCasts_S16_S1x1x1x16) Finset.univ hs hm) k) Q := by
  obtain ⟨ix, hix, ⟨hc, hx⟩, rfl⟩ := hv
  have hσ' : o 0 = σ := by rw [e]; exact hσ
  iintro ⟨HC, HT, %g, %hg, HO⟩
  iapply (wp_load 𝒱₀ (thr d L) none Set.univ (m := oB) (S := slotO σ) (sub_slotO'' σ o hσ' hi)) $$ HO
  iintro HO
  iapply (wp_store 𝒱₀ (thr d L) none Set.univ (m := oB) (r := Rect.unit (s := S2x4x16x128) o S1x1x1x16.size hi) (Mk := Finset.univ) (S := slotO σ) (sub_slotO' σ o hσ' hi)) $$ HO
  iintro HO
  iapply hk
  isplitl [HC]; · iexact HC
  isplitl [HT]; · iexact HT
  iexists _
  isplitr; swap
  · iexact HO
  ipureintro
  exact good_store (F := F) tb f o hi _ (half_value tb f oc o h hh e hc hi ix hix hx) P g hg

end Cert.Proof.G
-- ==== Proof.G.TripA.lean ====
/- THE INNER LOOP AT THE EVEN UNITS: one trip handles one row of 128 packed words, in eight lane groups. -/
module

public import proofs.«01_k».proof.Proof.G.Steps

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The rows of slot `σ` the first `t` trips have filled. -/
def upTo (σ t : ℕ) (x : S2x4x16x128.Idx) : Prop := (x 0).val = σ ∧ (x 1).val * 8 + (x 2).val / 2 < t

theorem oGood_mono (d : Dev nD) (L : grid0.Coords) (σ : ℕ) (tb : S65536.Idx → BitVec 32) (f : S2x4x8x128.Idx → BitVec 32)
    {P P' : S2x4x16x128.Idx → Prop} (h : ∀ x, P' x → P x) : oGood (F := F) d L σ tb f P ⊢ oGood d L σ tb f P' := by
  iintro ⟨%g, %hg, H⟩
  iexists g
  isplitr
  · ipureintro; exact fun x hx => hg x (h x hx)
  iexact H

/-- The runs one trip stores, at 16 consecutive lanes each. -/
theorem cover (σ t : ℕ) (x : S2x4x16x128.Idx) (hx : upTo σ (t + 1) x) (o : Fin 8 → Fin 2 → Fin 4 → ℕ)
    (ho : ∀ q h, o q h = ![σ, t / 8, 2 * (t % 8) + h.val, 16 * q.val]) : upTo σ t x ∨ ∃ q h, inR (o q h) x := by
  obtain ⟨h0, h1⟩ := hx
  by_cases hlt : (x 1).val * 8 + (x 2).val / 2 < t
  · exact .inl ⟨h0, hlt⟩
  refine .inr ⟨⟨(x 3).val / 16, by have h := (x 3).isLt; change _ < 128 at h; omega⟩, ⟨(x 2).val % 2, by omega⟩, fun a => ?_⟩
  have hx2 := (x 2).isLt
  change _ < 16 at hx2
  rw [ho]
  match a with
  | 0 => show σ ≤ (x 0).val ∧ (x 0).val < σ + 1; omega
  | 1 => show t / 8 ≤ (x 1).val ∧ (x 1).val < t / 8 + 1; omega
  | 2 => show 2 * (t % 8) + (x 2).val % 2 ≤ (x 2).val ∧ (x 2).val < 2 * (t % 8) + (x 2).val % 2 + 1; omega
  | 3 => show 16 * ((x 3).val / 16) ≤ (x 3).val ∧ (x 3).val < 16 * ((x 3).val / 16) + 16; omega

theorem off6_eq : ∀ t : Fin k0_t2_loop.trips, k0_off6 t = ![0, t.val / 8, t.val % 8, 0] := by decide +kernel
theorem off7_eq : ∀ t : Fin k0_t2_loop.trips, k0_off7 t = ![0, t.val / 8, 2 * (t.val % 8) + 0, 0] := by decide +kernel
theorem off8_eq : ∀ t : Fin k0_t2_loop.trips, k0_off8 t = ![0, t.val / 8, 2 * (t.val % 8) + 1, 0] := by decide +kernel
theorem off9_eq : ∀ t : Fin k0_t2_loop.trips, k0_off9 t = ![0, t.val / 8, t.val % 8, 16] := by decide +kernel
theorem off10_eq : ∀ t : Fin k0_t2_loop.trips, k0_off10 t = ![0, t.val / 8, 2 * (t.val % 8) + 0, 16] := by decide +kernel
theorem off11_eq : ∀ t : Fin k0_t2_loop.trips, k0_off11 t = ![0, t.val / 8, 2 * (t.val % 8) + 1, 16] := by decide +kernel
theorem off12_eq : ∀ t : Fin k0_t2_loop.trips, k0_off12 t = ![0, t.val / 8, t.val % 8, 32] := by decide +kernel
theorem off13_eq : ∀ t : Fin k0_t2_loop.trips, k0_off13 t = ![0, t.val / 8, 2 * (t.val % 8) + 0, 32] := by decide +kernel
theorem off14_eq : ∀ t : Fin k0_t2_loop.trips, k0_off14 t = ![0, t.val / 8, 2 * (t.val % 8) + 1, 32] := by decide +kernel
theorem off15_eq : ∀ t : Fin k0_t2_loop.trips, k0_off15 t = ![0, t.val / 8, t.val % 8, 48] := by decide +kernel
theorem off16_eq : ∀ t : Fin k0_t2_loop.trips, k0_off16 t = ![0, t.val / 8, 2 * (t.val % 8) + 0, 48] := by decide +kernel
theorem off17_eq : ∀ t : Fin k0_t2_loop.trips, k0_off17 t = ![0, t.val / 8, 2 * (t.val % 8) + 1, 48] := by decide +kernel
theorem off18_eq : ∀ t : Fin k0_t2_loop.trips, k0_off18 t = ![0, t.val / 8, t.val % 8, 64] := by decide +kernel
theorem off19_eq : ∀ t : Fin k0_t2_loop.trips, k0_off19 t = ![0, t.val / 8, 2 * (t.val % 8) + 0, 64] := by decide +kernel
theorem off20_eq : ∀ t : Fin k0_t2_loop.trips, k0_off20 t = ![0, t.val / 8, 2 * (t.val % 8) + 1, 64] := by decide +kernel
theorem off21_eq : ∀ t : Fin k0_t2_loop.trips, k0_off21 t = ![0, t.val / 8, t.val % 8, 80] := by decide +kernel
theorem off22_eq : ∀ t : Fin k0_t2_loop.trips, k0_off22 t = ![0, t.val / 8, 2 * (t.val % 8) + 0, 80] := by decide +kernel
theorem off23_eq : ∀ t : Fin k0_t2_loop.trips, k0_off23 t = ![0, t.val / 8, 2 * (t.val % 8) + 1, 80] := by decide +kernel
theorem off24_eq : ∀ t : Fin k0_t2_loop.trips, k0_off24 t = ![0, t.val / 8, t.val % 8, 96] := by decide +kernel
theorem off25_eq : ∀ t : Fin k0_t2_loop.trips, k0_off25 t = ![0, t.val / 8, 2 * (t.val % 8) + 0, 96] := by decide +kernel
theorem off26_eq : ∀ t : Fin k0_t2_loop.trips, k0_off26 t = ![0, t.val / 8, 2 * (t.val % 8) + 1, 96] := by decide +kernel
theorem off27_eq : ∀ t : Fin k0_t2_loop.trips, k0_off27 t = ![0, t.val / 8, t.val % 8, 112] := by decide +kernel
theorem off28_eq : ∀ t : Fin k0_t2_loop.trips, k0_off28 t = ![0, t.val / 8, 2 * (t.val % 8) + 0, 112] := by decide +kernel
theorem off29_eq : ∀ t : Fin k0_t2_loop.trips, k0_off29 t = ![0, t.val / 8, 2 * (t.val % 8) + 1, 112] := by decide +kernel

set_option cleanup.letToHave false in set_option cleanup.letToHave false in set_option maxHeartbeats 400000 in
theorem part1_spec (d : Dev nD) (L : grid0.Coords) (tb : S65536.Idx → BitVec 32) (f : S2x4x8x128.Idx → BitVec 32) (c0_i32_53 : BitVec 32) (c1_i32_54 : BitVec 32) (k0_t2 : Fin k0_t2_loop.trips)
    (P : S2x4x16x128.Idx → Prop) (Φ : (Σ' (v114 : BitVec 32) (v115 : BitVec 32) (v140 : Vec F S16 .i32) (v142 : IVec S16 32) (k0_hw3 : k0_chk3 v142), BitVec 32) → sProp 𝕄)
    (hΦ : ∀ (v114 : BitVec 32) (v115 : BitVec 32) (v140 : Vec F S16 .i32) (v142 : IVec S16 32) (k0_hw3 : k0_chk3 v142) (rl : BitVec 32), IsLd f (k0_off9 k0_t2) v140 → IsIx (F := F) f (k0_off9 k0_t2) 0 v142 → rl = 16#32 → (RES (F := F) d L 0 tb f (fun x => (fun x => P x ∨ inR (k0_off7 k0_t2) x) x ∨ inR (k0_off8 k0_t2) x) ⊢ Φ ⟨v114, v115, v140, v142, k0_hw3, rl⟩)) :
    RES (F := F) d L 0 tb f P ⊢ wp frame (wpE (defs₀ (F := F)) 𝒱₀ (thr d L) none) Set.univ
      (k0_part1 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 c0_i32_53 c1_i32_54 k0_t2) Φ := by
  rw [k0_part1_eq_skeleton]
  unfold k0_part1_skel
  simp only [Prog.lift, Prog.bind_op, Prog.bind_ret, Prog.pure_eq_ret, SparseCore.vectorLoadIdx]
  refine s_C (F := F) d L tb f 0 _ _ (k0_off6 k0_t2) _ (by rw [off6_eq]; rfl) _ _ ?_
  have h_v121 : IsIx (F := F) f (k0_off6 k0_t2) 0 (k0_pay2 (LD (F := F) f (k0_off6 k0_t2) (k0_off6_inb k0_t2))) := isIx_low (k0_off6_inb k0_t2) ((fun _ => rfl : ∀ ld, k0_pay2 (F := F) ld = lowOf ld) _)
  refine s_A (F := F) d L _ _ _ (by exact chk_of (F := F) h_v121) _ _ ?_
  have h_v123 : IsIx (F := F) f (k0_off6 k0_t2) 1 (k0_pay3 (LD (F := F) f (k0_off6 k0_t2) (k0_off6_inb k0_t2))) := isIx_high (k0_off6_inb k0_t2) ((fun _ => rfl : ∀ ld, k0_pay3 (F := F) ld = highOf ld) _)
  refine s_A (F := F) d L _ _ _ (by exact chk_of (F := F) h_v123) _ _ ?_
  refine s_G (F := F) d L tb f 0 _ _ _ _ ?_
  refine s_S (F := F) d L tb f 0 _ _ (k0_off6 k0_t2) (k0_off7 k0_t2) 0 (by decide) _ (by rw [off6_eq]; rfl) (by rw [off6_eq, off7_eq]; rfl) _ ⟨_, _, h_v121, rfl⟩ _ _ _ _ ?_
  refine s_G (F := F) d L tb f 0 _ _ _ _ ?_
  refine s_S (F := F) d L tb f 0 _ _ (k0_off6 k0_t2) (k0_off8 k0_t2) 1 (by decide) _ (by rw [off6_eq]; rfl) (by rw [off6_eq, off8_eq]; rfl) _ ⟨_, _, h_v123, rfl⟩ _ _ _ _ ?_
  refine s_C (F := F) d L tb f 0 _ _ (k0_off9 k0_t2) _ (by rw [off9_eq]; rfl) _ _ ?_
  have h_v142 : IsIx (F := F) f (k0_off9 k0_t2) 0 (k0_pay5 (LD (F := F) f (k0_off9 k0_t2) (k0_off9_inb k0_t2))) := isIx_low (k0_off9_inb k0_t2) ((fun _ => rfl : ∀ ld, k0_pay5 (F := F) ld = lowOf ld) _)
  refine s_A (F := F) d L _ _ _ (by exact chk_of (F := F) h_v142) _ _ ?_
  rw [wp_ret]
  iintro H
  imodintro
  iapply (hΦ _ _ (k0_pay4 (LD (F := F) f (k0_off9 k0_t2) (k0_off9_inb k0_t2))) _ _ _ ⟨(k0_off9_inb k0_t2), rfl⟩ h_v142 rfl) $$ H

set_option cleanup.letToHave false in set_option maxHeartbeats 400000 in
theorem part2_spec (d : Dev nD) (L : grid0.Coords) (tb : S65536.Idx → BitVec 32) (f : S2x4x8x128.Idx → BitVec 32) (k0_t2 : Fin k0_t2_loop.trips) (v114 : BitVec 32) (v115 : BitVec 32) (v140 : Vec F S16 .i32) (v142 : IVec S16 32) (k0_hw3 : k0_chk3 v142) (c16_i32_87 : BitVec 32) (h_v140 : IsLd f (k0_off9 k0_t2) v140) (h_v142 : IsIx (F := F) f (k0_off9 k0_t2) 0 v142) (e16 : c16_i32_87 = 16#32)
    (P : S2x4x16x128.Idx → Prop) (Φ : (Σ' (v172 : Vec F S16 .i32), BitVec 32) → sProp 𝕄)
    (hΦ : ∀ (v172 : Vec F S16 .i32) (rl : BitVec 32), IsW tb f (k0_off12 k0_t2) 1 v172 → (RES (F := F) d L 0 tb f (fun x => (fun x => (fun x => P x ∨ inR (k0_off10 k0_t2) x) x ∨ inR (k0_off11 k0_t2) x) x ∨ inR (k0_off13 k0_t2) x) ⊢ Φ ⟨v172, rl⟩)) :
    RES (F := F) d L 0 tb f P ⊢ wp frame (wpE (defs₀ (F := F)) 𝒱₀ (thr d L) none) Set.univ
      (k0_part2 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v140 v142 k0_hw3 c16_i32_87) Φ := by
  subst e16
  rw [k0_part2_eq_skeleton]
  unfold k0_part2_skel
  simp only [Prog.lift, Prog.bind_op, Prog.bind_ret, Prog.pure_eq_ret, SparseCore.vectorLoadIdx]
  have h_v144 : IsIx (F := F) f (k0_off9 k0_t2) 1 (k0_pay6 v140 16#32) := isIx_high' h_v140 ((fun _ => rfl : ∀ v : Vec F S16 .i32, k0_pay6 (F := F) v 16#32 = shrui v (broadcast S16 16#32)) _)
  refine s_A (F := F) d L _ _ _ (by exact chk_of (F := F) h_v144) _ _ ?_
  refine s_G (F := F) d L tb f 0 _ _ _ _ ?_
  refine s_S (F := F) d L tb f 0 _ _ (k0_off9 k0_t2) (k0_off10 k0_t2) 0 (by decide) _ (by rw [off9_eq]; rfl) (by rw [off9_eq, off10_eq]; rfl) _ ⟨_, _, h_v142, rfl⟩ _ _ _ _ ?_
  refine s_G (F := F) d L tb f 0 _ _ _ _ ?_
  refine s_S (F := F) d L tb f 0 _ _ (k0_off9 k0_t2) (k0_off11 k0_t2) 1 (by decide) _ (by rw [off9_eq]; rfl) (by rw [off9_eq, off11_eq]; rfl) _ ⟨_, _, h_v144, rfl⟩ _ _ _ _ ?_
  refine s_C (F := F) d L tb f 0 _ _ (k0_off12 k0_t2) _ (by rw [off12_eq]; rfl) _ _ ?_
  have h_v163 : IsIx (F := F) f (k0_off12 k0_t2) 0 (k0_pay8 (LD (F := F) f (k0_off12 k0_t2) (k0_off12_inb k0_t2))) := isIx_low (k0_off12_inb k0_t2) ((fun _ => rfl : ∀ ld, k0_pay8 (F := F) ld = lowOf ld) _)
  refine s_A (F := F) d L _ _ _ (by exact chk_of (F := F) h_v163) _ _ ?_
  have h_v165 : IsIx (F := F) f (k0_off12 k0_t2) 1 (k0_pay9 (LD (F := F) f (k0_off12 k0_t2) (k0_off12_inb k0_t2))) := isIx_high (k0_off12_inb k0_t2) ((fun _ => rfl : ∀ ld, k0_pay9 (F := F) ld = highOf ld) _)
  refine s_A (F := F) d L _ _ _ (by exact chk_of (F := F) h_v165) _ _ ?_
  refine s_G (F := F) d L tb f 0 _ _ _ _ ?_
  refine s_S (F := F) d L tb f 0 _ _ (k0_off12 k0_t2) (k0_off13 k0_t2) 0 (by decide) _ (by rw [off12_eq]; rfl) (by rw [off12_eq, off13_eq]; rfl) _ ⟨_, _, h_v163, rfl⟩ _ _ _ _ ?_
  refine s_G (F := F) d L tb f 0 _ _ _ _ ?_
  rw [wp_ret]
  iintro H
  imodintro
  iapply (hΦ _ _ ⟨_, _, h_v165, rfl⟩) $$ H

set_option cleanup.letToHave false in set_option maxHeartbeats 400000 in
theorem part3_spec (d : Dev nD) (L : grid0.Coords) (tb : S65536.Idx → BitVec 32) (f : S2x4x8x128.Idx → BitVec 32) (k0_t2 : Fin k0_t2_loop.trips) (v114 : BitVec 32) (v115 : BitVec 32) (v172 : Vec F S16 .i32) (v174 : BitVec 32) (h_v172 : IsW tb f (k0_off12 k0_t2) 1 v172)
    (P : S2x4x16x128.Idx → Prop) (Φ : (Σ' (v205 : IVec S16 32) (k0_hw9 : k0_chk9 v205) (v207 : IVec S16 32), k0_chk10 v207) → sProp 𝕄)
    (hΦ : ∀ (v205 : IVec S16 32) (k0_hw9 : k0_chk9 v205) (v207 : IVec S16 32) (rl : k0_chk10 v207), IsIx (F := F) f (k0_off18 k0_t2) 0 v205 → IsIx (F := F) f (k0_off18 k0_t2) 1 v207 → (RES (F := F) d L 0 tb f (fun x => (fun x => (fun x => P x ∨ inR (k0_off14 k0_t2) x) x ∨ inR (k0_off16 k0_t2) x) x ∨ inR (k0_off17 k0_t2) x) ⊢ Φ ⟨v205, k0_hw9, v207, rl⟩)) :
    RES (F := F) d L 0 tb f P ⊢ wp frame (wpE (defs₀ (F := F)) 𝒱₀ (thr d L) none) Set.univ
      (k0_part3 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v172 v174) Φ := by
  rw [k0_part3_eq_skeleton]
  unfold k0_part3_skel
  simp only [Prog.lift, Prog.bind_op, Prog.bind_ret, Prog.pure_eq_ret, SparseCore.vectorLoadIdx]
  refine s_S (F := F) d L tb f 0 _ _ (k0_off12 k0_t2) (k0_off14 k0_t2) 1 (by decide) _ (by rw [off12_eq]; rfl) (by rw [off12_eq, off14_eq]; rfl) _ h_v172 _ _ _ _ ?_
  refine s_C (F := F) d L tb f 0 _ _ (k0_off15 k0_t2) _ (by rw [off15_eq]; rfl) _ _ ?_
  have h_v184 : IsIx (F := F) f (k0_off15 k0_t2) 0 (k0_pay11 (LD (F := F) f (k0_off15 k0_t2) (k0_off15_inb k0_t2))) := isIx_low (k0_off15_inb k0_t2) ((fun _ => rfl : ∀ ld, k0_pay11 (F := F) ld = lowOf ld) _)
  refine s_A (F := F) d L _ _ _ (by exact chk_of (F := F) h_v184) _ _ ?_
  have h_v186 : IsIx (F := F) f (k0_off15 k0_t2) 1 (k0_pay12 (LD (F := F) f (k0_off15 k0_t2) (k0_off15_inb k0_t2))) := isIx_high (k0_off15_inb k0_t2) ((fun _ => rfl : ∀ ld, k0_pay12 (F := F) ld = highOf ld) _)
  refine s_A (F := F) d L _ _ _ (by exact chk_of (F := F) h_v186) _ _ ?_
  refine s_G (F := F) d L tb f 0 _ _ _ _ ?_
  refine s_S (F := F) d L tb f 0 _ _ (k0_off15 k0_t2) (k0_off16 k0_t2) 0 (by decide) _ (by rw [off15_eq]; rfl) (by rw [off15_eq, off16_eq]; rfl) _ ⟨_, _, h_v184, rfl⟩ _ _ _ _ ?_
  refine s_G (F := F) d L tb f 0 _ _ _ _ ?_
  refine s_S (F := F) d L tb f 0 _ _ (k0_off15 k0_t2) (k0_off17 k0_t2) 1 (by decide) _ (by rw [off15_eq]; rfl) (by rw [off15_eq, off17_eq]; rfl) _ ⟨_, _, h_v186, rfl⟩ _ _ _ _ ?_
  refine s_C (F := F) d L tb f 0 _ _ (k0_off18 k0_t2) _ (by rw [off18_eq]; rfl) _ _ ?_
  have h_v205 : IsIx (F := F) f (k0_off18 k0_t2) 0 (k0_pay14 (LD (F := F) f (k0_off18 k0_t2) (k0_off18_inb k0_t2))) := isIx_low (k0_off18_inb k0_t2) ((fun _ => rfl : ∀ ld, k0_pay14 (F := F) ld = lowOf ld) _)
  refine s_A (F := F) d L _ _ _ (by exact chk_of (F := F) h_v205) _ _ ?_
  have h_v207 : IsIx (F := F) f (k0_off18 k0_t2) 1 (k0_pay15 (LD (F := F) f (k0_off18 k0_t2) (k0_off18_inb k0_t2))) := isIx_high (k0_off18_inb k0_t2) ((fun _ => rfl : ∀ ld, k0_pay15 (F := F) ld = highOf ld) _)
  refine s_A (F := F) d L _ _ _ (by exact chk_of (F := F) h_v207) _ _ ?_
  rw [wp_ret]
  iintro H
  imodintro
  iapply (hΦ _ _ _ _ h_v205 h_v207) $$ H

set_option cleanup.letToHave false in set_option maxHeartbeats 400000 in
theorem part4_spec (d : Dev nD) (L : grid0.Coords) (tb : S65536.Idx → BitVec 32) (f : S2x4x8x128.Idx → BitVec 32) (k0_t2 : Fin k0_t2_loop.trips) (v114 : BitVec 32) (v115 : BitVec 32) (v205 : IVec S16 32) (k0_hw9 : k0_chk9 v205) (v207 : IVec S16 32) (k0_hw10 : k0_chk10 v207) (h_v205 : IsIx (F := F) f (k0_off18 k0_t2) 0 v205) (h_v207 : IsIx (F := F) f (k0_off18 k0_t2) 1 v207)
    (P : S2x4x16x128.Idx → Prop) (Φ : (Vec F S16 .i32) → sProp 𝕄)
    (hΦ : ∀ (v235 : (Vec F S16 .i32)), IsW tb f (k0_off21 k0_t2) 1 v235 → (RES (F := F) d L 0 tb f (fun x => (fun x => (fun x => P x ∨ inR (k0_off19 k0_t2) x) x ∨ inR (k0_off20 k0_t2) x) x ∨ inR (k0_off22 k0_t2) x) ⊢ Φ v235)) :
    RES (F := F) d L 0 tb f P ⊢ wp frame (wpE (defs₀ (F := F)) 𝒱₀ (thr d L) none) Set.univ
      (k0_part4 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v205 k0_hw9 v207 k0_hw10) Φ := by
  rw [k0_part4_eq_skeleton]
  unfold k0_part4_skel
  simp only [Prog.lift, Prog.bind_op, Prog.bind_ret, Prog.pure_eq_ret, SparseCore.vectorLoadIdx]
  refine s_G (F := F) d L tb f 0 _ _ _ _ ?_
  refine s_S (F := F) d L tb f 0 _ _ (k0_off18 k0_t2) (k0_off19 k0_t2) 0 (by decide) _ (by rw [off18_eq]; rfl) (by rw [off18_eq, off19_eq]; rfl) _ ⟨_, _, h_v205, rfl⟩ _ _ _ _ ?_
  refine s_G (F := F) d L tb f 0 _ _ _ _ ?_
  refine s_S (F := F) d L tb f 0 _ _ (k0_off18 k0_t2) (k0_off20 k0_t2) 1 (by decide) _ (by rw [off18_eq]; rfl) (by rw [off18_eq, off20_eq]; rfl) _ ⟨_, _, h_v207, rfl⟩ _ _ _ _ ?_
  refine s_C (F := F) d L tb f 0 _ _ (k0_off21 k0_t2) _ (by rw [off21_eq]; rfl) _ _ ?_
  have h_v226 : IsIx (F := F) f (k0_off21 k0_t2) 0 (k0_pay17 (LD (F := F) f (k0_off21 k0_t2) (k0_off21_inb k0_t2))) := isIx_low (k0_off21_inb k0_t2) ((fun _ => rfl : ∀ ld, k0_pay17 (F := F) ld = lowOf ld) _)
  refine s_A (F := F) d L _ _ _ (by exact chk_of (F := F) h_v226) _ _ ?_
  have h_v228 : IsIx (F := F) f (k0_off21 k0_t2) 1 (k0_pay18 (LD (F := F) f (k0_off21 k0_t2) (k0_off21_inb k0_t2))) := isIx_high (k0_off21_inb k0_t2) ((fun _ => rfl : ∀ ld, k0_pay18 (F := F) ld = highOf ld) _)
  refine s_A (F := F) d L _ _ _ (by exact chk_of (F := F) h_v228) _ _ ?_
  refine s_G (F := F) d L tb f 0 _ _ _ _ ?_
  refine s_S (F := F) d L tb f 0 _ _ (k0_off21 k0_t2) (k0_off22 k0_t2) 0 (by decide) _ (by rw [off21_eq]; rfl) (by rw [off21_eq, off22_eq]; rfl) _ ⟨_, _, h_v226, rfl⟩ _ _ _ _ ?_
  refine s_G (F := F) d L tb f 0 _ _ _ _ ?_
  rw [wp_ret]
  iintro H
  imodintro
  iapply (hΦ _ ⟨_, _, h_v228, rfl⟩) $$ H

set_option cleanup.letToHave false in set_option maxHeartbeats 400000 in
theorem part5_spec (d : Dev nD) (L : grid0.Coords) (tb : S65536.Idx → BitVec 32) (f : S2x4x8x128.Idx → BitVec 32) (k0_t2 : Fin k0_t2_loop.trips) (v114 : BitVec 32) (v115 : BitVec 32) (v235 : Vec F S16 .i32) (h_v235 : IsW tb f (k0_off21 k0_t2) 1 v235)
    (P : S2x4x16x128.Idx → Prop) (Φ : (Σ' (v270 : IVec S16 32) (k0_hw16 : k0_chk16 v270) (v271 : Vec F S16 .i32), BitVec 32) → sProp 𝕄)
    (hΦ : ∀ (v270 : IVec S16 32) (k0_hw16 : k0_chk16 v270) (v271 : Vec F S16 .i32) (rl : BitVec 32), IsIx (F := F) f (k0_off27 k0_t2) 1 v270 → IsW tb f (k0_off27 k0_t2) 0 v271 → (RES (F := F) d L 0 tb f (fun x => (fun x => (fun x => P x ∨ inR (k0_off23 k0_t2) x) x ∨ inR (k0_off25 k0_t2) x) x ∨ inR (k0_off26 k0_t2) x) ⊢ Φ ⟨v270, k0_hw16, v271, rl⟩)) :
    RES (F := F) d L 0 tb f P ⊢ wp frame (wpE (defs₀ (F := F)) 𝒱₀ (thr d L) none) Set.univ
      (k0_part5 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v235) Φ := by
  rw [k0_part5_eq_skeleton]
  unfold k0_part5_skel
  simp only [Prog.lift, Prog.bind_op, Prog.bind_ret, Prog.pure_eq_ret, SparseCore.vectorLoadIdx]
  refine s_S (F := F) d L tb f 0 _ _ (k0_off21 k0_t2) (k0_off23 k0_t2) 1 (by decide) _ (by rw [off21_eq]; rfl) (by rw [off21_eq, off23_eq]; rfl) _ h_v235 _ _ _ _ ?_
  refine s_C (F := F) d L tb f 0 _ _ (k0_off24 k0_t2) _ (by rw [off24_eq]; rfl) _ _ ?_
  have h_v247 : IsIx (F := F) f (k0_off24 k0_t2) 0 (k0_pay20 (LD (F := F) f (k0_off24 k0_t2) (k0_off24_inb k0_t2))) := isIx_low (k0_off24_inb k0_t2) ((fun _ => rfl : ∀ ld, k0_pay20 (F := F) ld = lowOf ld) _)
  refine s_A (F := F) d L _ _ _ (by exact chk_of (F := F) h_v247) _ _ ?_
  have h_v249 : IsIx (F := F) f (k0_off24 k0_t2) 1 (k0_pay21 (LD (F := F) f (k0_off24 k0_t2) (k0_off24_inb k0_t2))) := isIx_high (k0_off24_inb k0_t2) ((fun _ => rfl : ∀ ld, k0_pay21 (F := F) ld = highOf ld) _)
  refine s_A (F := F) d L _ _ _ (by exact chk_of (F := F) h_v249) _ _ ?_
  refine s_G (F := F) d L tb f 0 _ _ _ _ ?_
  refine s_S (F := F) d L tb f 0 _ _ (k0_off24 k0_t2) (k0_off25 k0_t2) 0 (by decide) _ (by rw [off24_eq]; rfl) (by rw [off24_eq, off25_eq]; rfl) _ ⟨_, _, h_v247, rfl⟩ _ _ _ _ ?_
  refine s_G (F := F) d L tb f 0 _ _ _ _ ?_
  refine s_S (F := F) d L tb f 0 _ _ (k0_off24 k0_t2) (k0_off26 k0_t2) 1 (by decide) _ (by rw [off24_eq]; rfl) (by rw [off24_eq, off26_eq]; rfl) _ ⟨_, _, h_v249, rfl⟩ _ _ _ _ ?_
  refine s_C (F := F) d L tb f 0 _ _ (k0_off27 k0_t2) _ (by rw [off27_eq]; rfl) _ _ ?_
  have h_v268 : IsIx (F := F) f (k0_off27 k0_t2) 0 (k0_pay23 (LD (F := F) f (k0_off27 k0_t2) (k0_off27_inb k0_t2))) := isIx_low (k0_off27_inb k0_t2) ((fun _ => rfl : ∀ ld, k0_pay23 (F := F) ld = lowOf ld) _)
  refine s_A (F := F) d L _ _ _ (by exact chk_of (F := F) h_v268) _ _ ?_
  have h_v270 : IsIx (F := F) f (k0_off27 k0_t2) 1 (k0_pay24 (LD (F := F) f (k0_off27 k0_t2) (k0_off27_inb k0_t2))) := isIx_high (k0_off27_inb k0_t2) ((fun _ => rfl : ∀ ld, k0_pay24 (F := F) ld = highOf ld) _)
  refine s_A (F := F) d L _ _ _ (by exact chk_of (F := F) h_v270) _ _ ?_
  refine s_G (F := F) d L tb f 0 _ _ _ _ ?_
  rw [wp_ret]
  iintro H
  imodintro
  iapply (hΦ _ _ _ _ h_v270 ⟨_, _, h_v268, rfl⟩) $$ H

set_option cleanup.letToHave false in set_option maxHeartbeats 400000 in
theorem trip2 (d : Dev nD) (L : grid0.Coords) (a1 a2 a3 a4 a5 a6 : BitVec 32) (k0_t1 : Fin (k0_t1_loop L).trips)
    (tb : S65536.Idx → BitVec 32) (f : S2x4x8x128.Idx → BitVec 32) (k0_t2 : Fin k0_t2_loop.trips) (u : Unit) :
    iprop(cPts d L 0 f ∗ tPts d L tb ∗ oGood d L 0 tb f (upTo 0 k0_t2.val)) ⊢ wp frame (wpE (defs₀ (F := F)) 𝒱₀ (thr d L) none) Set.univ
      (k0_t2_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 a3 a4 a5 a6 k0_t1 k0_t2 u)
      fun _ => iprop(cPts d L 0 f ∗ tPts d L tb ∗ oGood d L 0 tb f (upTo 0 (k0_t2.val + 1))) := by
  unfold k0_t2_body
  rw [wp_bind]
  refine part1_spec d L tb f _ _ _ _ _ ?_
  intro v114 v115 v140 v142 k0_hw3 rl h_v140 h_v142 e16
  rw [wp_bind]
  refine part2_spec d L tb f _ _ _ _ _ _ _ h_v140 h_v142 e16 _ _ ?_
  intro v172 rl h_v172
  rw [wp_bind]
  refine part3_spec d L tb f _ _ _ _ _ h_v172 _ _ ?_
  intro v205 k0_hw9 v207 rl h_v205 h_v207
  rw [wp_bind]
  refine part4_spec d L tb f _ _ _ _ _ _ _ h_v205 h_v207 _ _ ?_
  intro v235 h_v235
  rw [wp_bind]
  refine part5_spec d L tb f _ _ _ _ h_v235 _ _ ?_
  intro v270 k0_hw16 v271 rl h_v270 h_v271
  dsimp only
  simp only [Prog.lift, Prog.bind_op, Prog.bind_ret, Prog.pure_eq_ret, SparseCore.vectorLoadIdx]
  refine s_S (F := F) d L tb f 0 _ _ (k0_off27 k0_t2) (k0_off28 k0_t2) 0 (by decide) _ (by rw [off27_eq]; rfl) (by rw [off27_eq, off28_eq]; rfl) _ h_v271 _ _ _ _ ?_
  refine s_G (F := F) d L tb f 0 _ _ _ _ ?_
  refine s_S (F := F) d L tb f 0 _ _ (k0_off27 k0_t2) (k0_off29 k0_t2) 1 (by decide) _ (by rw [off27_eq]; rfl) (by rw [off27_eq, off29_eq]; rfl) _ ⟨_, _, h_v270, rfl⟩ _ _ _ _ ?_
  rw [wp_ret]
  iintro ⟨HC, HT, HO⟩
  imodintro
  isplitl [HC]; · iexact HC
  isplitl [HT]; · iexact HT
  iapply (oGood_mono d L _ tb f ?_) $$ HO
  intro x hx
  rcases cover 0 k0_t2.val x hx (fun q h => match q, h with | 0, 0 => k0_off7 k0_t2 | 0, 1 => k0_off8 k0_t2 | 1, 0 => k0_off10 k0_t2 | 1, 1 => k0_off11 k0_t2 | 2, 0 => k0_off13 k0_t2 | 2, 1 => k0_off14 k0_t2 | 3, 0 => k0_off16 k0_t2 | 3, 1 => k0_off17 k0_t2 | 4, 0 => k0_off19 k0_t2 | 4, 1 => k0_off20 k0_t2 | 5, 0 => k0_off22 k0_t2 | 5, 1 => k0_off23 k0_t2 | 6, 0 => k0_off25 k0_t2 | 6, 1 => k0_off26 k0_t2 | 7, 0 => k0_off28 k0_t2 | 7, 1 => k0_off29 k0_t2)
    (by intro q h; fin_cases q <;> fin_cases h <;> first | exact off7_eq k0_t2 | exact off8_eq k0_t2 | exact off10_eq k0_t2 | exact off11_eq k0_t2 | exact off13_eq k0_t2 | exact off14_eq k0_t2 | exact off16_eq k0_t2 | exact off17_eq k0_t2 | exact off19_eq k0_t2 | exact off20_eq k0_t2 | exact off22_eq k0_t2 | exact off23_eq k0_t2 | exact off25_eq k0_t2 | exact off26_eq k0_t2 | exact off28_eq k0_t2 | exact off29_eq k0_t2) with hp | ⟨q, h, hr⟩
  · exact .inl (.inl (.inl (.inl (.inl (.inl (.inl (.inl (.inl (.inl (.inl (.inl (.inl (.inl (.inl (.inl hp)))))))))))))))
  · match q, h, hr with
    | 0, 0, hr => exact .inl (.inl (.inl (.inl (.inl (.inl (.inl (.inl (.inl (.inl (.inl (.inl (.inl (.inl (.inl (.inr hr)))))))))))))))
    | 0, 1, hr => exact .inl (.inl (.inl (.inl (.inl (.inl (.inl (.inl (.inl (.inl (.inl (.inl (.inl (.inl (.inr hr))))))))))))))
    | 1, 0, hr => exact .inl (.inl (.inl (.inl (.inl (.inl (.inl (.inl (.inl (.inl (.inl (.inl (.inl (.inr hr)))))))))))))
    | 1, 1, hr => exact .inl (.inl (.inl (.inl (.inl (.inl (.inl (.inl (.inl (.inl (.inl (.inl (.inr hr))))))))))))
    | 2, 0, hr => exact .inl (.inl (.inl (.inl (.inl (.inl (.inl (.inl (.inl (.inl (.inl (.inr hr)))))))))))
    | 2, 1, hr => exact .inl (.inl (.inl (.inl (.inl (.inl (.inl (.inl (.inl (.inl (.inr hr))))))))))
    | 3, 0, hr => exact .inl (.inl (.inl (.inl (.inl (.inl (.inl (.inl (.inl (.inr hr)))))))))
    | 3, 1, hr => exact .inl (.inl (.inl (.inl (.inl (.inl (.inl (.inl (.inr hr))))))))
    | 4, 0, hr => exact .inl (.inl (.inl (.inl (.inl (.inl (.inl (.inr hr)))))))
    | 4, 1, hr => exact .inl (.inl (.inl (.inl (.inl (.inl (.inr hr))))))
    | 5, 0, hr => exact .inl (.inl (.inl (.inl (.inl (.inr hr)))))
    | 5, 1, hr => exact .inl (.inl (.inl (.inl (.inr hr))))
    | 6, 0, hr => exact .inl (.inl (.inl (.inr hr)))
    | 6, 1, hr => exact .inl (.inl (.inr hr))
    | 7, 0, hr => exact .inl (.inr hr)
    | 7, 1, hr => exact .inr hr

end Cert.Proof.G
-- ==== Proof.G.TripB.lean ====
/- THE INNER LOOP AT THE ODD UNITS, over the second slots. -/
module

public import proofs.«01_k».proof.Proof.G.TripA

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem off34_eq : ∀ t : Fin k0_t3_loop.trips, k0_off34 t = ![1, t.val / 8, t.val % 8, 0] := by decide +kernel
theorem off35_eq : ∀ t : Fin k0_t3_loop.trips, k0_off35 t = ![1, t.val / 8, 2 * (t.val % 8) + 0, 0] := by decide +kernel
theorem off36_eq : ∀ t : Fin k0_t3_loop.trips, k0_off36 t = ![1, t.val / 8, 2 * (t.val % 8) + 1, 0] := by decide +kernel
theorem off37_eq : ∀ t : Fin k0_t3_loop.trips, k0_off37 t = ![1, t.val / 8, t.val % 8, 16] := by decide +kernel
theorem off38_eq : ∀ t : Fin k0_t3_loop.trips, k0_off38 t = ![1, t.val / 8, 2 * (t.val % 8) + 0, 16] := by decide +kernel
theorem off39_eq : ∀ t : Fin k0_t3_loop.trips, k0_off39 t = ![1, t.val / 8, 2 * (t.val % 8) + 1, 16] := by decide +kernel
theorem off40_eq : ∀ t : Fin k0_t3_loop.trips, k0_off40 t = ![1, t.val / 8, t.val % 8, 32] := by decide +kernel
theorem off41_eq : ∀ t : Fin k0_t3_loop.trips, k0_off41 t = ![1, t.val / 8, 2 * (t.val % 8) + 0, 32] := by decide +kernel
theorem off42_eq : ∀ t : Fin k0_t3_loop.trips, k0_off42 t = ![1, t.val / 8, 2 * (t.val % 8) + 1, 32] := by decide +kernel
theorem off43_eq : ∀ t : Fin k0_t3_loop.trips, k0_off43 t = ![1, t.val / 8, t.val % 8, 48] := by decide +kernel
theorem off44_eq : ∀ t : Fin k0_t3_loop.trips, k0_off44 t = ![1, t.val / 8, 2 * (t.val % 8) + 0, 48] := by decide +kernel
theorem off45_eq : ∀ t : Fin k0_t3_loop.trips, k0_off45 t = ![1, t.val / 8, 2 * (t.val % 8) + 1, 48] := by decide +kernel
theorem off46_eq : ∀ t : Fin k0_t3_loop.trips, k0_off46 t = ![1, t.val / 8, t.val % 8, 64] := by decide +kernel
theorem off47_eq : ∀ t : Fin k0_t3_loop.trips, k0_off47 t = ![1, t.val / 8, 2 * (t.val % 8) + 0, 64] := by decide +kernel
theorem off48_eq : ∀ t : Fin k0_t3_loop.trips, k0_off48 t = ![1, t.val / 8, 2 * (t.val % 8) + 1, 64] := by decide +kernel
theorem off49_eq : ∀ t : Fin k0_t3_loop.trips, k0_off49 t = ![1, t.val / 8, t.val % 8, 80] := by decide +kernel
theorem off50_eq : ∀ t : Fin k0_t3_loop.trips, k0_off50 t = ![1, t.val / 8, 2 * (t.val % 8) + 0, 80] := by decide +kernel
theorem off51_eq : ∀ t : Fin k0_t3_loop.trips, k0_off51 t = ![1, t.val / 8, 2 * (t.val % 8) + 1, 80] := by decide +kernel
theorem off52_eq : ∀ t : Fin k0_t3_loop.trips, k0_off52 t = ![1, t.val / 8, t.val % 8, 96] := by decide +kernel
theorem off53_eq : ∀ t : Fin k0_t3_loop.trips, k0_off53 t = ![1, t.val / 8, 2 * (t.val % 8) + 0, 96] := by decide +kernel
theorem off54_eq : ∀ t : Fin k0_t3_loop.trips, k0_off54 t = ![1, t.val / 8, 2 * (t.val % 8) + 1, 96] := by decide +kernel
theorem off55_eq : ∀ t : Fin k0_t3_loop.trips, k0_off55 t = ![1, t.val / 8, t.val % 8, 112] := by decide +kernel
theorem off56_eq : ∀ t : Fin k0_t3_loop.trips, k0_off56 t = ![1, t.val / 8, 2 * (t.val % 8) + 0, 112] := by decide +kernel
theorem off57_eq : ∀ t : Fin k0_t3_loop.trips, k0_off57 t = ![1, t.val / 8, 2 * (t.val % 8) + 1, 112] := by decide +kernel

set_option cleanup.letToHave false in set_option cleanup.letToHave false in set_option maxHeartbeats 400000 in
theorem part6_spec (d : Dev nD) (L : grid0.Coords) (tb : S65536.Idx → BitVec 32) (f : S2x4x8x128.Idx → BitVec 32) (k0_t1 : Fin (k0_t1_loop L).trips) (k0_h4 : k0_cond4 L k0_t1 = 1#1) (c0_i32_97 : BitVec 32) (c1_i32_99 : BitVec 32) (k0_t3 : Fin k0_t3_loop.trips)
    (P : S2x4x16x128.Idx → Prop) (Φ : (Σ' (v156 : BitVec 32) (v157 : BitVec 32) (v182 : Vec F S16 .i32) (v184 : IVec S16 32) (k0_hw19 : k0_chk19 L k0_t1 v184), BitVec 32) → sProp 𝕄)
    (hΦ : ∀ (v156 : BitVec 32) (v157 : BitVec 32) (v182 : Vec F S16 .i32) (v184 : IVec S16 32) (k0_hw19 : k0_chk19 L k0_t1 v184) (rl : BitVec 32), IsLd f (k0_off37 k0_t3) v182 → IsIx (F := F) f (k0_off37 k0_t3) 0 v184 → rl = 16#32 → (RES (F := F) d L 1 tb f (fun x => (fun x => P x ∨ inR (k0_off35 k0_t3) x) x ∨ inR (k0_off36 k0_t3) x) ⊢ Φ ⟨v156, v157, v182, v184, k0_hw19, rl⟩)) :
    RES (F := F) d L 1 tb f P ⊢ wp frame (wpE (defs₀ (F := F)) 𝒱₀ (thr d L) none) Set.univ
      (k0_part6 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 c0_i32_97 c1_i32_99 k0_t3) Φ := by
  rw [k0_part6_eq_skeleton]
  unfold k0_part6_skel
  simp only [Prog.lift, Prog.bind_op, Prog.bind_ret, Prog.pure_eq_ret, SparseCore.vectorLoadIdx]
  refine s_C (F := F) d L tb f 1 _ _ (k0_off34 k0_t3) _ (by rw [off34_eq]; rfl) _ _ ?_
  have h_v163 : IsIx (F := F) f (k0_off34 k0_t3) 0 (k0_pay26 (LD (F := F) f (k0_off34 k0_t3) (k0_off34_inb L k0_t1 k0_t3 k0_h4))) := isIx_low (k0_off34_inb L k0_t1 k0_t3 k0_h4) ((fun _ => rfl : ∀ ld, k0_pay26 (F := F) ld = lowOf ld) _)
  refine s_A (F := F) d L _ _ _ (by exact fun _ => chk_of (F := F) h_v163) _ _ ?_
  have h_v165 : IsIx (F := F) f (k0_off34 k0_t3) 1 (k0_pay27 (LD (F := F) f (k0_off34 k0_t3) (k0_off34_inb L k0_t1 k0_t3 k0_h4))) := isIx_high (k0_off34_inb L k0_t1 k0_t3 k0_h4) ((fun _ => rfl : ∀ ld, k0_pay27 (F := F) ld = highOf ld) _)
  refine s_A (F := F) d L _ _ _ (by exact fun _ => chk_of (F := F) h_v165) _ _ ?_
  refine s_G (F := F) d L tb f 1 _ _ _ _ ?_
  refine s_S (F := F) d L tb f 1 _ _ (k0_off34 k0_t3) (k0_off35 k0_t3) 0 (by decide) _ (by rw [off34_eq]; rfl) (by rw [off34_eq, off35_eq]; rfl) _ ⟨_, _, h_v163, rfl⟩ _ _ _ _ ?_
  refine s_G (F := F) d L tb f 1 _ _ _ _ ?_
  refine s_S (F := F) d L tb f 1 _ _ (k0_off34 k0_t3) (k0_off36 k0_t3) 1 (by decide) _ (by rw [off34_eq]; rfl) (by rw [off34_eq, off36_eq]; rfl) _ ⟨_, _, h_v165, rfl⟩ _ _ _ _ ?_
  refine s_C (F := F) d L tb f 1 _ _ (k0_off37 k0_t3) _ (by rw [off37_eq]; rfl) _ _ ?_
  have h_v184 : IsIx (F := F) f (k0_off37 k0_t3) 0 (k0_pay29 (LD (F := F) f (k0_off37 k0_t3) (k0_off37_inb L k0_t1 k0_t3 k0_h4))) := isIx_low (k0_off37_inb L k0_t1 k0_t3 k0_h4) ((fun _ => rfl : ∀ ld, k0_pay29 (F := F) ld = lowOf ld) _)
  refine s_A (F := F) d L _ _ _ (by exact fun _ => chk_of (F := F) h_v184) _ _ ?_
  rw [wp_ret]
  iintro H
  imodintro
  iapply (hΦ _ _ (k0_pay28 (LD (F := F) f (k0_off37 k0_t3) (k0_off37_inb L k0_t1 k0_t3 k0_h4))) _ _ _ ⟨(k0_off37_inb L k0_t1 k0_t3 k0_h4), rfl⟩ h_v184 rfl) $$ H

set_option cleanup.letToHave false in set_option maxHeartbeats 400000 in
theorem part7_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v182 : Vec F S16 .i32) (v184 : IVec S16 32) (k0_hw19 : k0_chk19 L k0_t1 v184) (c16_i32_129 : BitVec 32) (h_v182 : IsLd f (k0_off37 k0_t3) v182) (h_v184 : IsIx (F := F) f (k0_off37 k0_t3) 0 v184) (e16 : c16_i32_129 = 16#32)
    (P : S2x4x16x128.Idx → Prop) (Φ : (Σ' (v214 : Vec F S16 .i32), BitVec 32) → sProp 𝕄)
    (hΦ : ∀ (v214 : Vec F S16 .i32) (rl : BitVec 32), IsW tb f (k0_off40 k0_t3) 1 v214 → (RES (F := F) d L 1 tb f (fun x => (fun x => (fun x => P x ∨ inR (k0_off38 k0_t3) x) x ∨ inR (k0_off39 k0_t3) x) x ∨ inR (k0_off41 k0_t3) x) ⊢ Φ ⟨v214, rl⟩)) :
    RES (F := F) d L 1 tb f P ⊢ wp frame (wpE (defs₀ (F := F)) 𝒱₀ (thr d L) none) Set.univ
      (k0_part7 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v182 v184 k0_hw19 c16_i32_129) Φ := by
  subst e16
  rw [k0_part7_eq_skeleton]
  unfold k0_part7_skel
  simp only [Prog.lift, Prog.bind_op, Prog.bind_ret, Prog.pure_eq_ret, SparseCore.vectorLoadIdx]
  have h_v186 : IsIx (F := F) f (k0_off37 k0_t3) 1 (k0_pay30 v182 16#32) := isIx_high' h_v182 ((fun _ => rfl : ∀ v : Vec F S16 .i32, k0_pay30 (F := F) v 16#32 = shrui v (broadcast S16 16#32)) _)
  refine s_A (F := F) d L _ _ _ (by exact fun _ => chk_of (F := F) h_v186) _ _ ?_
  refine s_G (F := F) d L tb f 1 _ _ _ _ ?_
  refine s_S (F := F) d L tb f 1 _ _ (k0_off37 k0_t3) (k0_off38 k0_t3) 0 (by decide) _ (by rw [off37_eq]; rfl) (by rw [off37_eq, off38_eq]; rfl) _ ⟨_, _, h_v184, rfl⟩ _ _ _ _ ?_
  refine s_G (F := F) d L tb f 1 _ _ _ _ ?_
  refine s_S (F := F) d L tb f 1 _ _ (k0_off37 k0_t3) (k0_off39 k0_t3) 1 (by decide) _ (by rw [off37_eq]; rfl) (by rw [off37_eq, off39_eq]; rfl) _ ⟨_, _, h_v186, rfl⟩ _ _ _ _ ?_
  refine s_C (F := F) d L tb f 1 _ _ (k0_off40 k0_t3) _ (by rw [off40_eq]; rfl) _ _ ?_
  have h_v205 : IsIx (F := F) f (k0_off40 k0_t3) 0 (k0_pay32 (LD (F := F) f (k0_off40 k0_t3) (k0_off40_inb L k0_t1 k0_t3 k0_h4))) := isIx_low (k0_off40_inb L k0_t1 k0_t3 k0_h4) ((fun _ => rfl : ∀ ld, k0_pay32 (F := F) ld = lowOf ld) _)
  refine s_A (F := F) d L _ _ _ (by exact fun _ => chk_of (F := F) h_v205) _ _ ?_
  have h_v207 : IsIx (F := F) f (k0_off40 k0_t3) 1 (k0_pay33 (LD (F := F) f (k0_off40 k0_t3) (k0_off40_inb L k0_t1 k0_t3 k0_h4))) := isIx_high (k0_off40_inb L k0_t1 k0_t3 k0_h4) ((fun _ => rfl : ∀ ld, k0_pay33 (F := F) ld = highOf ld) _)
  refine s_A (F := F) d L _ _ _ (by exact fun _ => chk_of (F := F) h_v207) _ _ ?_
  refine s_G (F := F) d L tb f 1 _ _ _ _ ?_
  refine s_S (F := F) d L tb f 1 _ _ (k0_off40 k0_t3) (k0_off41 k0_t3) 0 (by decide) _ (by rw [off40_eq]; rfl) (by rw [off40_eq, off41_eq]; rfl) _ ⟨_, _, h_v205, rfl⟩ _ _ _ _ ?_
  refine s_G (F := F) d L tb f 1 _ _ _ _ ?_
  rw [wp_ret]
  iintro H
  imodintro
  iapply (hΦ _ _ ⟨_, _, h_v207, rfl⟩) $$ H

set_option cleanup.letToHave false in set_option maxHeartbeats 400000 in
theorem part8_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v214 : Vec F S16 .i32) (v216 : BitVec 32) (h_v214 : IsW tb f (k0_off40 k0_t3) 1 v214)
    (P : S2x4x16x128.Idx → Prop) (Φ : (Σ' (v247 : IVec S16 32) (k0_hw25 : k0_chk25 L k0_t1 v247) (v249 : IVec S16 32), k0_chk26 L k0_t1 v249) → sProp 𝕄)
    (hΦ : ∀ (v247 : IVec S16 32) (k0_hw25 : k0_chk25 L k0_t1 v247) (v249 : IVec S16 32) (rl : k0_chk26 L k0_t1 v249), IsIx (F := F) f (k0_off46 k0_t3) 0 v247 → IsIx (F := F) f (k0_off46 k0_t3) 1 v249 → (RES (F := F) d L 1 tb f (fun x => (fun x => (fun x => P x ∨ inR (k0_off42 k0_t3) x) x ∨ inR (k0_off44 k0_t3) x) x ∨ inR (k0_off45 k0_t3) x) ⊢ Φ ⟨v247, k0_hw25, v249, rl⟩)) :
    RES (F := F) d L 1 tb f P ⊢ wp frame (wpE (defs₀ (F := F)) 𝒱₀ (thr d L) none) Set.univ
      (k0_part8 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v214 v216) Φ := by
  rw [k0_part8_eq_skeleton]
  unfold k0_part8_skel
  simp only [Prog.lift, Prog.bind_op, Prog.bind_ret, Prog.pure_eq_ret, SparseCore.vectorLoadIdx]
  refine s_S (F := F) d L tb f 1 _ _ (k0_off40 k0_t3) (k0_off42 k0_t3) 1 (by decide) _ (by rw [off40_eq]; rfl) (by rw [off40_eq, off42_eq]; rfl) _ h_v214 _ _ _ _ ?_
  refine s_C (F := F) d L tb f 1 _ _ (k0_off43 k0_t3) _ (by rw [off43_eq]; rfl) _ _ ?_
  have h_v226 : IsIx (F := F) f (k0_off43 k0_t3) 0 (k0_pay35 (LD (F := F) f (k0_off43 k0_t3) (k0_off43_inb L k0_t1 k0_t3 k0_h4))) := isIx_low (k0_off43_inb L k0_t1 k0_t3 k0_h4) ((fun _ => rfl : ∀ ld, k0_pay35 (F := F) ld = lowOf ld) _)
  refine s_A (F := F) d L _ _ _ (by exact fun _ => chk_of (F := F) h_v226) _ _ ?_
  have h_v228 : IsIx (F := F) f (k0_off43 k0_t3) 1 (k0_pay36 (LD (F := F) f (k0_off43 k0_t3) (k0_off43_inb L k0_t1 k0_t3 k0_h4))) := isIx_high (k0_off43_inb L k0_t1 k0_t3 k0_h4) ((fun _ => rfl : ∀ ld, k0_pay36 (F := F) ld = highOf ld) _)
  refine s_A (F := F) d L _ _ _ (by exact fun _ => chk_of (F := F) h_v228) _ _ ?_
  refine s_G (F := F) d L tb f 1 _ _ _ _ ?_
  refine s_S (F := F) d L tb f 1 _ _ (k0_off43 k0_t3) (k0_off44 k0_t3) 0 (by decide) _ (by rw [off43_eq]; rfl) (by rw [off43_eq, off44_eq]; rfl) _ ⟨_, _, h_v226, rfl⟩ _ _ _ _ ?_
  refine s_G (F := F) d L tb f 1 _ _ _ _ ?_
  refine s_S (F := F) d L tb f 1 _ _ (k0_off43 k0_t3) (k0_off45 k0_t3) 1 (by decide) _ (by rw [off43_eq]; rfl) (by rw [off43_eq, off45_eq]; rfl) _ ⟨_, _, h_v228, rfl⟩ _ _ _ _ ?_
  refine s_C (F := F) d L tb f 1 _ _ (k0_off46 k0_t3) _ (by rw [off46_eq]; rfl) _ _ ?_
  have h_v247 : IsIx (F := F) f (k0_off46 k0_t3) 0 (k0_pay38 (LD (F := F) f (k0_off46 k0_t3) (k0_off46_inb L k0_t1 k0_t3 k0_h4))) := isIx_low (k0_off46_inb L k0_t1 k0_t3 k0_h4) ((fun _ => rfl : ∀ ld, k0_pay38 (F := F) ld = lowOf ld) _)
  refine s_A (F := F) d L _ _ _ (by exact fun _ => chk_of (F := F) h_v247) _ _ ?_
  have h_v249 : IsIx (F := F) f (k0_off46 k0_t3) 1 (k0_pay39 (LD (F := F) f (k0_off46 k0_t3) (k0_off46_inb L k0_t1 k0_t3 k0_h4))) := isIx_high (k0_off46_inb L k0_t1 k0_t3 k0_h4) ((fun _ => rfl : ∀ ld, k0_pay39 (F := F) ld = highOf ld) _)
  refine s_A (F := F) d L _ _ _ (by exact fun _ => chk_of (F := F) h_v249) _ _ ?_
  rw [wp_ret]
  iintro H
  imodintro
  iapply (hΦ _ _ _ _ h_v247 h_v249) $$ H

set_option cleanup.letToHave false in set_option maxHeartbeats 400000 in
theorem part9_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v247 : IVec S16 32) (k0_hw25 : k0_chk25 L k0_t1 v247) (v249 : IVec S16 32) (k0_hw26 : k0_chk26 L k0_t1 v249) (h_v247 : IsIx (F := F) f (k0_off46 k0_t3) 0 v247) (h_v249 : IsIx (F := F) f (k0_off46 k0_t3) 1 v249)
    (P : S2x4x16x128.Idx → Prop) (Φ : (Vec F S16 .i32) → sProp 𝕄)
    (hΦ : ∀ (v277 : (Vec F S16 .i32)), IsW tb f (k0_off49 k0_t3) 1 v277 → (RES (F := F) d L 1 tb f (fun x => (fun x => (fun x => P x ∨ inR (k0_off47 k0_t3) x) x ∨ inR (k0_off48 k0_t3) x) x ∨ inR (k0_off50 k0_t3) x) ⊢ Φ v277)) :
    RES (F := F) d L 1 tb f P ⊢ wp frame (wpE (defs₀ (F := F)) 𝒱₀ (thr d L) none) Set.univ
      (k0_part9 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v247 k0_hw25 v249 k0_hw26) Φ := by
  rw [k0_part9_eq_skeleton]
  unfold k0_part9_skel
  simp only [Prog.lift, Prog.bind_op, Prog.bind_ret, Prog.pure_eq_ret, SparseCore.vectorLoadIdx]
  refine s_G (F := F) d L tb f 1 _ _ _ _ ?_
  refine s_S (F := F) d L tb f 1 _ _ (k0_off46 k0_t3) (k0_off47 k0_t3) 0 (by decide) _ (by rw [off46_eq]; rfl) (by rw [off46_eq, off47_eq]; rfl) _ ⟨_, _, h_v247, rfl⟩ _ _ _ _ ?_
  refine s_G (F := F) d L tb f 1 _ _ _ _ ?_
  refine s_S (F := F) d L tb f 1 _ _ (k0_off46 k0_t3) (k0_off48 k0_t3) 1 (by decide) _ (by rw [off46_eq]; rfl) (by rw [off46_eq, off48_eq]; rfl) _ ⟨_, _, h_v249, rfl⟩ _ _ _ _ ?_
  refine s_C (F := F) d L tb f 1 _ _ (k0_off49 k0_t3) _ (by rw [off49_eq]; rfl) _ _ ?_
  have h_v268 : IsIx (F := F) f (k0_off49 k0_t3) 0 (k0_pay41 (LD (F := F) f (k0_off49 k0_t3) (k0_off49_inb L k0_t1 k0_t3 k0_h4))) := isIx_low (k0_off49_inb L k0_t1 k0_t3 k0_h4) ((fun _ => rfl : ∀ ld, k0_pay41 (F := F) ld = lowOf ld) _)
  refine s_A (F := F) d L _ _ _ (by exact fun _ => chk_of (F := F) h_v268) _ _ ?_
  have h_v270 : IsIx (F := F) f (k0_off49 k0_t3) 1 (k0_pay42 (LD (F := F) f (k0_off49 k0_t3) (k0_off49_inb L k0_t1 k0_t3 k0_h4))) := isIx_high (k0_off49_inb L k0_t1 k0_t3 k0_h4) ((fun _ => rfl : ∀ ld, k0_pay42 (F := F) ld = highOf ld) _)
  refine s_A (F := F) d L _ _ _ (by exact fun _ => chk_of (F := F) h_v270) _ _ ?_
  refine s_G (F := F) d L tb f 1 _ _ _ _ ?_
  refine s_S (F := F) d L tb f 1 _ _ (k0_off49 k0_t3) (k0_off50 k0_t3) 0 (by decide) _ (by rw [off49_eq]; rfl) (by rw [off49_eq, off50_eq]; rfl) _ ⟨_, _, h_v268, rfl⟩ _ _ _ _ ?_
  refine s_G (F := F) d L tb f 1 _ _ _ _ ?_
  rw [wp_ret]
  iintro H
  imodintro
  iapply (hΦ _ ⟨_, _, h_v270, rfl⟩) $$ H

set_option cleanup.letToHave false in set_option maxHeartbeats 400000 in
theorem part10_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v277 : Vec F S16 .i32) (h_v277 : IsW tb f (k0_off49 k0_t3) 1 v277)
    (P : S2x4x16x128.Idx → Prop) (Φ : (Σ' (v312 : IVec S16 32) (k0_hw32 : k0_chk32 L k0_t1 v312) (v313 : Vec F S16 .i32), BitVec 32) → sProp 𝕄)
    (hΦ : ∀ (v312 : IVec S16 32) (k0_hw32 : k0_chk32 L k0_t1 v312) (v313 : Vec F S16 .i32) (rl : BitVec 32), IsIx (F := F) f (k0_off55 k0_t3) 1 v312 → IsW tb f (k0_off55 k0_t3) 0 v313 → (RES (F := F) d L 1 tb f (fun x => (fun x => (fun x => P x ∨ inR (k0_off51 k0_t3) x) x ∨ inR (k0_off53 k0_t3) x) x ∨ inR (k0_off54 k0_t3) x) ⊢ Φ ⟨v312, k0_hw32, v313, rl⟩)) :
    RES (F := F) d L 1 tb f P ⊢ wp frame (wpE (defs₀ (F := F)) 𝒱₀ (thr d L) none) Set.univ
      (k0_part10 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v277) Φ := by
  rw [k0_part10_eq_skeleton]
  unfold k0_part10_skel
  simp only [Prog.lift, Prog.bind_op, Prog.bind_ret, Prog.pure_eq_ret, SparseCore.vectorLoadIdx]
  refine s_S (F := F) d L tb f 1 _ _ (k0_off49 k0_t3) (k0_off51 k0_t3) 1 (by decide) _ (by rw [off49_eq]; rfl) (by rw [off49_eq, off51_eq]; rfl) _ h_v277 _ _ _ _ ?_
  refine s_C (F := F) d L tb f 1 _ _ (k0_off52 k0_t3) _ (by rw [off52_eq]; rfl) _ _ ?_
  have h_v289 : IsIx (F := F) f (k0_off52 k0_t3) 0 (k0_pay44 (LD (F := F) f (k0_off52 k0_t3) (k0_off52_inb L k0_t1 k0_t3 k0_h4))) := isIx_low (k0_off52_inb L k0_t1 k0_t3 k0_h4) ((fun _ => rfl : ∀ ld, k0_pay44 (F := F) ld = lowOf ld) _)
  refine s_A (F := F) d L _ _ _ (by exact fun _ => chk_of (F := F) h_v289) _ _ ?_
  have h_v291 : IsIx (F := F) f (k0_off52 k0_t3) 1 (k0_pay45 (LD (F := F) f (k0_off52 k0_t3) (k0_off52_inb L k0_t1 k0_t3 k0_h4))) := isIx_high (k0_off52_inb L k0_t1 k0_t3 k0_h4) ((fun _ => rfl : ∀ ld, k0_pay45 (F := F) ld = highOf ld) _)
  refine s_A (F := F) d L _ _ _ (by exact fun _ => chk_of (F := F) h_v291) _ _ ?_
  refine s_G (F := F) d L tb f 1 _ _ _ _ ?_
  refine s_S (F := F) d L tb f 1 _ _ (k0_off52 k0_t3) (k0_off53 k0_t3) 0 (by decide) _ (by rw [off52_eq]; rfl) (by rw [off52_eq, off53_eq]; rfl) _ ⟨_, _, h_v289, rfl⟩ _ _ _ _ ?_
  refine s_G (F := F) d L tb f 1 _ _ _ _ ?_
  refine s_S (F := F) d L tb f 1 _ _ (k0_off52 k0_t3) (k0_off54 k0_t3) 1 (by decide) _ (by rw [off52_eq]; rfl) (by rw [off52_eq, off54_eq]; rfl) _ ⟨_, _, h_v291, rfl⟩ _ _ _ _ ?_
  refine s_C (F := F) d L tb f 1 _ _ (k0_off55 k0_t3) _ (by rw [off55_eq]; rfl) _ _ ?_
  have h_v310 : IsIx (F := F) f (k0_off55 k0_t3) 0 (k0_pay47 (LD (F := F) f (k0_off55 k0_t3) (k0_off55_inb L k0_t1 k0_t3 k0_h4))) := isIx_low (k0_off55_inb L k0_t1 k0_t3 k0_h4) ((fun _ => rfl : ∀ ld, k0_pay47 (F := F) ld = lowOf ld) _)
  refine s_A (F := F) d L _ _ _ (by exact fun _ => chk_of (F := F) h_v310) _ _ ?_
  have h_v312 : IsIx (F := F) f (k0_off55 k0_t3) 1 (k0_pay48 (LD (F := F) f (k0_off55 k0_t3) (k0_off55_inb L k0_t1 k0_t3 k0_h4))) := isIx_high (k0_off55_inb L k0_t1 k0_t3 k0_h4) ((fun _ => rfl : ∀ ld, k0_pay48 (F := F) ld = highOf ld) _)
  refine s_A (F := F) d L _ _ _ (by exact fun _ => chk_of (F := F) h_v312) _ _ ?_
  refine s_G (F := F) d L tb f 1 _ _ _ _ ?_
  rw [wp_ret]
  iintro H
  imodintro
  iapply (hΦ _ _ _ _ h_v312 ⟨_, _, h_v310, rfl⟩) $$ H

set_option cleanup.letToHave false in set_option maxHeartbeats 400000 in
theorem trip3 (d : Dev nD) (L : grid0.Coords) (a1 a2 : BitVec 32) (k0_t1 : Fin (k0_t1_loop L).trips) (a3 : BitVec 32) (k0_h4 : k0_cond4 L k0_t1 = 1#1)
    (tb : S65536.Idx → BitVec 32) (f : S2x4x8x128.Idx → BitVec 32) (k0_t3 : Fin k0_t3_loop.trips) (u : Unit) :
    iprop(cPts d L 1 f ∗ tPts d L tb ∗ oGood d L 1 tb f (upTo 1 k0_t3.val)) ⊢ wp frame (wpE (defs₀ (F := F)) 𝒱₀ (thr d L) none) Set.univ
      (k0_t3_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 k0_t1 a3 k0_h4 k0_t3 u)
      fun _ => iprop(cPts d L 1 f ∗ tPts d L tb ∗ oGood d L 1 tb f (upTo 1 (k0_t3.val + 1))) := by
  unfold k0_t3_body
  rw [wp_bind]
  refine part6_spec d L tb f _ _ _ _ _ _ _ ?_
  intro v156 v157 v182 v184 k0_hw19 rl h_v182 h_v184 e16
  rw [wp_bind]
  refine part7_spec d L tb f _ _ _ _ _ _ _ _ _ h_v182 h_v184 e16 _ _ ?_
  intro v214 rl h_v214
  rw [wp_bind]
  refine part8_spec d L tb f _ _ _ _ _ _ _ h_v214 _ _ ?_
  intro v247 k0_hw25 v249 rl h_v247 h_v249
  rw [wp_bind]
  refine part9_spec d L tb f _ _ _ _ _ _ _ _ _ h_v247 h_v249 _ _ ?_
  intro v277 h_v277
  rw [wp_bind]
  refine part10_spec d L tb f _ _ _ _ _ _ h_v277 _ _ ?_
  intro v312 k0_hw32 v313 rl h_v312 h_v313
  dsimp only
  simp only [Prog.lift, Prog.bind_op, Prog.bind_ret, Prog.pure_eq_ret, SparseCore.vectorLoadIdx]
  refine s_S (F := F) d L tb f 1 _ _ (k0_off55 k0_t3) (k0_off56 k0_t3) 0 (by decide) _ (by rw [off55_eq]; rfl) (by rw [off55_eq, off56_eq]; rfl) _ h_v313 _ _ _ _ ?_
  refine s_G (F := F) d L tb f 1 _ _ _ _ ?_
  refine s_S (F := F) d L tb f 1 _ _ (k0_off55 k0_t3) (k0_off57 k0_t3) 1 (by decide) _ (by rw [off55_eq]; rfl) (by rw [off55_eq, off57_eq]; rfl) _ ⟨_, _, h_v312, rfl⟩ _ _ _ _ ?_
  rw [wp_ret]
  iintro ⟨HC, HT, HO⟩
  imodintro
  isplitl [HC]; · iexact HC
  isplitl [HT]; · iexact HT
  iapply (oGood_mono d L _ tb f ?_) $$ HO
  intro x hx
  rcases cover 1 k0_t3.val x hx (fun q h => match q, h with | 0, 0 => k0_off35 k0_t3 | 0, 1 => k0_off36 k0_t3 | 1, 0 => k0_off38 k0_t3 | 1, 1 => k0_off39 k0_t3 | 2, 0 => k0_off41 k0_t3 | 2, 1 => k0_off42 k0_t3 | 3, 0 => k0_off44 k0_t3 | 3, 1 => k0_off45 k0_t3 | 4, 0 => k0_off47 k0_t3 | 4, 1 => k0_off48 k0_t3 | 5, 0 => k0_off50 k0_t3 | 5, 1 => k0_off51 k0_t3 | 6, 0 => k0_off53 k0_t3 | 6, 1 => k0_off54 k0_t3 | 7, 0 => k0_off56 k0_t3 | 7, 1 => k0_off57 k0_t3)
    (by intro q h; fin_cases q <;> fin_cases h <;> first | exact off35_eq k0_t3 | exact off36_eq k0_t3 | exact off38_eq k0_t3 | exact off39_eq k0_t3 | exact off41_eq k0_t3 | exact off42_eq k0_t3 | exact off44_eq k0_t3 | exact off45_eq k0_t3 | exact off47_eq k0_t3 | exact off48_eq k0_t3 | exact off50_eq k0_t3 | exact off51_eq k0_t3 | exact off53_eq k0_t3 | exact off54_eq k0_t3 | exact off56_eq k0_t3 | exact off57_eq k0_t3) with hp | ⟨q, h, hr⟩
  · exact .inl (.inl (.inl (.inl (.inl (.inl (.inl (.inl (.inl (.inl (.inl (.inl (.inl (.inl (.inl (.inl hp)))))))))))))))
  · match q, h, hr with
    | 0, 0, hr => exact .inl (.inl (.inl (.inl (.inl (.inl (.inl (.inl (.inl (.inl (.inl (.inl (.inl (.inl (.inl (.inr hr)))))))))))))))
    | 0, 1, hr => exact .inl (.inl (.inl (.inl (.inl (.inl (.inl (.inl (.inl (.inl (.inl (.inl (.inl (.inl (.inr hr))))))))))))))
    | 1, 0, hr => exact .inl (.inl (.inl (.inl (.inl (.inl (.inl (.inl (.inl (.inl (.inl (.inl (.inl (.inr hr)))))))))))))
    | 1, 1, hr => exact .inl (.inl (.inl (.inl (.inl (.inl (.inl (.inl (.inl (.inl (.inl (.inl (.inr hr))))))))))))
    | 2, 0, hr => exact .inl (.inl (.inl (.inl (.inl (.inl (.inl (.inl (.inl (.inl (.inl (.inr hr)))))))))))
    | 2, 1, hr => exact .inl (.inl (.inl (.inl (.inl (.inl (.inl (.inl (.inl (.inl (.inr hr))))))))))
    | 3, 0, hr => exact .inl (.inl (.inl (.inl (.inl (.inl (.inl (.inl (.inl (.inr hr)))))))))
    | 3, 1, hr => exact .inl (.inl (.inl (.inl (.inl (.inl (.inl (.inl (.inr hr))))))))
    | 4, 0, hr => exact .inl (.inl (.inl (.inl (.inl (.inl (.inl (.inr hr)))))))
    | 4, 1, hr => exact .inl (.inl (.inl (.inl (.inl (.inl (.inr hr))))))
    | 5, 0, hr => exact .inl (.inl (.inl (.inl (.inl (.inr hr)))))
    | 5, 1, hr => exact .inl (.inl (.inl (.inl (.inr hr))))
    | 6, 0, hr => exact .inl (.inl (.inl (.inr hr)))
    | 6, 1, hr => exact .inl (.inl (.inr hr))
    | 7, 0, hr => exact .inl (.inr hr)
    | 7, 1, hr => exact .inr hr

end Cert.Proof.G
-- ==== Proof.G.Geo.lean ====
/- WHERE THE TRANSFERS READ AND WRITE: a unit of work is a row of the codes and four tiles; its codes window, its output block, and the values a transfer between a slot and a window leaves. -/
module

public import proofs.«01_k».proof.Proof.G.Steps

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The codes of unit `u`: row `u % 28` and the four tiles from `4 * (u / 28)`. -/
def win (u : ℕ) : Finset S28x148x8x128.Idx := Finset.univ.filter fun x => (x 0).val = u % 28 ∧ (x 1).val / 4 = u / 28
/-- The output block of unit `u` on core `c`. -/
def blk (c u : ℕ) : Finset S12x448x2x128.Idx := Finset.univ.filter fun x => (x 2).val = c ∧ (x 1).val / 16 = u % 28 ∧ (x 0).val / 4 = u / 28

/-- Where slot index `x` of unit `u` lies in the codes. -/
def cdx (u : ℕ) (x : S2x4x8x128.Idx) : S28x148x8x128.Idx := fun
  | 0 => ⟨u % 28, by show _ < 28; omega⟩
  | 1 => ⟨(4 * (u / 28) + (x 1).val) % 148, by show _ < 148; omega⟩
  | 2 => x 2
  | 3 => x 3
/-- Slot `σ` holds the codes of unit `u`. -/
def CodeOK (co : S28x148x8x128.Idx → BitVec 32) (σ u : ℕ) (f : S2x4x8x128.Idx → BitVec 32) : Prop := ∀ x, (x 0).val = σ → f x = co (cdx u x)

/-- The code word behind an output index. -/
def odx (y : S12x448x2x128.Idx) : S28x148x8x128.Idx := fun
  | 0 => ⟨(y 1).val / 16, by have h := (y 1).isLt; change _ < 448 at h; show _ < 28; omega⟩
  | 1 => ⟨(y 0).val, by have h := (y 0).isLt; change _ < 12 at h; show _ < 148; omega⟩
  | 2 => ⟨(y 1).val % 16 / 2, by show _ < 8; omega⟩
  | 3 => y 3
/-- The index of row `c`, column `x`. -/
def rix (c : Fin 2) (x : S65536.Idx) : S2x65536.Idx := fun | 0 => c | 1 => x 0
/-- The table of core `c`: row `c` of the words. -/
def row (W : S2x65536.Idx → BitVec 32) (c : Fin 2) : S65536.Idx → BitVec 32 := fun x => W (rix c x)
/-- The output: at tile, row `k`, word `c`, lane, the table of `c` at half `k % 2` of the code word of row `k / 2`. -/
def OUTf (co : S28x148x8x128.Idx → BitVec 32) (W : S2x65536.Idx → BitVec 32) (y : S12x448x2x128.Idx) : BitVec 32 :=
  row W (y 2) (tix (hw ((y 1).val % 2) (co (odx y))) (hw_lt _ _))

abbrev cWin (off : Fin 4 → ℕ) (h : ∀ a, off a + S1x4x8x128.size a ≤ S28x148x8x128.size a) : Memref sig .scVector .hbm S4x8x128 .i32 :=
  (cV.slice (Rect.unit (s := S28x148x8x128) off S1x4x8x128.size h) (fun _ => rfl)).squeeze S4x8x128 squeezes_S1x4x8x128_S4x8x128
abbrev cSlot (off : Fin 4 → ℕ) (h : ∀ a, off a + S1x4x8x128.size a ≤ S2x4x8x128.size a) : Memref sig .scVector .vmem S4x8x128 .i32 :=
  (cB.slice (Rect.unit (s := S2x4x8x128) off S1x4x8x128.size h) (fun _ => rfl)).squeeze S4x8x128 squeezes_S1x4x8x128_S4x8x128
abbrev oWin (off : Fin 4 → ℕ) (h : ∀ a, off a + S4x16x1x128.size a ≤ S12x448x2x128.size a) : Memref sig .scVector .hbm S4x16x128 .i32 :=
  (oV.slice (Rect.unit (s := S12x448x2x128) off S4x16x1x128.size h) (fun _ => rfl)).squeeze S4x16x128 squeezes_S4x16x1x128_S4x16x128
abbrev oSlot (off : Fin 4 → ℕ) (h : ∀ a, off a + S1x4x16x128.size a ≤ S2x4x16x128.size a) : Memref sig .scVector .vmem S4x16x128 .i32 :=
  (oB.slice (Rect.unit (s := S2x4x16x128) off S1x4x16x128.size h) (fun _ => rfl)).squeeze S4x16x128 squeezes_S1x4x16x128_S4x16x128
abbrev tRow (off : Fin 2 → ℕ) (h : ∀ a, off a + S1x65536.size a ≤ S2x65536.size a) : Memref sig .scVector .hbm S65536 .i32 :=
  (wV.slice (Rect.unit (s := S2x65536) off S1x65536.size h) (fun _ => rfl)).squeeze S65536 squeezes_S1x65536_S65536

theorem set_cWin (u : ℕ) (off h) (e : off = ![u % 28, 4 * (u / 28), 0, 0]) : (cWin off h).view.set = win u := by
  subst e
  show ((cV.view.slice _).reshape S4x8x128 _).set = _
  rw [View.set_reshape]
  ext x
  have h0 := (x 0).isLt; have h1 := (x 1).isLt; have h2 := (x 2).isLt; have h3 := (x 3).isLt
  change _ < 28 at h0; change _ < 148 at h1; change _ < 8 at h2; change _ < 128 at h3
  constructor
  · intro hx
    obtain ⟨j, -, e⟩ := Finset.mem_map.mp hx
    have hm : x ∈ (Rect.unit (s := S28x148x8x128) ![u % 28, 4 * (u / 28), 0, 0] S1x4x8x128.size h).set := by
      rw [← Rect.map_emb_univ]; exact Finset.mem_map.mpr ⟨j, Finset.mem_univ _, e⟩
    have m0 := Rect.mem_set_unit.mp hm 0
    have m1 := Rect.mem_set_unit.mp hm 1
    change u % 28 ≤ (x 0).val ∧ (x 0).val < u % 28 + 1 at m0
    change 4 * (u / 28) ≤ (x 1).val ∧ (x 1).val < 4 * (u / 28) + 4 at m1
    exact Finset.mem_filter.mpr ⟨Finset.mem_univ _, by omega, by omega⟩
  · intro hx
    obtain ⟨-, e0, e1⟩ := Finset.mem_filter.mp hx
    have hm : x ∈ (Rect.unit (s := S28x148x8x128) ![u % 28, 4 * (u / 28), 0, 0] S1x4x8x128.size h).set := by
      refine Rect.mem_set_unit.mpr fun a => ?_
      match a with
      | 0 => show u % 28 ≤ (x 0).val ∧ (x 0).val < u % 28 + 1; omega
      | 1 => show 4 * (u / 28) ≤ (x 1).val ∧ (x 1).val < 4 * (u / 28) + 4; omega
      | 2 => show 0 ≤ (x 2).val ∧ (x 2).val < 0 + 8; omega
      | 3 => show 0 ≤ (x 3).val ∧ (x 3).val < 0 + 128; omega
    rw [← Rect.map_emb_univ] at hm
    obtain ⟨j, -, e⟩ := Finset.mem_map.mp hm
    exact Finset.mem_map.mpr ⟨j, Finset.mem_univ _, e⟩

theorem set_oWin (c u : ℕ) (off h) (e : off = ![4 * (u / 28), 16 * (u % 28), c, 0]) : (oWin off h).view.set = blk c u := by
  subst e
  show ((oV.view.slice _).reshape S4x16x128 _).set = _
  rw [View.set_reshape]
  ext x
  have h0 := (x 0).isLt; have h1 := (x 1).isLt; have h2 := (x 2).isLt; have h3 := (x 3).isLt
  change _ < 12 at h0; change _ < 448 at h1; change _ < 2 at h2; change _ < 128 at h3
  constructor
  · intro hx
    obtain ⟨j, -, e⟩ := Finset.mem_map.mp hx
    have hm : x ∈ (Rect.unit (s := S12x448x2x128) ![4 * (u / 28), 16 * (u % 28), c, 0] S4x16x1x128.size h).set := by
      rw [← Rect.map_emb_univ]; exact Finset.mem_map.mpr ⟨j, Finset.mem_univ _, e⟩
    have m0 := Rect.mem_set_unit.mp hm 0
    have m1 := Rect.mem_set_unit.mp hm 1
    have m2 := Rect.mem_set_unit.mp hm 2
    change 4 * (u / 28) ≤ (x 0).val ∧ (x 0).val < 4 * (u / 28) + 4 at m0
    change 16 * (u % 28) ≤ (x 1).val ∧ (x 1).val < 16 * (u % 28) + 16 at m1
    change c ≤ (x 2).val ∧ (x 2).val < c + 1 at m2
    exact Finset.mem_filter.mpr ⟨Finset.mem_univ _, by omega, by omega, by omega⟩
  · intro hx
    obtain ⟨-, e2, e1, e0⟩ := Finset.mem_filter.mp hx
    have hm : x ∈ (Rect.unit (s := S12x448x2x128) ![4 * (u / 28), 16 * (u % 28), c, 0] S4x16x1x128.size h).set := by
      refine Rect.mem_set_unit.mpr fun a => ?_
      match a with
      | 0 => show 4 * (u / 28) ≤ (x 0).val ∧ (x 0).val < 4 * (u / 28) + 4; omega
      | 1 => show 16 * (u % 28) ≤ (x 1).val ∧ (x 1).val < 16 * (u % 28) + 16; omega
      | 2 => show c ≤ (x 2).val ∧ (x 2).val < c + 1; omega
      | 3 => show 0 ≤ (x 3).val ∧ (x 3).val < 0 + 128; omega
    rw [← Rect.map_emb_univ] at hm
    obtain ⟨j, -, e⟩ := Finset.mem_map.mp hm
    exact Finset.mem_map.mpr ⟨j, Finset.mem_univ _, e⟩

theorem set_cSlot (σ : ℕ) (off h) (e : off = ![σ, 0, 0, 0]) : (cSlot off h).view.set ⊆ slotC σ := by
  subst e
  show ((cB.view.slice _).reshape S4x8x128 _).set ⊆ _
  rw [View.set_reshape]
  intro x hx
  obtain ⟨j, -, e⟩ := Finset.mem_map.mp hx
  have hm : x ∈ (Rect.unit (s := S2x4x8x128) ![σ, 0, 0, 0] S1x4x8x128.size h).set := by
    rw [← Rect.map_emb_univ]; exact Finset.mem_map.mpr ⟨j, Finset.mem_univ _, e⟩
  have m0 := Rect.mem_set_unit.mp hm 0
  change σ ≤ (x 0).val ∧ (x 0).val < σ + 1 at m0
  exact Finset.mem_filter.mpr ⟨Finset.mem_univ _, by omega⟩

theorem set_oSlot (σ : ℕ) (off h) (e : off = ![σ, 0, 0, 0]) : (oSlot off h).view.set = slotO σ := by
  subst e
  show ((oB.view.slice _).reshape S4x16x128 _).set = _
  rw [View.set_reshape]
  ext x
  have h0 := (x 0).isLt; have h1 := (x 1).isLt; have h2 := (x 2).isLt; have h3 := (x 3).isLt
  change _ < 2 at h0; change _ < 4 at h1; change _ < 16 at h2; change _ < 128 at h3
  constructor
  · intro hx
    obtain ⟨j, -, e⟩ := Finset.mem_map.mp hx
    have hm : x ∈ (Rect.unit (s := S2x4x16x128) ![σ, 0, 0, 0] S1x4x16x128.size h).set := by
      rw [← Rect.map_emb_univ]; exact Finset.mem_map.mpr ⟨j, Finset.mem_univ _, e⟩
    have m0 := Rect.mem_set_unit.mp hm 0
    change σ ≤ (x 0).val ∧ (x 0).val < σ + 1 at m0
    exact Finset.mem_filter.mpr ⟨Finset.mem_univ _, by omega⟩
  · intro hx
    obtain ⟨-, e0⟩ := Finset.mem_filter.mp hx
    have hm : x ∈ (Rect.unit (s := S2x4x16x128) ![σ, 0, 0, 0] S1x4x16x128.size h).set := by
      refine Rect.mem_set_unit.mpr fun a => ?_
      match a with
      | 0 => show σ ≤ (x 0).val ∧ (x 0).val < σ + 1; omega
      | 1 => show 0 ≤ (x 1).val ∧ (x 1).val < 0 + 4; omega
      | 2 => show 0 ≤ (x 2).val ∧ (x 2).val < 0 + 16; omega
      | 3 => show 0 ≤ (x 3).val ∧ (x 3).val < 0 + 128; omega
    rw [← Rect.map_emb_univ] at hm
    obtain ⟨j, -, e⟩ := Finset.mem_map.mp hm
    exact Finset.mem_map.mpr ⟨j, Finset.mem_univ _, e⟩

/-- The multi-indices of a transferred block, with its unit axis put back in front. -/
def j3 (a : Fin 4) (b : Fin 8) (e : Fin 128) : S4x8x128.Idx := fun | 0 => a | 1 => b | 2 => e
def j4 (a : Fin 4) (b : Fin 8) (e : Fin 128) : S1x4x8x128.Idx := fun | 0 => ⟨0, Nat.one_pos⟩ | 1 => a | 2 => b | 3 => e
theorem re_j (a : Fin 4) (b : Fin 8) (e : Fin 128) (h : S4x8x128.numel = S1x4x8x128.numel) : Shape.reshapeEquiv h (j3 a b e) = j4 a b e :=
  Shape.reshapeEquiv_eq_of_rowMajor h (by
    rw [Shape.rowMajor_val_four, Shape.rowMajor_val_three]
    show ((0 * 4 + a.val) * 8 + b.val) * 128 + e.val = (a.val * 8 + b.val) * 128 + e.val
    omega)
def q3 (a : Fin 4) (b : Fin 16) (e : Fin 128) : S4x16x128.Idx := fun | 0 => a | 1 => b | 2 => e
def q4 (a : Fin 4) (b : Fin 16) (e : Fin 128) : S1x4x16x128.Idx := fun | 0 => ⟨0, Nat.one_pos⟩ | 1 => a | 2 => b | 3 => e
def q4' (a : Fin 4) (b : Fin 16) (e : Fin 128) : S4x16x1x128.Idx := fun | 0 => a | 1 => b | 2 => ⟨0, Nat.one_pos⟩ | 3 => e
theorem re_q (a : Fin 4) (b : Fin 16) (e : Fin 128) (h : S4x16x128.numel = S1x4x16x128.numel) : Shape.reshapeEquiv h (q3 a b e) = q4 a b e :=
  Shape.reshapeEquiv_eq_of_rowMajor h (by
    rw [Shape.rowMajor_val_four, Shape.rowMajor_val_three]
    show ((0 * 4 + a.val) * 16 + b.val) * 128 + e.val = (a.val * 16 + b.val) * 128 + e.val
    omega)
theorem re_q' (a : Fin 4) (b : Fin 16) (e : Fin 128) (h : S4x16x128.numel = S4x16x1x128.numel) : Shape.reshapeEquiv h (q3 a b e) = q4' a b e :=
  Shape.reshapeEquiv_eq_of_rowMajor h (by
    rw [Shape.rowMajor_val_four, Shape.rowMajor_val_three]
    show ((a.val * 16 + b.val) * 1 + 0) * 128 + e.val = (a.val * 16 + b.val) * 128 + e.val
    omega)

/-- A transfer of unit `u`'s codes leaves them in the slot. -/
theorem code_val (co : S28x148x8x128.Idx → BitVec 32) (f0 : S2x4x8x128.Idx → BitVec 32) (σ u : ℕ) (hu : u < 84) (off h off' h')
    (e : off = ![u % 28, 4 * (u / 28), 0, 0]) (e' : off' = ![σ, 0, 0, 0]) :
    CodeOK co σ u ((cSlot off' h').view.write (Elt F) f0 ((cWin off h).view.read (Elt F) co) Finset.univ) := by
  intro x hx
  have hx' : (cSlot off' h').view.emb (j3 (x 1) (x 2) (x 3)) = x := by
    show (Rect.unit (s := S2x4x8x128) off' S1x4x8x128.size h').emb (Shape.reshapeEquiv _ (j3 (x 1) (x 2) (x 3))) = x
    refine (congrArg (Rect.unit (s := S2x4x8x128) off' S1x4x8x128.size h').emb (re_j (x 1) (x 2) (x 3) _)).trans ?_
    subst e'
    funext a
    apply Fin.ext
    rw [Rect.emb_apply]
    match a with
    | 0 => show σ + 1 * 0 = (x 0).val; omega
    | 1 => show 0 + 1 * (x 1).val = (x 1).val; omega
    | 2 => show 0 + 1 * (x 2).val = (x 2).val; omega
    | 3 => show 0 + 1 * (x 3).val = (x 3).val; omega
  have hs : (cWin off h).view.emb (j3 (x 1) (x 2) (x 3)) = cdx u x := by
    show (Rect.unit (s := S28x148x8x128) off S1x4x8x128.size h).emb (Shape.reshapeEquiv _ (j3 (x 1) (x 2) (x 3))) = _
    refine (congrArg (Rect.unit (s := S28x148x8x128) off S1x4x8x128.size h).emb (re_j (x 1) (x 2) (x 3) _)).trans ?_
    subst e
    have h1 := (x 1).isLt
    change _ < 4 at h1
    funext a
    apply Fin.ext
    rw [Rect.emb_apply]
    match a with
    | 0 => show u % 28 + 1 * 0 = u % 28; omega
    | 1 => show 4 * (u / 28) + 1 * (x 1).val = (4 * (u / 28) + (x 1).val) % 148; omega
    | 2 => show 0 + 1 * (x 2).val = (x 2).val; omega
    | 3 => show 0 + 1 * (x 3).val = (x 3).val; omega
  rw [← hs]
  conv_lhs => rw [← hx']
  exact View.write_emb_of_mem (v := (cSlot off' h').view) (Val := Elt F) f0 ((cWin off h).view.read (Elt F) co) (Finset.mem_univ _)

theorem tix_congr {w w' : BitVec 32} (e : w = w') (h : w.toNat < 65536) (h' : w'.toNat < 65536) : tix w h = tix w' h' := by subst e; rfl

/-- A transfer of a finished slot leaves the output's values in unit `u`'s block. -/
theorem out_val (co : S28x148x8x128.Idx → BitVec 32) (W : S2x65536.Idx → BitVec 32) (c : Fin 2) (f : S2x4x8x128.Idx → BitVec 32) (σ u : ℕ) (hσ : σ < 2) (hu : u < 84)
    (hf : CodeOK co σ u f) (g : S2x4x16x128.Idx → BitVec 32) (hg : ∀ x, (x 0).val = σ → g x = GV (row W c) f x) (fd : S12x448x2x128.Idx → BitVec 32) (off h off' h')
    (e : off = ![4 * (u / 28), 16 * (u % 28), c.val, 0]) (e' : off' = ![σ, 0, 0, 0]) :
    ∀ y ∈ blk c.val u, (oWin off h).view.write (Elt F) fd ((oSlot off' h').view.read (Elt F) g) Finset.univ y = OUTf co W y := by
  intro y hy
  obtain ⟨-, y2, y1, y0⟩ := Finset.mem_filter.mp hy
  have b1 := (y 1).isLt; have b0 := (y 0).isLt
  change _ < 448 at b1; change _ < 12 at b0
  let a : Fin 4 := ⟨(y 0).val % 4, by omega⟩
  let b : Fin 16 := ⟨(y 1).val % 16, by omega⟩
  have hy' : (oWin off h).view.emb (q3 a b (y 3)) = y := by
    show (Rect.unit (s := S12x448x2x128) off S4x16x1x128.size h).emb (Shape.reshapeEquiv _ (q3 a b (y 3))) = y
    refine (congrArg (Rect.unit (s := S12x448x2x128) off S4x16x1x128.size h).emb (re_q' a b (y 3) _)).trans ?_
    subst e
    funext i
    apply Fin.ext
    rw [Rect.emb_apply]
    match i with
    | 0 => show 4 * (u / 28) + 1 * ((y 0).val % 4) = (y 0).val; omega
    | 1 => show 16 * (u % 28) + 1 * ((y 1).val % 16) = (y 1).val; omega
    | 2 => show c.val + 1 * 0 = (y 2).val; omega
    | 3 => show 0 + 1 * (y 3).val = (y 3).val; omega
  let x : S2x4x16x128.Idx := fun | 0 => ⟨σ, hσ⟩ | 1 => a | 2 => b | 3 => y 3
  have hs : (oSlot off' h').view.emb (q3 a b (y 3)) = x := by
    show (Rect.unit (s := S2x4x16x128) off' S1x4x16x128.size h').emb (Shape.reshapeEquiv _ (q3 a b (y 3))) = _
    refine (congrArg (Rect.unit (s := S2x4x16x128) off' S1x4x16x128.size h').emb (re_q a b (y 3) _)).trans ?_
    subst e'
    funext i
    apply Fin.ext
    rw [Rect.emb_apply]
    match i with
    | 0 => show σ + 1 * 0 = σ; omega
    | 1 => show 0 + 1 * a.val = a.val; omega
    | 2 => show 0 + 1 * b.val = b.val; omega
    | 3 => show 0 + 1 * (y 3).val = (y 3).val; omega
  have h1 : (oWin off h).view.write (Elt F) fd ((oSlot off' h').view.read (Elt F) g) Finset.univ ((oWin off h).view.emb (q3 a b (y 3))) = g ((oSlot off' h').view.emb (q3 a b (y 3))) :=
    View.write_emb_of_mem (v := (oWin off h).view) (Val := Elt F) fd ((oSlot off' h').view.read (Elt F) g) (Finset.mem_univ _)
  rw [hy', hs] at h1
  rw [h1, hg x rfl]
  have hc : y 2 = c := Fin.ext y2
  show row W c (tix (hw ((y 1).val % 16 % 2) (f _)) _) = row W (y 2) (tix (hw ((y 1).val % 2) (co (odx y))) _)
  rw [hc]
  have hw' : hw ((y 1).val % 16 % 2) (f (cix (x 0) (x 1) ⟨(x 2).val / 2, by show (y 1).val % 16 / 2 < 8; omega⟩ (x 3))) = hw ((y 1).val % 2) (co (odx y)) := by
    rw [hf _ (show σ = σ from rfl)]
    congr 1
    · omega
    · congr 1
      funext i
      apply Fin.ext
      match i with
      | 0 => show u % 28 = (y 1).val / 16; omega
      | 1 => show (4 * (u / 28) + (y 0).val % 4) % 148 = (y 0).val; omega
      | 2 => show (y 1).val % 16 / 2 = (y 1).val % 16 / 2; rfl
      | 3 => rfl
  exact congrArg (row W c) (tix_congr hw' _ _)

def t2 (x : S65536.Idx) : S1x65536.Idx := fun | 0 => ⟨0, Nat.one_pos⟩ | 1 => x 0
theorem re_t (x : S65536.Idx) (h : S65536.numel = S1x65536.numel) : Shape.reshapeEquiv h x = t2 x :=
  Shape.reshapeEquiv_eq_of_rowMajor h (by
    rw [Shape.rowMajor_val_two, Shape.rowMajor_val_one, show ((t2 x) 0).val = 0 from rfl, Nat.zero_mul, Nat.zero_add]
    rfl)

theorem read_row (W : S2x65536.Idx → BitVec 32) (c : Fin 2) (off h) (e : off = ![c.val, 0]) (x : S65536.Idx) :
    (tRow off h).view.read (Elt F) W x = row W c x := by
  have hs : (tRow off h).view.emb x = rix c x := by
    refine (congrArg (Rect.unit (s := S2x65536) off S1x65536.size h).emb (re_t x _)).trans ?_
    subst e
    funext i
    apply Fin.ext
    rw [Rect.emb_apply]
    match i with
    | 0 => exact (by omega : c.val + 1 * 0 = c.val)
    | 1 => exact (by omega : 0 + 1 * (x 0).val = (x 0).val)
  exact congrArg W hs

/-- A transfer of row `c` of the words leaves the table of `c`. -/
theorem row_val (W : S2x65536.Idx → BitVec 32) (f0 : S65536.Idx → BitVec 32) (c : Fin 2) (off h) (e : off = ![c.val, 0]) :
    tB.view.write (Elt F) f0 ((tRow off h).view.read (Elt F) W) Finset.univ = row W c := by
  have h1 : ∀ j, tB.view.write (Elt F) f0 ((tRow off h).view.read (Elt F) W) Finset.univ (tB.view.emb j) = (tRow off h).view.read (Elt F) W j := fun j =>
    View.write_emb_of_mem (v := tB.view) (Val := Elt F) f0 ((tRow off h).view.read (Elt F) W) (Finset.mem_univ _)
  funext x
  exact (h1 x).trans (read_row W c off h e x)

end Cert.Proof.G
-- ==== Proof.G.Dma.lean ====
/- THE TRANSFERS of a tile, each as a rule: a codes window into a slot, a finished slot into its block of the output, the row of the table. -/
module

public import proofs.«01_k».proof.Proof.G.TripA
public import proofs.«01_k».proof.Proof.G.TripB
public import proofs.«01_k».proof.Proof.G.Geo

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

/-- The core's number, which picks the row of the words. -/
abbrev cc (L : grid0.Coords) : Fin 2 := ⟨(L 0).val, (L 0).isLt⟩
/-- Unit `t` of a tile. -/
abbrev un (L : grid0.Coords) (t : ℕ) : ℕ := (L 1).val + 16 * t

/-- The credit of a codes window and of an output block. -/
def NC : ℕ := (cSlot ![0, 0, 0, 0] inb_S2x4x8x128_S1x4x8x128_0_0_0_0).view.dmaCredit
def NO : ℕ := (oSlot ![0, 0, 0, 0] inb_S2x4x16x128_S1x4x16x128_0_0_0_0).view.dmaCredit

theorem NC_pos : 0 < NC := View.amount_pos (cSlot ![0, 0, 0, 0] inb_S2x4x8x128_S1x4x8x128_0_0_0_0).view (.dma semC0) (show 0 < S4x8x128.numel by decide)
theorem NO_pos : 0 < NO := View.amount_pos (oSlot ![0, 0, 0, 0] inb_S2x4x16x128_S1x4x16x128_0_0_0_0).view (.dma semC0) (show 0 < S4x16x128.numel by decide)

abbrev coP (q : PosShare TreeShare) (S : Finset S28x148x8x128.Idx) : sProp 𝕄 := cV.view.loc (thr d L) ↦[S]{q} co
/-- Slot `σ` idle: its contents, its cell at zero, and its share of the codes. -/
def CI (σ : ℕ) (sm : DmaSem sig) (q : PosShare TreeShare) : sProp 𝕄 :=
  iprop((∃ f, cPts (F := F) d L σ f) ∗ semVal (gc d L sm) 0 ∗ coP (F := F) d L co q Finset.univ)
/-- Slot `σ` holding the codes of unit `u`. -/
def CR (σ : ℕ) (sm : DmaSem sig) (q : PosShare TreeShare) (u : ℕ) : sProp 𝕄 :=
  iprop((∃ f, ⌜CodeOK co σ u f⌝ ∗ cPts (F := F) d L σ f) ∗ semVal (gc d L sm) 0 ∗ coP (F := F) d L co q Finset.univ)
/-- The codes of unit `u` on their way into slot `σ`. -/
def CL (σ : ℕ) (sm : DmaSem sig) (q : PosShare TreeShare) (u : ℕ) : sProp 𝕄 :=
  iprop(Transfers.Flight EC (thr d L) (.dma sm) (none : HIx 1) NC
      iprop((∃ f, ⌜CodeOK co σ u f⌝ ∗ cPts (F := F) d L σ f) ∗ coP (F := F) d L co q (win u))
    ∗ coP (F := F) d L co q (Finset.univ \ win u))
/-- A block of the output before it is written, and after. -/
def TD (u : ℕ) : sProp 𝕄 := iprop(∃ f : S12x448x2x128.Idx → BitVec 32, oV.view.loc (thr d L) ↦[blk (L 0).val u]{fullShare} f)
def DN (u : ℕ) : sProp 𝕄 := oV.view.loc (thr d L) ↦[blk (L 0).val u]{fullShare} (OUTf co W)
/-- Output slot `σ` idle, finished for unit `u`, and on its way out. -/
def OI (σ : ℕ) (sm : DmaSem sig) : sProp 𝕄 := iprop((∃ g, oPts (F := F) d L σ g) ∗ semVal (gc d L sm) 0)
def OR (σ : ℕ) (sm : DmaSem sig) (u : ℕ) : sProp 𝕄 :=
  iprop((∃ f g, ⌜CodeOK co σ u f ∧ ∀ x, (x 0).val = σ → g x = GV (row W (cc L)) f x⌝ ∗ oPts (F := F) d L σ g) ∗ semVal (gc d L sm) 0)
def OL (σ : ℕ) (sm : DmaSem sig) (u : ℕ) : sProp 𝕄 :=
  Transfers.Flight EC (thr d L) (.dma sm) (none : HIx 1) NO iprop(DN (F := F) d L co W u ∗ ∃ g, oPts (F := F) d L σ g)
/-- The waits so far: those of before, and waits of transfers. -/
def OW : sProp 𝕄 := iprop(levAts (K (F := F)).L (K (F := F)).lev ∗ ∃ W', ⌜∀ p ∈ W', p ∈ Ws ∨ p.2 = none⌝ ∗ owes (thr d L) O W')

theorem CR_CI (σ sm q u) : CR (F := F) d L co σ sm q u ⊢ CI (F := F) d L co σ sm q := by
  unfold CR CI
  iintro ⟨⟨%f, -, Hf⟩, Hs, Hc⟩
  isplitl [Hf]
  · iexists f; iexact Hf
  isplitl [Hs] <;> iassumption

theorem enq_codes (σ u : ℕ) (sm : DmaSem sig) (q) (hu : u < 84) (off h off' h') (e : off = ![u % 28, 4 * (u / 28), 0, 0]) (e' : off' = ![σ, 0, 0, 0]) (h1) (h2) (h3) :
    CI (F := F) d L co σ sm q ⊢ wp frame (wpE (defs₀ (F := F)) 𝒱₀ (thr d L) none) Set.univ
      (Prog.lift (.enqueueDma (cWin off h) (.here (cSlot off' h')) (.dma sm) h1 h2 h3)) fun _ => CL (F := F) d L co σ sm q u := by
  unfold CI CL
  iintro ⟨⟨%f, Hf⟩, Hs, Hc⟩
  ihave ⟨Hw, Hr⟩ := (pointsTo_split_subset (ℓ := cV.view.loc (thr d L)) (q := q) (f := co) (Finset.subset_univ (win u))).1 $$ Hc
  ihave Hw' := (Entails.of_eq (congrArg (fun S => coP (F := F) d L co q S) (set_cWin u off h e).symm)) $$ Hw
  iapply (Transfers.wp_dmaLocal EC 𝒱₀ (thr d L) none (src := cWin off h) (dst := cSlot off' h') (hsrc := h1) (hdst := h2) (hsem := h3) (k := .ret) (none : HIx 1) NC rfl
    NC_pos (set_cSlot σ off' h' e')) $$ [Hw' Hf Hs]
  · isplitl [Hw']; · iexact Hw'
    isplitl [Hf]; · iexact Hf
    iexact Hs
  iintro HF
  rw [wp_ret]; imodintro
  isplitl [HF]
  · iapply (Transfers.Flight_mono EC (thr d L) ?_) $$ HF
    iintro ⟨Hd, Hw⟩
    isplitl [Hd]
    · iexists _
      isplitr
      swap; · iexact Hd
      ipureintro
      exact code_val co f σ u hu off h off' h' e e'
    · iapply (Entails.of_eq (congrArg (fun S => coP (F := F) d L co q S) (set_cWin u off h e))); iexact Hw
  · iexact Hr

theorem wait_codes (hO : ∀ g, O g none = 0) (σ u : ℕ) (sm : DmaSem sig) (q) (src : Memref sig .scVector .hbm S4x8x128 .i32) (off' h') (h1) (h2) :
    iprop(OW (F := F) d L O Ws ∗ CL (F := F) d L co σ sm q u) ⊢ wp frame (wpE (defs₀ (F := F)) 𝒱₀ (thr d L) none) Set.univ
      (Prog.lift (.waitDma2 sm src (cSlot off' h') h1 h2)) fun _ => iprop(OW (F := F) d L O Ws ∗ CR (F := F) d L co σ sm q u) := by
  unfold CL OW CR
  iintro ⟨⟨#Hlv, ⟨%W', %hW, HO⟩⟩, ⟨HF, Hr⟩⟩
  ihave Hmw := (show levAts (K (F := F)).L (K (F := F)).lev ⊢ Transfers.MayWaits (thr d L) (none : HIx 1) O from (K (F := F)).mayWaits_none (thr := thr d L) hO) $$ Hlv
  ihave Hm := (Transfers.MayWaits.elim (.dma sm)) $$ Hmw
  iapply (Transfers.wp_waitLocalO EC 𝒱₀ (thr d L) none (srcw := src) (dstw := cSlot off' h') (hsrc := h1) (hdst := h2) (k := .ret) (none : HIx 1) (N := NC) rfl) $$ [HF HO Hm]
  · isplitl [HF]; · iexact HF
    isplitl [HO]; · iexact HO
    iexact Hm
  iintro ⟨⟨Hf, Hw⟩, Hs, HO⟩
  rw [wp_ret]; imodintro
  isplitl [HO]
  · isplitr; · iexact Hlv
    iexists _
    isplitr
    swap; · iexact HO
    ipureintro
    intro p hp
    rcases Finset.mem_insert.mp hp with rfl | hp
    · exact .inr rfl
    · exact hW p hp
  isplitl [Hf]; · iexact Hf
  isplitl [Hs]; · iexact Hs
  iapply (pointsTo_split_subset (ℓ := cV.view.loc (thr d L)) (q := q) (f := co) (Finset.subset_univ (win u))).2
  isplitl [Hw] <;> iassumption

theorem enq_out (σ u : ℕ) (sm : DmaSem sig) (hσ : σ < 2) (hu : u < 84) (off h off' h') (e : off = ![4 * (u / 28), 16 * (u % 28), (L 0).val, 0]) (e' : off' = ![σ, 0, 0, 0]) (h1) (h2) (h3) :
    iprop(OR (F := F) d L co W σ sm u ∗ TD (F := F) d L u) ⊢ wp frame (wpE (defs₀ (F := F)) 𝒱₀ (thr d L) none) Set.univ
      (Prog.lift (.enqueueDma (oSlot off' h') (.here (oWin off h)) (.dma sm) h1 h2 h3)) fun _ => OL (F := F) d L co W σ sm u := by
  unfold OR TD OL DN
  iintro ⟨⟨⟨%f, %g, %hfg, Hg⟩, Hs⟩, ⟨%f0, Ho⟩⟩
  ihave Hg' := (Entails.of_eq (congrArg (fun S => (oB.view.loc (thr d L) ↦[S]{fullShare} g : sProp 𝕄)) (set_oSlot σ off' h' e').symm)) $$ Hg
  iapply (Transfers.wp_dmaLocal EC 𝒱₀ (thr d L) none (src := oSlot off' h') (dst := oWin off h) (hsrc := h1) (hdst := h2) (hsem := h3) (k := .ret) (none : HIx 1) NO rfl
    NO_pos (set_oWin (L 0).val u off h e).le) $$ [Hg' Ho Hs]
  · isplitl [Hg']; · iexact Hg'
    isplitl [Ho]; · iexact Ho
    iexact Hs
  iintro HF
  rw [wp_ret]; imodintro
  iapply (Transfers.Flight_mono EC (thr d L) ?_) $$ HF
  iintro ⟨Hd, Hw⟩
  isplitl [Hd]
  · iapply (Entails.of_eq (pointsTo_congr (out_val co W (cc L) f σ u hσ hu hfg.1 g hfg.2 f0 off h off' h' e e'))); iexact Hd
  · iexists g
    iapply (Entails.of_eq (congrArg (fun S => (oB.view.loc (thr d L) ↦[S]{fullShare} g : sProp 𝕄)) (set_oSlot σ off' h' e'))); iexact Hw

theorem wait_out (hO : ∀ g, O g none = 0) (σ u : ℕ) (sm : DmaSem sig) (src : Memref sig .scVector .vmem S4x16x128 .i32) (off h) (h1) (h2) :
    iprop(OW (F := F) d L O Ws ∗ OL (F := F) d L co W σ sm u) ⊢ wp frame (wpE (defs₀ (F := F)) 𝒱₀ (thr d L) none) Set.univ
      (Prog.lift (.waitDma2 sm src (oWin off h) h1 h2)) fun _ => iprop(OW (F := F) d L O Ws ∗ OI (F := F) d L σ sm ∗ DN (F := F) d L co W u) := by
  unfold OL OW OI
  iintro ⟨⟨#Hlv, ⟨%W', %hW, HO⟩⟩, HF⟩
  ihave Hmw := (show levAts (K (F := F)).L (K (F := F)).lev ⊢ Transfers.MayWaits (thr d L) (none : HIx 1) O from (K (F := F)).mayWaits_none (thr := thr d L) hO) $$ Hlv
  ihave Hm := (Transfers.MayWaits.elim (.dma sm)) $$ Hmw
  iapply (Transfers.wp_waitLocalO EC 𝒱₀ (thr d L) none (srcw := src) (dstw := oWin off h) (hsrc := h1) (hdst := h2) (k := .ret) (none : HIx 1) (N := NO) rfl) $$ [HF HO Hm]
  · isplitl [HF]; · iexact HF
    isplitl [HO]; · iexact HO
    iexact Hm
  iintro ⟨⟨Hd, Hg⟩, Hs, HO⟩
  rw [wp_ret]; imodintro
  isplitl [HO]
  · isplitr; · iexact Hlv
    iexists _
    isplitr
    swap; · iexact HO
    ipureintro
    intro p hp
    rcases Finset.mem_insert.mp hp with rfl | hp
    · exact .inr rfl
    · exact hW p hp
  isplitl [Hg Hs]
  · isplitl [Hg] <;> iassumption
  iexact Hd

end Cert.Proof.G
-- ==== Proof.G.Parts.lean ====
/- ONE DOUBLE TRIP of the outer loop: unit `2p` over slot 0, then unit `2p + 1` over slot 1. -/
module

public import proofs.«01_k».proof.Proof.G.Dma

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

/-! ## The conditions and the offsets, in closed form -/

theorem t1_trips : ∀ i : grid0.Coords, (k0_t1_loop i).trips = 3 := by decide +kernel
theorem t2_trips : k0_t2_loop.trips = 32 := by decide +kernel
theorem t3_trips : k0_t3_loop.trips = 32 := by decide +kernel
theorem cond2_iff : ∀ (i : grid0.Coords) (k : Fin (k0_t1_loop i).trips), k0_cond2 i k = 1#1 ↔ (k.val < 2 ∨ (i 1).val < 4) := by decide +kernel
theorem cond3_iff : ∀ (i : grid0.Coords) (k : Fin (k0_t1_loop i).trips), k0_cond3 i k = 1#1 ↔ 1 ≤ k.val := by decide +kernel
theorem cond4_iff : ∀ (i : grid0.Coords) (k : Fin (k0_t1_loop i).trips), k0_cond4 i k = 1#1 ↔ (k.val < 2 ∨ (i 1).val < 4) := by decide +kernel
theorem cond5_iff : ∀ (i : grid0.Coords) (k : Fin (k0_t1_loop i).trips), k0_cond5 i k = 1#1 ↔ k.val < 2 := by decide +kernel
theorem cond6_iff : ∀ (i : grid0.Coords) (k : Fin (k0_t1_loop i).trips), k0_cond6 i k = 1#1 ↔ 1 ≤ k.val := by decide +kernel
abbrev cOff (u : ℕ) : Fin 4 → ℕ := ![u % 28, 4 * (u / 28), 0, 0]
abbrev oOff (u c : ℕ) : Fin 4 → ℕ := ![4 * (u / 28), 16 * (u % 28), c, 0]
theorem o4 : ∀ (i : grid0.Coords) (k : Fin (k0_t1_loop i).trips), k0_cond2 i k = 1#1 → k0_off4 i k = cOff (un i (2 * k.val + 1)) := by decide +kernel
theorem o30 : ∀ (i : grid0.Coords) (k : Fin (k0_t1_loop i).trips), k0_off30 i k = oOff (un i (2 * k.val)) (i 0).val := by decide +kernel
theorem o32 : ∀ (i : grid0.Coords) (k : Fin (k0_t1_loop i).trips), k0_cond5 i k = 1#1 → k0_off32 i k = cOff (un i (2 * k.val + 2)) := by decide +kernel
theorem o58 : ∀ (i : grid0.Coords) (k : Fin (k0_t1_loop i).trips), k0_cond4 i k = 1#1 → k0_off58 i k = oOff (un i (2 * k.val + 1)) (i 0).val := by decide +kernel

/-! ## Small rules -/

theorem wp_dite' {α : Type} {c : Prop} [Decidable c] {p : c → Pr (F := F) L α} {q : ¬c → Pr (F := F) L α} {A A' B B' : sProp 𝕄}
    (h1 : ∀ h, A ⊢ wp frame (wpE (defs₀ (F := F)) 𝒱₀ (thr d L) none) Set.univ (p h) fun _ => B) (h2 : ∀ h, A' ⊢ wp frame (wpE (defs₀ (F := F)) 𝒱₀ (thr d L) none) Set.univ (q h) fun _ => B') :
    (if c then A else A') ⊢ wp frame (wpE (defs₀ (F := F)) 𝒱₀ (thr d L) none) Set.univ (dite c p q) fun _ => if c then B else B' := by
  by_cases h : c
  · rw [dif_pos h]; simp only [if_pos h]; exact h1 h
  · rw [dif_neg h]; simp only [if_neg h]; exact h2 h

theorem then_pure {α β : Type} {p : Pr (F := F) L α} {b : β} {A B : sProp 𝕄} (h : A ⊢ wp frame (wpE (defs₀ (F := F)) 𝒱₀ (thr d L) none) Set.univ p fun _ => B) :
    A ⊢ wp frame (wpE (defs₀ (F := F)) 𝒱₀ (thr d L) none) Set.univ (p >>= fun _ => pure b) fun _ => B := by
  rw [wp_bind]
  refine h.trans (wp_mono _ _ _ fun _ => ?_)
  rw [wp_pure]
  iintro H; imodintro; iexact H

theorem just_pure {β : Type} {b : β} {A : sProp 𝕄} : A ⊢ wp frame (wpE (defs₀ (F := F)) 𝒱₀ (thr d L) none) Set.univ (pure b) fun _ => A := by
  rw [wp_pure]
  iintro H; imodintro; iexact H

/-! ## The inner loops -/

theorem loop2 (a1 a2 a3 a4 a5 a6 : BitVec 32) (k : Fin (k0_t1_loop L).trips) (q) (u : ℕ) :
    iprop(CR (F := F) d L co 0 semC0 q u ∗ OI (F := F) d L 0 semO0 ∗ tPts (F := F) d L (row W (cc L))) ⊢ wp frame (wpE (defs₀ (F := F)) 𝒱₀ (thr d L) none) Set.univ
      (Scf.Loop.for k0_t2_loop k0_t2_ok ⟨⟩ (k0_t2_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 a3 a4 a5 a6 k))
      fun _ => iprop(CI (F := F) d L co 0 semC0 q ∗ OR (F := F) d L co W 0 semO0 u ∗ tPts (F := F) d L (row W (cc L))) := by
  unfold CR OI
  iintro ⟨⟨⟨%f, %hf, Hf⟩, Hs, Hc⟩, ⟨⟨%g, Hg⟩, Hso⟩, HT⟩
  iapply (Scf.wp_for _ _ _ _ _ _ _ _ _ (fun n _ => iprop(cPts (F := F) d L 0 f ∗ tPts (F := F) d L (row W (cc L)) ∗ oGood (F := F) d L 0 (row W (cc L)) f (upTo 0 n)))
    (fun t u' => trip2 d L a1 a2 a3 a4 a5 a6 k (row W (cc L)) f t u'))
  isplitl [Hf HT Hg]
  · isplitl [Hf]; · iexact Hf
    isplitl [HT]; · iexact HT
    iexists g
    isplitr; swap; · iexact Hg
    ipureintro
    intro x hx
    exact absurd hx.2 (Nat.not_lt_zero _)
  iintro %a ⟨Hf, HT, ⟨%g', %hg, Hg⟩⟩
  unfold CI OR
  isplitl [Hf Hs Hc]
  · isplitl [Hf]; · iexists f; iexact Hf
    isplitl [Hs] <;> iassumption
  isplitl [Hg Hso]
  · isplitl [Hg]
    · iexists f; iexists g'
      isplitr; swap; · iexact Hg
      ipureintro
      refine ⟨hf, fun x hx => hg x ⟨hx, ?_⟩⟩
      have h1 := (x 1).isLt; have h2 := (x 2).isLt
      change _ < 4 at h1; change _ < 16 at h2
      have ht : Scf.trips k0_t2_loop.lb k0_t2_loop.ub k0_t2_loop.st = 32 := t2_trips
      rw [ht]; omega
    iexact Hso
  iexact HT

theorem loop3 (a1 a2 : BitVec 32) (k : Fin (k0_t1_loop L).trips) (a3 : BitVec 32) (h4 : k0_cond4 L k = 1#1) (q) (u : ℕ) :
    iprop(CR (F := F) d L co 1 semC1 q u ∗ OI (F := F) d L 1 semO1 ∗ tPts (F := F) d L (row W (cc L))) ⊢ wp frame (wpE (defs₀ (F := F)) 𝒱₀ (thr d L) none) Set.univ
      (Scf.Loop.for k0_t3_loop (k0_t3_ok L k h4) ⟨⟩ (k0_t3_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 k a3 h4))
      fun _ => iprop(CI (F := F) d L co 1 semC1 q ∗ OR (F := F) d L co W 1 semO1 u ∗ tPts (F := F) d L (row W (cc L))) := by
  unfold CR OI
  iintro ⟨⟨⟨%f, %hf, Hf⟩, Hs, Hc⟩, ⟨⟨%g, Hg⟩, Hso⟩, HT⟩
  iapply (Scf.wp_for _ _ _ _ _ _ _ _ _ (fun n _ => iprop(cPts (F := F) d L 1 f ∗ tPts (F := F) d L (row W (cc L)) ∗ oGood (F := F) d L 1 (row W (cc L)) f (upTo 1 n)))
    (fun t u' => trip3 d L a1 a2 k a3 h4 (row W (cc L)) f t u'))
  isplitl [Hf HT Hg]
  · isplitl [Hf]; · iexact Hf
    isplitl [HT]; · iexact HT
    iexists g
    isplitr; swap; · iexact Hg
    ipureintro
    intro x hx
    exact absurd hx.2 (Nat.not_lt_zero _)
  iintro %a ⟨Hf, HT, ⟨%g', %hg, Hg⟩⟩
  unfold CI OR
  isplitl [Hf Hs Hc]
  · isplitl [Hf]; · iexists f; iexact Hf
    isplitl [Hs] <;> iassumption
  isplitl [Hg Hso]
  · isplitl [Hg]
    · iexists f; iexists g'
      isplitr; swap; · iexact Hg
      ipureintro
      refine ⟨hf, fun x hx => hg x ⟨hx, ?_⟩⟩
      have h1 := (x 1).isLt; have h2 := (x 2).isLt
      change _ < 4 at h1; change _ < 16 at h2
      have ht : Scf.trips k0_t3_loop.lb k0_t3_loop.ub k0_t3_loop.st = 32 := t3_trips
      rw [ht]; omega
    iexact Hso
  iexact HT

/-! ## The parts -/

set_option maxHeartbeats 1000000 in
theorem part12_spec (hO : ∀ g, O g none = 0) (a1 a2 a3 a4 a5 a6 : BitVec 32) (k : Fin (k0_t1_loop L).trips) (q0 q1) :
    iprop(OW (F := F) d L O Ws ∗ tPts (F := F) d L (row W (cc L)) ∗ CL (F := F) d L co 0 semC0 q0 (un L (2 * k.val)) ∗ CI (F := F) d L co 1 semC1 q1
        ∗ (if k0_cond3 L k = 1#1 then OL (F := F) d L co W 0 semO0 (un L (2 * k.val - 2)) else OI (F := F) d L 0 semO0)) ⊢ wp frame (wpE (defs₀ (F := F)) 𝒱₀ (thr d L) none) Set.univ
      (k0_part12 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 a3 a4 a5 a6 k)
      fun _ => iprop(OW (F := F) d L O Ws ∗ tPts (F := F) d L (row W (cc L)) ∗ CI (F := F) d L co 0 semC0 q0
        ∗ (if k0_cond2 L k = 1#1 then CL (F := F) d L co 1 semC1 q1 (un L (2 * k.val + 1)) else CI (F := F) d L co 1 semC1 q1)
        ∗ OR (F := F) d L co W 0 semO0 (un L (2 * k.val)) ∗ (if k0_cond3 L k = 1#1 then DN (F := F) d L co W (un L (2 * k.val - 2)) else iprop(emp))) := by
  have hs := (L 1).isLt
  change _ < 16 at hs
  have hk : k.val < 3 := lt_of_lt_of_eq k.isLt (t1_trips L)
  rw [k0_part12_eq_skeleton]
  unfold k0_part12_skel
  by_cases hE : k0_cond2 L k = 1#1 <;> by_cases hW : k0_cond3 L k = 1#1
  · simp only [dif_pos hE, if_pos hE, dif_pos hW, if_pos hW, wp_bind]
    iintro ⟨HW, HT, HC, HD, HO⟩
    ihave H := (wait_codes (F := F) d L co O Ws hO 0 _ semC0 q0 (cWin (k0_off3 L k) (k0_off3_inb L k)) ![0, 0, 0, 0] inb_S2x4x8x128_S1x4x8x128_0_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 1 (un L (2 * k.val + 1)) semC1 q1 (by have := (cond2_iff L k).mp hE; unfold un; omega) (k0_off4 L k) (k0_off4_inb L k hE) ![1, 0, 0, 0] inb_S2x4x8x128_S1x4x8x128_1_0_0_0
      (o4 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (wait_out (F := F) d L co W O Ws hO 0 (un L (2 * k.val - 2)) semO0 (oSlot ![0, 0, 0, 0] inb_S2x4x16x128_S1x4x16x128_0_0_0_0) (k0_off5 L k) (k0_off5_inb L k hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop2 (F := F) d L co W a1 a2 a3 a4 a5 a6 k q0 (un L (2 * k.val))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · simp only [dif_pos hE, if_pos hE, dif_neg hW, if_neg hW, wp_bind]
    iintro ⟨HW, HT, HC, HD, HO⟩
    ihave H := (wait_codes (F := F) d L co O Ws hO 0 _ semC0 q0 (cWin (k0_off3 L k) (k0_off3_inb L k)) ![0, 0, 0, 0] inb_S2x4x8x128_S1x4x8x128_0_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 1 (un L (2 * k.val + 1)) semC1 q1 (by have := (cond2_iff L k).mp hE; unfold un; omega) (k0_off4 L k) (k0_off4_inb L k hE) ![1, 0, 0, 0] inb_S2x4x8x128_S1x4x8x128_1_0_0_0
      (o4 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (loop2 (F := F) d L co W a1 a2 a3 a4 a5 a6 k q0 (un L (2 * k.val))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iempintro
  · simp only [dif_neg hE, if_neg hE, dif_pos hW, if_pos hW, wp_bind]
    iintro ⟨HW, HT, HC, HD, HO⟩
    ihave H := (wait_codes (F := F) d L co O Ws hO 0 _ semC0 q0 (cWin (k0_off3 L k) (k0_off3_inb L k)) ![0, 0, 0, 0] inb_S2x4x8x128_S1x4x8x128_0_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (wait_out (F := F) d L co W O Ws hO 0 (un L (2 * k.val - 2)) semO0 (oSlot ![0, 0, 0, 0] inb_S2x4x16x128_S1x4x16x128_0_0_0_0) (k0_off5 L k) (k0_off5_inb L k hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop2 (F := F) d L co W a1 a2 a3 a4 a5 a6 k q0 (un L (2 * k.val))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · exact absurd (cond2_iff L k) (by have h1 := mt (cond2_iff L k).mpr hE; have h2 := mt (cond3_iff L k).mpr hW; omega)

set_option maxHeartbeats 1000000 in
theorem part11_spec (hO : ∀ g, O g none = 0) (a1 a2 : BitVec 32) (k : Fin (k0_t1_loop L).trips) (a3 : BitVec 32) (h4 : k0_cond4 L k = 1#1) (q0 q1) :
    iprop(OW (F := F) d L O Ws ∗ tPts (F := F) d L (row W (cc L)) ∗ CL (F := F) d L co 1 semC1 q1 (un L (2 * k.val + 1)) ∗ CI (F := F) d L co 0 semC0 q0
        ∗ (if k0_cond6 L k = 1#1 then OL (F := F) d L co W 1 semO1 (un L (2 * k.val - 1)) else OI (F := F) d L 1 semO1)) ⊢ wp frame (wpE (defs₀ (F := F)) 𝒱₀ (thr d L) none) Set.univ
      (k0_part11 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 k a3 h4)
      fun _ => iprop(OW (F := F) d L O Ws ∗ tPts (F := F) d L (row W (cc L)) ∗ CI (F := F) d L co 1 semC1 q1
        ∗ (if k0_cond5 L k = 1#1 then CL (F := F) d L co 0 semC0 q0 (un L (2 * k.val + 2)) else CI (F := F) d L co 0 semC0 q0)
        ∗ OR (F := F) d L co W 1 semO1 (un L (2 * k.val + 1)) ∗ (if k0_cond6 L k = 1#1 then DN (F := F) d L co W (un L (2 * k.val - 1)) else iprop(emp))) := by
  have hs := (L 1).isLt
  change _ < 16 at hs
  have hk : k.val < 3 := lt_of_lt_of_eq k.isLt (t1_trips L)
  rw [k0_part11_eq_skeleton]
  unfold k0_part11_skel
  by_cases hE : k0_cond5 L k = 1#1 <;> by_cases hW : k0_cond6 L k = 1#1
  · simp only [dif_pos hE, if_pos hE, dif_pos hW, if_pos hW, wp_bind]
    iintro ⟨HW, HT, HC, HD, HO⟩
    ihave H := (wait_codes (F := F) d L co O Ws hO 1 _ semC1 q1 (cWin (k0_off31 L k) (k0_off31_inb L k h4)) ![1, 0, 0, 0] inb_S2x4x8x128_S1x4x8x128_1_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 0 (un L (2 * k.val + 2)) semC0 q0 (by have := (cond5_iff L k).mp hE; unfold un; omega) (k0_off32 L k) (k0_off32_inb L k h4 hE) ![0, 0, 0, 0] inb_S2x4x8x128_S1x4x8x128_0_0_0_0
      (o32 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (wait_out (F := F) d L co W O Ws hO 1 (un L (2 * k.val - 1)) semO1 (oSlot ![1, 0, 0, 0] inb_S2x4x16x128_S1x4x16x128_1_0_0_0) (k0_off33 L k) (k0_off33_inb L k h4 hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop3 (F := F) d L co W a1 a2 k a3 h4 q1 (un L (2 * k.val + 1))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · simp only [dif_pos hE, if_pos hE, dif_neg hW, if_neg hW, wp_bind]
    iintro ⟨HW, HT, HC, HD, HO⟩
    ihave H := (wait_codes (F := F) d L co O Ws hO 1 _ semC1 q1 (cWin (k0_off31 L k) (k0_off31_inb L k h4)) ![1, 0, 0, 0] inb_S2x4x8x128_S1x4x8x128_1_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 0 (un L (2 * k.val + 2)) semC0 q0 (by have := (cond5_iff L k).mp hE; unfold un; omega) (k0_off32 L k) (k0_off32_inb L k h4 hE) ![0, 0, 0, 0] inb_S2x4x8x128_S1x4x8x128_0_0_0_0
      (o32 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (loop3 (F := F) d L co W a1 a2 k a3 h4 q1 (un L (2 * k.val + 1))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iempintro
  · simp only [dif_neg hE, if_neg hE, dif_pos hW, if_pos hW, wp_bind]
    iintro ⟨HW, HT, HC, HD, HO⟩
    ihave H := (wait_codes (F := F) d L co O Ws hO 1 _ semC1 q1 (cWin (k0_off31 L k) (k0_off31_inb L k h4)) ![1, 0, 0, 0] inb_S2x4x8x128_S1x4x8x128_1_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (wait_out (F := F) d L co W O Ws hO 1 (un L (2 * k.val - 1)) semO1 (oSlot ![1, 0, 0, 0] inb_S2x4x16x128_S1x4x16x128_1_0_0_0) (k0_off33 L k) (k0_off33_inb L k h4 hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop3 (F := F) d L co W a1 a2 k a3 h4 q1 (un L (2 * k.val + 1))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · exact absurd (cond5_iff L k) (by have h1 := mt (cond5_iff L k).mpr hE; have h2 := mt (cond6_iff L k).mpr hW; omega)

end Cert.Proof.G
-- ==== Proof.G.Trips.lean ====
/- THE OUTER LOOP: one trip for each value of its counter, and the three trips together. -/
module

public import proofs.«01_k».proof.Proof.G.Parts

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

set_option maxHeartbeats 1000000 in
theorem trip0 (hO : ∀ g, O g none = 0) (a v : BitVec 32) (k : Fin (k0_t1_loop L).trips) (hk : k.val = 0) (q0 q1) :
    iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1)) := by
  have hl := (L 1).isLt
  change _ < 16 at hl
  have e2 : k0_cond2 L k = 1#1 := (cond2_iff L k).mpr (by omega)
  have e3 : ¬ k0_cond3 L k = 1#1 := fun h => by have := (cond3_iff L k).mp h; omega
  have e4 : k0_cond4 L k = 1#1 := (cond4_iff L k).mpr (by omega)
  have e5 : k0_cond5 L k = 1#1 := (cond5_iff L k).mpr (by omega)
  have e6 : ¬ k0_cond6 L k = 1#1 := fun h => by have := (cond6_iff L k).mp h; omega
  have H12 := fun a1 a2 a3 a4 a5 a6 => part12_spec (F := F) d L co W O Ws hO a1 a2 a3 a4 a5 a6 k q0 q1
  simp only [if_pos e2, if_neg e3, hk, Nat.reduceMul, Nat.reduceAdd, Nat.reduceSub] at H12
  have H11 := fun a1 a2 a3 => part11_spec (F := F) d L co W O Ws hO a1 a2 k a3 e4 q0 q1
  simp only [if_pos e5, if_neg e6, hk, Nat.reduceMul, Nat.reduceAdd, Nat.reduceSub] at H11
  unfold k0_t1_body
  simp only [dif_pos e4, wp_bind]
  iintro ⟨HW, HT, HC, HD, HO, HP, HA, HB⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r
  simp only [wp_bind]
  ihave H := (enq_out (F := F) d L co W 0 (un L 0) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  ihave H := (H11 a v v65) $$ [HW HT HD HC HP]
  · isplitl [HW]; · iexact HW
    isplitl [HT]; · iexact HT
    isplitl [HD]; · iexact HD
    isplitl [HC] <;> iassumption
  iapply (wp_wand_r frame (wpE (defs₀ (F := F)) 𝒱₀ (thr d L) none) Set.univ)
  isplitl [H]; · iexact H
  iintro %r ⟨HW, HT, HD, HC, HP, HM⟩
  ihave H := (enq_out (F := F) d L co W 1 (un L 1) semO1 (by decide) (by unfold un; omega) (k0_off58 L k) (k0_off58_inb L k e4) ![1, 0, 0, 0] inb_S2x4x16x128_S1x4x16x128_1_0_0_0
    ((o58 L k e4).trans (by rw [hk])) rfl ((View.wordExact_bits rfl).reshape _ _) ((View.wordExact_bits rfl).reshape _ _) ⟨Or.inl rfl, trivial⟩) $$ [HP HB]
  · isplitl [HP] <;> iassumption
  iapply (wp_wand_r frame (wpE (defs₀ (F := F)) 𝒱₀ (thr d L) none) Set.univ)
  isplitl [H]; · iexact H
  iintro %_ HP
  simp only [wp_pure]
  imodintro
  isplitl [HW]; · iexact HW
  isplitl [HT]; · iexact HT
  isplitl [HC]; · iexact HC
  isplitl [HD]; · iexact HD
  isplitl [HO]; · iexact HO
  iexact HP

set_option maxHeartbeats 1000000 in
theorem trip1 (hO : ∀ g, O g none = 0) (a v : BitVec 32) (k : Fin (k0_t1_loop L).trips) (hk : k.val = 1) (q0 q1) :
    iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1) ∗ TD (F := F) d L (un L 2) ∗ TD (F := F) d L (un L 3)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ DN (F := F) d L co W (un L 0) ∗ DN (F := F) d L co W (un L 1)) := by
  have hl := (L 1).isLt
  change _ < 16 at hl
  have e2 : k0_cond2 L k = 1#1 := (cond2_iff L k).mpr (by omega)
  have e3 : k0_cond3 L k = 1#1 := (cond3_iff L k).mpr (by omega)
  have e4 : k0_cond4 L k = 1#1 := (cond4_iff L k).mpr (by omega)
  have e5 : k0_cond5 L k = 1#1 := (cond5_iff L k).mpr (by omega)
  have e6 : k0_cond6 L k = 1#1 := (cond6_iff L k).mpr (by omega)
  have H12 := fun a1 a2 a3 a4 a5 a6 => part12_spec (F := F) d L co W O Ws hO a1 a2 a3 a4 a5 a6 k q0 q1
  simp only [if_pos e2, if_pos e3, hk, Nat.reduceMul, Nat.reduceAdd, Nat.reduceSub] at H12
  have H11 := fun a1 a2 a3 => part11_spec (F := F) d L co W O Ws hO a1 a2 k a3 e4 q0 q1
  simp only [if_pos e5, if_pos e6, hk, Nat.reduceMul, Nat.reduceAdd, Nat.reduceSub] at H11
  unfold k0_t1_body
  simp only [dif_pos e4, wp_bind]
  iintro ⟨HW, HT, HC, HD, HO, HP, HA, HB⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r
  simp only [wp_bind]
  ihave H := (enq_out (F := F) d L co W 0 (un L 2) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  ihave H := (H11 a v v65) $$ [HW HT HD HC HP]
  · isplitl [HW]; · iexact HW
    isplitl [HT]; · iexact HT
    isplitl [HD]; · iexact HD
    isplitl [HC] <;> iassumption
  iapply (wp_wand_r frame (wpE (defs₀ (F := F)) 𝒱₀ (thr d L) none) Set.univ)
  isplitl [H]; · iexact H
  iintro %r ⟨HW, HT, HD, HC, HP, HM⟩
  ihave H := (enq_out (F := F) d L co W 1 (un L 3) semO1 (by decide) (by unfold un; omega) (k0_off58 L k) (k0_off58_inb L k e4) ![1, 0, 0, 0] inb_S2x4x16x128_S1x4x16x128_1_0_0_0
    ((o58 L k e4).trans (by rw [hk])) rfl ((View.wordExact_bits rfl).reshape _ _) ((View.wordExact_bits rfl).reshape _ _) ⟨Or.inl rfl, trivial⟩) $$ [HP HB]
  · isplitl [HP] <;> iassumption
  iapply (wp_wand_r frame (wpE (defs₀ (F := F)) 𝒱₀ (thr d L) none) Set.univ)
  isplitl [H]; · iexact H
  iintro %_ HP
  simp only [wp_pure]
  imodintro
  isplitl [HW]; · iexact HW
  isplitl [HT]; · iexact HT
  isplitl [HC]; · iexact HC
  isplitl [HD]; · iexact HD
  isplitl [HO]; · iexact HO
  isplitl [HP]; · iexact HP
  isplitl [HN] <;> iassumption

set_option maxHeartbeats 1000000 in
theorem trip2a (hO : ∀ g, O g none = 0) (a v : BitVec 32) (k : Fin (k0_t1_loop L).trips) (hk : k.val = 2) (hs : (L 1).val < 4) (q0 q1) :
    iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4) ∗ TD (F := F) d L (un L 5)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 5) ∗ DN (F := F) d L co W (un L 2) ∗ DN (F := F) d L co W (un L 3)) := by
  have hl := (L 1).isLt
  change _ < 16 at hl
  have e2 : k0_cond2 L k = 1#1 := (cond2_iff L k).mpr (by omega)
  have e3 : k0_cond3 L k = 1#1 := (cond3_iff L k).mpr (by omega)
  have e4 : k0_cond4 L k = 1#1 := (cond4_iff L k).mpr (by omega)
  have e5 : ¬ k0_cond5 L k = 1#1 := fun h => by have := (cond5_iff L k).mp h; omega
  have e6 : k0_cond6 L k = 1#1 := (cond6_iff L k).mpr (by omega)
  have H12 := fun a1 a2 a3 a4 a5 a6 => part12_spec (F := F) d L co W O Ws hO a1 a2 a3 a4 a5 a6 k q0 q1
  simp only [if_pos e2, if_pos e3, hk, Nat.reduceMul, Nat.reduceAdd, Nat.reduceSub] at H12
  have H11 := fun a1 a2 a3 => part11_spec (F := F) d L co W O Ws hO a1 a2 k a3 e4 q0 q1
  simp only [if_neg e5, if_pos e6, hk, Nat.reduceMul, Nat.reduceAdd, Nat.reduceSub] at H11
  unfold k0_t1_body
  simp only [dif_pos e4, wp_bind]
  iintro ⟨HW, HT, HC, HD, HO, HP, HA, HB⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r
  simp only [wp_bind]
  ihave H := (enq_out (F := F) d L co W 0 (un L 4) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  ihave H := (H11 a v v65) $$ [HW HT HD HC HP]
  · isplitl [HW]; · iexact HW
    isplitl [HT]; · iexact HT
    isplitl [HD]; · iexact HD
    isplitl [HC] <;> iassumption
  iapply (wp_wand_r frame (wpE (defs₀ (F := F)) 𝒱₀ (thr d L) none) Set.univ)
  isplitl [H]; · iexact H
  iintro %r ⟨HW, HT, HD, HC, HP, HM⟩
  ihave H := (enq_out (F := F) d L co W 1 (un L 5) semO1 (by decide) (by unfold un; omega) (k0_off58 L k) (k0_off58_inb L k e4) ![1, 0, 0, 0] inb_S2x4x16x128_S1x4x16x128_1_0_0_0
    ((o58 L k e4).trans (by rw [hk])) rfl ((View.wordExact_bits rfl).reshape _ _) ((View.wordExact_bits rfl).reshape _ _) ⟨Or.inl rfl, trivial⟩) $$ [HP HB]
  · isplitl [HP] <;> iassumption
  iapply (wp_wand_r frame (wpE (defs₀ (F := F)) 𝒱₀ (thr d L) none) Set.univ)
  isplitl [H]; · iexact H
  iintro %_ HP
  simp only [wp_pure]
  imodintro
  isplitl [HW]; · iexact HW
  isplitl [HT]; · iexact HT
  isplitl [HC]; · iexact HC
  isplitl [HD]; · iexact HD
  isplitl [HO]; · iexact HO
  isplitl [HP]; · iexact HP
  isplitl [HN] <;> iassumption

set_option maxHeartbeats 1000000 in
theorem trip2b (hO : ∀ g, O g none = 0) (a v : BitVec 32) (k : Fin (k0_t1_loop L).trips) (hk : k.val = 2) (hs : ¬(L 1).val < 4) (q0 q1) :
    iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 3) ∗ DN (F := F) d L co W (un L 2)) := by
  have hl := (L 1).isLt
  change _ < 16 at hl
  have e2 : ¬ k0_cond2 L k = 1#1 := fun h => by have := (cond2_iff L k).mp h; omega
  have e3 : k0_cond3 L k = 1#1 := (cond3_iff L k).mpr (by omega)
  have e4 : ¬ k0_cond4 L k = 1#1 := fun h => by have := (cond4_iff L k).mp h; omega
  have e5 : ¬ k0_cond5 L k = 1#1 := fun h => by have := (cond5_iff L k).mp h; omega
  have e6 : k0_cond6 L k = 1#1 := (cond6_iff L k).mpr (by omega)
  have H12 := fun a1 a2 a3 a4 a5 a6 => part12_spec (F := F) d L co W O Ws hO a1 a2 a3 a4 a5 a6 k q0 q1
  simp only [if_neg e2, if_pos e3, hk, Nat.reduceMul, Nat.reduceAdd, Nat.reduceSub] at H12
  unfold k0_t1_body
  simp only [dif_neg e4, wp_bind]
  iintro ⟨HW, HT, HC, HD, HO, HP, HA⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r

  ihave H := (enq_out (F := F) d L co W 0 (un L 4) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  simp only [wp_pure]
  imodintro
  isplitl [HW]; · iexact HW
  isplitl [HT]; · iexact HT
  isplitl [HC]; · iexact HC
  isplitl [HD]; · iexact HD
  isplitl [HO]; · iexact HO
  isplitl [HP]; · iexact HP
  iexact HN

end Cert.Proof.G
-- ==== Proof.G.Task.lean ====
/- ONE SUBCORE'S TASK: the row of the table, the three double trips, and the waits for the last two blocks. -/
module

public import proofs.«01_k».proof.Proof.G.Trips

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

theorem t4_trips : ∀ i : grid0.Coords, (k0_t4_loop i).trips = 0 := by decide +kernel
theorem cond1_pos : ∀ i : grid0.Coords, k0_cond1 i = 1#1 := by decide +kernel
theorem cond12_pos : ∀ i : grid0.Coords, k0_cond12 i = 1#1 := by decide +kernel
theorem cond13_pos : ∀ i : grid0.Coords, k0_cond13 i = 1#1 := by decide +kernel
theorem o1 : ∀ i : grid0.Coords, k0_off1 i = ![(i 0).val, 0] := by decide +kernel
theorem o2 : ∀ i : grid0.Coords, k0_off2 i = cOff (un i 0) := by decide +kernel

/-! ## The row of the table -/

def NT : ℕ := tB.view.dmaCredit
theorem NT_pos : 0 < NT := View.amount_pos tB.view (.dma semC0) (show 0 < S65536.numel by decide)

abbrev wPts (q : PosShare TreeShare) (S : Finset S2x65536.Idx) : sProp 𝕄 := wV.view.loc (thr d L) ↦[S]{q} W
abbrev rowS (L : grid0.Coords) : Finset S2x65536.Idx := (tRow (k0_off1 L) (k0_off1_inb L)).view.set
def TL (q : PosShare TreeShare) : sProp 𝕄 :=
  iprop(Transfers.Flight EC (thr d L) (.dma semT) (none : HIx 1) NT iprop(tPts (F := F) d L (row W (cc L)) ∗ wPts (F := F) d L W q (rowS L))
    ∗ wPts (F := F) d L W q (Finset.univ \ rowS L))

theorem enq_tab (q) (h1) (h2) (h3) :
    iprop((∃ f, tPts (F := F) d L f) ∗ semVal (gc d L semT) 0 ∗ wPts (F := F) d L W q Finset.univ) ⊢ wp frame (wpE (defs₀ (F := F)) 𝒱₀ (thr d L) none) Set.univ
      (Prog.lift (.enqueueDma (tRow (k0_off1 L) (k0_off1_inb L)) (.here tB) (.dma semT) h1 h2 h3)) fun _ => TL (F := F) d L W q := by
  unfold TL
  iintro ⟨⟨%f, Hf⟩, Hs, Hc⟩
  ihave ⟨Hw, Hr⟩ := (pointsTo_split_subset (ℓ := wV.view.loc (thr d L)) (q := q) (f := W) (Finset.subset_univ (rowS L))).1 $$ Hc
  iapply (Transfers.wp_dmaLocal EC 𝒱₀ (thr d L) none (src := tRow (k0_off1 L) (k0_off1_inb L)) (dst := tB) (hsrc := h1) (hdst := h2) (hsem := h3) (k := .ret) (none : HIx 1) NT rfl
    NT_pos (Finset.subset_univ _)) $$ [Hw Hf Hs]
  · isplitl [Hw]; · iexact Hw
    isplitl [Hf]; · iexact Hf
    iexact Hs
  iintro HF
  rw [wp_ret]; imodintro
  isplitl [HF]
  · iapply (Transfers.Flight_mono EC (thr d L) ?_) $$ HF
    iintro ⟨Hd, Hw⟩
    isplitl [Hd]
    · iapply (Entails.of_eq (congrArg (fun g => tPts (F := F) d L g) (row_val (F := F) W f (cc L) (k0_off1 L) (k0_off1_inb L) (o1 L)))); iexact Hd
    · iexact Hw
  · iexact Hr

theorem wait_tab (hO : ∀ g, O g none = 0) (q) (h1) (h2) :
    iprop(OW (F := F) d L O Ws ∗ TL (F := F) d L W q) ⊢ wp frame (wpE (defs₀ (F := F)) 𝒱₀ (thr d L) none) Set.univ
      (Prog.lift (.waitDma2 semT (tRow (k0_off1 L) (k0_off1_inb L)) tB h1 h2))
      fun _ => iprop(OW (F := F) d L O Ws ∗ tPts (F := F) d L (row W (cc L)) ∗ semVal (gc d L semT) 0 ∗ wPts (F := F) d L W q Finset.univ) := by
  unfold TL OW
  iintro ⟨⟨#Hlv, ⟨%W', %hW, HO⟩⟩, ⟨HF, Hr⟩⟩
  ihave Hmw := (show levAts (K (F := F)).L (K (F := F)).lev ⊢ Transfers.MayWaits (thr d L) (none : HIx 1) O from (K (F := F)).mayWaits_none (thr := thr d L) hO) $$ Hlv
  ihave Hm := (Transfers.MayWaits.elim (.dma semT)) $$ Hmw
  iapply (Transfers.wp_waitLocalO EC 𝒱₀ (thr d L) none (srcw := tRow (k0_off1 L) (k0_off1_inb L)) (dstw := tB) (hsrc := h1) (hdst := h2) (k := .ret) (none : HIx 1) (N := NT) rfl) $$ [HF HO Hm]
  · isplitl [HF]; · iexact HF
    isplitl [HO]; · iexact HO
    iexact Hm
  iintro ⟨⟨Hf, Hw⟩, Hs, HO⟩
  rw [wp_ret]; imodintro
  isplitl [HO]
  · isplitr; · iexact Hlv
    iexists _
    isplitr
    swap; · iexact HO
    ipureintro
    intro p hp
    rcases Finset.mem_insert.mp hp with rfl | hp
    · exact .inr rfl
    · exact hW p hp
  isplitl [Hf]; · iexact Hf
  isplitl [Hs]; · iexact Hs
  iapply (pointsTo_split_subset (ℓ := wV.view.loc (thr d L)) (q := q) (f := W) (Finset.subset_univ (rowS L))).2
  isplitl [Hw] <;> iassumption

/-- What holds before trip `n`, for a subcore with six units. -/
def Ia (q0 q1 : PosShare TreeShare) : ℕ → sProp 𝕄
  | 0 => iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5))
  | 1 => iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1) ∗ TD (F := F) d L (un L 2) ∗ TD (F := F) d L (un L 3) ∗ TD (F := F) d L (un L 4) ∗ TD (F := F) d L (un L 5))
  | 2 => iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4) ∗ TD (F := F) d L (un L 5) ∗ DN (F := F) d L co W (un L 0) ∗ DN (F := F) d L co W (un L 1))
  | _ + 3 => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 5) ∗ DN (F := F) d L co W (un L 0) ∗ DN (F := F) d L co W (un L 1) ∗ DN (F := F) d L co W (un L 2) ∗ DN (F := F) d L co W (un L 3))

set_option maxHeartbeats 1000000 in
theorem stepa0 (hO : ∀ g, O g none = 0) (a v : BitVec 32) (k : Fin (k0_t1_loop L).trips) (hk : k.val = 0) (hs : (L 1).val < 4) (q0 q1) :
    Ia (F := F) d L co W O Ws q0 q1 0 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ia (F := F) d L co W O Ws q0 q1 1 := by
  unfold Ia
  iintro ⟨HW, HT, HC, HD, HO, HP, X0, X1, X2, X3, X4, X5⟩
  ihave H := (trip0 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [X4]; · iexact X4
  iexact X5

set_option maxHeartbeats 1000000 in
theorem stepa1 (hO : ∀ g, O g none = 0) (a v : BitVec 32) (k : Fin (k0_t1_loop L).trips) (hk : k.val = 1) (hs : (L 1).val < 4) (q0 q1) :
    Ia (F := F) d L co W O Ws q0 q1 1 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ia (F := F) d L co W O Ws q0 q1 2 := by
  unfold Ia
  iintro ⟨HW, HT, HC, HD, HO, HP, X0, X1, X2, X3⟩
  ihave H := (trip1 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP, N0, N1⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact N1

set_option maxHeartbeats 1000000 in
theorem stepa2 (hO : ∀ g, O g none = 0) (a v : BitVec 32) (k : Fin (k0_t1_loop L).trips) (hk : k.val = 2) (hs : (L 1).val < 4) (q0 q1) :
    Ia (F := F) d L co W O Ws q0 q1 2 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ia (F := F) d L co W O Ws q0 q1 3 := by
  unfold Ia
  iintro ⟨HW, HT, HC, HD, HO, HP, X0, X1, X2, X3⟩
  ihave H := (trip2a (F := F) d L co W O Ws hO a v k hk hs q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP, N0, N1⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact N1

theorem loop1a (hO : ∀ g, O g none = 0) (a v : BitVec 32) (hs : (L 1).val < 4) (q0 q1) :
    Ia (F := F) d L co W O Ws q0 q1 0 ⊢ wp frame (wpE (defs₀ (F := F)) 𝒱₀ (thr d L) none) Set.univ
      (Scf.Loop.for (k0_t1_loop L) (k0_t1_ok L) ⟨⟩ (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v)) fun _ => Ia (F := F) d L co W O Ws q0 q1 3 := by
  have step : ∀ (t : Fin (k0_t1_loop L).trips) (u : Unit), Ia (F := F) d L co W O Ws q0 q1 t.val ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v t u) fun _ => Ia (F := F) d L co W O Ws q0 q1 (t.val + 1) := by
    intro t u
    have ht : t.val < 3 := lt_of_lt_of_eq t.isLt (t1_trips L)
    have h3 : t.val = 0 ∨ t.val = 1 ∨ t.val = 2 := by omega
    rcases h3 with h | h | h <;> simp only [h]
    · exact stepa0 (F := F) d L co W O Ws hO a v t h hs q0 q1
    · exact stepa1 (F := F) d L co W O Ws hO a v t h hs q0 q1
    · exact stepa2 (F := F) d L co W O Ws hO a v t h hs q0 q1
  iintro H
  iapply (Scf.wp_for _ _ _ _ _ _ _ _ _ (fun n _ => Ia (F := F) d L co W O Ws q0 q1 n) step)
  isplitl [H]; · iexact H
  iintro %_ H
  have ht : Scf.trips (k0_t1_loop L).lb (k0_t1_loop L).ub (k0_t1_loop L).st = 3 := t1_trips L
  rw [ht]
  iexact H

/-- What holds before trip `n`, for a subcore with five units. -/
def Ib (q0 q1 : PosShare TreeShare) : ℕ → sProp 𝕄
  | 0 => iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5))
  | 1 => iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1) ∗ TD (F := F) d L (un L 2) ∗ TD (F := F) d L (un L 3) ∗ TD (F := F) d L (un L 4) ∗ TD (F := F) d L (un L 5))
  | 2 => iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4) ∗ TD (F := F) d L (un L 5) ∗ DN (F := F) d L co W (un L 0) ∗ DN (F := F) d L co W (un L 1))
  | _ + 3 => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 3) ∗ DN (F := F) d L co W (un L 0) ∗ DN (F := F) d L co W (un L 1) ∗ DN (F := F) d L co W (un L 2) ∗ TD (F := F) d L (un L 5))

set_option maxHeartbeats 1000000 in
theorem stepb0 (hO : ∀ g, O g none = 0) (a v : BitVec 32) (k : Fin (k0_t1_loop L).trips) (hk : k.val = 0) (hs : ¬(L 1).val < 4) (q0 q1) :
    Ib (F := F) d L co W O Ws q0 q1 0 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ib (F := F) d L co W O Ws q0 q1 1 := by
  unfold Ib
  iintro ⟨HW, HT, HC, HD, HO, HP, X0, X1, X2, X3, X4, X5⟩
  ihave H := (trip0 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [X4]; · iexact X4
  iexact X5

set_option maxHeartbeats 1000000 in
theorem stepb1 (hO : ∀ g, O g none = 0) (a v : BitVec 32) (k : Fin (k0_t1_loop L).trips) (hk : k.val = 1) (hs : ¬(L 1).val < 4) (q0 q1) :
    Ib (F := F) d L co W O Ws q0 q1 1 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ib (F := F) d L co W O Ws q0 q1 2 := by
  unfold Ib
  iintro ⟨HW, HT, HC, HD, HO, HP, X0, X1, X2, X3⟩
  ihave H := (trip1 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP, N0, N1⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact N1

set_option maxHeartbeats 1000000 in
theorem stepb2 (hO : ∀ g, O g none = 0) (a v : BitVec 32) (k : Fin (k0_t1_loop L).trips) (hk : k.val = 2) (hs : ¬(L 1).val < 4) (q0 q1) :
    Ib (F := F) d L co W O Ws q0 q1 2 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ib (F := F) d L co W O Ws q0 q1 3 := by
  unfold Ib
  iintro ⟨HW, HT, HC, HD, HO, HP, X0, X1, X2, X3⟩
  ihave H := (trip2b (F := F) d L co W O Ws hO a v k hk hs q0 q1) $$ [HW HT HC HD HO HP X0]
  · isplitl [HW]; · iexact HW
    isplitl [HT]; · iexact HT
    isplitl [HC]; · iexact HC
    isplitl [HD]; · iexact HD
    isplitl [HO]; · iexact HO
    isplitl [HP]; · iexact HP
    iexact X0
  iapply (wp_wand_r frame (wpE (defs₀ (F := F)) 𝒱₀ (thr d L) none) Set.univ)
  isplitl [H]; · iexact H
  iintro %_ ⟨HW, HT, HC, HD, HO, HP, N0⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact X1

theorem loop1b (hO : ∀ g, O g none = 0) (a v : BitVec 32) (hs : ¬(L 1).val < 4) (q0 q1) :
    Ib (F := F) d L co W O Ws q0 q1 0 ⊢ wp frame (wpE (defs₀ (F := F)) 𝒱₀ (thr d L) none) Set.univ
      (Scf.Loop.for (k0_t1_loop L) (k0_t1_ok L) ⟨⟩ (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v)) fun _ => Ib (F := F) d L co W O Ws q0 q1 3 := by
  have step : ∀ (t : Fin (k0_t1_loop L).trips) (u : Unit), Ib (F := F) d L co W O Ws q0 q1 t.val ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v t u) fun _ => Ib (F := F) d L co W O Ws q0 q1 (t.val + 1) := by
    intro t u
    have ht : t.val < 3 := lt_of_lt_of_eq t.isLt (t1_trips L)
    have h3 : t.val = 0 ∨ t.val = 1 ∨ t.val = 2 := by omega
    rcases h3 with h | h | h <;> simp only [h]
    · exact stepb0 (F := F) d L co W O Ws hO a v t h hs q0 q1
    · exact stepb1 (F := F) d L co W O Ws hO a v t h hs q0 q1
    · exact stepb2 (F := F) d L co W O Ws hO a v t h hs q0 q1
  iintro H
  iapply (Scf.wp_for _ _ _ _ _ _ _ _ _ (fun n _ => Ib (F := F) d L co W O Ws q0 q1 n) step)
  isplitl [H]; · iexact H
  iintro %_ H
  have ht : Scf.trips (k0_t1_loop L).lb (k0_t1_loop L).ub (k0_t1_loop L).st = 3 := t1_trips L
  rw [ht]
  iexact H

set_option maxHeartbeats 1000000 in
theorem part25_spec (hO : ∀ g, O g none = 0) (q q0) :
    iprop(OW (F := F) d L O Ws ∗ (∃ f, tPts (F := F) d L f) ∗ semVal (gc d L semT) 0 ∗ wPts (F := F) d L W q Finset.univ ∗ CI (F := F) d L co 0 semC0 q0) ⊢ wp frame (wpE (defs₀ (F := F)) 𝒱₀ (thr d L) none) Set.univ (k0_part25 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5) fun _ => iprop(OW (F := F) d L O Ws ∗ tPts (F := F) d L (row W (cc L)) ∗ semVal (gc d L semT) 0 ∗ wPts (F := F) d L W q Finset.univ ∗ CL (F := F) d L co 0 semC0 q0 (un L 0)) := by
  have hl := (L 1).isLt
  change _ < 16 at hl
  rw [k0_part25_eq_skeleton]
  unfold k0_part25_skel
  simp only [dif_pos (cond1_pos L), wp_bind]
  iintro ⟨HW, HT, HS, HB, HC⟩
  ihave H := (enq_tab (F := F) d L W q ((View.wordExact_bits rfl).reshape _ _) (Memref.isWhole_whole _).wordExact ⟨Or.inl rfl, trivial⟩) $$ [HT HS HB]
  · isplitl [HT]; · iexact HT
    isplitl [HS] <;> iassumption
  iapply (wp_wand_r frame (wpE (defs₀ (F := F)) 𝒱₀ (thr d L) none) Set.univ)
  isplitl [H]; · iexact H
  iintro %_ HT
  ihave H := (enq_codes (F := F) d L co 0 (un L 0) semC0 q0 (by unfold un; omega) (k0_off2 L) (k0_off2_inb L (cond1_pos L)) ![0, 0, 0, 0] inb_S2x4x8x128_S1x4x8x128_0_0_0_0
      (o2 L) rfl ((View.wordExact_bits rfl).reshape _ _) ((View.wordExact_bits rfl).reshape _ _) ⟨Or.inl rfl, trivial⟩) $$ HC
  iapply (wp_wand_r frame (wpE (defs₀ (F := F)) 𝒱₀ (thr d L) none) Set.univ)
  isplitl [H]; · iexact H
  iintro %_ HC
  ihave H := (wait_tab (F := F) d L W O Ws hO q ((View.wordExact_bits rfl).reshape _ _) (Memref.isWhole_whole _).wordExact) $$ [HW HT]
  · isplitl [HW] <;> iassumption
  iapply (wp_wand_r frame (wpE (defs₀ (F := F)) 𝒱₀ (thr d L) none) Set.univ)
  isplitl [H]; · iexact H
  iintro %_ ⟨HW, HT, HS, HB⟩
  simp only [wp_pure]
  imodintro
  isplitl [HW]; · iexact HW
  isplitl [HT]; · iexact HT
  isplitl [HS]; · iexact HS
  isplitl [HB]; · iexact HB
  iexact HC

set_option maxHeartbeats 2000000 in
theorem taska (hO : ∀ g, O g none = 0) (hs : (L 1).val < 4) (q q0 q1) :
    iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ wp frame (wpE (defs₀ (F := F)) 𝒱₀ (thr d L) none) Set.univ
      (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
      fun _ => iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ DN (F := F) d L co W (un L 0) ∗ DN (F := F) d L co W (un L 1) ∗ DN (F := F) d L co W (un L 2) ∗ DN (F := F) d L co W (un L 3) ∗ DN (F := F) d L co W (un L 4) ∗ DN (F := F) d L co W (un L 5)) := by
  rw [cc0_gather_0_eq_skeleton]
  unfold cc0_gather_0_skel
  simp only [dif_pos (cond12_pos L), dif_pos (cond13_pos L), wp_bind]
  iintro ⟨HW, HT, HS, HB, HC, HD, HO, HP, X0, X1, X2, X3, X4, X5⟩
  ihave H := (part25_spec (F := F) d L co W O Ws hO q q0) $$ [HW HT HS HB HC]
  · isplitl [HW]; · iexact HW
    isplitl [HT]; · iexact HT
    isplitl [HS]; · iexact HS
    isplitl [HB] <;> iassumption
  iapply (wp_wand_r frame (wpE (defs₀ (F := F)) 𝒱₀ (thr d L) none) Set.univ)
  isplitl [H]; · iexact H
  iintro %r ⟨HW, HT, HS, HB, HC⟩
  obtain ⟨a, v, r1, r2, r3, r4, r5⟩ := r
  simp only [wp_bind]
  ihave HI := (show iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ Ia (F := F) d L co W O Ws q0 q1 0 from .rfl) $$ [HW HT HC HD HO HP X0 X1 X2 X3 X4 X5]
  · isplitl [HW]; · iexact HW
    isplitl [HT]; · iexact HT
    isplitl [HC]; · iexact HC
    isplitl [HD]; · iexact HD
    isplitl [HO]; · iexact HO
    isplitl [HP]; · iexact HP
    isplitl [X0]; · iexact X0
    isplitl [X1]; · iexact X1
    isplitl [X2]; · iexact X2
    isplitl [X3]; · iexact X3
    isplitl [X4]; · iexact X4
    iexact X5
  ihave H := (loop1a (F := F) d L co W O Ws hO a v hs q0 q1) $$ HI
  iapply (wp_wand_r frame (wpE (defs₀ (F := F)) 𝒱₀ (thr d L) none) Set.univ)
  isplitl [H]; · iexact H
  iintro %_ HI
  iapply (Scf.wp_for _ _ _ _ _ _ _ _ _ (fun _ _ => Ia (F := F) d L co W O Ws q0 q1 3) (fun t _ => absurd (lt_of_lt_of_eq t.isLt (t4_trips L)) (Nat.not_lt_zero _)))
  isplitl [HI]; · iexact HI
  iintro %_ HI
  ihave ⟨HW, HT, HC, HD, HO, HP, N0, N1, N2, N3⟩ := (show Ia (F := F) d L co W O Ws q0 q1 3 ⊢ iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 5) ∗ DN (F := F) d L co W (un L 0) ∗ DN (F := F) d L co W (un L 1) ∗ DN (F := F) d L co W (un L 2) ∗ DN (F := F) d L co W (un L 3)) from .rfl) $$ HI
  ihave H := (wait_out (F := F) d L co W O Ws hO 0 (un L 4) semO0 (oSlot ![0, 0, 0, 0] inb_S2x4x16x128_S1x4x16x128_0_0_0_0) (k0_off115 L) (k0_off115_inb L (cond12_pos L))
      ((View.wordExact_bits rfl).reshape _ _) ((View.wordExact_bits rfl).reshape _ _)) $$ [HW HO]
  · isplitl [HW] <;> iassumption
  iapply (wp_wand_r frame (wpE (defs₀ (F := F)) 𝒱₀ (thr d L) none) Set.univ)
  isplitl [H]; · iexact H
  iintro %_ ⟨HW, HO, N4⟩
  ihave H := (wait_out (F := F) d L co W O Ws hO 1 (un L 5) semO1 (oSlot ![1, 0, 0, 0] inb_S2x4x16x128_S1x4x16x128_1_0_0_0) (k0_off116 L) (k0_off116_inb L (cond13_pos L))
      ((View.wordExact_bits rfl).reshape _ _) ((View.wordExact_bits rfl).reshape _ _)) $$ [HW HP]
  · isplitl [HW] <;> iassumption
  iapply (wp_wand_r frame (wpE (defs₀ (F := F)) 𝒱₀ (thr d L) none) Set.univ)
  isplitl [H]; · iexact H
  iintro %_ ⟨HW, HP, N5⟩
  simp only [wp_pure]
  imodintro
  isplitl [HW]; · iexact HW
  isplitl [HT]; · iexists _; iexact HT
  isplitl [HS]; · iexact HS
  isplitl [HB]; · iexact HB
  isplitl [HC]; · iexact HC
  isplitl [HD]; · iexact HD
  isplitl [HO]; · iexact HO
  isplitl [HP]; · iexact HP
  isplitl [N0]; · iexact N0
  isplitl [N1]; · iexact N1
  isplitl [N2]; · iexact N2
  isplitl [N3]; · iexact N3
  isplitl [N4]; · iexact N4
  iexact N5

set_option maxHeartbeats 2000000 in
theorem taskb (hO : ∀ g, O g none = 0) (hs : ¬(L 1).val < 4) (q q0 q1) :
    iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ wp frame (wpE (defs₀ (F := F)) 𝒱₀ (thr d L) none) Set.univ
      (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
      fun _ => iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ DN (F := F) d L co W (un L 0) ∗ DN (F := F) d L co W (un L 1) ∗ DN (F := F) d L co W (un L 2) ∗ DN (F := F) d L co W (un L 3) ∗ DN (F := F) d L co W (un L 4) ∗ TD (F := F) d L (un L 5)) := by
  rw [cc0_gather_0_eq_skeleton]
  unfold cc0_gather_0_skel
  simp only [dif_pos (cond12_pos L), dif_pos (cond13_pos L), wp_bind]
  iintro ⟨HW, HT, HS, HB, HC, HD, HO, HP, X0, X1, X2, X3, X4, X5⟩
  ihave H := (part25_spec (F := F) d L co W O Ws hO q q0) $$ [HW HT HS HB HC]
  · isplitl [HW]; · iexact HW
    isplitl [HT]; · iexact HT
    isplitl [HS]; · iexact HS
    isplitl [HB] <;> iassumption
  iapply (wp_wand_r frame (wpE (defs₀ (F := F)) 𝒱₀ (thr d L) none) Set.univ)
  isplitl [H]; · iexact H
  iintro %r ⟨HW, HT, HS, HB, HC⟩
  obtain ⟨a, v, r1, r2, r3, r4, r5⟩ := r
  simp only [wp_bind]
  ihave HI := (show iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ Ib (F := F) d L co W O Ws q0 q1 0 from .rfl) $$ [HW HT HC HD HO HP X0 X1 X2 X3 X4 X5]
  · isplitl [HW]; · iexact HW
    isplitl [HT]; · iexact HT
    isplitl [HC]; · iexact HC
    isplitl [HD]; · iexact HD
    isplitl [HO]; · iexact HO
    isplitl [HP]; · iexact HP
    isplitl [X0]; · iexact X0
    isplitl [X1]; · iexact X1
    isplitl [X2]; · iexact X2
    isplitl [X3]; · iexact X3
    isplitl [X4]; · iexact X4
    iexact X5
  ihave H := (loop1b (F := F) d L co W O Ws hO a v hs q0 q1) $$ HI
  iapply (wp_wand_r frame (wpE (defs₀ (F := F)) 𝒱₀ (thr d L) none) Set.univ)
  isplitl [H]; · iexact H
  iintro %_ HI
  iapply (Scf.wp_for _ _ _ _ _ _ _ _ _ (fun _ _ => Ib (F := F) d L co W O Ws q0 q1 3) (fun t _ => absurd (lt_of_lt_of_eq t.isLt (t4_trips L)) (Nat.not_lt_zero _)))
  isplitl [HI]; · iexact HI
  iintro %_ HI
  ihave ⟨HW, HT, HC, HD, HO, HP, N0, N1, N2, N3⟩ := (show Ib (F := F) d L co W O Ws q0 q1 3 ⊢ iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 3) ∗ DN (F := F) d L co W (un L 0) ∗ DN (F := F) d L co W (un L 1) ∗ DN (F := F) d L co W (un L 2) ∗ TD (F := F) d L (un L 5)) from .rfl) $$ HI
  ihave H := (wait_out (F := F) d L co W O Ws hO 0 (un L 4) semO0 (oSlot ![0, 0, 0, 0] inb_S2x4x16x128_S1x4x16x128_0_0_0_0) (k0_off115 L) (k0_off115_inb L (cond12_pos L))
      ((View.wordExact_bits rfl).reshape _ _) ((View.wordExact_bits rfl).reshape _ _)) $$ [HW HO]
  · isplitl [HW] <;> iassumption
  iapply (wp_wand_r frame (wpE (defs₀ (F := F)) 𝒱₀ (thr d L) none) Set.univ)
  isplitl [H]; · iexact H
  iintro %_ ⟨HW, HO, N4⟩
  ihave H := (wait_out (F := F) d L co W O Ws hO 1 (un L 3) semO1 (oSlot ![1, 0, 0, 0] inb_S2x4x16x128_S1x4x16x128_1_0_0_0) (k0_off116 L) (k0_off116_inb L (cond13_pos L))
      ((View.wordExact_bits rfl).reshape _ _) ((View.wordExact_bits rfl).reshape _ _)) $$ [HW HP]
  · isplitl [HW] <;> iassumption
  iapply (wp_wand_r frame (wpE (defs₀ (F := F)) 𝒱₀ (thr d L) none) Set.univ)
  isplitl [H]; · iexact H
  iintro %_ ⟨HW, HP, N5⟩
  simp only [wp_pure]
  imodintro
  isplitl [HW]; · iexact HW
  isplitl [HT]; · iexists _; iexact HT
  isplitl [HS]; · iexact HS
  isplitl [HB]; · iexact HB
  isplitl [HC]; · iexact HC
  isplitl [HD]; · iexact HD
  isplitl [HO]; · iexact HO
  isplitl [HP]; · iexact HP
  isplitl [N0]; · iexact N0
  isplitl [N1]; · iexact N1
  isplitl [N2]; · iexact N2
  isplitl [N5]; · iexact N5
  isplitl [N4]; · iexact N4
  iexact N3

end Cert.Proof.G
-- ==== Proof.G.Tile.lean ====
/- WHAT ONE SUBCORE IS HANDED AND HANDS BACK: shares of the codes and of the words, and its blocks of the output; its own scratch opened and closed around the task. -/
module

public import proofs.«01_k».proof.Proof.G.Task

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The output, by core, by subcore, by unit -/

/-- The unit an entry of the output belongs to. -/
def ux (x : S12x448x2x128.Idx) : ℕ := (x 0).val / 4 * 28 + (x 1).val / 16
def tileS (c s : ℕ) : Finset S12x448x2x128.Idx := Finset.univ.filter fun x => (x 2).val = c ∧ ux x % 16 = s
def halfS (c : ℕ) : Finset S12x448x2x128.Idx := Finset.univ.filter fun x => (x 2).val = c

theorem ux_lt (x : S12x448x2x128.Idx) : ux x < 84 := by
  have h0 := (x 0).isLt; have h1 := (x 1).isLt
  change _ < 12 at h0; change _ < 448 at h1
  unfold ux; omega

theorem mem_blk (c u : ℕ) (x : S12x448x2x128.Idx) : x ∈ blk c u ↔ (x 2).val = c ∧ ux x = u := by
  have h0 := (x 0).isLt; have h1 := (x 1).isLt
  change _ < 12 at h0; change _ < 448 at h1
  unfold blk ux
  simp only [Finset.mem_filter, Finset.mem_univ, true_and]
  omega
theorem mem_tileS (c s : ℕ) (x : S12x448x2x128.Idx) : x ∈ tileS c s ↔ (x 2).val = c ∧ ux x % 16 = s := by
  unfold tileS; simp only [Finset.mem_filter, Finset.mem_univ, true_and]
theorem mem_halfS (c : ℕ) (x : S12x448x2x128.Idx) : x ∈ halfS c ↔ (x 2).val = c := by
  unfold halfS; simp only [Finset.mem_filter, Finset.mem_univ, true_and]

theorem blks_cover (c s : ℕ) (hs : s < 16) : (Finset.univ : Finset (Fin 6)).biUnion (fun t => blk c (s + 16 * t.val)) = tileS c s := by
  ext x
  have hx := ux_lt x
  simp only [Finset.mem_biUnion, Finset.mem_univ, true_and, mem_blk, mem_tileS]
  constructor
  · rintro ⟨t, h1, h2⟩; exact ⟨h1, by omega⟩
  · rintro ⟨h1, h2⟩; exact ⟨⟨ux x / 16, by omega⟩, h1, by show ux x = s + 16 * (ux x / 16); omega⟩
theorem blks_disjoint (c s : ℕ) : ∀ t ∈ (Finset.univ : Finset (Fin 6)), ∀ t' ∈ (Finset.univ : Finset (Fin 6)), t ≠ t' → Disjoint (blk c (s + 16 * t.val)) (blk c (s + 16 * t'.val)) := by
  intro t _ t' _ h
  refine Finset.disjoint_left.mpr fun x hx hx' => h (Fin.ext ?_)
  have h1 := ((mem_blk _ _ _).mp hx).2; have h2 := ((mem_blk _ _ _).mp hx').2
  omega
theorem tiles_cover (c : ℕ) : (Finset.univ : Finset (Fin 16)).biUnion (fun i => tileS c i.val) = halfS c := by
  ext x
  simp only [Finset.mem_biUnion, Finset.mem_univ, true_and, mem_halfS, mem_tileS]
  constructor
  · rintro ⟨t, h1, h2⟩; exact h1
  · intro h1; exact ⟨⟨ux x % 16, by omega⟩, h1, rfl⟩
theorem tiles_disjoint (c : ℕ) : ∀ t ∈ (Finset.univ : Finset (Fin 16)), ∀ t' ∈ (Finset.univ : Finset (Fin 16)), t ≠ t' → Disjoint (tileS c t.val) (tileS c t'.val) := by
  intro t _ t' _ h
  refine Finset.disjoint_left.mpr fun x hx hx' => h (Fin.ext ?_)
  have h1 := ((mem_tileS _ _ _).mp hx).2; have h2 := ((mem_tileS _ _ _).mp hx').2
  omega
theorem halves_cover : (Finset.univ : Finset (Fin 2)).biUnion (fun c => halfS c.val) = Finset.univ := by
  ext x
  simp only [Finset.mem_biUnion, Finset.mem_univ, true_and, mem_halfS, iff_true]
  exact ⟨⟨(x 2).val, (x 2).isLt⟩, rfl⟩
theorem halves_disjoint : ∀ t ∈ (Finset.univ : Finset (Fin 2)), ∀ t' ∈ (Finset.univ : Finset (Fin 2)), t ≠ t' → Disjoint (halfS t.val) (halfS t'.val) := by
  intro t _ t' _ h
  refine Finset.disjoint_left.mpr fun x hx hx' => h (Fin.ext ?_)
  have h1 := (mem_halfS _ _).mp hx; have h2 := (mem_halfS _ _).mp hx'
  omega

/-! ## Shares -/

/-- Leaf `i` of the depth-`n` halving of a share. -/
def leaf : ℕ → PosShare TreeShare → ℕ → PosShare TreeShare
  | 0, q, _ => q
  | n + 1, q, i => if i < 2 ^ n then leaf n q.left i else leaf n q.right (i - 2 ^ n)

def sumEquiv (n : ℕ) : Fin (2 ^ n) ⊕ Fin (2 ^ n) ≃ Fin (2 ^ (n + 1)) := finSumFinEquiv.trans (finCongr (by omega))
theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i.val} f
  | 0, q => (bigSep_univ_of_subsingleton (0 : Fin 1) (Φ := fun i : Fin (2 ^ 0) => (ℓ ↦[I]{leaf 0 q i.val} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i.val} f : sProp 𝕄)), bigSep_univ_sum]
    congr 1 <;> refine bigSep_congr fun i _ => ?_
    · rw [sumEquiv_inl, leaf, if_pos i.isLt]
    · rw [sumEquiv_inr, leaf, if_neg (by omega), Nat.add_sub_cancel_left]

/-- A core's share, and a subcore's of it. -/
abbrev qc (c : ℕ) : PosShare TreeShare := leaf 1 fullShare c
abbrev xq (c s : ℕ) : PosShare TreeShare := leaf 4 (qc c) s

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The locations -/

abbrev cLoc (d : Dev nD) : Loc nD τ sig := (SparseCore.T d).loc main_v2
abbrev wLoc (d : Dev nD) : Loc nD τ sig := (SparseCore.T d).loc main_v3
abbrev oLoc (d : Dev nD) : Loc nD τ sig := (SparseCore.T d).loc main_v4

variable (co : S28x148x8x128.Idx → BitVec 32) (W : S2x65536.Idx → BitVec 32)

abbrev cPt (d : Dev nD) (q : PosShare TreeShare) : sProp 𝕄 := cLoc d ↦{q} co
abbrev wPt (d : Dev nD) (q : PosShare TreeShare) : sProp 𝕄 := wLoc d ↦{q} W
abbrev oPt (d : Dev nD) (S : Finset S12x448x2x128.Idx) (f : S12x448x2x128.Idx → BitVec 32) : sProp 𝕄 := oLoc d ↦[S]{fullShare} f

/-- What subcore `s` of core `c` is handed with the output at `f`. -/
abbrev tileP (d : Dev nD) (c s : ℕ) (f : S12x448x2x128.Idx → BitVec 32) : sProp 𝕄 :=
  iprop(cPt (F := F) co d (xq c s) ∗ wPt (F := F) W d (xq c s) ∗ oPt (F := F) d (tileS c s) f)
/-- What core `c` is handed with the output at `f`. -/
abbrev coreP (d : Dev nD) (c : ℕ) (f : S12x448x2x128.Idx → BitVec 32) : sProp 𝕄 :=
  iprop(cPt (F := F) co d (qc c) ∗ wPt (F := F) W d (qc c) ∗ oPt (F := F) d (halfS c) f)

theorem core_tiles (d : Dev nD) (c : ℕ) (f : S12x448x2x128.Idx → BitVec 32) :
    coreP (F := F) co W d c f = bigSep Finset.univ fun i : Fin 16 => tileP (F := F) co W d c i.val f := by
  rw [bigSep_sep', bigSep_sep']
  have h1 := pointsTo_leaves (F := F) (ℓ := cLoc d) Finset.univ co 4 (qc c)
  have h2 := pointsTo_leaves (F := F) (ℓ := wLoc d) Finset.univ W 4 (qc c)
  have h3 := pointsTo_biUnion (Val := Elt F) (Ix := HIx 1) (Name := ℕ) (U := UU) (Lvl := ℕ) (q := fullShare) (f := f) (Finset.univ : Finset (Fin 16)) (ℓ := oLoc d) (fun i => tileS c i.val) (tiles_disjoint c)
  refine congrArg₂ (fun A B : sProp 𝕄 => iprop(A ∗ B)) h1 (congrArg₂ (fun A B : sProp 𝕄 => iprop(A ∗ B)) h2 (Eq.trans ?_ h3))
  exact congrArg (fun S => oPt (F := F) d S f) (tiles_cover c).symm

theorem whole_cores (d : Dev nD) (f : S12x448x2x128.Idx → BitVec 32) :
    (iprop(cPt (F := F) co d fullShare ∗ wPt (F := F) W d fullShare ∗ oPt (F := F) d Finset.univ f) : sProp 𝕄)
      = bigSep Finset.univ fun c : Fin 2 => coreP (F := F) co W d c.val f := by
  rw [bigSep_sep', bigSep_sep']
  have h1 := pointsTo_leaves (F := F) (ℓ := cLoc d) Finset.univ co 1 fullShare
  have h2 := pointsTo_leaves (F := F) (ℓ := wLoc d) Finset.univ W 1 fullShare
  have h3 := pointsTo_biUnion (Val := Elt F) (Ix := HIx 1) (Name := ℕ) (U := UU) (Lvl := ℕ) (q := fullShare) (f := f) (Finset.univ : Finset (Fin 2)) (ℓ := oLoc d) (fun i => halfS i.val) halves_disjoint
  refine congrArg₂ (fun A B : sProp 𝕄 => iprop(A ∗ B)) h1 (congrArg₂ (fun A B : sProp 𝕄 => iprop(A ∗ B)) h2 (Eq.trans ?_ h3))
  exact congrArg (fun S => oPt (F := F) d S f) halves_cover.symm

section Tile
variable (d : Dev nD) (L : grid0.Coords)
variable (O : CellTallies nD τ sig (HIx 1)) (Ws : Waits sig (HIx 1))

theorem slotC_compl : (Finset.univ : Finset S2x4x8x128.Idx) \ slotC 0 = slotC 1 := by
  ext x
  have h0 := (x 0).isLt
  change _ < 2 at h0
  simp only [Finset.mem_sdiff, Finset.mem_filter, Finset.mem_univ, true_and]
  omega
theorem slotO_compl : (Finset.univ : Finset S2x4x16x128.Idx) \ slotO 0 = slotO 1 := by
  ext x
  have h0 := (x 0).isLt
  change _ < 2 at h0
  simp only [Finset.mem_sdiff, Finset.mem_filter, Finset.mem_univ, true_and]
  omega

theorem open_cB (f : S2x4x8x128.Idx → BitVec 32) : ((thr d L).loc cc0_scratch1 ↦{fullShare} f : sProp 𝕄) ⊢ iprop(cPts (F := F) d L 0 f ∗ cPts (F := F) d L 1 f) := by
  have h := (pointsTo_split_subset (Val := Elt F) (Ix := HIx 1) (Name := ℕ) (U := UU) (Lvl := ℕ) (ℓ := cB.view.loc (thr d L)) (q := fullShare) (f := f) (Finset.subset_univ (slotC 0))).1
  iintro H
  ihave ⟨H0, H1⟩ := h $$ H
  isplitl [H0]; · iexact H0
  iapply (Entails.of_eq (congrArg (fun S => (cB.view.loc (thr d L) ↦[S]{fullShare} f : sProp 𝕄)) slotC_compl)); iexact H1
theorem close_cB (f g : S2x4x8x128.Idx → BitVec 32) : (iprop(cPts (F := F) d L 0 f ∗ cPts (F := F) d L 1 g) : sProp 𝕄) ⊢ iprop(∃ h, (thr d L).loc cc0_scratch1 ↦{fullShare} h) := by
  have h := (pointsTo_split_subset (Val := Elt F) (Ix := HIx 1) (Name := ℕ) (U := UU) (Lvl := ℕ) (ℓ := cB.view.loc (thr d L)) (q := fullShare) (f := fun x : S2x4x8x128.Idx => if (x 0).val = 0 then f x else g x) (Finset.subset_univ (slotC 0))).2
  iintro ⟨H0, H1⟩
  iexists (fun x : S2x4x8x128.Idx => if (x 0).val = 0 then f x else g x)
  iapply h
  isplitl [H0]
  · iapply (Entails.of_eq (pointsTo_congr (fun x hx => (if_pos (Finset.mem_filter.mp hx).2).symm))); iexact H0
  · iapply (Entails.of_eq (congrArg (fun S => (cB.view.loc (thr d L) ↦[S]{fullShare} (fun x : S2x4x8x128.Idx => if (x 0).val = 0 then f x else g x) : sProp 𝕄)) slotC_compl.symm))
    iapply (Entails.of_eq (pointsTo_congr (fun x hx => (if_neg (by rw [(Finset.mem_filter.mp hx).2]; decide)).symm))); iexact H1

theorem open_oB (f : S2x4x16x128.Idx → BitVec 32) : ((thr d L).loc cc0_scratch2 ↦{fullShare} f : sProp 𝕄) ⊢ iprop(oPts (F := F) d L 0 f ∗ oPts (F := F) d L 1 f) := by
  have h := (pointsTo_split_subset (Val := Elt F) (Ix := HIx 1) (Name := ℕ) (U := UU) (Lvl := ℕ) (ℓ := oB.view.loc (thr d L)) (q := fullShare) (f := f) (Finset.subset_univ (slotO 0))).1
  iintro H
  ihave ⟨H0, H1⟩ := h $$ H
  isplitl [H0]; · iexact H0
  iapply (Entails.of_eq (congrArg (fun S => (oB.view.loc (thr d L) ↦[S]{fullShare} f : sProp 𝕄)) slotO_compl)); iexact H1
theorem close_oB (f g : S2x4x16x128.Idx → BitVec 32) : (iprop(oPts (F := F) d L 0 f ∗ oPts (F := F) d L 1 g) : sProp 𝕄) ⊢ iprop(∃ h, (thr d L).loc cc0_scratch2 ↦{fullShare} h) := by
  have h := (pointsTo_split_subset (Val := Elt F) (Ix := HIx 1) (Name := ℕ) (U := UU) (Lvl := ℕ) (ℓ := oB.view.loc (thr d L)) (q := fullShare) (f := fun x : S2x4x16x128.Idx => if (x 0).val = 0 then f x else g x) (Finset.subset_univ (slotO 0))).2
  iintro ⟨H0, H1⟩
  iexists (fun x : S2x4x16x128.Idx => if (x 0).val = 0 then f x else g x)
  iapply h
  isplitl [H0]
  · iapply (Entails.of_eq (pointsTo_congr (fun x hx => (if_pos (Finset.mem_filter.mp hx).2).symm))); iexact H0
  · iapply (Entails.of_eq (congrArg (fun S => (oB.view.loc (thr d L) ↦[S]{fullShare} (fun x : S2x4x16x128.Idx => if (x 0).val = 0 then f x else g x) : sProp 𝕄)) slotO_compl.symm))
    iapply (Entails.of_eq (pointsTo_congr (fun x hx => (if_neg (by rw [(Finset.mem_filter.mp hx).2]; decide)).symm))); iexact H1

theorem task (hO : ∀ g, O g none = 0) (q q0 q1) :
    iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ wp frame (wpE (defs₀ (F := F)) 𝒱₀ (thr d L) none) Set.univ
      (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
      fun _ => iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ DN (F := F) d L co W (un L 0) ∗ DN (F := F) d L co W (un L 1) ∗ DN (F := F) d L co W (un L 2) ∗ DN (F := F) d L co W (un L 3) ∗ DN (F := F) d L co W (un L 4) ∗ DN (F := F) d L co W (un L 5)) := by
  by_cases hs : (L 1).val < 4
  · exact taska (F := F) d L co W O Ws hO hs q q0 q1
  · refine (taskb (F := F) d L co W O Ws hO hs q q0 q1).trans (wp_mono _ _ _ fun _ => ?_)
    iintro ⟨HW, HT, HS, HB, HC, HD, HO, HP, N0, N1, N2, N3, N4, X5⟩
    isplitl [HW]; · iexact HW
    isplitl [HT]; · iexact HT
    isplitl [HS]; · iexact HS
    isplitl [HB]; · iexact HB
    isplitl [HC]; · iexact HC
    isplitl [HD]; · iexact HD
    isplitl [HO]; · iexact HO
    isplitl [HP]; · iexact HP
    isplitl [N0]; · iexact N0
    isplitl [N1]; · iexact N1
    isplitl [N2]; · iexact N2
    isplitl [N3]; · iexact N3
    isplitl [N4]; · iexact N4
    unfold TD DN
    icases X5 with ⟨%f, X5⟩
    iapply (Entails.of_eq (pointsTo_congr (fun x hx => absurd ((mem_blk _ _ x).mp hx).2 (by have := ux_lt x; unfold un; omega)))); iexact X5

theorem open_o (f : S12x448x2x128.Idx → BitVec 32) :
    oPt (F := F) d (tileS (L 0).val (L 1).val) f ⊢ iprop(TD (F := F) d L (un L 0) ∗ TD (F := F) d L (un L 1) ∗ TD (F := F) d L (un L 2) ∗ TD (F := F) d L (un L 3) ∗ TD (F := F) d L (un L 4) ∗ TD (F := F) d L (un L 5)) := by
  have h3 := pointsTo_biUnion (Val := Elt F) (Ix := HIx 1) (Name := ℕ) (U := UU) (Lvl := ℕ) (q := fullShare) (f := f) (Finset.univ : Finset (Fin 6)) (ℓ := oLoc d) (fun t => blk (L 0).val (un L t.val)) (blks_disjoint (L 0).val (L 1).val)
  have h4 := congrArg (fun S => oPt (F := F) d S f) (blks_cover (L 0).val (L 1).val (L 1).isLt)
  refine (Entails.of_eq (h4.symm.trans (h3.trans (bigSep_fin6 _)))).trans ?_
  iintro ⟨X0, X1, X2, X3, X4, X5⟩
  unfold TD
  isplitl [X0]; · iexists f; iexact X0
  isplitl [X1]; · iexists f; iexact X1
  isplitl [X2]; · iexists f; iexact X2
  isplitl [X3]; · iexists f; iexact X3
  isplitl [X4]; · iexists f; iexact X4
  iexists f; iexact X5

theorem close_o :
    iprop(DN (F := F) d L co W (un L 0) ∗ DN (F := F) d L co W (un L 1) ∗ DN (F := F) d L co W (un L 2) ∗ DN (F := F) d L co W (un L 3) ∗ DN (F := F) d L co W (un L 4) ∗ DN (F := F) d L co W (un L 5)) ⊢ oPt (F := F) d (tileS (L 0).val (L 1).val) (OUTf co W) := by
  have h3 := pointsTo_biUnion (Val := Elt F) (Ix := HIx 1) (Name := ℕ) (U := UU) (Lvl := ℕ) (q := fullShare) (f := OUTf co W) (Finset.univ : Finset (Fin 6)) (ℓ := oLoc d) (fun t => blk (L 0).val (un L t.val)) (blks_disjoint (L 0).val (L 1).val)
  have h4 := congrArg (fun S => oPt (F := F) d S (OUTf co W)) (blks_cover (L 0).val (L 1).val (L 1).isLt)
  iintro H
  iapply (Entails.of_eq (h4.symm.trans (h3.trans (bigSep_fin6 _))).symm)
  iexact H

set_option maxHeartbeats 1000000 in
theorem tile_body (hF : (K (F := F)).Facts) (hO : ∀ g, O g none = 0) (oi : S12x448x2x128.Idx → BitVec 32) :
    iprop(levAts (K (F := F)).L (K (F := F)).lev ∗ emp ∗ tileP (F := F) co W d (L 0).val (L 1).val oi
        ∗ scopedBufs (thr d L) ∗ scopedSems0 (thr d L) ∗ owes (thr d L) O Ws)
      ⊢ wp frame (wpE (defs₀ (F := F)) 𝒱₀ (thr d L) none) Set.univ
          (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
          fun _ => iprop(tileP (F := F) co W d (L 0).val (L 1).val (OUTf co W)
            ∗ scopedBufs (thr d L) ∗ scopedSems0 (thr d L)
            ∗ ∃ W', ⌜∀ p ∈ W', p ∈ Ws ∨ p.2 = none ∨ p.2 = some (0 : Fin 1)⌝ ∗ owes (thr d L) O W') := by
  rw [(K (F := F)).scopedBufs_V hF d (cT L) (jT L), SparseCore.Cfg.scopedSems0_V (Val := Elt F) d (cT L) (jT L), ownSems0_V, ownBufs_V]
  iintro ⟨#Hlv, -, ⟨Hc, Hw, Ho⟩, ⟨HT, ⟨%fc, Hcb⟩, ⟨%fo, Hob⟩, Hbufs⟩, ⟨HS, SC0, SC1, SO0, SO1, Hsems⟩, HO⟩
  ihave ⟨HC0, HC1⟩ := (pointsTo_share (PosShare.mem_left_op_right (xq (L 0).val (L 1).val))).1 $$ Hc
  ihave ⟨B0, B1⟩ := (open_cB (F := F) d L fc) $$ Hcb
  ihave ⟨P0, P1⟩ := (open_oB (F := F) d L fo) $$ Hob
  ihave ⟨X0, X1, X2, X3, X4, X5⟩ := (open_o (F := F) d L oi) $$ Ho
  ihave H := (task (F := F) co W d L O Ws hO (xq (L 0).val (L 1).val) (xq (L 0).val (L 1).val).left (xq (L 0).val (L 1).val).right)
    $$ [HO HT HS Hw HC0 HC1 B0 B1 P0 P1 SC0 SC1 SO0 SO1 X0 X1 X2 X3 X4 X5]
  · isplitl [HO]
    · unfold OW
      isplitr; · iexact Hlv
      iexists Ws
      isplitr; swap; · iexact HO
      ipureintro; exact fun p hp => .inl hp
    isplitl [HT]; · iexact HT
    isplitl [HS]; · iexact HS
    isplitl [Hw]; · iexact Hw
    isplitl [HC0 B0 SC0]
    · unfold CI
      isplitl [B0]; · iexists fc; iexact B0
      isplitl [SC0]; · iexact SC0
      iexact HC0
    isplitl [HC1 B1 SC1]
    · unfold CI
      isplitl [B1]; · iexists fc; iexact B1
      isplitl [SC1]; · iexact SC1
      iexact HC1
    isplitl [P0 SO0]
    · unfold OI
      isplitl [P0]; · iexists fo; iexact P0
      iexact SO0
    isplitl [P1 SO1]
    · unfold OI
      isplitl [P1]; · iexists fo; iexact P1
      iexact SO1
    isplitl [X0]; · iexact X0
    isplitl [X1]; · iexact X1
    isplitl [X2]; · iexact X2
    isplitl [X3]; · iexact X3
    isplitl [X4]; · iexact X4
    iexact X5
  iapply (wp_wand_r frame (wpE (defs₀ (F := F)) 𝒱₀ (thr d L) none) Set.univ)
  isplitl [H]; · iexact H
  iintro %_ H
  unfold OW CI OI
  icases H with ⟨⟨-, ⟨%W', %hW, HO⟩⟩, HT, HS, Hw, ⟨⟨%f0, B0⟩, SC0, HC0⟩, ⟨⟨%f1, B1⟩, SC1, HC1⟩, ⟨⟨%g0, P0⟩, SO0⟩, ⟨⟨%g1, P1⟩, SO1⟩, HN⟩
  isplitl [HC0 HC1 Hw HN]
  · isplitl [HC0 HC1]
    · iapply (pointsTo_share (PosShare.mem_left_op_right (xq (L 0).val (L 1).val))).2
      isplitl [HC0]; · iexact HC0
      iexact HC1
    isplitl [Hw]; · iexact Hw
    iapply (close_o (F := F) co W d L); iexact HN
  isplitl [HT B0 B1 P0 P1 Hbufs]
  · isplitl [HT]; · iexact HT
    isplitl [B0 B1]; · iapply (close_cB (F := F) d L f0 f1); isplitl [B0] <;> iassumption
    isplitl [P0 P1]; · iapply (close_oB (F := F) d L g0 g1); isplitl [P0] <;> iassumption
    iexact Hbufs
  isplitl [HS SC0 SC1 SO0 SO1 Hsems]
  · isplitl [HS]; · iexact HS
    isplitl [SC0]; · iexact SC0
    isplitl [SC1]; · iexact SC1
    isplitl [SO0]; · iexact SO0
    isplitl [SO1]; · iexact SO1
    iexact Hsems
  iexists W'; isplitr
  swap; · iexact HO
  ipureintro; intro p hp
  rcases hW p hp with h | h
  · exact .inl h
  · exact .inr (.inl h)

end Tile

end Cert.Proof.G
-- ==== Proof.G.Launch.lean ====
/- THE CALL AND @main: the host's transposes and reshape, the two cores' thirty-two tasks, and the whole run. -/
module

public import proofs.«01_k».proof.Proof.G.Tile

@[expose] public section

set_option maxRecDepth 65536

noncomputable section

namespace Cert.Proof.G

open Cert.Gather Cert.Gather.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations before the call -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev op1 : HloOp τ sig (Elt F) := StableHlo.unary main_arg0 main_v0 ((transpose S224x18944 [1, 0] · transposes_S18944x224_S224x18944_1_0) : (⟨S18944x224, .i32⟩ : BufTy).Contents (Elt F) → (⟨S224x18944, .i32⟩ : BufTy).Contents (Elt F))
abbrev op2 : HloOp τ sig (Elt F) := StableHlo.reshape main_v0 main_v1 (rfl : (.i32 : EltTy) = .i32) shapeCasts_S224x18944_S28x8x148x128
abbrev op3 : HloOp τ sig (Elt F) := StableHlo.unary main_v1 main_v2 ((transpose S28x148x8x128 [0, 2, 1, 3] · transposes_S28x8x148x128_S28x148x8x128_0_2_1_3) : (⟨S28x8x148x128, .i32⟩ : BufTy).Contents (Elt F) → (⟨S28x148x8x128, .i32⟩ : BufTy).Contents (Elt F))
abbrev op4 : HloOp τ sig (Elt F) := StableHlo.unary main_arg1 main_v3 ((transpose S2x65536 [1, 0] · transposes_S65536x2_S2x65536_1_0) : (⟨S65536x2, .i32⟩ : BufTy).Contents (Elt F) → (⟨S2x65536, .i32⟩ : BufTy).Contents (Elt F))

/-- The launch contents, and the contents when the call starts. -/
def V0 (d : Dev nD) : Valuation τ sig (Elt F) := fun b => m (d, b)
def V4 (d : Dev nD) : Valuation τ sig (Elt F) := StableHlo.after [op1, op2, op3, op4] (V0 m d)

theorem V4_a0 (d : Dev nD) : V4 m d a0' = m ((SparseCore.T d).loc main_arg0) := by unfold V4; after_results <;> rfl
theorem V4_a1 (d : Dev nD) : V4 m d a1' = m ((SparseCore.T d).loc main_arg1) := by unfold V4; after_results <;> rfl
theorem V4_v4 (d : Dev nD) : V4 m d v4' = m (oLoc d) := by unfold V4; after_results <;> rfl

/-- The codes and the words as the call receives them. -/
def coM (d : Dev nD) : S28x148x8x128.Idx → BitVec 32 := V4 m d v2'
def WM (d : Dev nD) : S2x65536.Idx → BitVec 32 := V4 m d v3'
/-- The array the call leaves. -/
def OUTM (d : Dev nD) : S12x448x2x128.Idx → BitVec 32 := OUTf (coM m d) (WM m d)

theorem coM_eq (d : Dev nD) : coM m d = transpose S28x148x8x128 [0, 2, 1, 3] (shapeCast S28x8x148x128 (transpose S224x18944 [1, 0] (m ((SparseCore.T d).loc main_arg0))
    transposes_S18944x224_S224x18944_1_0) shapeCasts_S224x18944_S28x8x148x128) transposes_S28x8x148x128_S28x148x8x128_0_2_1_3 := by
  unfold coM V4; after_results <;> rfl
theorem WM_eq (d : Dev nD) : WM m d = transpose S2x65536 [1, 0] (m ((SparseCore.T d).loc main_arg1)) transposes_S65536x2_S2x65536_1_0 := by
  unfold WM V4; after_results <;> rfl

abbrev oI (d : Dev nD) : S12x448x2x128.Idx → BitVec 32 := V4 m d v4'

/-! ## What the handshakes carry -/

def P : (K (F := F)).Pay (nD := nD) (Val := Elt F) (Name := ℕ) (U := UU) where
  st := fun q d c => match q with | 0 => coreP (F := F) (coM m d) (WM m d) d c.val (oI m d)
  dn := fun q d c => match q with | 0 => coreP (F := F) (coM m d) (WM m d) d c.val (OUTM m d)
  go := fun q d c i => match q with | 0 => tileP (F := F) (coM m d) (WM m d) d c.val i.val (oI m d)
  td := fun q d c i => match q with | 0 => tileP (F := F) (coM m d) (WM m d) d c.val i.val (OUTM m d)
  x := fun _ _ => iprop(emp)

instance P_storable : (P (F := F) m).IsStorable where
  st q d c := match q with
    | 0 => (inferInstance : BI.Storable (upEmb : UEmb _ 𝕄) (coreP (F := F) (coM m d) (WM m d) d c.val (oI m d)))
  dn q d c := match q with
    | 0 => (inferInstance : BI.Storable (upEmb : UEmb _ 𝕄) (coreP (F := F) (coM m d) (WM m d) d c.val (OUTM m d)))
  go q d c i := match q with
    | 0 => (inferInstance : BI.Storable (upEmb : UEmb _ 𝕄) (tileP (F := F) (coM m d) (WM m d) d c.val i.val (oI m d)))
  td q d c i := match q with
    | 0 => (inferInstance : BI.Storable (upEmb : UEmb _ 𝕄) (tileP (F := F) (coM m d) (WM m d) d c.val i.val (OUTM m d)))

/-! ## The obligation of a task, and the split of a core's hand-over -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_0 (coordsV c s) cV (Memref.isWhole_whole _) wV (Memref.isWhole_whole _) oV (Memref.isWhole_whole _) tB (Memref.isWhole_whole _) cB (Memref.isWhole_whole _) oB (Memref.isWhole_whole _) cc0_scratch3 cc0_scratch4 cc0_scratch5) ⟨⟩ c s := rfl

theorem tileObl (hF : (K (F := F)).Facts) : (K (F := F)).TileObl (D (F := F)) 𝒱 (P m) v₀ 0 := by
  intro d c i O Ws hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (F := F) (coM m d) (WM m d) d (coordsV ⟨_, hci.1⟩ ⟨_, hci.2⟩) O Ws hF hO (oI m d)

theorem bigSep_tasks (Φ : ℕ → sProp 𝕄) :
    (bigSep Finset.univ fun i : Fin ((K (F := F)).nSub 0) => Φ i.val) = bigSep Finset.univ fun i : Fin 16 => Φ i.val := rfl
theorem bigSep_cores (Φ : ℕ → sProp 𝕄) :
    (bigSep Finset.univ fun i : Fin ((K (F := F)).nCore 0) => Φ i.val) = bigSep Finset.univ fun i : Fin 2 => Φ i.val := rfl

theorem vecSplit : (K (F := F)).VecSplit' (P m) 0 := by
  intro d c
  show coreP (F := F) (coM m d) (WM m d) d c.val (oI m d) ⊢ |={Set.univ}=> iprop(
      (bigSep Finset.univ fun i : Fin ((K (F := F)).nSub 0) => tileP (F := F) (coM m d) (WM m d) d c.val i.val (oI m d))
      ∗ ((bigSep Finset.univ fun i : Fin ((K (F := F)).nSub 0) => tileP (F := F) (coM m d) (WM m d) d c.val i.val (OUTM m d))
          -∗ coreP (F := F) (coM m d) (WM m d) d c.val (OUTM m d)))
  rw [bigSep_tasks (F := F) (fun i => tileP (F := F) (coM m d) (WM m d) d c.val i (oI m d)),
    bigSep_tasks (F := F) (fun i => tileP (F := F) (coM m d) (WM m d) d c.val i (OUTM m d))]
  iintro H; imodintro
  isplitl [H]
  · iapply (Entails.of_eq (core_tiles (F := F) (coM m d) (WM m d) d c.val (oI m d))); iexact H
  iintro H
  iapply (Entails.of_eq (core_tiles (F := F) (coM m d) (WM m d) d c.val (OUTM m d)).symm); iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev S7 : Finset (DevRef τ sig) := {a0', a1', v0', v1', v2', v3', v4'}

theorem held_S7 (d : Dev nD) (V : Valuation τ sig (Elt F)) :
    (StableHlo.held (T d) S7 V : sProp 𝕄) = iprop(((SparseCore.T d).loc main_arg0 ↦{fullShare} V a0') ∗ ((SparseCore.T d).loc main_arg1 ↦{fullShare} V a1')
      ∗ ((SparseCore.T d).loc main_v0 ↦{fullShare} V v0') ∗ ((SparseCore.T d).loc main_v1 ↦{fullShare} V v1')
      ∗ (cLoc d ↦{fullShare} V v2') ∗ (wLoc d ↦{fullShare} V v3') ∗ oLoc d ↦{fullShare} V v4') := by
  unfold StableHlo.held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (V : (b : Ref sig .tc) → Buf (Elt F) ((d.tc : Thread nD τ).loc b)) :
    (unscopedBufs d V : sProp 𝕄) = iprop(((SparseCore.T d).loc main_arg0 ↦{fullShare} V main_arg0) ∗ ((SparseCore.T d).loc main_arg1 ↦{fullShare} V main_arg1)
      ∗ ((SparseCore.T d).loc main_v0 ↦{fullShare} V main_v0) ∗ ((SparseCore.T d).loc main_v1 ↦{fullShare} V main_v1)
      ∗ (cLoc d ↦{fullShare} V main_v2) ∗ (wLoc d ↦{fullShare} V main_v3) ∗ oLoc d ↦{fullShare} V main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = StableHlo.held (T d) S7 (V0 m d) := by
  rw [unscopedBufs_eq, held_S7]; rfl

theorem st0_eq (d : Dev nD) : (bigSep Finset.univ fun c : Fin ((K (F := F)).nCore 0) => (P m).st 0 d c)
    = iprop(cPt (F := F) (coM m d) d fullShare ∗ wPt (F := F) (WM m d) d fullShare ∗ oPt (F := F) d Finset.univ (oI m d)) :=
  (whole_cores (F := F) (coM m d) (WM m d) d (oI m d)).symm
theorem dn0_eq (d : Dev nD) : (bigSep Finset.univ fun c : Fin ((K (F := F)).nCore 0) => (P m).dn 0 d c)
    = iprop(cPt (F := F) (coM m d) d fullShare ∗ wPt (F := F) (WM m d) d fullShare ∗ oPt (F := F) d Finset.univ (OUTM m d)) :=
  (whole_cores (F := F) (coM m d) (WM m d) d (OUTM m d)).symm

/-- What @main leaves the claim: the two arguments at their launch contents and the result. -/
abbrev FIN (d : Dev nD) : sProp 𝕄 := iprop(((SparseCore.T d).loc main_arg0 ↦{fullShare} m ((SparseCore.T d).loc main_arg0))
  ∗ ((SparseCore.T d).loc main_arg1 ↦{fullShare} m ((SparseCore.T d).loc main_arg1)) ∗ oLoc d ↦{fullShare} (OUTM m d : Buf (Elt F) (oLoc d)))

theorem h1 : (op1 (F := F)).bufs ⊆ S7 := show ({a0', v0'} : Finset (DevRef τ sig)) ⊆ S7 by decide
theorem h2 : (op2 (F := F)).bufs ⊆ S7 := show ({v0', v1'} : Finset (DevRef τ sig)) ⊆ S7 by decide
theorem h3 : (op3 (F := F)).bufs ⊆ S7 := show ({v1', v2'} : Finset (DevRef τ sig)) ⊆ S7 by decide
theorem h4 : (op4 (F := F)).bufs ⊆ S7 := show ({a1', v3'} : Finset (DevRef τ sig)) ⊆ S7 by decide

theorem V4_fold (d : Dev nD) : (op4 (F := F)).result ((op3 (F := F)).result ((op2 (F := F)).result ((op1 (F := F)).result (V0 m d)))) = V4 m d := rfl

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := op1) (S := S7) h1 (V := V0 m d)) $$ [Hb Hheld]
  · isplitl [Hb] <;> iassumption
  iintro ⟨Hb, Hheld⟩
  rw [wp_ret]; imodintro
  iapply (StableHlo.wp_hlo_within 𝒱 (SparseCore.T d) none Set.univ (op := op2) (S := S7) h2 (V := (op1 (F := F)).result (V0 m d))) $$ [Hb Hheld]
  · isplitl [Hb] <;> iassumption
  iintro ⟨Hb, Hheld⟩
  rw [wp_ret]; imodintro
  iapply (StableHlo.wp_hlo_within 𝒱 (SparseCore.T d) none Set.univ (op := op3) (S := S7) h3 (V := (op2 (F := F)).result ((op1 (F := F)).result (V0 m d)))) $$ [Hb Hheld]
  · isplitl [Hb] <;> iassumption
  iintro ⟨Hb, Hheld⟩
  rw [wp_ret]; imodintro
  iapply (StableHlo.wp_hlo_within 𝒱 (SparseCore.T d) none Set.univ (op := op4) (S := S7) h4 (V := (op3 (F := F)).result ((op2 (F := F)).result ((op1 (F := F)).result (V0 m d))))) $$ [Hb Hheld]
  · isplitl [Hb] <;> iassumption
  iintro ⟨Hb, Hheld⟩
  rw [wp_ret]; imodintro
  ihave Hheld' := (Entails.of_eq (congrArg (StableHlo.held (SparseCore.T d) S7) (V4_fold m d))) $$ Hheld
  ihave Hh := (Entails.of_eq (held_S7 (F := F) d (V4 m d))) $$ Hheld'
  icases Hh with ⟨Ha0, Ha1, -, -, Hc, Hw, Ho⟩
  iapply ((K (F := F)).wp_run (D (F := F)) 𝒱 (EH := EH) (P := P m) κ d 0) $$ [Hst Ha0 Ha1 Hc Hw Ho Hb Hts]
  isplitr; · iexact Hctx
  isplitl [Hst]; · iexact Hst
  isplitl [Hc Hw Ho]
  · rw [st0_eq]
    isplitl [Hc]; · iexact Hc
    isplitl [Hw]; · iexact Hw
    iexact Ho
  iintro ⟨Hst, Hdn⟩
  ihave Hdn' := (Entails.of_eq (dn0_eq m d)) $$ Hdn
  icases Hdn' with ⟨-, -, Ho⟩
  imodintro
  isplitl [Hst]; · iexact Hst
  isplitr [Hb Hts]
  · isplitl [Ha0]; · iapply (Entails.of_eq (congrArg (fun f => ((SparseCore.T d).loc main_arg0 ↦{fullShare} f : sProp 𝕄)) (V4_a0 m d))); iexact Ha0
    isplitl [Ha1]; · iapply (Entails.of_eq (congrArg (fun f => ((SparseCore.T d).loc main_arg1 ↦{fullShare} f : sProp 𝕄)) (V4_a1 m d))); iexact Ha1
    iexact Ho
  isplitl [Hb] <;> iassumption

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (oLoc d) = OUTM m d

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := (SparseCore.T d).loc main_arg0) (I := Finset.univ) (q := fullShare) (f := m ((SparseCore.T d).loc main_arg0)))) $$ [HSI Hx]
  · isplitl [HSI] <;> iassumption
  icases H with ⟨%hx, HSI, -⟩
  ihave H := (persistent_entails_right (SI_pointsTo_agree (st := s') (ℓ := (SparseCore.T d).loc main_arg1) (I := Finset.univ) (q := fullShare) (f := m ((SparseCore.T d).loc main_arg1)))) $$ [HSI Ha]
  · isplitl [HSI] <;> iassumption
  icases H with ⟨%ha, HSI, -⟩
  ihave H := (SI_pointsTo_agree (st := s') (ℓ := oLoc d) (I := Finset.univ) (q := fullShare) (f := (OUTM m d : Buf (Elt F) (oLoc d)))) $$ [HSI Ho]
  · isplitl [HSI] <;> iassumption
  icases H with %ho
  ipureintro
  exact ⟨funext fun i => hx i (Finset.mem_univ i), funext fun i => ha i (Finset.mem_univ i), funext fun i => ho i (Finset.mem_univ i)⟩

/-! ## The run -/

def QC : PUnit × MemSt nD τ sig (Elt F) → Prop := fun r => (∀ c : Dev nD,
    r.2.mem ((SparseCore.T c).loc main_arg0) = m ((SparseCore.T c).loc main_arg0) ∧ r.2.mem ((SparseCore.T c).loc main_arg1) = m ((SparseCore.T c).loc main_arg1)
      ∧ r.2.mem (oLoc c) = OUTM m c) ∧ r.2.sem = fun _ => 0

/-- Every weakly fair execution ends, the arguments unchanged, the result at `OUTM`, every counter at zero. -/
theorem run_main [∀ e, Nonempty (Elt F e)] : θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.G
-- ==== Proof.GI.Base.lean ====
/- THE GATHER CALL AS THE LAUNCH THEOREM SEES IT: the configuration of the one vector-subcore call, the resource algebra, the
   buffers and scoped cells a vector subcore owns, and the memrefs as the body receives them. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.GI

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The transfers' counters: the second component of the certificate's own algebra. -/
abbrev EC : UEmb Counters (MT nD τ sig (HIx 1) (Elt F) ℕ UU ℕ) := (UEmb.inr : UEmb Counters (UH × Counters)).trans uEmb

/-! ## The memrefs as the body receives them -/

abbrev cV : Memref sig .scVector .hbm S28x148x8x128 .i32 := Memref.whole main_v2_scv
abbrev wV : Memref sig .scVector .hbm S2x65536 .i32 := Memref.whole main_v3_scv
abbrev oV : Memref sig .scVector .hbm S12x448x2x128 .i32 := Memref.whole main_v4_scv
abbrev tB : Memref sig .scVector .vmem S65536 .i32 := Memref.whole cc0_scratch0
abbrev cB : Memref sig .scVector .vmem S2x4x8x128 .i32 := Memref.whole cc0_scratch1
abbrev oB : Memref sig .scVector .vmem S2x4x16x128 .i32 := Memref.whole cc0_scratch2

abbrev cT (L : grid0.Coords) : Fin τ.nSC := (L 0).castLE hcore0
abbrev jT (L : grid0.Coords) : Fin τ.nSub := (L 1).castLE hsub0
abbrev thr (d : Dev nD) (L : grid0.Coords) : Thread nD τ := V d (cT L) (jT L)

/-! ## The subcore's own cells and buffers -/

section Own
variable (d : Dev nD) (L : grid0.Coords)

/-- The five scoped semaphores: the table's, the two of the code slots, the two of the output slots. -/
abbrev semT : DmaSem sig := cc0_scratch3.sem
abbrev semC0 : DmaSem sig := ((cc0_scratch4.slice (Rect.unit (s := S2) ![0] S1.size inb_S2_S1_0)).squeeze S_ squeezes_S1_S_).sem
abbrev semC1 : DmaSem sig := ((cc0_scratch4.slice (Rect.unit (s := S2) ![1] S1.size inb_S2_S1_1)).squeeze S_ squeezes_S1_S_).sem
abbrev semO0 : DmaSem sig := ((cc0_scratch5.slice (Rect.unit (s := S2) ![0] S1.size inb_S2_S1_0)).squeeze S_ squeezes_S1_S_).sem
abbrev semO1 : DmaSem sig := ((cc0_scratch5.slice (Rect.unit (s := S2) ![1] S1.size inb_S2_S1_1)).squeeze S_ squeezes_S1_S_).sem
abbrev gc (s : DmaSem sig) : GSem nD τ sig := (thr d L, .dma s)

theorem gc_ne {s s' : DmaSem sig} (h : s ≠ s') : gc d L s ≠ gc d L s' := fun e => h (by injection (congrArg Prod.snd e))

theorem mem_gc (s : DmaSem sig) (h : (SemLoc.dma s : SemLoc sig).isScoped .scVector = true) : gc d L s ∈ ownCells (thr d L) :=
  (mem_ownCells (g := gc d L s)).mpr ⟨rfl, h⟩

theorem ownSems0_V :
    (ownSems0 (thr d L) : sProp 𝕄)
      = iprop(semVal (gc d L semT) 0 ∗ semVal (gc d L semC0) 0 ∗ semVal (gc d L semC1) 0 ∗ semVal (gc d L semO0) 0 ∗ semVal (gc d L semO1) 0
          ∗ bigSep ((((((ownCells (thr d L)).erase (gc d L semT)).erase (gc d L semC0)).erase (gc d L semC1)).erase (gc d L semO0)).erase (gc d L semO1))
              fun g => semVal g 0) := by
  unfold SparseCore.Cfg.ownSems0
  rw [SparseCore.bigSep_erase' (mem_gc d L semT (by decide)),
    SparseCore.bigSep_erase' (Finset.mem_erase.mpr ⟨gc_ne d L (by decide), mem_gc d L semC0 (by decide)⟩),
    SparseCore.bigSep_erase' (Finset.mem_erase.mpr ⟨gc_ne d L (by decide), Finset.mem_erase.mpr ⟨gc_ne d L (by decide), mem_gc d L semC1 (by decide)⟩⟩),
    SparseCore.bigSep_erase' (Finset.mem_erase.mpr ⟨gc_ne d L (by decide), Finset.mem_erase.mpr ⟨gc_ne d L (by decide),
      Finset.mem_erase.mpr ⟨gc_ne d L (by decide), mem_gc d L semO0 (by decide)⟩⟩⟩),
    SparseCore.bigSep_erase' (Finset.mem_erase.mpr ⟨gc_ne d L (by decide), Finset.mem_erase.mpr ⟨gc_ne d L (by decide),
      Finset.mem_erase.mpr ⟨gc_ne d L (by decide), Finset.mem_erase.mpr ⟨gc_ne d L (by decide), mem_gc d L semO1 (by decide)⟩⟩⟩⟩)]

/-- The subcore's own buffers are the three scratches, each at some contents, together with the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cT L) (jT L))).erase ((Proc.scVector (cT L) (jT L)).devRef cc0_scratch0)).erase
              ((Proc.scVector (cT L) (jT L)).devRef cc0_scratch1)).erase ((Proc.scVector (cT L) (jT L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cT L) (jT L))
    (b := (Proc.scVector (cT L) (jT L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cT L) (jT L)) (b := (Proc.scVector (cT L) (jT L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cT L) (jT L)) (b := (Proc.scVector (cT L) (jT L)).devRef cc0_scratch2) rfl⟩⟩)]

end Own

end Cert.Proof.GI
-- ==== Proof.GI.Inner.lean ====
/- ONE LANE GROUP OF THE INNER LOOP: sixteen packed words are loaded from the code slot, split into their low and high halves, the
   table is read at both, and the two vectors are stored in two neighbouring rows of the output slot. `GV` is the value the output
   slot is to hold; a store of a vector read extends the part of the slot holding it. -/
module

public import proofs.«01_k».proof.Proof.GI.Base

@[expose] public section

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Half `h` of a packed word: the low sixteen bits, or the high sixteen. -/
def hw (h : ℕ) (w : BitVec 32) : BitVec 32 := if h = 0 then w &&& 65535#32 else w >>> 16

theorem and_lt (w : BitVec 32) : (w &&& 65535#32).toNat < 65536 := by
  rw [BitVec.toNat_and]
  exact Nat.lt_of_le_of_lt Nat.and_le_right (by decide)
theorem shr_lt (w : BitVec 32) : (w >>> 16).toNat < 65536 := by
  rw [BitVec.toNat_ushiftRight, Nat.shiftRight_eq_div_pow]
  have := w.isLt
  omega
theorem hw_lt (h : ℕ) (w : BitVec 32) : (hw h w).toNat < 65536 := by
  unfold hw; split
  · exact and_lt w
  · exact shr_lt w

/-- The table's multi-index at a word below 65536. -/
def tix (w : BitVec 32) (h : w.toNat < 65536) : S65536.Idx := fun | 0 => ⟨w.toNat, h⟩

/-- A multi-index of the code slots. -/
def cix (a : Fin 2) (b : Fin 4) (c : Fin 8) (e : Fin 128) : S2x4x8x128.Idx := fun | 0 => a | 1 => b | 2 => c | 3 => e

/-- What the output slots are to hold: row `k`, lane `l` of subtile `a` of slot `σ` is the table at half `k % 2` of the code word in row `k / 2`. -/
def GV (tb : S65536.Idx → BitVec 32) (f : S2x4x8x128.Idx → BitVec 32) (x : S2x4x16x128.Idx) : BitVec 32 :=
  let w := hw ((x 2).val % 2) (f (cix (x 0) (x 1) ⟨(x 2).val / 2, by have h := (x 2).isLt; change _ < 16 at h; omega⟩ (x 3)))
  tb (tix w (hw_lt _ _))

/-- `x` lies in the run of sixteen lanes at `off`. -/
def inR (off : Fin 4 → ℕ) (x : S2x4x16x128.Idx) : Prop := ∀ a, off a ≤ (x a).val ∧ (x a).val < off a + S1x1x1x16.size a

abbrev slotC (σ : ℕ) : Finset S2x4x8x128.Idx := Finset.univ.filter fun x => (x 0).val = σ
abbrev slotO (σ : ℕ) : Finset S2x4x16x128.Idx := Finset.univ.filter fun x => (x 0).val = σ

variable [FloatOps F]
section
variable (d : Dev nD) (L : grid0.Coords)

abbrev tPts (tb : S65536.Idx → BitVec 32) : sProp 𝕄 := tB.view.loc (thr d L) ↦{fullShare} tb
abbrev cPts (σ : ℕ) (f : S2x4x8x128.Idx → BitVec 32) : sProp 𝕄 := cB.view.loc (thr d L) ↦[slotC σ]{fullShare} f
abbrev oPts (σ : ℕ) (g : S2x4x16x128.Idx → BitVec 32) : sProp 𝕄 := oB.view.loc (thr d L) ↦[slotO σ]{fullShare} g
/-- Output slot `σ` holds the value wherever `P` says so. -/
abbrev oGood (σ : ℕ) (tb : S65536.Idx → BitVec 32) (f : S2x4x8x128.Idx → BitVec 32) (P : S2x4x16x128.Idx → Prop) : sProp 𝕄 :=
  iprop(∃ g, ⌜∀ x, P x → g x = GV tb f x⌝ ∗ oPts (F := F) d L σ g)

/-- What a vector load at sixteen lanes of the code slots reads. -/
theorem ld_cB (oc : Fin 4 → ℕ) (hc : ∀ a, oc a + S1x1x1x16.size a ≤ S2x4x8x128.size a) (f : S2x4x8x128.Idx → BitVec 32) (j : S1x1x1x16.Idx) :
    cB.view.readAt (Elt F) (Rect.unit (s := S2x4x8x128) oc S1x1x1x16.size hc).toLoadRect f j
      = f (cix ⟨oc 0, by have := hc 0; change _ + 1 ≤ 2 at this; omega⟩ ⟨oc 1, by have := hc 1; change _ + 1 ≤ 4 at this; omega⟩
          ⟨oc 2, by have := hc 2; change _ + 1 ≤ 8 at this; omega⟩ ⟨oc 3 + (j 3).val, by have := hc 3; have h := (j 3).isLt; change _ < 16 at h; change _ + 16 ≤ 128 at this; omega⟩) := by
  show f _ = f _
  congr 1
  funext a
  match a with
  | 0 => apply Fin.ext; have h := (j 0).isLt; change _ < 1 at h; show oc 0 + 1 * (j 0).val = oc 0; omega
  | 1 => apply Fin.ext; have h := (j 1).isLt; change _ < 1 at h; show oc 1 + 1 * (j 1).val = oc 1; omega
  | 2 => apply Fin.ext; have h := (j 2).isLt; change _ < 1 at h; show oc 2 + 1 * (j 2).val = oc 2; omega
  | 3 => apply Fin.ext; show oc 3 + 1 * (j 3).val = oc 3 + (j 3).val; omega

/-- The cast from sixteen lanes to a (1, 1, 1, 16) block keeps the lane. -/
theorem cast_lane (x : S1x1x1x16.Idx → BitVec 32) (h : S1x1x1x16.ShapeCasts S16) (h' : S16.ShapeCasts S1x1x1x16) (j : S1x1x1x16.Idx) :
    Shape.reshapeEquiv h (Shape.reshapeEquiv h' j) = j := by
  simp [Shape.reshapeEquiv]

/-- A vector of sixteen words, each half of the loaded code word. -/
abbrev lowOf (ld : Vec F S1x1x1x16 .i32) : IVec S16 32 := andi (shapeCast S16 ld shapeCasts_S1x1x1x16_S16) (broadcast S16 65535#32)
abbrev highOf (ld : Vec F S1x1x1x16 .i32) : IVec S16 32 := shrui (shapeCast S16 ld shapeCasts_S1x1x1x16_S16) (broadcast S16 16#32)

theorem low_apply (ld : Vec F S1x1x1x16 .i32) (x : S16.Idx) : lowOf ld x = hw 0 (ld (Shape.reshapeEquiv shapeCasts_S1x1x1x16_S16 x)) := rfl
theorem high_apply (ld : Vec F S1x1x1x16 .i32) (x : S16.Idx) : highOf ld x = hw 1 (ld (Shape.reshapeEquiv shapeCasts_S1x1x1x16_S16 x)) := by
  simp [highOf, hw, shrui, broadcast, shapeCast]
  try rfl

theorem chk_low (ld : Vec F S1x1x1x16 .i32) : ∀ a x, ((![lowOf ld] : Fin 1 → IVec S16 32) a x).toNat < S65536.size a := by
  intro a x
  match a with
  | 0 => show (lowOf ld x).toNat < 65536; rw [low_apply]; exact hw_lt _ _
theorem chk_high (ld : Vec F S1x1x1x16 .i32) : ∀ a x, ((![highOf ld] : Fin 1 → IVec S16 32) a x).toNat < S65536.size a := by
  intro a x
  match a with
  | 0 => show (highOf ld x).toNat < 65536; rw [high_apply]; exact hw_lt _ _

/-- The stored vector: the table at a half of each loaded word is the value at the run of lanes it is stored in. -/
theorem half_value (tb : S65536.Idx → BitVec 32) (f : S2x4x8x128.Idx → BitVec 32) (oc o : Fin 4 → ℕ) (h : ℕ) (hh : h < 2)
    (ho : o = ![oc 0, oc 1, 2 * oc 2 + h, oc 3])
    (hc : ∀ a, oc a + S1x1x1x16.size a ≤ S2x4x8x128.size a) (hi : ∀ a, o a + S1x1x1x16.size a ≤ S2x4x16x128.size a)
    (ix : IVec S16 32) (hix : ∀ a x, ((![ix] : Fin 1 → IVec S16 32) a x).toNat < S65536.size a)
    (hv : ∀ x, ix x = hw h (cB.view.readAt (Elt F) (Rect.unit (s := S2x4x8x128) oc S1x1x1x16.size hc).toLoadRect f (Shape.reshapeEquiv shapeCasts_S1x1x1x16_S16 x)))
    (j : S1x1x1x16.Idx) :
    shapeCast S1x1x1x16 (loadIdx (F := F) (e := .i32) tb ![ix] hix) shapeCasts_S16_S1x1x1x16 j
      = GV tb f ((Rect.unit (s := S2x4x16x128) o S1x1x1x16.size hi).emb j) := by
  have h0 := hc 0; have h1 := hc 1; have h2 := hc 2; have h3 := hc 3
  change oc 0 + 1 ≤ 2 at h0; change oc 1 + 1 ≤ 4 at h1; change oc 2 + 1 ≤ 8 at h2; change oc 3 + 16 ≤ 128 at h3
  have j0 := (j 0).isLt; have j1 := (j 1).isLt; have j2 := (j 2).isLt; have j3 := (j 3).isLt
  change _ < 1 at j0; change _ < 1 at j1; change _ < 1 at j2; change _ < 16 at j3
  have e0 : ((Rect.unit (s := S2x4x16x128) o S1x1x1x16.size hi).emb j 0).val = oc 0 := by rw [Rect.emb_apply]; subst ho; show oc 0 + 1 * (j 0).val = _; omega
  have e1 : ((Rect.unit (s := S2x4x16x128) o S1x1x1x16.size hi).emb j 1).val = oc 1 := by rw [Rect.emb_apply]; subst ho; show oc 1 + 1 * (j 1).val = _; omega
  have e2 : ((Rect.unit (s := S2x4x16x128) o S1x1x1x16.size hi).emb j 2).val = 2 * oc 2 + h := by
    rw [Rect.emb_apply]; subst ho; show 2 * oc 2 + h + 1 * (j 2).val = _; omega
  have e3 : ((Rect.unit (s := S2x4x16x128) o S1x1x1x16.size hi).emb j 3).val = oc 3 + (j 3).val := by
    rw [Rect.emb_apply]; subst ho; show oc 3 + 1 * (j 3).val = _; omega
  show tb (idxAt _ _ _) = tb _
  congr 1
  funext a
  match a with
  | 0 =>
    apply Fin.ext
    show (ix (Shape.reshapeEquiv shapeCasts_S16_S1x1x1x16 j)).toNat = (hw _ (f _)).toNat
    rw [hv, cast_lane (fun _ => 0#32), ld_cB]
    congr 2
    · rw [e2]; omega
    · congr 1
      funext b
      match b with
      | 0 => exact Fin.ext e0.symm
      | 1 => exact Fin.ext e1.symm
      | 2 => apply Fin.ext; show oc 2 = (_ : ℕ) / 2; rw [e2]; omega
      | 3 => exact Fin.ext e3.symm

/-- A store of the value into a run keeps what was good and adds the run. -/
theorem good_store (tb : S65536.Idx → BitVec 32) (f : S2x4x8x128.Idx → BitVec 32) (o : Fin 4 → ℕ)
    (hi : ∀ a, o a + S1x1x1x16.size a ≤ S2x4x16x128.size a) (w : S1x1x1x16.Idx → BitVec 32)
    (hw : ∀ j, w j = GV tb f ((Rect.unit (s := S2x4x16x128) o S1x1x1x16.size hi).emb j)) (P : S2x4x16x128.Idx → Prop)
    (g : S2x4x16x128.Idx → BitVec 32) (hg : ∀ x, P x → g x = GV tb f x) :
    ∀ x, (P x ∨ inR o x) → (oB.access (Rect.unit (s := S2x4x16x128) o S1x1x1x16.size hi)).write (Elt F) g w Finset.univ x = GV tb f x := by
  intro x hx
  by_cases hm : x ∈ (Rect.unit (s := S2x4x16x128) o S1x1x1x16.size hi).set
  · rw [← Rect.map_emb_univ] at hm
    obtain ⟨j, -, rfl⟩ := Finset.mem_map.mp hm
    refine (View.write_emb_of_mem (v := oB.access (Rect.unit (s := S2x4x16x128) o S1x1x1x16.size hi)) (Val := Elt F) g w (Finset.mem_univ j)).trans ?_
    exact hw j
  · have hP : P x := hx.resolve_right fun h => hm (Rect.mem_set_unit.mpr h)
    refine (View.write_of_not_mem (v := oB.access (Rect.unit (s := S2x4x16x128) o S1x1x1x16.size hi)) (Val := Elt F) g w Finset.univ ?_).trans (hg x hP)
    intro h
    apply hm
    rw [← Rect.map_emb_univ]
    obtain ⟨j, -, e⟩ := Finset.mem_map.mp h
    exact Finset.mem_map.mpr ⟨j, Finset.mem_univ _, e⟩

theorem sub_slotC (σ : ℕ) (oc : Fin 4 → ℕ) (hσ : oc 0 = σ) (hc : ∀ a, oc a + S1x1x1x16.size a ≤ S2x4x8x128.size a) :
    cB.view.setOn (Rect.unit (s := S2x4x8x128) oc S1x1x1x16.size hc).toLoadRect.set ⊆ slotC σ := by
  intro x hx
  obtain ⟨y, hy, rfl⟩ := Finset.mem_map.mp hx
  have := Rect.mem_set_unit.mp hy 0
  change oc 0 ≤ (y 0).val ∧ (y 0).val < oc 0 + 1 at this
  exact Finset.mem_filter.mpr ⟨Finset.mem_univ _, show (y 0).val = σ by omega⟩

theorem sub_slotO (σ : ℕ) (o : Fin 4 → ℕ) (hσ : o 0 = σ) (hi : ∀ a, o a + S1x1x1x16.size a ≤ S2x4x16x128.size a) :
    (Rect.unit (s := S2x4x16x128) o S1x1x1x16.size hi).set ⊆ slotO σ := by
  intro x hx
  have := Rect.mem_set_unit.mp hx 0
  change o 0 ≤ (x 0).val ∧ (x 0).val < o 0 + 1 at this
  exact Finset.mem_filter.mpr ⟨Finset.mem_univ _, show (x 0).val = σ by omega⟩

theorem sub_slotO' (σ : ℕ) (o : Fin 4 → ℕ) (hσ : o 0 = σ) (hi : ∀ a, o a + S1x1x1x16.size a ≤ S2x4x16x128.size a) :
    (oB.access (Rect.unit (s := S2x4x16x128) o S1x1x1x16.size hi)).setOn Finset.univ ⊆ slotO σ := by
  intro x hx
  obtain ⟨j, -, rfl⟩ := Finset.mem_map.mp hx
  exact sub_slotO σ o hσ hi (by rw [← Rect.map_emb_univ]; exact Finset.mem_map.mpr ⟨j, Finset.mem_univ _, rfl⟩)

theorem sub_slotO'' (σ : ℕ) (o : Fin 4 → ℕ) (hσ : o 0 = σ) (hi : ∀ a, o a + S1x1x1x16.size a ≤ S2x4x16x128.size a) :
    oB.view.setOn (Rect.unit (s := S2x4x16x128) o S1x1x1x16.size hi).toLoadRect.set ⊆ slotO σ := by
  intro x hx
  obtain ⟨y, hy, rfl⟩ := Finset.mem_map.mp hx
  exact sub_slotO σ o hσ hi hy

/-- A load of the whole table reads the table. -/
theorem read_tB (tb : S65536.Idx → BitVec 32) : (tB.access (Rect.whole S65536)).read (Elt F) tb = tb := by
  funext x
  show tb _ = tb x
  congr 1
  funext a
  apply Fin.ext
  show 0 + 1 * (x a).val = (x a).val
  omega

abbrev Pr (α : Type) := Prog (TpuEff nD τ sig (Elt F) Λ₀ (.scVector (cT L) (jT L))) α

end
end Cert.Proof.GI
-- ==== Proof.GI.Steps.lean ====
/- THE STEPS OF A LANE GROUP, each as a rule: load sixteen code words, check the indices, read the table, store the vector read. -/
module

public import proofs.«01_k».proof.Proof.GI.Inner

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- What a tile owns while it works on slot `σ`: the codes of the slot, the table, and the output slot, good where `P` says so. -/
abbrev RES (σ : ℕ) (tb : S65536.Idx → BitVec 32) (f : S2x4x8x128.Idx → BitVec 32) (P : S2x4x16x128.Idx → Prop) : sProp 𝕄 :=
  iprop(cPts d L σ f ∗ tPts d L tb ∗ oGood d L σ tb f P)

/-- The sixteen code words a load at `oc` reads. -/
abbrev LD (f : S2x4x8x128.Idx → BitVec 32) (oc : Fin 4 → ℕ) (hc : ∀ a, oc a + S1x1x1x16.size a ≤ S2x4x8x128.size a) : Vec F S1x1x1x16 .i32 :=
  cB.view.readAt (Elt F) (Rect.unit (s := S2x4x8x128) oc S1x1x1x16.size hc).toLoadRect f

/-- `v` is the load at `oc`, as a vector of sixteen lanes. -/
def IsLd (f : S2x4x8x128.Idx → BitVec 32) (oc : Fin 4 → ℕ) (v : Vec F S16 .i32) : Prop :=
  ∃ hc, v = shapeCast S16 (LD (F := F) f oc hc) shapeCasts_S1x1x1x16_S16
/-- `v` is half `h` of each code word at `oc`. -/
def IsIx (f : S2x4x8x128.Idx → BitVec 32) (oc : Fin 4 → ℕ) (h : ℕ) (v : IVec S16 32) : Prop :=
  ∃ hc, ∀ x, v x = hw h (LD (F := F) f oc hc (Shape.reshapeEquiv shapeCasts_S1x1x1x16_S16 x))
/-- `v` is the table read at half `h` of each code word at `oc`. -/
def IsW (tb : S65536.Idx → BitVec 32) (f : S2x4x8x128.Idx → BitVec 32) (oc : Fin 4 → ℕ) (h : ℕ) (v : Vec F S16 .i32) : Prop :=
  ∃ ix hix, IsIx (F := F) f oc h ix ∧ v = loadIdx (F := F) (e := .i32) tb ![ix] hix

theorem isIx_low {f : S2x4x8x128.Idx → BitVec 32} {oc : Fin 4 → ℕ} {v : IVec S16 32} (hc) (h : v = lowOf (LD (F := F) f oc hc)) : IsIx (F := F) f oc 0 v :=
  ⟨hc, fun x => by rw [h]; exact low_apply _ x⟩
theorem isIx_high {f : S2x4x8x128.Idx → BitVec 32} {oc : Fin 4 → ℕ} {v : IVec S16 32} (hc) (h : v = highOf (LD (F := F) f oc hc)) : IsIx (F := F) f oc 1 v :=
  ⟨hc, fun x => by rw [h]; exact high_apply _ x⟩
theorem isIx_high' {f : S2x4x8x128.Idx → BitVec 32} {oc : Fin 4 → ℕ} {v : Vec F S16 .i32} {w : IVec S16 32} (hv : IsLd f oc v)
    (h : w = shrui v (broadcast S16 16#32)) : IsIx (F := F) f oc 1 w := by
  obtain ⟨hc, rfl⟩ := hv
  exact isIx_high hc h
theorem chk_of {f : S2x4x8x128.Idx → BitVec 32} {oc : Fin 4 → ℕ} {h : ℕ} {v : IVec S16 32} (hv : IsIx (F := F) f oc h v) :
    ∀ a x, ((![v] : Fin 1 → IVec S16 32) a x).toNat < S65536.size a := by
  obtain ⟨hc, hv⟩ := hv
  intro a x
  match a with
  | 0 => show (v x).toNat < 65536; rw [hv]; exact hw_lt _ _

variable (tb : S65536.Idx → BitVec 32) (f : S2x4x8x128.Idx → BitVec 32) (σ : ℕ) (P : S2x4x16x128.Idx → Prop)

theorem s_C {α : Type} (Q : α → sProp 𝕄) (oc : Fin 4 → ℕ) (hc : ∀ a, oc a + S1x1x1x16.size a ≤ S2x4x8x128.size a) (hσ : oc 0 = σ) (hl) (k : Vec F S1x1x1x16 .i32 → Pr (F := F) L α)
    (hk : RES (F := F) d L σ tb f P ⊢ wp frame (wpE (defs₀ (F := F)) 𝒱₀ (thr d L) none) Set.univ (k (LD (F := F) f oc hc)) Q) :
    RES (F := F) d L σ tb f P ⊢ wp frame (wpE (defs₀ (F := F)) 𝒱₀ (thr d L) none) Set.univ
      (.op (.load cB (Rect.unit (s := S2x4x8x128) oc S1x1x1x16.size hc).toLoadRect hl) k) Q := by
  iintro ⟨HC, HR⟩
  iapply (wp_load 𝒱₀ (thr d L) none Set.univ (m := cB) (S := slotC σ) (sub_slotC σ oc hσ hc)) $$ HC
  iintro HC
  iapply hk
  isplitl [HC]; · iexact HC
  iexact HR

theorem s_A {α : Type} (Q : α → sProp 𝕄) (C : Prop) (dec : Decidable C) (h : C) (k : _ → Pr (F := F) L α) (R : sProp 𝕄)
    (hk : R ⊢ wp frame (wpE (defs₀ (F := F)) 𝒱₀ (thr d L) none) Set.univ (k ⟨h⟩) Q) :
    R ⊢ wp frame (wpE (defs₀ (F := F)) 𝒱₀ (thr d L) none) Set.univ (.op (.assume C dec) k) Q := by
  iintro H
  iapply (wp_assume 𝒱₀ (thr d L) none Set.univ h)
  iapply hk
  iexact H

theorem s_G {α : Type} (Q : α → sProp 𝕄) (hl) (k : Vec F S65536 .i32 → Pr (F := F) L α)
    (hk : RES (F := F) d L σ tb f P ⊢ wp frame (wpE (defs₀ (F := F)) 𝒱₀ (thr d L) none) Set.univ (k tb) Q) :
    RES (F := F) d L σ tb f P ⊢ wp frame (wpE (defs₀ (F := F)) 𝒱₀ (thr d L) none) Set.univ (.op (.load tB (.whole S65536) hl) k) Q := by
  iintro ⟨HC, HT, HO⟩
  iapply (wp_load_rect 𝒱₀ (thr d L) none Set.univ (m := tB) (r := Rect.whole S65536) (S := Finset.univ) (Finset.subset_univ _)) $$ HT
  iintro HT
  rw [read_tB]
  iapply hk
  isplitl [HC]; · iexact HC
  isplitl [HT]; · iexact HT
  iexact HO

theorem s_S {α : Type} (Q : α → sProp 𝕄) (oc o : Fin 4 → ℕ) (h : ℕ) (hh : h < 2) (hi : ∀ a, o a + S1x1x1x16.size a ≤ S2x4x16x128.size a) (hσ : oc 0 = σ)
    (e : o = ![oc 0, oc 1, 2 * oc 2 + h, oc 3]) (v : Vec F S16 .i32) (hv : IsW (F := F) tb f oc h v) (hl hs hm) (k : PUnit → Pr (F := F) L α)
    (hk : RES (F := F) d L σ tb f (fun x => P x ∨ inR o x) ⊢ wp frame (wpE (defs₀ (F := F)) 𝒱₀ (thr d L) none) Set.univ (k ⟨⟩) Q) :
    RES (F := F) d L σ tb f P ⊢ wp frame (wpE (defs₀ (F := F)) 𝒱₀ (thr d L) none) Set.univ
      (.op (.load oB (Rect.unit (s := S2x4x16x128) o S1x1x1x16.size hi).toLoadRect hl) fun _ =>
        .op (.store oB (Rect.unit (s := S2x4x16x128) o S1x1x1x16.size hi) (shapeCast S1x1x1x16 v shapeCasts_S16_S1x1x1x16) Finset.univ hs hm) k) Q := by
  obtain ⟨ix, hix, ⟨hc, hx⟩, rfl⟩ := hv
  have hσ' : o 0 = σ := by rw [e]; exact hσ
  iintro ⟨HC, HT, %g, %hg, HO⟩
  iapply (wp_load 𝒱₀ (thr d L) none Set.univ (m := oB) (S := slotO σ) (sub_slotO'' σ o hσ' hi)) $$ HO
  iintro HO
  iapply (wp_store 𝒱₀ (thr d L) none Set.univ (m := oB) (r := Rect.unit (s := S2x4x16x128) o S1x1x1x16.size hi) (Mk := Finset.univ) (S := slotO σ) (sub_slotO' σ o hσ' hi)) $$ HO
  iintro HO
  iapply hk
  isplitl [HC]; · iexact HC
  isplitl [HT]; · iexact HT
  iexists _
  isplitr; swap
  · iexact HO
  ipureintro
  exact good_store (F := F) tb f o hi _ (half_value tb f oc o h hh e hc hi ix hix hx) P g hg

end Cert.Proof.GI
-- ==== Proof.GI.TripA.lean ====
/- THE INNER LOOP AT THE EVEN UNITS: one trip handles one row of 128 packed words, in eight lane groups. -/
module

public import proofs.«01_k».proof.Proof.GI.Steps

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The rows of slot `σ` the first `t` trips have filled. -/
def upTo (σ t : ℕ) (x : S2x4x16x128.Idx) : Prop := (x 0).val = σ ∧ (x 1).val * 8 + (x 2).val / 2 < t

theorem oGood_mono (d : Dev nD) (L : grid0.Coords) (σ : ℕ) (tb : S65536.Idx → BitVec 32) (f : S2x4x8x128.Idx → BitVec 32)
    {P P' : S2x4x16x128.Idx → Prop} (h : ∀ x, P' x → P x) : oGood (F := F) d L σ tb f P ⊢ oGood d L σ tb f P' := by
  iintro ⟨%g, %hg, H⟩
  iexists g
  isplitr
  · ipureintro; exact fun x hx => hg x (h x hx)
  iexact H

/-- The runs one trip stores, at 16 consecutive lanes each. -/
theorem cover (σ t : ℕ) (x : S2x4x16x128.Idx) (hx : upTo σ (t + 1) x) (o : Fin 8 → Fin 2 → Fin 4 → ℕ)
    (ho : ∀ q h, o q h = ![σ, t / 8, 2 * (t % 8) + h.val, 16 * q.val]) : upTo σ t x ∨ ∃ q h, inR (o q h) x := by
  obtain ⟨h0, h1⟩ := hx
  by_cases hlt : (x 1).val * 8 + (x 2).val / 2 < t
  · exact .inl ⟨h0, hlt⟩
  refine .inr ⟨⟨(x 3).val / 16, by have h := (x 3).isLt; change _ < 128 at h; omega⟩, ⟨(x 2).val % 2, by omega⟩, fun a => ?_⟩
  have hx2 := (x 2).isLt
  change _ < 16 at hx2
  rw [ho]
  match a with
  | 0 => show σ ≤ (x 0).val ∧ (x 0).val < σ + 1; omega
  | 1 => show t / 8 ≤ (x 1).val ∧ (x 1).val < t / 8 + 1; omega
  | 2 => show 2 * (t % 8) + (x 2).val % 2 ≤ (x 2).val ∧ (x 2).val < 2 * (t % 8) + (x 2).val % 2 + 1; omega
  | 3 => show 16 * ((x 3).val / 16) ≤ (x 3).val ∧ (x 3).val < 16 * ((x 3).val / 16) + 16; omega

theorem off6_eq : ∀ t : Fin k0_t2_loop.trips, k0_off6 t = ![0, t.val / 8, t.val % 8, 0] := by decide +kernel
theorem off7_eq : ∀ t : Fin k0_t2_loop.trips, k0_off7 t = ![0, t.val / 8, 2 * (t.val % 8) + 0, 0] := by decide +kernel
theorem off8_eq : ∀ t : Fin k0_t2_loop.trips, k0_off8 t = ![0, t.val / 8, 2 * (t.val % 8) + 1, 0] := by decide +kernel
theorem off9_eq : ∀ t : Fin k0_t2_loop.trips, k0_off9 t = ![0, t.val / 8, t.val % 8, 16] := by decide +kernel
theorem off10_eq : ∀ t : Fin k0_t2_loop.trips, k0_off10 t = ![0, t.val / 8, 2 * (t.val % 8) + 0, 16] := by decide +kernel
theorem off11_eq : ∀ t : Fin k0_t2_loop.trips, k0_off11 t = ![0, t.val / 8, 2 * (t.val % 8) + 1, 16] := by decide +kernel
theorem off12_eq : ∀ t : Fin k0_t2_loop.trips, k0_off12 t = ![0, t.val / 8, t.val % 8, 32] := by decide +kernel
theorem off13_eq : ∀ t : Fin k0_t2_loop.trips, k0_off13 t = ![0, t.val / 8, 2 * (t.val % 8) + 0, 32] := by decide +kernel
theorem off14_eq : ∀ t : Fin k0_t2_loop.trips, k0_off14 t = ![0, t.val / 8, 2 * (t.val % 8) + 1, 32] := by decide +kernel
theorem off15_eq : ∀ t : Fin k0_t2_loop.trips, k0_off15 t = ![0, t.val / 8, t.val % 8, 48] := by decide +kernel
theorem off16_eq : ∀ t : Fin k0_t2_loop.trips, k0_off16 t = ![0, t.val / 8, 2 * (t.val % 8) + 0, 48] := by decide +kernel
theorem off17_eq : ∀ t : Fin k0_t2_loop.trips, k0_off17 t = ![0, t.val / 8, 2 * (t.val % 8) + 1, 48] := by decide +kernel
theorem off18_eq : ∀ t : Fin k0_t2_loop.trips, k0_off18 t = ![0, t.val / 8, t.val % 8, 64] := by decide +kernel
theorem off19_eq : ∀ t : Fin k0_t2_loop.trips, k0_off19 t = ![0, t.val / 8, 2 * (t.val % 8) + 0, 64] := by decide +kernel
theorem off20_eq : ∀ t : Fin k0_t2_loop.trips, k0_off20 t = ![0, t.val / 8, 2 * (t.val % 8) + 1, 64] := by decide +kernel
theorem off21_eq : ∀ t : Fin k0_t2_loop.trips, k0_off21 t = ![0, t.val / 8, t.val % 8, 80] := by decide +kernel
theorem off22_eq : ∀ t : Fin k0_t2_loop.trips, k0_off22 t = ![0, t.val / 8, 2 * (t.val % 8) + 0, 80] := by decide +kernel
theorem off23_eq : ∀ t : Fin k0_t2_loop.trips, k0_off23 t = ![0, t.val / 8, 2 * (t.val % 8) + 1, 80] := by decide +kernel
theorem off24_eq : ∀ t : Fin k0_t2_loop.trips, k0_off24 t = ![0, t.val / 8, t.val % 8, 96] := by decide +kernel
theorem off25_eq : ∀ t : Fin k0_t2_loop.trips, k0_off25 t = ![0, t.val / 8, 2 * (t.val % 8) + 0, 96] := by decide +kernel
theorem off26_eq : ∀ t : Fin k0_t2_loop.trips, k0_off26 t = ![0, t.val / 8, 2 * (t.val % 8) + 1, 96] := by decide +kernel
theorem off27_eq : ∀ t : Fin k0_t2_loop.trips, k0_off27 t = ![0, t.val / 8, t.val % 8, 112] := by decide +kernel
theorem off28_eq : ∀ t : Fin k0_t2_loop.trips, k0_off28 t = ![0, t.val / 8, 2 * (t.val % 8) + 0, 112] := by decide +kernel
theorem off29_eq : ∀ t : Fin k0_t2_loop.trips, k0_off29 t = ![0, t.val / 8, 2 * (t.val % 8) + 1, 112] := by decide +kernel

set_option cleanup.letToHave false in set_option cleanup.letToHave false in set_option maxHeartbeats 400000 in
theorem part1_spec (d : Dev nD) (L : grid0.Coords) (tb : S65536.Idx → BitVec 32) (f : S2x4x8x128.Idx → BitVec 32) (c0_i32_53 : BitVec 32) (c1_i32_54 : BitVec 32) (k0_t2 : Fin k0_t2_loop.trips)
    (P : S2x4x16x128.Idx → Prop) (Φ : (Σ' (v114 : BitVec 32) (v115 : BitVec 32) (v140 : Vec F S16 .i32) (v142 : IVec S16 32) (k0_hw3 : k0_chk3 v142), BitVec 32) → sProp 𝕄)
    (hΦ : ∀ (v114 : BitVec 32) (v115 : BitVec 32) (v140 : Vec F S16 .i32) (v142 : IVec S16 32) (k0_hw3 : k0_chk3 v142) (rl : BitVec 32), IsLd f (k0_off9 k0_t2) v140 → IsIx (F := F) f (k0_off9 k0_t2) 0 v142 → rl = 16#32 → (RES (F := F) d L 0 tb f (fun x => (fun x => P x ∨ inR (k0_off7 k0_t2) x) x ∨ inR (k0_off8 k0_t2) x) ⊢ Φ ⟨v114, v115, v140, v142, k0_hw3, rl⟩)) :
    RES (F := F) d L 0 tb f P ⊢ wp frame (wpE (defs₀ (F := F)) 𝒱₀ (thr d L) none) Set.univ
      (k0_part1 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 c0_i32_53 c1_i32_54 k0_t2) Φ := by
  rw [k0_part1_eq_skeleton]
  unfold k0_part1_skel
  simp only [Prog.lift, Prog.bind_op, Prog.bind_ret, Prog.pure_eq_ret, SparseCore.vectorLoadIdx]
  refine s_C (F := F) d L tb f 0 _ _ (k0_off6 k0_t2) _ (by rw [off6_eq]; rfl) _ _ ?_
  have h_v121 : IsIx (F := F) f (k0_off6 k0_t2) 0 (k0_pay2 (LD (F := F) f (k0_off6 k0_t2) (k0_off6_inb k0_t2))) := isIx_low (k0_off6_inb k0_t2) ((fun _ => rfl : ∀ ld, k0_pay2 (F := F) ld = lowOf ld) _)
  refine s_A (F := F) d L _ _ _ (by exact chk_of (F := F) h_v121) _ _ ?_
  have h_v123 : IsIx (F := F) f (k0_off6 k0_t2) 1 (k0_pay3 (LD (F := F) f (k0_off6 k0_t2) (k0_off6_inb k0_t2))) := isIx_high (k0_off6_inb k0_t2) ((fun _ => rfl : ∀ ld, k0_pay3 (F := F) ld = highOf ld) _)
  refine s_A (F := F) d L _ _ _ (by exact chk_of (F := F) h_v123) _ _ ?_
  refine s_G (F := F) d L tb f 0 _ _ _ _ ?_
  refine s_S (F := F) d L tb f 0 _ _ (k0_off6 k0_t2) (k0_off7 k0_t2) 0 (by decide) _ (by rw [off6_eq]; rfl) (by rw [off6_eq, off7_eq]; rfl) _ ⟨_, _, h_v121, rfl⟩ _ _ _ _ ?_
  refine s_G (F := F) d L tb f 0 _ _ _ _ ?_
  refine s_S (F := F) d L tb f 0 _ _ (k0_off6 k0_t2) (k0_off8 k0_t2) 1 (by decide) _ (by rw [off6_eq]; rfl) (by rw [off6_eq, off8_eq]; rfl) _ ⟨_, _, h_v123, rfl⟩ _ _ _ _ ?_
  refine s_C (F := F) d L tb f 0 _ _ (k0_off9 k0_t2) _ (by rw [off9_eq]; rfl) _ _ ?_
  have h_v142 : IsIx (F := F) f (k0_off9 k0_t2) 0 (k0_pay5 (LD (F := F) f (k0_off9 k0_t2) (k0_off9_inb k0_t2))) := isIx_low (k0_off9_inb k0_t2) ((fun _ => rfl : ∀ ld, k0_pay5 (F := F) ld = lowOf ld) _)
  refine s_A (F := F) d L _ _ _ (by exact chk_of (F := F) h_v142) _ _ ?_
  rw [wp_ret]
  iintro H
  imodintro
  iapply (hΦ _ _ (k0_pay4 (LD (F := F) f (k0_off9 k0_t2) (k0_off9_inb k0_t2))) _ _ _ ⟨(k0_off9_inb k0_t2), rfl⟩ h_v142 rfl) $$ H

set_option cleanup.letToHave false in set_option maxHeartbeats 400000 in
theorem part2_spec (d : Dev nD) (L : grid0.Coords) (tb : S65536.Idx → BitVec 32) (f : S2x4x8x128.Idx → BitVec 32) (k0_t2 : Fin k0_t2_loop.trips) (v114 : BitVec 32) (v115 : BitVec 32) (v140 : Vec F S16 .i32) (v142 : IVec S16 32) (k0_hw3 : k0_chk3 v142) (c16_i32_87 : BitVec 32) (h_v140 : IsLd f (k0_off9 k0_t2) v140) (h_v142 : IsIx (F := F) f (k0_off9 k0_t2) 0 v142) (e16 : c16_i32_87 = 16#32)
    (P : S2x4x16x128.Idx → Prop) (Φ : (Σ' (v172 : Vec F S16 .i32), BitVec 32) → sProp 𝕄)
    (hΦ : ∀ (v172 : Vec F S16 .i32) (rl : BitVec 32), IsW tb f (k0_off12 k0_t2) 1 v172 → (RES (F := F) d L 0 tb f (fun x => (fun x => (fun x => P x ∨ inR (k0_off10 k0_t2) x) x ∨ inR (k0_off11 k0_t2) x) x ∨ inR (k0_off13 k0_t2) x) ⊢ Φ ⟨v172, rl⟩)) :
    RES (F := F) d L 0 tb f P ⊢ wp frame (wpE (defs₀ (F := F)) 𝒱₀ (thr d L) none) Set.univ
      (k0_part2 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v140 v142 k0_hw3 c16_i32_87) Φ := by
  subst e16
  rw [k0_part2_eq_skeleton]
  unfold k0_part2_skel
  simp only [Prog.lift, Prog.bind_op, Prog.bind_ret, Prog.pure_eq_ret, SparseCore.vectorLoadIdx]
  have h_v144 : IsIx (F := F) f (k0_off9 k0_t2) 1 (k0_pay6 v140 16#32) := isIx_high' h_v140 ((fun _ => rfl : ∀ v : Vec F S16 .i32, k0_pay6 (F := F) v 16#32 = shrui v (broadcast S16 16#32)) _)
  refine s_A (F := F) d L _ _ _ (by exact chk_of (F := F) h_v144) _ _ ?_
  refine s_G (F := F) d L tb f 0 _ _ _ _ ?_
  refine s_S (F := F) d L tb f 0 _ _ (k0_off9 k0_t2) (k0_off10 k0_t2) 0 (by decide) _ (by rw [off9_eq]; rfl) (by rw [off9_eq, off10_eq]; rfl) _ ⟨_, _, h_v142, rfl⟩ _ _ _ _ ?_
  refine s_G (F := F) d L tb f 0 _ _ _ _ ?_
  refine s_S (F := F) d L tb f 0 _ _ (k0_off9 k0_t2) (k0_off11 k0_t2) 1 (by decide) _ (by rw [off9_eq]; rfl) (by rw [off9_eq, off11_eq]; rfl) _ ⟨_, _, h_v144, rfl⟩ _ _ _ _ ?_
  refine s_C (F := F) d L tb f 0 _ _ (k0_off12 k0_t2) _ (by rw [off12_eq]; rfl) _ _ ?_
  have h_v163 : IsIx (F := F) f (k0_off12 k0_t2) 0 (k0_pay8 (LD (F := F) f (k0_off12 k0_t2) (k0_off12_inb k0_t2))) := isIx_low (k0_off12_inb k0_t2) ((fun _ => rfl : ∀ ld, k0_pay8 (F := F) ld = lowOf ld) _)
  refine s_A (F := F) d L _ _ _ (by exact chk_of (F := F) h_v163) _ _ ?_
  have h_v165 : IsIx (F := F) f (k0_off12 k0_t2) 1 (k0_pay9 (LD (F := F) f (k0_off12 k0_t2) (k0_off12_inb k0_t2))) := isIx_high (k0_off12_inb k0_t2) ((fun _ => rfl : ∀ ld, k0_pay9 (F := F) ld = highOf ld) _)
  refine s_A (F := F) d L _ _ _ (by exact chk_of (F := F) h_v165) _ _ ?_
  refine s_G (F := F) d L tb f 0 _ _ _ _ ?_
  refine s_S (F := F) d L tb f 0 _ _ (k0_off12 k0_t2) (k0_off13 k0_t2) 0 (by decide) _ (by rw [off12_eq]; rfl) (by rw [off12_eq, off13_eq]; rfl) _ ⟨_, _, h_v163, rfl⟩ _ _ _ _ ?_
  refine s_G (F := F) d L tb f 0 _ _ _ _ ?_
  rw [wp_ret]
  iintro H
  imodintro
  iapply (hΦ _ _ ⟨_, _, h_v165, rfl⟩) $$ H

set_option cleanup.letToHave false in set_option maxHeartbeats 400000 in
theorem part3_spec (d : Dev nD) (L : grid0.Coords) (tb : S65536.Idx → BitVec 32) (f : S2x4x8x128.Idx → BitVec 32) (k0_t2 : Fin k0_t2_loop.trips) (v114 : BitVec 32) (v115 : BitVec 32) (v172 : Vec F S16 .i32) (v174 : BitVec 32) (h_v172 : IsW tb f (k0_off12 k0_t2) 1 v172)
    (P : S2x4x16x128.Idx → Prop) (Φ : (Σ' (v205 : IVec S16 32) (k0_hw9 : k0_chk9 v205) (v207 : IVec S16 32), k0_chk10 v207) → sProp 𝕄)
    (hΦ : ∀ (v205 : IVec S16 32) (k0_hw9 : k0_chk9 v205) (v207 : IVec S16 32) (rl : k0_chk10 v207), IsIx (F := F) f (k0_off18 k0_t2) 0 v205 → IsIx (F := F) f (k0_off18 k0_t2) 1 v207 → (RES (F := F) d L 0 tb f (fun x => (fun x => (fun x => P x ∨ inR (k0_off14 k0_t2) x) x ∨ inR (k0_off16 k0_t2) x) x ∨ inR (k0_off17 k0_t2) x) ⊢ Φ ⟨v205, k0_hw9, v207, rl⟩)) :
    RES (F := F) d L 0 tb f P ⊢ wp frame (wpE (defs₀ (F := F)) 𝒱₀ (thr d L) none) Set.univ
      (k0_part3 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v172 v174) Φ := by
  rw [k0_part3_eq_skeleton]
  unfold k0_part3_skel
  simp only [Prog.lift, Prog.bind_op, Prog.bind_ret, Prog.pure_eq_ret, SparseCore.vectorLoadIdx]
  refine s_S (F := F) d L tb f 0 _ _ (k0_off12 k0_t2) (k0_off14 k0_t2) 1 (by decide) _ (by rw [off12_eq]; rfl) (by rw [off12_eq, off14_eq]; rfl) _ h_v172 _ _ _ _ ?_
  refine s_C (F := F) d L tb f 0 _ _ (k0_off15 k0_t2) _ (by rw [off15_eq]; rfl) _ _ ?_
  have h_v184 : IsIx (F := F) f (k0_off15 k0_t2) 0 (k0_pay11 (LD (F := F) f (k0_off15 k0_t2) (k0_off15_inb k0_t2))) := isIx_low (k0_off15_inb k0_t2) ((fun _ => rfl : ∀ ld, k0_pay11 (F := F) ld = lowOf ld) _)
  refine s_A (F := F) d L _ _ _ (by exact chk_of (F := F) h_v184) _ _ ?_
  have h_v186 : IsIx (F := F) f (k0_off15 k0_t2) 1 (k0_pay12 (LD (F := F) f (k0_off15 k0_t2) (k0_off15_inb k0_t2))) := isIx_high (k0_off15_inb k0_t2) ((fun _ => rfl : ∀ ld, k0_pay12 (F := F) ld = highOf ld) _)
  refine s_A (F := F) d L _ _ _ (by exact chk_of (F := F) h_v186) _ _ ?_
  refine s_G (F := F) d L tb f 0 _ _ _ _ ?_
  refine s_S (F := F) d L tb f 0 _ _ (k0_off15 k0_t2) (k0_off16 k0_t2) 0 (by decide) _ (by rw [off15_eq]; rfl) (by rw [off15_eq, off16_eq]; rfl) _ ⟨_, _, h_v184, rfl⟩ _ _ _ _ ?_
  refine s_G (F := F) d L tb f 0 _ _ _ _ ?_
  refine s_S (F := F) d L tb f 0 _ _ (k0_off15 k0_t2) (k0_off17 k0_t2) 1 (by decide) _ (by rw [off15_eq]; rfl) (by rw [off15_eq, off17_eq]; rfl) _ ⟨_, _, h_v186, rfl⟩ _ _ _ _ ?_
  refine s_C (F := F) d L tb f 0 _ _ (k0_off18 k0_t2) _ (by rw [off18_eq]; rfl) _ _ ?_
  have h_v205 : IsIx (F := F) f (k0_off18 k0_t2) 0 (k0_pay14 (LD (F := F) f (k0_off18 k0_t2) (k0_off18_inb k0_t2))) := isIx_low (k0_off18_inb k0_t2) ((fun _ => rfl : ∀ ld, k0_pay14 (F := F) ld = lowOf ld) _)
  refine s_A (F := F) d L _ _ _ (by exact chk_of (F := F) h_v205) _ _ ?_
  have h_v207 : IsIx (F := F) f (k0_off18 k0_t2) 1 (k0_pay15 (LD (F := F) f (k0_off18 k0_t2) (k0_off18_inb k0_t2))) := isIx_high (k0_off18_inb k0_t2) ((fun _ => rfl : ∀ ld, k0_pay15 (F := F) ld = highOf ld) _)
  refine s_A (F := F) d L _ _ _ (by exact chk_of (F := F) h_v207) _ _ ?_
  rw [wp_ret]
  iintro H
  imodintro
  iapply (hΦ _ _ _ _ h_v205 h_v207) $$ H

set_option cleanup.letToHave false in set_option maxHeartbeats 400000 in
theorem part4_spec (d : Dev nD) (L : grid0.Coords) (tb : S65536.Idx → BitVec 32) (f : S2x4x8x128.Idx → BitVec 32) (k0_t2 : Fin k0_t2_loop.trips) (v114 : BitVec 32) (v115 : BitVec 32) (v205 : IVec S16 32) (k0_hw9 : k0_chk9 v205) (v207 : IVec S16 32) (k0_hw10 : k0_chk10 v207) (h_v205 : IsIx (F := F) f (k0_off18 k0_t2) 0 v205) (h_v207 : IsIx (F := F) f (k0_off18 k0_t2) 1 v207)
    (P : S2x4x16x128.Idx → Prop) (Φ : (Vec F S16 .i32) → sProp 𝕄)
    (hΦ : ∀ (v235 : (Vec F S16 .i32)), IsW tb f (k0_off21 k0_t2) 1 v235 → (RES (F := F) d L 0 tb f (fun x => (fun x => (fun x => P x ∨ inR (k0_off19 k0_t2) x) x ∨ inR (k0_off20 k0_t2) x) x ∨ inR (k0_off22 k0_t2) x) ⊢ Φ v235)) :
    RES (F := F) d L 0 tb f P ⊢ wp frame (wpE (defs₀ (F := F)) 𝒱₀ (thr d L) none) Set.univ
      (k0_part4 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v205 k0_hw9 v207 k0_hw10) Φ := by
  rw [k0_part4_eq_skeleton]
  unfold k0_part4_skel
  simp only [Prog.lift, Prog.bind_op, Prog.bind_ret, Prog.pure_eq_ret, SparseCore.vectorLoadIdx]
  refine s_G (F := F) d L tb f 0 _ _ _ _ ?_
  refine s_S (F := F) d L tb f 0 _ _ (k0_off18 k0_t2) (k0_off19 k0_t2) 0 (by decide) _ (by rw [off18_eq]; rfl) (by rw [off18_eq, off19_eq]; rfl) _ ⟨_, _, h_v205, rfl⟩ _ _ _ _ ?_
  refine s_G (F := F) d L tb f 0 _ _ _ _ ?_
  refine s_S (F := F) d L tb f 0 _ _ (k0_off18 k0_t2) (k0_off20 k0_t2) 1 (by decide) _ (by rw [off18_eq]; rfl) (by rw [off18_eq, off20_eq]; rfl) _ ⟨_, _, h_v207, rfl⟩ _ _ _ _ ?_
  refine s_C (F := F) d L tb f 0 _ _ (k0_off21 k0_t2) _ (by rw [off21_eq]; rfl) _ _ ?_
  have h_v226 : IsIx (F := F) f (k0_off21 k0_t2) 0 (k0_pay17 (LD (F := F) f (k0_off21 k0_t2) (k0_off21_inb k0_t2))) := isIx_low (k0_off21_inb k0_t2) ((fun _ => rfl : ∀ ld, k0_pay17 (F := F) ld = lowOf ld) _)
  refine s_A (F := F) d L _ _ _ (by exact chk_of (F := F) h_v226) _ _ ?_
  have h_v228 : IsIx (F := F) f (k0_off21 k0_t2) 1 (k0_pay18 (LD (F := F) f (k0_off21 k0_t2) (k0_off21_inb k0_t2))) := isIx_high (k0_off21_inb k0_t2) ((fun _ => rfl : ∀ ld, k0_pay18 (F := F) ld = highOf ld) _)
  refine s_A (F := F) d L _ _ _ (by exact chk_of (F := F) h_v228) _ _ ?_
  refine s_G (F := F) d L tb f 0 _ _ _ _ ?_
  refine s_S (F := F) d L tb f 0 _ _ (k0_off21 k0_t2) (k0_off22 k0_t2) 0 (by decide) _ (by rw [off21_eq]; rfl) (by rw [off21_eq, off22_eq]; rfl) _ ⟨_, _, h_v226, rfl⟩ _ _ _ _ ?_
  refine s_G (F := F) d L tb f 0 _ _ _ _ ?_
  rw [wp_ret]
  iintro H
  imodintro
  iapply (hΦ _ ⟨_, _, h_v228, rfl⟩) $$ H

set_option cleanup.letToHave false in set_option maxHeartbeats 400000 in
theorem part5_spec (d : Dev nD) (L : grid0.Coords) (tb : S65536.Idx → BitVec 32) (f : S2x4x8x128.Idx → BitVec 32) (k0_t2 : Fin k0_t2_loop.trips) (v114 : BitVec 32) (v115 : BitVec 32) (v235 : Vec F S16 .i32) (h_v235 : IsW tb f (k0_off21 k0_t2) 1 v235)
    (P : S2x4x16x128.Idx → Prop) (Φ : (Σ' (v270 : IVec S16 32) (k0_hw16 : k0_chk16 v270) (v271 : Vec F S16 .i32), BitVec 32) → sProp 𝕄)
    (hΦ : ∀ (v270 : IVec S16 32) (k0_hw16 : k0_chk16 v270) (v271 : Vec F S16 .i32) (rl : BitVec 32), IsIx (F := F) f (k0_off27 k0_t2) 1 v270 → IsW tb f (k0_off27 k0_t2) 0 v271 → (RES (F := F) d L 0 tb f (fun x => (fun x => (fun x => P x ∨ inR (k0_off23 k0_t2) x) x ∨ inR (k0_off25 k0_t2) x) x ∨ inR (k0_off26 k0_t2) x) ⊢ Φ ⟨v270, k0_hw16, v271, rl⟩)) :
    RES (F := F) d L 0 tb f P ⊢ wp frame (wpE (defs₀ (F := F)) 𝒱₀ (thr d L) none) Set.univ
      (k0_part5 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t2 v114 v115 v235) Φ := by
  rw [k0_part5_eq_skeleton]
  unfold k0_part5_skel
  simp only [Prog.lift, Prog.bind_op, Prog.bind_ret, Prog.pure_eq_ret, SparseCore.vectorLoadIdx]
  refine s_S (F := F) d L tb f 0 _ _ (k0_off21 k0_t2) (k0_off23 k0_t2) 1 (by decide) _ (by rw [off21_eq]; rfl) (by rw [off21_eq, off23_eq]; rfl) _ h_v235 _ _ _ _ ?_
  refine s_C (F := F) d L tb f 0 _ _ (k0_off24 k0_t2) _ (by rw [off24_eq]; rfl) _ _ ?_
  have h_v247 : IsIx (F := F) f (k0_off24 k0_t2) 0 (k0_pay20 (LD (F := F) f (k0_off24 k0_t2) (k0_off24_inb k0_t2))) := isIx_low (k0_off24_inb k0_t2) ((fun _ => rfl : ∀ ld, k0_pay20 (F := F) ld = lowOf ld) _)
  refine s_A (F := F) d L _ _ _ (by exact chk_of (F := F) h_v247) _ _ ?_
  have h_v249 : IsIx (F := F) f (k0_off24 k0_t2) 1 (k0_pay21 (LD (F := F) f (k0_off24 k0_t2) (k0_off24_inb k0_t2))) := isIx_high (k0_off24_inb k0_t2) ((fun _ => rfl : ∀ ld, k0_pay21 (F := F) ld = highOf ld) _)
  refine s_A (F := F) d L _ _ _ (by exact chk_of (F := F) h_v249) _ _ ?_
  refine s_G (F := F) d L tb f 0 _ _ _ _ ?_
  refine s_S (F := F) d L tb f 0 _ _ (k0_off24 k0_t2) (k0_off25 k0_t2) 0 (by decide) _ (by rw [off24_eq]; rfl) (by rw [off24_eq, off25_eq]; rfl) _ ⟨_, _, h_v247, rfl⟩ _ _ _ _ ?_
  refine s_G (F := F) d L tb f 0 _ _ _ _ ?_
  refine s_S (F := F) d L tb f 0 _ _ (k0_off24 k0_t2) (k0_off26 k0_t2) 1 (by decide) _ (by rw [off24_eq]; rfl) (by rw [off24_eq, off26_eq]; rfl) _ ⟨_, _, h_v249, rfl⟩ _ _ _ _ ?_
  refine s_C (F := F) d L tb f 0 _ _ (k0_off27 k0_t2) _ (by rw [off27_eq]; rfl) _ _ ?_
  have h_v268 : IsIx (F := F) f (k0_off27 k0_t2) 0 (k0_pay23 (LD (F := F) f (k0_off27 k0_t2) (k0_off27_inb k0_t2))) := isIx_low (k0_off27_inb k0_t2) ((fun _ => rfl : ∀ ld, k0_pay23 (F := F) ld = lowOf ld) _)
  refine s_A (F := F) d L _ _ _ (by exact chk_of (F := F) h_v268) _ _ ?_
  have h_v270 : IsIx (F := F) f (k0_off27 k0_t2) 1 (k0_pay24 (LD (F := F) f (k0_off27 k0_t2) (k0_off27_inb k0_t2))) := isIx_high (k0_off27_inb k0_t2) ((fun _ => rfl : ∀ ld, k0_pay24 (F := F) ld = highOf ld) _)
  refine s_A (F := F) d L _ _ _ (by exact chk_of (F := F) h_v270) _ _ ?_
  refine s_G (F := F) d L tb f 0 _ _ _ _ ?_
  rw [wp_ret]
  iintro H
  imodintro
  iapply (hΦ _ _ _ _ h_v270 ⟨_, _, h_v268, rfl⟩) $$ H

set_option cleanup.letToHave false in set_option maxHeartbeats 400000 in
theorem trip2 (d : Dev nD) (L : grid0.Coords) (a1 a2 a3 a4 a5 a6 : BitVec 32) (k0_t1 : Fin (k0_t1_loop L).trips)
    (tb : S65536.Idx → BitVec 32) (f : S2x4x8x128.Idx → BitVec 32) (k0_t2 : Fin k0_t2_loop.trips) (u : Unit) :
    iprop(cPts d L 0 f ∗ tPts d L tb ∗ oGood d L 0 tb f (upTo 0 k0_t2.val)) ⊢ wp frame (wpE (defs₀ (F := F)) 𝒱₀ (thr d L) none) Set.univ
      (k0_t2_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 a3 a4 a5 a6 k0_t1 k0_t2 u)
      fun _ => iprop(cPts d L 0 f ∗ tPts d L tb ∗ oGood d L 0 tb f (upTo 0 (k0_t2.val + 1))) := by
  unfold k0_t2_body
  rw [wp_bind]
  refine part1_spec d L tb f _ _ _ _ _ ?_
  intro v114 v115 v140 v142 k0_hw3 rl h_v140 h_v142 e16
  rw [wp_bind]
  refine part2_spec d L tb f _ _ _ _ _ _ _ h_v140 h_v142 e16 _ _ ?_
  intro v172 rl h_v172
  rw [wp_bind]
  refine part3_spec d L tb f _ _ _ _ _ h_v172 _ _ ?_
  intro v205 k0_hw9 v207 rl h_v205 h_v207
  rw [wp_bind]
  refine part4_spec d L tb f _ _ _ _ _ _ _ h_v205 h_v207 _ _ ?_
  intro v235 h_v235
  rw [wp_bind]
  refine part5_spec d L tb f _ _ _ _ h_v235 _ _ ?_
  intro v270 k0_hw16 v271 rl h_v270 h_v271
  dsimp only
  simp only [Prog.lift, Prog.bind_op, Prog.bind_ret, Prog.pure_eq_ret, SparseCore.vectorLoadIdx]
  refine s_S (F := F) d L tb f 0 _ _ (k0_off27 k0_t2) (k0_off28 k0_t2) 0 (by decide) _ (by rw [off27_eq]; rfl) (by rw [off27_eq, off28_eq]; rfl) _ h_v271 _ _ _ _ ?_
  refine s_G (F := F) d L tb f 0 _ _ _ _ ?_
  refine s_S (F := F) d L tb f 0 _ _ (k0_off27 k0_t2) (k0_off29 k0_t2) 1 (by decide) _ (by rw [off27_eq]; rfl) (by rw [off27_eq, off29_eq]; rfl) _ ⟨_, _, h_v270, rfl⟩ _ _ _ _ ?_
  rw [wp_ret]
  iintro ⟨HC, HT, HO⟩
  imodintro
  isplitl [HC]; · iexact HC
  isplitl [HT]; · iexact HT
  iapply (oGood_mono d L _ tb f ?_) $$ HO
  intro x hx
  rcases cover 0 k0_t2.val x hx (fun q h => match q, h with | 0, 0 => k0_off7 k0_t2 | 0, 1 => k0_off8 k0_t2 | 1, 0 => k0_off10 k0_t2 | 1, 1 => k0_off11 k0_t2 | 2, 0 => k0_off13 k0_t2 | 2, 1 => k0_off14 k0_t2 | 3, 0 => k0_off16 k0_t2 | 3, 1 => k0_off17 k0_t2 | 4, 0 => k0_off19 k0_t2 | 4, 1 => k0_off20 k0_t2 | 5, 0 => k0_off22 k0_t2 | 5, 1 => k0_off23 k0_t2 | 6, 0 => k0_off25 k0_t2 | 6, 1 => k0_off26 k0_t2 | 7, 0 => k0_off28 k0_t2 | 7, 1 => k0_off29 k0_t2)
    (by intro q h; fin_cases q <;> fin_cases h <;> first | exact off7_eq k0_t2 | exact off8_eq k0_t2 | exact off10_eq k0_t2 | exact off11_eq k0_t2 | exact off13_eq k0_t2 | exact off14_eq k0_t2 | exact off16_eq k0_t2 | exact off17_eq k0_t2 | exact off19_eq k0_t2 | exact off20_eq k0_t2 | exact off22_eq k0_t2 | exact off23_eq k0_t2 | exact off25_eq k0_t2 | exact off26_eq k0_t2 | exact off28_eq k0_t2 | exact off29_eq k0_t2) with hp | ⟨q, h, hr⟩
  · exact .inl (.inl (.inl (.inl (.inl (.inl (.inl (.inl (.inl (.inl (.inl (.inl (.inl (.inl (.inl (.inl hp)))))))))))))))
  · match q, h, hr with
    | 0, 0, hr => exact .inl (.inl (.inl (.inl (.inl (.inl (.inl (.inl (.inl (.inl (.inl (.inl (.inl (.inl (.inl (.inr hr)))))))))))))))
    | 0, 1, hr => exact .inl (.inl (.inl (.inl (.inl (.inl (.inl (.inl (.inl (.inl (.inl (.inl (.inl (.inl (.inr hr))))))))))))))
    | 1, 0, hr => exact .inl (.inl (.inl (.inl (.inl (.inl (.inl (.inl (.inl (.inl (.inl (.inl (.inl (.inr hr)))))))))))))
    | 1, 1, hr => exact .inl (.inl (.inl (.inl (.inl (.inl (.inl (.inl (.inl (.inl (.inl (.inl (.inr hr))))))))))))
    | 2, 0, hr => exact .inl (.inl (.inl (.inl (.inl (.inl (.inl (.inl (.inl (.inl (.inl (.inr hr)))))))))))
    | 2, 1, hr => exact .inl (.inl (.inl (.inl (.inl (.inl (.inl (.inl (.inl (.inl (.inr hr))))))))))
    | 3, 0, hr => exact .inl (.inl (.inl (.inl (.inl (.inl (.inl (.inl (.inl (.inr hr)))))))))
    | 3, 1, hr => exact .inl (.inl (.inl (.inl (.inl (.inl (.inl (.inl (.inr hr))))))))
    | 4, 0, hr => exact .inl (.inl (.inl (.inl (.inl (.inl (.inl (.inr hr)))))))
    | 4, 1, hr => exact .inl (.inl (.inl (.inl (.inl (.inl (.inr hr))))))
    | 5, 0, hr => exact .inl (.inl (.inl (.inl (.inl (.inr hr)))))
    | 5, 1, hr => exact .inl (.inl (.inl (.inl (.inr hr))))
    | 6, 0, hr => exact .inl (.inl (.inl (.inr hr)))
    | 6, 1, hr => exact .inl (.inl (.inr hr))
    | 7, 0, hr => exact .inl (.inr hr)
    | 7, 1, hr => exact .inr hr

end Cert.Proof.GI
-- ==== Proof.GI.TripB.lean ====
/- THE INNER LOOP AT THE ODD UNITS, over the second slots. -/
module

public import proofs.«01_k».proof.Proof.GI.TripA

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem off34_eq : ∀ t : Fin k0_t3_loop.trips, k0_off34 t = ![1, t.val / 8, t.val % 8, 0] := by decide +kernel
theorem off35_eq : ∀ t : Fin k0_t3_loop.trips, k0_off35 t = ![1, t.val / 8, 2 * (t.val % 8) + 0, 0] := by decide +kernel
theorem off36_eq : ∀ t : Fin k0_t3_loop.trips, k0_off36 t = ![1, t.val / 8, 2 * (t.val % 8) + 1, 0] := by decide +kernel
theorem off37_eq : ∀ t : Fin k0_t3_loop.trips, k0_off37 t = ![1, t.val / 8, t.val % 8, 16] := by decide +kernel
theorem off38_eq : ∀ t : Fin k0_t3_loop.trips, k0_off38 t = ![1, t.val / 8, 2 * (t.val % 8) + 0, 16] := by decide +kernel
theorem off39_eq : ∀ t : Fin k0_t3_loop.trips, k0_off39 t = ![1, t.val / 8, 2 * (t.val % 8) + 1, 16] := by decide +kernel
theorem off40_eq : ∀ t : Fin k0_t3_loop.trips, k0_off40 t = ![1, t.val / 8, t.val % 8, 32] := by decide +kernel
theorem off41_eq : ∀ t : Fin k0_t3_loop.trips, k0_off41 t = ![1, t.val / 8, 2 * (t.val % 8) + 0, 32] := by decide +kernel
theorem off42_eq : ∀ t : Fin k0_t3_loop.trips, k0_off42 t = ![1, t.val / 8, 2 * (t.val % 8) + 1, 32] := by decide +kernel
theorem off43_eq : ∀ t : Fin k0_t3_loop.trips, k0_off43 t = ![1, t.val / 8, t.val % 8, 48] := by decide +kernel
theorem off44_eq : ∀ t : Fin k0_t3_loop.trips, k0_off44 t = ![1, t.val / 8, 2 * (t.val % 8) + 0, 48] := by decide +kernel
theorem off45_eq : ∀ t : Fin k0_t3_loop.trips, k0_off45 t = ![1, t.val / 8, 2 * (t.val % 8) + 1, 48] := by decide +kernel
theorem off46_eq : ∀ t : Fin k0_t3_loop.trips, k0_off46 t = ![1, t.val / 8, t.val % 8, 64] := by decide +kernel
theorem off47_eq : ∀ t : Fin k0_t3_loop.trips, k0_off47 t = ![1, t.val / 8, 2 * (t.val % 8) + 0, 64] := by decide +kernel
theorem off48_eq : ∀ t : Fin k0_t3_loop.trips, k0_off48 t = ![1, t.val / 8, 2 * (t.val % 8) + 1, 64] := by decide +kernel
theorem off49_eq : ∀ t : Fin k0_t3_loop.trips, k0_off49 t = ![1, t.val / 8, t.val % 8, 80] := by decide +kernel
theorem off50_eq : ∀ t : Fin k0_t3_loop.trips, k0_off50 t = ![1, t.val / 8, 2 * (t.val % 8) + 0, 80] := by decide +kernel
theorem off51_eq : ∀ t : Fin k0_t3_loop.trips, k0_off51 t = ![1, t.val / 8, 2 * (t.val % 8) + 1, 80] := by decide +kernel
theorem off52_eq : ∀ t : Fin k0_t3_loop.trips, k0_off52 t = ![1, t.val / 8, t.val % 8, 96] := by decide +kernel
theorem off53_eq : ∀ t : Fin k0_t3_loop.trips, k0_off53 t = ![1, t.val / 8, 2 * (t.val % 8) + 0, 96] := by decide +kernel
theorem off54_eq : ∀ t : Fin k0_t3_loop.trips, k0_off54 t = ![1, t.val / 8, 2 * (t.val % 8) + 1, 96] := by decide +kernel
theorem off55_eq : ∀ t : Fin k0_t3_loop.trips, k0_off55 t = ![1, t.val / 8, t.val % 8, 112] := by decide +kernel
theorem off56_eq : ∀ t : Fin k0_t3_loop.trips, k0_off56 t = ![1, t.val / 8, 2 * (t.val % 8) + 0, 112] := by decide +kernel
theorem off57_eq : ∀ t : Fin k0_t3_loop.trips, k0_off57 t = ![1, t.val / 8, 2 * (t.val % 8) + 1, 112] := by decide +kernel

set_option cleanup.letToHave false in set_option cleanup.letToHave false in set_option maxHeartbeats 400000 in
theorem part6_spec (d : Dev nD) (L : grid0.Coords) (tb : S65536.Idx → BitVec 32) (f : S2x4x8x128.Idx → BitVec 32) (k0_t1 : Fin (k0_t1_loop L).trips) (k0_h4 : k0_cond4 L k0_t1 = 1#1) (c0_i32_97 : BitVec 32) (c1_i32_99 : BitVec 32) (k0_t3 : Fin k0_t3_loop.trips)
    (P : S2x4x16x128.Idx → Prop) (Φ : (Σ' (v156 : BitVec 32) (v157 : BitVec 32) (v182 : Vec F S16 .i32) (v184 : IVec S16 32) (k0_hw19 : k0_chk19 L k0_t1 v184), BitVec 32) → sProp 𝕄)
    (hΦ : ∀ (v156 : BitVec 32) (v157 : BitVec 32) (v182 : Vec F S16 .i32) (v184 : IVec S16 32) (k0_hw19 : k0_chk19 L k0_t1 v184) (rl : BitVec 32), IsLd f (k0_off37 k0_t3) v182 → IsIx (F := F) f (k0_off37 k0_t3) 0 v184 → rl = 16#32 → (RES (F := F) d L 1 tb f (fun x => (fun x => P x ∨ inR (k0_off35 k0_t3) x) x ∨ inR (k0_off36 k0_t3) x) ⊢ Φ ⟨v156, v157, v182, v184, k0_hw19, rl⟩)) :
    RES (F := F) d L 1 tb f P ⊢ wp frame (wpE (defs₀ (F := F)) 𝒱₀ (thr d L) none) Set.univ
      (k0_part6 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 c0_i32_97 c1_i32_99 k0_t3) Φ := by
  rw [k0_part6_eq_skeleton]
  unfold k0_part6_skel
  simp only [Prog.lift, Prog.bind_op, Prog.bind_ret, Prog.pure_eq_ret, SparseCore.vectorLoadIdx]
  refine s_C (F := F) d L tb f 1 _ _ (k0_off34 k0_t3) _ (by rw [off34_eq]; rfl) _ _ ?_
  have h_v163 : IsIx (F := F) f (k0_off34 k0_t3) 0 (k0_pay26 (LD (F := F) f (k0_off34 k0_t3) (k0_off34_inb L k0_t1 k0_t3 k0_h4))) := isIx_low (k0_off34_inb L k0_t1 k0_t3 k0_h4) ((fun _ => rfl : ∀ ld, k0_pay26 (F := F) ld = lowOf ld) _)
  refine s_A (F := F) d L _ _ _ (by exact fun _ => chk_of (F := F) h_v163) _ _ ?_
  have h_v165 : IsIx (F := F) f (k0_off34 k0_t3) 1 (k0_pay27 (LD (F := F) f (k0_off34 k0_t3) (k0_off34_inb L k0_t1 k0_t3 k0_h4))) := isIx_high (k0_off34_inb L k0_t1 k0_t3 k0_h4) ((fun _ => rfl : ∀ ld, k0_pay27 (F := F) ld = highOf ld) _)
  refine s_A (F := F) d L _ _ _ (by exact fun _ => chk_of (F := F) h_v165) _ _ ?_
  refine s_G (F := F) d L tb f 1 _ _ _ _ ?_
  refine s_S (F := F) d L tb f 1 _ _ (k0_off34 k0_t3) (k0_off35 k0_t3) 0 (by decide) _ (by rw [off34_eq]; rfl) (by rw [off34_eq, off35_eq]; rfl) _ ⟨_, _, h_v163, rfl⟩ _ _ _ _ ?_
  refine s_G (F := F) d L tb f 1 _ _ _ _ ?_
  refine s_S (F := F) d L tb f 1 _ _ (k0_off34 k0_t3) (k0_off36 k0_t3) 1 (by decide) _ (by rw [off34_eq]; rfl) (by rw [off34_eq, off36_eq]; rfl) _ ⟨_, _, h_v165, rfl⟩ _ _ _ _ ?_
  refine s_C (F := F) d L tb f 1 _ _ (k0_off37 k0_t3) _ (by rw [off37_eq]; rfl) _ _ ?_
  have h_v184 : IsIx (F := F) f (k0_off37 k0_t3) 0 (k0_pay29 (LD (F := F) f (k0_off37 k0_t3) (k0_off37_inb L k0_t1 k0_t3 k0_h4))) := isIx_low (k0_off37_inb L k0_t1 k0_t3 k0_h4) ((fun _ => rfl : ∀ ld, k0_pay29 (F := F) ld = lowOf ld) _)
  refine s_A (F := F) d L _ _ _ (by exact fun _ => chk_of (F := F) h_v184) _ _ ?_
  rw [wp_ret]
  iintro H
  imodintro
  iapply (hΦ _ _ (k0_pay28 (LD (F := F) f (k0_off37 k0_t3) (k0_off37_inb L k0_t1 k0_t3 k0_h4))) _ _ _ ⟨(k0_off37_inb L k0_t1 k0_t3 k0_h4), rfl⟩ h_v184 rfl) $$ H

set_option cleanup.letToHave false in set_option maxHeartbeats 400000 in
theorem part7_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v182 : Vec F S16 .i32) (v184 : IVec S16 32) (k0_hw19 : k0_chk19 L k0_t1 v184) (c16_i32_129 : BitVec 32) (h_v182 : IsLd f (k0_off37 k0_t3) v182) (h_v184 : IsIx (F := F) f (k0_off37 k0_t3) 0 v184) (e16 : c16_i32_129 = 16#32)
    (P : S2x4x16x128.Idx → Prop) (Φ : (Σ' (v214 : Vec F S16 .i32), BitVec 32) → sProp 𝕄)
    (hΦ : ∀ (v214 : Vec F S16 .i32) (rl : BitVec 32), IsW tb f (k0_off40 k0_t3) 1 v214 → (RES (F := F) d L 1 tb f (fun x => (fun x => (fun x => P x ∨ inR (k0_off38 k0_t3) x) x ∨ inR (k0_off39 k0_t3) x) x ∨ inR (k0_off41 k0_t3) x) ⊢ Φ ⟨v214, rl⟩)) :
    RES (F := F) d L 1 tb f P ⊢ wp frame (wpE (defs₀ (F := F)) 𝒱₀ (thr d L) none) Set.univ
      (k0_part7 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v182 v184 k0_hw19 c16_i32_129) Φ := by
  subst e16
  rw [k0_part7_eq_skeleton]
  unfold k0_part7_skel
  simp only [Prog.lift, Prog.bind_op, Prog.bind_ret, Prog.pure_eq_ret, SparseCore.vectorLoadIdx]
  have h_v186 : IsIx (F := F) f (k0_off37 k0_t3) 1 (k0_pay30 v182 16#32) := isIx_high' h_v182 ((fun _ => rfl : ∀ v : Vec F S16 .i32, k0_pay30 (F := F) v 16#32 = shrui v (broadcast S16 16#32)) _)
  refine s_A (F := F) d L _ _ _ (by exact fun _ => chk_of (F := F) h_v186) _ _ ?_
  refine s_G (F := F) d L tb f 1 _ _ _ _ ?_
  refine s_S (F := F) d L tb f 1 _ _ (k0_off37 k0_t3) (k0_off38 k0_t3) 0 (by decide) _ (by rw [off37_eq]; rfl) (by rw [off37_eq, off38_eq]; rfl) _ ⟨_, _, h_v184, rfl⟩ _ _ _ _ ?_
  refine s_G (F := F) d L tb f 1 _ _ _ _ ?_
  refine s_S (F := F) d L tb f 1 _ _ (k0_off37 k0_t3) (k0_off39 k0_t3) 1 (by decide) _ (by rw [off37_eq]; rfl) (by rw [off37_eq, off39_eq]; rfl) _ ⟨_, _, h_v186, rfl⟩ _ _ _ _ ?_
  refine s_C (F := F) d L tb f 1 _ _ (k0_off40 k0_t3) _ (by rw [off40_eq]; rfl) _ _ ?_
  have h_v205 : IsIx (F := F) f (k0_off40 k0_t3) 0 (k0_pay32 (LD (F := F) f (k0_off40 k0_t3) (k0_off40_inb L k0_t1 k0_t3 k0_h4))) := isIx_low (k0_off40_inb L k0_t1 k0_t3 k0_h4) ((fun _ => rfl : ∀ ld, k0_pay32 (F := F) ld = lowOf ld) _)
  refine s_A (F := F) d L _ _ _ (by exact fun _ => chk_of (F := F) h_v205) _ _ ?_
  have h_v207 : IsIx (F := F) f (k0_off40 k0_t3) 1 (k0_pay33 (LD (F := F) f (k0_off40 k0_t3) (k0_off40_inb L k0_t1 k0_t3 k0_h4))) := isIx_high (k0_off40_inb L k0_t1 k0_t3 k0_h4) ((fun _ => rfl : ∀ ld, k0_pay33 (F := F) ld = highOf ld) _)
  refine s_A (F := F) d L _ _ _ (by exact fun _ => chk_of (F := F) h_v207) _ _ ?_
  refine s_G (F := F) d L tb f 1 _ _ _ _ ?_
  refine s_S (F := F) d L tb f 1 _ _ (k0_off40 k0_t3) (k0_off41 k0_t3) 0 (by decide) _ (by rw [off40_eq]; rfl) (by rw [off40_eq, off41_eq]; rfl) _ ⟨_, _, h_v205, rfl⟩ _ _ _ _ ?_
  refine s_G (F := F) d L tb f 1 _ _ _ _ ?_
  rw [wp_ret]
  iintro H
  imodintro
  iapply (hΦ _ _ ⟨_, _, h_v207, rfl⟩) $$ H

set_option cleanup.letToHave false in set_option maxHeartbeats 400000 in
theorem part8_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v214 : Vec F S16 .i32) (v216 : BitVec 32) (h_v214 : IsW tb f (k0_off40 k0_t3) 1 v214)
    (P : S2x4x16x128.Idx → Prop) (Φ : (Σ' (v247 : IVec S16 32) (k0_hw25 : k0_chk25 L k0_t1 v247) (v249 : IVec S16 32), k0_chk26 L k0_t1 v249) → sProp 𝕄)
    (hΦ : ∀ (v247 : IVec S16 32) (k0_hw25 : k0_chk25 L k0_t1 v247) (v249 : IVec S16 32) (rl : k0_chk26 L k0_t1 v249), IsIx (F := F) f (k0_off46 k0_t3) 0 v247 → IsIx (F := F) f (k0_off46 k0_t3) 1 v249 → (RES (F := F) d L 1 tb f (fun x => (fun x => (fun x => P x ∨ inR (k0_off42 k0_t3) x) x ∨ inR (k0_off44 k0_t3) x) x ∨ inR (k0_off45 k0_t3) x) ⊢ Φ ⟨v247, k0_hw25, v249, rl⟩)) :
    RES (F := F) d L 1 tb f P ⊢ wp frame (wpE (defs₀ (F := F)) 𝒱₀ (thr d L) none) Set.univ
      (k0_part8 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v214 v216) Φ := by
  rw [k0_part8_eq_skeleton]
  unfold k0_part8_skel
  simp only [Prog.lift, Prog.bind_op, Prog.bind_ret, Prog.pure_eq_ret, SparseCore.vectorLoadIdx]
  refine s_S (F := F) d L tb f 1 _ _ (k0_off40 k0_t3) (k0_off42 k0_t3) 1 (by decide) _ (by rw [off40_eq]; rfl) (by rw [off40_eq, off42_eq]; rfl) _ h_v214 _ _ _ _ ?_
  refine s_C (F := F) d L tb f 1 _ _ (k0_off43 k0_t3) _ (by rw [off43_eq]; rfl) _ _ ?_
  have h_v226 : IsIx (F := F) f (k0_off43 k0_t3) 0 (k0_pay35 (LD (F := F) f (k0_off43 k0_t3) (k0_off43_inb L k0_t1 k0_t3 k0_h4))) := isIx_low (k0_off43_inb L k0_t1 k0_t3 k0_h4) ((fun _ => rfl : ∀ ld, k0_pay35 (F := F) ld = lowOf ld) _)
  refine s_A (F := F) d L _ _ _ (by exact fun _ => chk_of (F := F) h_v226) _ _ ?_
  have h_v228 : IsIx (F := F) f (k0_off43 k0_t3) 1 (k0_pay36 (LD (F := F) f (k0_off43 k0_t3) (k0_off43_inb L k0_t1 k0_t3 k0_h4))) := isIx_high (k0_off43_inb L k0_t1 k0_t3 k0_h4) ((fun _ => rfl : ∀ ld, k0_pay36 (F := F) ld = highOf ld) _)
  refine s_A (F := F) d L _ _ _ (by exact fun _ => chk_of (F := F) h_v228) _ _ ?_
  refine s_G (F := F) d L tb f 1 _ _ _ _ ?_
  refine s_S (F := F) d L tb f 1 _ _ (k0_off43 k0_t3) (k0_off44 k0_t3) 0 (by decide) _ (by rw [off43_eq]; rfl) (by rw [off43_eq, off44_eq]; rfl) _ ⟨_, _, h_v226, rfl⟩ _ _ _ _ ?_
  refine s_G (F := F) d L tb f 1 _ _ _ _ ?_
  refine s_S (F := F) d L tb f 1 _ _ (k0_off43 k0_t3) (k0_off45 k0_t3) 1 (by decide) _ (by rw [off43_eq]; rfl) (by rw [off43_eq, off45_eq]; rfl) _ ⟨_, _, h_v228, rfl⟩ _ _ _ _ ?_
  refine s_C (F := F) d L tb f 1 _ _ (k0_off46 k0_t3) _ (by rw [off46_eq]; rfl) _ _ ?_
  have h_v247 : IsIx (F := F) f (k0_off46 k0_t3) 0 (k0_pay38 (LD (F := F) f (k0_off46 k0_t3) (k0_off46_inb L k0_t1 k0_t3 k0_h4))) := isIx_low (k0_off46_inb L k0_t1 k0_t3 k0_h4) ((fun _ => rfl : ∀ ld, k0_pay38 (F := F) ld = lowOf ld) _)
  refine s_A (F := F) d L _ _ _ (by exact fun _ => chk_of (F := F) h_v247) _ _ ?_
  have h_v249 : IsIx (F := F) f (k0_off46 k0_t3) 1 (k0_pay39 (LD (F := F) f (k0_off46 k0_t3) (k0_off46_inb L k0_t1 k0_t3 k0_h4))) := isIx_high (k0_off46_inb L k0_t1 k0_t3 k0_h4) ((fun _ => rfl : ∀ ld, k0_pay39 (F := F) ld = highOf ld) _)
  refine s_A (F := F) d L _ _ _ (by exact fun _ => chk_of (F := F) h_v249) _ _ ?_
  rw [wp_ret]
  iintro H
  imodintro
  iapply (hΦ _ _ _ _ h_v247 h_v249) $$ H

set_option cleanup.letToHave false in set_option maxHeartbeats 400000 in
theorem part9_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v247 : IVec S16 32) (k0_hw25 : k0_chk25 L k0_t1 v247) (v249 : IVec S16 32) (k0_hw26 : k0_chk26 L k0_t1 v249) (h_v247 : IsIx (F := F) f (k0_off46 k0_t3) 0 v247) (h_v249 : IsIx (F := F) f (k0_off46 k0_t3) 1 v249)
    (P : S2x4x16x128.Idx → Prop) (Φ : (Vec F S16 .i32) → sProp 𝕄)
    (hΦ : ∀ (v277 : (Vec F S16 .i32)), IsW tb f (k0_off49 k0_t3) 1 v277 → (RES (F := F) d L 1 tb f (fun x => (fun x => (fun x => P x ∨ inR (k0_off47 k0_t3) x) x ∨ inR (k0_off48 k0_t3) x) x ∨ inR (k0_off50 k0_t3) x) ⊢ Φ v277)) :
    RES (F := F) d L 1 tb f P ⊢ wp frame (wpE (defs₀ (F := F)) 𝒱₀ (thr d L) none) Set.univ
      (k0_part9 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v247 k0_hw25 v249 k0_hw26) Φ := by
  rw [k0_part9_eq_skeleton]
  unfold k0_part9_skel
  simp only [Prog.lift, Prog.bind_op, Prog.bind_ret, Prog.pure_eq_ret, SparseCore.vectorLoadIdx]
  refine s_G (F := F) d L tb f 1 _ _ _ _ ?_
  refine s_S (F := F) d L tb f 1 _ _ (k0_off46 k0_t3) (k0_off47 k0_t3) 0 (by decide) _ (by rw [off46_eq]; rfl) (by rw [off46_eq, off47_eq]; rfl) _ ⟨_, _, h_v247, rfl⟩ _ _ _ _ ?_
  refine s_G (F := F) d L tb f 1 _ _ _ _ ?_
  refine s_S (F := F) d L tb f 1 _ _ (k0_off46 k0_t3) (k0_off48 k0_t3) 1 (by decide) _ (by rw [off46_eq]; rfl) (by rw [off46_eq, off48_eq]; rfl) _ ⟨_, _, h_v249, rfl⟩ _ _ _ _ ?_
  refine s_C (F := F) d L tb f 1 _ _ (k0_off49 k0_t3) _ (by rw [off49_eq]; rfl) _ _ ?_
  have h_v268 : IsIx (F := F) f (k0_off49 k0_t3) 0 (k0_pay41 (LD (F := F) f (k0_off49 k0_t3) (k0_off49_inb L k0_t1 k0_t3 k0_h4))) := isIx_low (k0_off49_inb L k0_t1 k0_t3 k0_h4) ((fun _ => rfl : ∀ ld, k0_pay41 (F := F) ld = lowOf ld) _)
  refine s_A (F := F) d L _ _ _ (by exact fun _ => chk_of (F := F) h_v268) _ _ ?_
  have h_v270 : IsIx (F := F) f (k0_off49 k0_t3) 1 (k0_pay42 (LD (F := F) f (k0_off49 k0_t3) (k0_off49_inb L k0_t1 k0_t3 k0_h4))) := isIx_high (k0_off49_inb L k0_t1 k0_t3 k0_h4) ((fun _ => rfl : ∀ ld, k0_pay42 (F := F) ld = highOf ld) _)
  refine s_A (F := F) d L _ _ _ (by exact fun _ => chk_of (F := F) h_v270) _ _ ?_
  refine s_G (F := F) d L tb f 1 _ _ _ _ ?_
  refine s_S (F := F) d L tb f 1 _ _ (k0_off49 k0_t3) (k0_off50 k0_t3) 0 (by decide) _ (by rw [off49_eq]; rfl) (by rw [off49_eq, off50_eq]; rfl) _ ⟨_, _, h_v268, rfl⟩ _ _ _ _ ?_
  refine s_G (F := F) d L tb f 1 _ _ _ _ ?_
  rw [wp_ret]
  iintro H
  imodintro
  iapply (hΦ _ ⟨_, _, h_v270, rfl⟩) $$ H

set_option cleanup.letToHave false in set_option maxHeartbeats 400000 in
theorem part10_spec (d : Dev nD) (L : grid0.Coords) (tb : S65536.Idx → BitVec 32) (f : S2x4x8x128.Idx → BitVec 32) (k0_t1 : Fin (k0_t1_loop L).trips) (k0_h4 : k0_cond4 L k0_t1 = 1#1) (k0_t3 : Fin k0_t3_loop.trips) (v156 : BitVec 32) (v157 : BitVec 32) (v277 : Vec F S16 .i32) (h_v277 : IsW tb f (k0_off49 k0_t3) 1 v277)
    (P : S2x4x16x128.Idx → Prop) (Φ : (Σ' (v312 : IVec S16 32) (k0_hw32 : k0_chk32 L k0_t1 v312) (v313 : Vec F S16 .i32), BitVec 32) → sProp 𝕄)
    (hΦ : ∀ (v312 : IVec S16 32) (k0_hw32 : k0_chk32 L k0_t1 v312) (v313 : Vec F S16 .i32) (rl : BitVec 32), IsIx (F := F) f (k0_off55 k0_t3) 1 v312 → IsW tb f (k0_off55 k0_t3) 0 v313 → (RES (F := F) d L 1 tb f (fun x => (fun x => (fun x => P x ∨ inR (k0_off51 k0_t3) x) x ∨ inR (k0_off53 k0_t3) x) x ∨ inR (k0_off54 k0_t3) x) ⊢ Φ ⟨v312, k0_hw32, v313, rl⟩)) :
    RES (F := F) d L 1 tb f P ⊢ wp frame (wpE (defs₀ (F := F)) 𝒱₀ (thr d L) none) Set.univ
      (k0_part10 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 k0_t1 k0_h4 k0_t3 v156 v157 v277) Φ := by
  rw [k0_part10_eq_skeleton]
  unfold k0_part10_skel
  simp only [Prog.lift, Prog.bind_op, Prog.bind_ret, Prog.pure_eq_ret, SparseCore.vectorLoadIdx]
  refine s_S (F := F) d L tb f 1 _ _ (k0_off49 k0_t3) (k0_off51 k0_t3) 1 (by decide) _ (by rw [off49_eq]; rfl) (by rw [off49_eq, off51_eq]; rfl) _ h_v277 _ _ _ _ ?_
  refine s_C (F := F) d L tb f 1 _ _ (k0_off52 k0_t3) _ (by rw [off52_eq]; rfl) _ _ ?_
  have h_v289 : IsIx (F := F) f (k0_off52 k0_t3) 0 (k0_pay44 (LD (F := F) f (k0_off52 k0_t3) (k0_off52_inb L k0_t1 k0_t3 k0_h4))) := isIx_low (k0_off52_inb L k0_t1 k0_t3 k0_h4) ((fun _ => rfl : ∀ ld, k0_pay44 (F := F) ld = lowOf ld) _)
  refine s_A (F := F) d L _ _ _ (by exact fun _ => chk_of (F := F) h_v289) _ _ ?_
  have h_v291 : IsIx (F := F) f (k0_off52 k0_t3) 1 (k0_pay45 (LD (F := F) f (k0_off52 k0_t3) (k0_off52_inb L k0_t1 k0_t3 k0_h4))) := isIx_high (k0_off52_inb L k0_t1 k0_t3 k0_h4) ((fun _ => rfl : ∀ ld, k0_pay45 (F := F) ld = highOf ld) _)
  refine s_A (F := F) d L _ _ _ (by exact fun _ => chk_of (F := F) h_v291) _ _ ?_
  refine s_G (F := F) d L tb f 1 _ _ _ _ ?_
  refine s_S (F := F) d L tb f 1 _ _ (k0_off52 k0_t3) (k0_off53 k0_t3) 0 (by decide) _ (by rw [off52_eq]; rfl) (by rw [off52_eq, off53_eq]; rfl) _ ⟨_, _, h_v289, rfl⟩ _ _ _ _ ?_
  refine s_G (F := F) d L tb f 1 _ _ _ _ ?_
  refine s_S (F := F) d L tb f 1 _ _ (k0_off52 k0_t3) (k0_off54 k0_t3) 1 (by decide) _ (by rw [off52_eq]; rfl) (by rw [off52_eq, off54_eq]; rfl) _ ⟨_, _, h_v291, rfl⟩ _ _ _ _ ?_
  refine s_C (F := F) d L tb f 1 _ _ (k0_off55 k0_t3) _ (by rw [off55_eq]; rfl) _ _ ?_
  have h_v310 : IsIx (F := F) f (k0_off55 k0_t3) 0 (k0_pay47 (LD (F := F) f (k0_off55 k0_t3) (k0_off55_inb L k0_t1 k0_t3 k0_h4))) := isIx_low (k0_off55_inb L k0_t1 k0_t3 k0_h4) ((fun _ => rfl : ∀ ld, k0_pay47 (F := F) ld = lowOf ld) _)
  refine s_A (F := F) d L _ _ _ (by exact fun _ => chk_of (F := F) h_v310) _ _ ?_
  have h_v312 : IsIx (F := F) f (k0_off55 k0_t3) 1 (k0_pay48 (LD (F := F) f (k0_off55 k0_t3) (k0_off55_inb L k0_t1 k0_t3 k0_h4))) := isIx_high (k0_off55_inb L k0_t1 k0_t3 k0_h4) ((fun _ => rfl : ∀ ld, k0_pay48 (F := F) ld = highOf ld) _)
  refine s_A (F := F) d L _ _ _ (by exact fun _ => chk_of (F := F) h_v312) _ _ ?_
  refine s_G (F := F) d L tb f 1 _ _ _ _ ?_
  rw [wp_ret]
  iintro H
  imodintro
  iapply (hΦ _ _ _ _ h_v312 ⟨_, _, h_v310, rfl⟩) $$ H

set_option cleanup.letToHave false in set_option maxHeartbeats 400000 in
theorem trip3 (d : Dev nD) (L : grid0.Coords) (a1 a2 : BitVec 32) (k0_t1 : Fin (k0_t1_loop L).trips) (a3 : BitVec 32) (k0_h4 : k0_cond4 L k0_t1 = 1#1)
    (tb : S65536.Idx → BitVec 32) (f : S2x4x8x128.Idx → BitVec 32) (k0_t3 : Fin k0_t3_loop.trips) (u : Unit) :
    iprop(cPts d L 1 f ∗ tPts d L tb ∗ oGood d L 1 tb f (upTo 1 k0_t3.val)) ⊢ wp frame (wpE (defs₀ (F := F)) 𝒱₀ (thr d L) none) Set.univ
      (k0_t3_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 k0_t1 a3 k0_h4 k0_t3 u)
      fun _ => iprop(cPts d L 1 f ∗ tPts d L tb ∗ oGood d L 1 tb f (upTo 1 (k0_t3.val + 1))) := by
  unfold k0_t3_body
  rw [wp_bind]
  refine part6_spec d L tb f _ _ _ _ _ _ _ ?_
  intro v156 v157 v182 v184 k0_hw19 rl h_v182 h_v184 e16
  rw [wp_bind]
  refine part7_spec d L tb f _ _ _ _ _ _ _ _ _ h_v182 h_v184 e16 _ _ ?_
  intro v214 rl h_v214
  rw [wp_bind]
  refine part8_spec d L tb f _ _ _ _ _ _ _ h_v214 _ _ ?_
  intro v247 k0_hw25 v249 rl h_v247 h_v249
  rw [wp_bind]
  refine part9_spec d L tb f _ _ _ _ _ _ _ _ _ h_v247 h_v249 _ _ ?_
  intro v277 h_v277
  rw [wp_bind]
  refine part10_spec d L tb f _ _ _ _ _ _ h_v277 _ _ ?_
  intro v312 k0_hw32 v313 rl h_v312 h_v313
  dsimp only
  simp only [Prog.lift, Prog.bind_op, Prog.bind_ret, Prog.pure_eq_ret, SparseCore.vectorLoadIdx]
  refine s_S (F := F) d L tb f 1 _ _ (k0_off55 k0_t3) (k0_off56 k0_t3) 0 (by decide) _ (by rw [off55_eq]; rfl) (by rw [off55_eq, off56_eq]; rfl) _ h_v313 _ _ _ _ ?_
  refine s_G (F := F) d L tb f 1 _ _ _ _ ?_
  refine s_S (F := F) d L tb f 1 _ _ (k0_off55 k0_t3) (k0_off57 k0_t3) 1 (by decide) _ (by rw [off55_eq]; rfl) (by rw [off55_eq, off57_eq]; rfl) _ ⟨_, _, h_v312, rfl⟩ _ _ _ _ ?_
  rw [wp_ret]
  iintro ⟨HC, HT, HO⟩
  imodintro
  isplitl [HC]; · iexact HC
  isplitl [HT]; · iexact HT
  iapply (oGood_mono d L _ tb f ?_) $$ HO
  intro x hx
  rcases cover 1 k0_t3.val x hx (fun q h => match q, h with | 0, 0 => k0_off35 k0_t3 | 0, 1 => k0_off36 k0_t3 | 1, 0 => k0_off38 k0_t3 | 1, 1 => k0_off39 k0_t3 | 2, 0 => k0_off41 k0_t3 | 2, 1 => k0_off42 k0_t3 | 3, 0 => k0_off44 k0_t3 | 3, 1 => k0_off45 k0_t3 | 4, 0 => k0_off47 k0_t3 | 4, 1 => k0_off48 k0_t3 | 5, 0 => k0_off50 k0_t3 | 5, 1 => k0_off51 k0_t3 | 6, 0 => k0_off53 k0_t3 | 6, 1 => k0_off54 k0_t3 | 7, 0 => k0_off56 k0_t3 | 7, 1 => k0_off57 k0_t3)
    (by intro q h; fin_cases q <;> fin_cases h <;> first | exact off35_eq k0_t3 | exact off36_eq k0_t3 | exact off38_eq k0_t3 | exact off39_eq k0_t3 | exact off41_eq k0_t3 | exact off42_eq k0_t3 | exact off44_eq k0_t3 | exact off45_eq k0_t3 | exact off47_eq k0_t3 | exact off48_eq k0_t3 | exact off50_eq k0_t3 | exact off51_eq k0_t3 | exact off53_eq k0_t3 | exact off54_eq k0_t3 | exact off56_eq k0_t3 | exact off57_eq k0_t3) with hp | ⟨q, h, hr⟩
  · exact .inl (.inl (.inl (.inl (.inl (.inl (.inl (.inl (.inl (.inl (.inl (.inl (.inl (.inl (.inl (.inl hp)))))))))))))))
  · match q, h, hr with
    | 0, 0, hr => exact .inl (.inl (.inl (.inl (.inl (.inl (.inl (.inl (.inl (.inl (.inl (.inl (.inl (.inl (.inl (.inr hr)))))))))))))))
    | 0, 1, hr => exact .inl (.inl (.inl (.inl (.inl (.inl (.inl (.inl (.inl (.inl (.inl (.inl (.inl (.inl (.inr hr))))))))))))))
    | 1, 0, hr => exact .inl (.inl (.inl (.inl (.inl (.inl (.inl (.inl (.inl (.inl (.inl (.inl (.inl (.inr hr)))))))))))))
    | 1, 1, hr => exact .inl (.inl (.inl (.inl (.inl (.inl (.inl (.inl (.inl (.inl (.inl (.inl (.inr hr))))))))))))
    | 2, 0, hr => exact .inl (.inl (.inl (.inl (.inl (.inl (.inl (.inl (.inl (.inl (.inl (.inr hr)))))))))))
    | 2, 1, hr => exact .inl (.inl (.inl (.inl (.inl (.inl (.inl (.inl (.inl (.inl (.inr hr))))))))))
    | 3, 0, hr => exact .inl (.inl (.inl (.inl (.inl (.inl (.inl (.inl (.inl (.inr hr)))))))))
    | 3, 1, hr => exact .inl (.inl (.inl (.inl (.inl (.inl (.inl (.inl (.inr hr))))))))
    | 4, 0, hr => exact .inl (.inl (.inl (.inl (.inl (.inl (.inl (.inr hr)))))))
    | 4, 1, hr => exact .inl (.inl (.inl (.inl (.inl (.inl (.inr hr))))))
    | 5, 0, hr => exact .inl (.inl (.inl (.inl (.inl (.inr hr)))))
    | 5, 1, hr => exact .inl (.inl (.inl (.inl (.inr hr))))
    | 6, 0, hr => exact .inl (.inl (.inl (.inr hr)))
    | 6, 1, hr => exact .inl (.inl (.inr hr))
    | 7, 0, hr => exact .inl (.inr hr)
    | 7, 1, hr => exact .inr hr

end Cert.Proof.GI
-- ==== Proof.GI.Geo.lean ====
/- WHERE THE TRANSFERS READ AND WRITE: a unit of work is a row of the codes and four tiles; its codes window, its output block, and the values a transfer between a slot and a window leaves. -/
module

public import proofs.«01_k».proof.Proof.GI.Steps

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The codes of unit `u`: row `u % 28` and the four tiles from `4 * (u / 28)`. -/
def win (u : ℕ) : Finset S28x148x8x128.Idx := Finset.univ.filter fun x => (x 0).val = u % 28 ∧ (x 1).val / 4 = u / 28
/-- The output block of unit `u` on core `c`. -/
def blk (c u : ℕ) : Finset S12x448x2x128.Idx := Finset.univ.filter fun x => (x 2).val = c ∧ (x 1).val / 16 = u % 28 ∧ (x 0).val / 4 = u / 28

/-- Where slot index `x` of unit `u` lies in the codes. -/
def cdx (u : ℕ) (x : S2x4x8x128.Idx) : S28x148x8x128.Idx := fun
  | 0 => ⟨u % 28, by show _ < 28; omega⟩
  | 1 => ⟨(4 * (u / 28) + (x 1).val) % 148, by show _ < 148; omega⟩
  | 2 => x 2
  | 3 => x 3
/-- Slot `σ` holds the codes of unit `u`. -/
def CodeOK (co : S28x148x8x128.Idx → BitVec 32) (σ u : ℕ) (f : S2x4x8x128.Idx → BitVec 32) : Prop := ∀ x, (x 0).val = σ → f x = co (cdx u x)

/-- The code word behind an output index. -/
def odx (y : S12x448x2x128.Idx) : S28x148x8x128.Idx := fun
  | 0 => ⟨(y 1).val / 16, by have h := (y 1).isLt; change _ < 448 at h; show _ < 28; omega⟩
  | 1 => ⟨(y 0).val, by have h := (y 0).isLt; change _ < 12 at h; show _ < 148; omega⟩
  | 2 => ⟨(y 1).val % 16 / 2, by show _ < 8; omega⟩
  | 3 => y 3
/-- The index of row `c`, column `x`. -/
def rix (c : Fin 2) (x : S65536.Idx) : S2x65536.Idx := fun | 0 => c | 1 => x 0
/-- The table of core `c`: row `c` of the words. -/
def row (W : S2x65536.Idx → BitVec 32) (c : Fin 2) : S65536.Idx → BitVec 32 := fun x => W (rix c x)
/-- The output: at tile, row `k`, word `c`, lane, the table of `c` at half `k % 2` of the code word of row `k / 2`. -/
def OUTf (co : S28x148x8x128.Idx → BitVec 32) (W : S2x65536.Idx → BitVec 32) (y : S12x448x2x128.Idx) : BitVec 32 :=
  row W (y 2) (tix (hw ((y 1).val % 2) (co (odx y))) (hw_lt _ _))

abbrev cWin (off : Fin 4 → ℕ) (h : ∀ a, off a + S1x4x8x128.size a ≤ S28x148x8x128.size a) : Memref sig .scVector .hbm S4x8x128 .i32 :=
  (cV.slice (Rect.unit (s := S28x148x8x128) off S1x4x8x128.size h) (fun _ => rfl)).squeeze S4x8x128 squeezes_S1x4x8x128_S4x8x128
abbrev cSlot (off : Fin 4 → ℕ) (h : ∀ a, off a + S1x4x8x128.size a ≤ S2x4x8x128.size a) : Memref sig .scVector .vmem S4x8x128 .i32 :=
  (cB.slice (Rect.unit (s := S2x4x8x128) off S1x4x8x128.size h) (fun _ => rfl)).squeeze S4x8x128 squeezes_S1x4x8x128_S4x8x128
abbrev oWin (off : Fin 4 → ℕ) (h : ∀ a, off a + S4x16x1x128.size a ≤ S12x448x2x128.size a) : Memref sig .scVector .hbm S4x16x128 .i32 :=
  (oV.slice (Rect.unit (s := S12x448x2x128) off S4x16x1x128.size h) (fun _ => rfl)).squeeze S4x16x128 squeezes_S4x16x1x128_S4x16x128
abbrev oSlot (off : Fin 4 → ℕ) (h : ∀ a, off a + S1x4x16x128.size a ≤ S2x4x16x128.size a) : Memref sig .scVector .vmem S4x16x128 .i32 :=
  (oB.slice (Rect.unit (s := S2x4x16x128) off S1x4x16x128.size h) (fun _ => rfl)).squeeze S4x16x128 squeezes_S1x4x16x128_S4x16x128
abbrev tRow (off : Fin 2 → ℕ) (h : ∀ a, off a + S1x65536.size a ≤ S2x65536.size a) : Memref sig .scVector .hbm S65536 .i32 :=
  (wV.slice (Rect.unit (s := S2x65536) off S1x65536.size h) (fun _ => rfl)).squeeze S65536 squeezes_S1x65536_S65536

theorem set_cWin (u : ℕ) (off h) (e : off = ![u % 28, 4 * (u / 28), 0, 0]) : (cWin off h).view.set = win u := by
  subst e
  show ((cV.view.slice _).reshape S4x8x128 _).set = _
  rw [View.set_reshape]
  ext x
  have h0 := (x 0).isLt; have h1 := (x 1).isLt; have h2 := (x 2).isLt; have h3 := (x 3).isLt
  change _ < 28 at h0; change _ < 148 at h1; change _ < 8 at h2; change _ < 128 at h3
  constructor
  · intro hx
    obtain ⟨j, -, e⟩ := Finset.mem_map.mp hx
    have hm : x ∈ (Rect.unit (s := S28x148x8x128) ![u % 28, 4 * (u / 28), 0, 0] S1x4x8x128.size h).set := by
      rw [← Rect.map_emb_univ]; exact Finset.mem_map.mpr ⟨j, Finset.mem_univ _, e⟩
    have m0 := Rect.mem_set_unit.mp hm 0
    have m1 := Rect.mem_set_unit.mp hm 1
    change u % 28 ≤ (x 0).val ∧ (x 0).val < u % 28 + 1 at m0
    change 4 * (u / 28) ≤ (x 1).val ∧ (x 1).val < 4 * (u / 28) + 4 at m1
    exact Finset.mem_filter.mpr ⟨Finset.mem_univ _, by omega, by omega⟩
  · intro hx
    obtain ⟨-, e0, e1⟩ := Finset.mem_filter.mp hx
    have hm : x ∈ (Rect.unit (s := S28x148x8x128) ![u % 28, 4 * (u / 28), 0, 0] S1x4x8x128.size h).set := by
      refine Rect.mem_set_unit.mpr fun a => ?_
      match a with
      | 0 => show u % 28 ≤ (x 0).val ∧ (x 0).val < u % 28 + 1; omega
      | 1 => show 4 * (u / 28) ≤ (x 1).val ∧ (x 1).val < 4 * (u / 28) + 4; omega
      | 2 => show 0 ≤ (x 2).val ∧ (x 2).val < 0 + 8; omega
      | 3 => show 0 ≤ (x 3).val ∧ (x 3).val < 0 + 128; omega
    rw [← Rect.map_emb_univ] at hm
    obtain ⟨j, -, e⟩ := Finset.mem_map.mp hm
    exact Finset.mem_map.mpr ⟨j, Finset.mem_univ _, e⟩

theorem set_oWin (c u : ℕ) (off h) (e : off = ![4 * (u / 28), 16 * (u % 28), c, 0]) : (oWin off h).view.set = blk c u := by
  subst e
  show ((oV.view.slice _).reshape S4x16x128 _).set = _
  rw [View.set_reshape]
  ext x
  have h0 := (x 0).isLt; have h1 := (x 1).isLt; have h2 := (x 2).isLt; have h3 := (x 3).isLt
  change _ < 12 at h0; change _ < 448 at h1; change _ < 2 at h2; change _ < 128 at h3
  constructor
  · intro hx
    obtain ⟨j, -, e⟩ := Finset.mem_map.mp hx
    have hm : x ∈ (Rect.unit (s := S12x448x2x128) ![4 * (u / 28), 16 * (u % 28), c, 0] S4x16x1x128.size h).set := by
      rw [← Rect.map_emb_univ]; exact Finset.mem_map.mpr ⟨j, Finset.mem_univ _, e⟩
    have m0 := Rect.mem_set_unit.mp hm 0
    have m1 := Rect.mem_set_unit.mp hm 1
    have m2 := Rect.mem_set_unit.mp hm 2
    change 4 * (u / 28) ≤ (x 0).val ∧ (x 0).val < 4 * (u / 28) + 4 at m0
    change 16 * (u % 28) ≤ (x 1).val ∧ (x 1).val < 16 * (u % 28) + 16 at m1
    change c ≤ (x 2).val ∧ (x 2).val < c + 1 at m2
    exact Finset.mem_filter.mpr ⟨Finset.mem_univ _, by omega, by omega, by omega⟩
  · intro hx
    obtain ⟨-, e2, e1, e0⟩ := Finset.mem_filter.mp hx
    have hm : x ∈ (Rect.unit (s := S12x448x2x128) ![4 * (u / 28), 16 * (u % 28), c, 0] S4x16x1x128.size h).set := by
      refine Rect.mem_set_unit.mpr fun a => ?_
      match a with
      | 0 => show 4 * (u / 28) ≤ (x 0).val ∧ (x 0).val < 4 * (u / 28) + 4; omega
      | 1 => show 16 * (u % 28) ≤ (x 1).val ∧ (x 1).val < 16 * (u % 28) + 16; omega
      | 2 => show c ≤ (x 2).val ∧ (x 2).val < c + 1; omega
      | 3 => show 0 ≤ (x 3).val ∧ (x 3).val < 0 + 128; omega
    rw [← Rect.map_emb_univ] at hm
    obtain ⟨j, -, e⟩ := Finset.mem_map.mp hm
    exact Finset.mem_map.mpr ⟨j, Finset.mem_univ _, e⟩

theorem set_cSlot (σ : ℕ) (off h) (e : off = ![σ, 0, 0, 0]) : (cSlot off h).view.set ⊆ slotC σ := by
  subst e
  show ((cB.view.slice _).reshape S4x8x128 _).set ⊆ _
  rw [View.set_reshape]
  intro x hx
  obtain ⟨j, -, e⟩ := Finset.mem_map.mp hx
  have hm : x ∈ (Rect.unit (s := S2x4x8x128) ![σ, 0, 0, 0] S1x4x8x128.size h).set := by
    rw [← Rect.map_emb_univ]; exact Finset.mem_map.mpr ⟨j, Finset.mem_univ _, e⟩
  have m0 := Rect.mem_set_unit.mp hm 0
  change σ ≤ (x 0).val ∧ (x 0).val < σ + 1 at m0
  exact Finset.mem_filter.mpr ⟨Finset.mem_univ _, by omega⟩

theorem set_oSlot (σ : ℕ) (off h) (e : off = ![σ, 0, 0, 0]) : (oSlot off h).view.set = slotO σ := by
  subst e
  show ((oB.view.slice _).reshape S4x16x128 _).set = _
  rw [View.set_reshape]
  ext x
  have h0 := (x 0).isLt; have h1 := (x 1).isLt; have h2 := (x 2).isLt; have h3 := (x 3).isLt
  change _ < 2 at h0; change _ < 4 at h1; change _ < 16 at h2; change _ < 128 at h3
  constructor
  · intro hx
    obtain ⟨j, -, e⟩ := Finset.mem_map.mp hx
    have hm : x ∈ (Rect.unit (s := S2x4x16x128) ![σ, 0, 0, 0] S1x4x16x128.size h).set := by
      rw [← Rect.map_emb_univ]; exact Finset.mem_map.mpr ⟨j, Finset.mem_univ _, e⟩
    have m0 := Rect.mem_set_unit.mp hm 0
    change σ ≤ (x 0).val ∧ (x 0).val < σ + 1 at m0
    exact Finset.mem_filter.mpr ⟨Finset.mem_univ _, by omega⟩
  · intro hx
    obtain ⟨-, e0⟩ := Finset.mem_filter.mp hx
    have hm : x ∈ (Rect.unit (s := S2x4x16x128) ![σ, 0, 0, 0] S1x4x16x128.size h).set := by
      refine Rect.mem_set_unit.mpr fun a => ?_
      match a with
      | 0 => show σ ≤ (x 0).val ∧ (x 0).val < σ + 1; omega
      | 1 => show 0 ≤ (x 1).val ∧ (x 1).val < 0 + 4; omega
      | 2 => show 0 ≤ (x 2).val ∧ (x 2).val < 0 + 16; omega
      | 3 => show 0 ≤ (x 3).val ∧ (x 3).val < 0 + 128; omega
    rw [← Rect.map_emb_univ] at hm
    obtain ⟨j, -, e⟩ := Finset.mem_map.mp hm
    exact Finset.mem_map.mpr ⟨j, Finset.mem_univ _, e⟩

/-- The multi-indices of a transferred block, with its unit axis put back in front. -/
def j3 (a : Fin 4) (b : Fin 8) (e : Fin 128) : S4x8x128.Idx := fun | 0 => a | 1 => b | 2 => e
def j4 (a : Fin 4) (b : Fin 8) (e : Fin 128) : S1x4x8x128.Idx := fun | 0 => ⟨0, Nat.one_pos⟩ | 1 => a | 2 => b | 3 => e
theorem re_j (a : Fin 4) (b : Fin 8) (e : Fin 128) (h : S4x8x128.numel = S1x4x8x128.numel) : Shape.reshapeEquiv h (j3 a b e) = j4 a b e :=
  Shape.reshapeEquiv_eq_of_rowMajor h (by
    rw [Shape.rowMajor_val_four, Shape.rowMajor_val_three]
    show ((0 * 4 + a.val) * 8 + b.val) * 128 + e.val = (a.val * 8 + b.val) * 128 + e.val
    omega)
def q3 (a : Fin 4) (b : Fin 16) (e : Fin 128) : S4x16x128.Idx := fun | 0 => a | 1 => b | 2 => e
def q4 (a : Fin 4) (b : Fin 16) (e : Fin 128) : S1x4x16x128.Idx := fun | 0 => ⟨0, Nat.one_pos⟩ | 1 => a | 2 => b | 3 => e
def q4' (a : Fin 4) (b : Fin 16) (e : Fin 128) : S4x16x1x128.Idx := fun | 0 => a | 1 => b | 2 => ⟨0, Nat.one_pos⟩ | 3 => e
theorem re_q (a : Fin 4) (b : Fin 16) (e : Fin 128) (h : S4x16x128.numel = S1x4x16x128.numel) : Shape.reshapeEquiv h (q3 a b e) = q4 a b e :=
  Shape.reshapeEquiv_eq_of_rowMajor h (by
    rw [Shape.rowMajor_val_four, Shape.rowMajor_val_three]
    show ((0 * 4 + a.val) * 16 + b.val) * 128 + e.val = (a.val * 16 + b.val) * 128 + e.val
    omega)
theorem re_q' (a : Fin 4) (b : Fin 16) (e : Fin 128) (h : S4x16x128.numel = S4x16x1x128.numel) : Shape.reshapeEquiv h (q3 a b e) = q4' a b e :=
  Shape.reshapeEquiv_eq_of_rowMajor h (by
    rw [Shape.rowMajor_val_four, Shape.rowMajor_val_three]
    show ((a.val * 16 + b.val) * 1 + 0) * 128 + e.val = (a.val * 16 + b.val) * 128 + e.val
    omega)

/-- A transfer of unit `u`'s codes leaves them in the slot. -/
theorem code_val (co : S28x148x8x128.Idx → BitVec 32) (f0 : S2x4x8x128.Idx → BitVec 32) (σ u : ℕ) (hu : u < 84) (off h off' h')
    (e : off = ![u % 28, 4 * (u / 28), 0, 0]) (e' : off' = ![σ, 0, 0, 0]) :
    CodeOK co σ u ((cSlot off' h').view.write (Elt F) f0 ((cWin off h).view.read (Elt F) co) Finset.univ) := by
  intro x hx
  have hx' : (cSlot off' h').view.emb (j3 (x 1) (x 2) (x 3)) = x := by
    show (Rect.unit (s := S2x4x8x128) off' S1x4x8x128.size h').emb (Shape.reshapeEquiv _ (j3 (x 1) (x 2) (x 3))) = x
    refine (congrArg (Rect.unit (s := S2x4x8x128) off' S1x4x8x128.size h').emb (re_j (x 1) (x 2) (x 3) _)).trans ?_
    subst e'
    funext a
    apply Fin.ext
    rw [Rect.emb_apply]
    match a with
    | 0 => show σ + 1 * 0 = (x 0).val; omega
    | 1 => show 0 + 1 * (x 1).val = (x 1).val; omega
    | 2 => show 0 + 1 * (x 2).val = (x 2).val; omega
    | 3 => show 0 + 1 * (x 3).val = (x 3).val; omega
  have hs : (cWin off h).view.emb (j3 (x 1) (x 2) (x 3)) = cdx u x := by
    show (Rect.unit (s := S28x148x8x128) off S1x4x8x128.size h).emb (Shape.reshapeEquiv _ (j3 (x 1) (x 2) (x 3))) = _
    refine (congrArg (Rect.unit (s := S28x148x8x128) off S1x4x8x128.size h).emb (re_j (x 1) (x 2) (x 3) _)).trans ?_
    subst e
    have h1 := (x 1).isLt
    change _ < 4 at h1
    funext a
    apply Fin.ext
    rw [Rect.emb_apply]
    match a with
    | 0 => show u % 28 + 1 * 0 = u % 28; omega
    | 1 => show 4 * (u / 28) + 1 * (x 1).val = (4 * (u / 28) + (x 1).val) % 148; omega
    | 2 => show 0 + 1 * (x 2).val = (x 2).val; omega
    | 3 => show 0 + 1 * (x 3).val = (x 3).val; omega
  rw [← hs]
  conv_lhs => rw [← hx']
  exact View.write_emb_of_mem (v := (cSlot off' h').view) (Val := Elt F) f0 ((cWin off h).view.read (Elt F) co) (Finset.mem_univ _)

theorem tix_congr {w w' : BitVec 32} (e : w = w') (h : w.toNat < 65536) (h' : w'.toNat < 65536) : tix w h = tix w' h' := by subst e; rfl

/-- A transfer of a finished slot leaves the output's values in unit `u`'s block. -/
theorem out_val (co : S28x148x8x128.Idx → BitVec 32) (W : S2x65536.Idx → BitVec 32) (c : Fin 2) (f : S2x4x8x128.Idx → BitVec 32) (σ u : ℕ) (hσ : σ < 2) (hu : u < 84)
    (hf : CodeOK co σ u f) (g : S2x4x16x128.Idx → BitVec 32) (hg : ∀ x, (x 0).val = σ → g x = GV (row W c) f x) (fd : S12x448x2x128.Idx → BitVec 32) (off h off' h')
    (e : off = ![4 * (u / 28), 16 * (u % 28), c.val, 0]) (e' : off' = ![σ, 0, 0, 0]) :
    ∀ y ∈ blk c.val u, (oWin off h).view.write (Elt F) fd ((oSlot off' h').view.read (Elt F) g) Finset.univ y = OUTf co W y := by
  intro y hy
  obtain ⟨-, y2, y1, y0⟩ := Finset.mem_filter.mp hy
  have b1 := (y 1).isLt; have b0 := (y 0).isLt
  change _ < 448 at b1; change _ < 12 at b0
  let a : Fin 4 := ⟨(y 0).val % 4, by omega⟩
  let b : Fin 16 := ⟨(y 1).val % 16, by omega⟩
  have hy' : (oWin off h).view.emb (q3 a b (y 3)) = y := by
    show (Rect.unit (s := S12x448x2x128) off S4x16x1x128.size h).emb (Shape.reshapeEquiv _ (q3 a b (y 3))) = y
    refine (congrArg (Rect.unit (s := S12x448x2x128) off S4x16x1x128.size h).emb (re_q' a b (y 3) _)).trans ?_
    subst e
    funext i
    apply Fin.ext
    rw [Rect.emb_apply]
    match i with
    | 0 => show 4 * (u / 28) + 1 * ((y 0).val % 4) = (y 0).val; omega
    | 1 => show 16 * (u % 28) + 1 * ((y 1).val % 16) = (y 1).val; omega
    | 2 => show c.val + 1 * 0 = (y 2).val; omega
    | 3 => show 0 + 1 * (y 3).val = (y 3).val; omega
  let x : S2x4x16x128.Idx := fun | 0 => ⟨σ, hσ⟩ | 1 => a | 2 => b | 3 => y 3
  have hs : (oSlot off' h').view.emb (q3 a b (y 3)) = x := by
    show (Rect.unit (s := S2x4x16x128) off' S1x4x16x128.size h').emb (Shape.reshapeEquiv _ (q3 a b (y 3))) = _
    refine (congrArg (Rect.unit (s := S2x4x16x128) off' S1x4x16x128.size h').emb (re_q a b (y 3) _)).trans ?_
    subst e'
    funext i
    apply Fin.ext
    rw [Rect.emb_apply]
    match i with
    | 0 => show σ + 1 * 0 = σ; omega
    | 1 => show 0 + 1 * a.val = a.val; omega
    | 2 => show 0 + 1 * b.val = b.val; omega
    | 3 => show 0 + 1 * (y 3).val = (y 3).val; omega
  have h1 : (oWin off h).view.write (Elt F) fd ((oSlot off' h').view.read (Elt F) g) Finset.univ ((oWin off h).view.emb (q3 a b (y 3))) = g ((oSlot off' h').view.emb (q3 a b (y 3))) :=
    View.write_emb_of_mem (v := (oWin off h).view) (Val := Elt F) fd ((oSlot off' h').view.read (Elt F) g) (Finset.mem_univ _)
  rw [hy', hs] at h1
  rw [h1, hg x rfl]
  have hc : y 2 = c := Fin.ext y2
  show row W c (tix (hw ((y 1).val % 16 % 2) (f _)) _) = row W (y 2) (tix (hw ((y 1).val % 2) (co (odx y))) _)
  rw [hc]
  have hw' : hw ((y 1).val % 16 % 2) (f (cix (x 0) (x 1) ⟨(x 2).val / 2, by show (y 1).val % 16 / 2 < 8; omega⟩ (x 3))) = hw ((y 1).val % 2) (co (odx y)) := by
    rw [hf _ (show σ = σ from rfl)]
    congr 1
    · omega
    · congr 1
      funext i
      apply Fin.ext
      match i with
      | 0 => show u % 28 = (y 1).val / 16; omega
      | 1 => show (4 * (u / 28) + (y 0).val % 4) % 148 = (y 0).val; omega
      | 2 => show (y 1).val % 16 / 2 = (y 1).val % 16 / 2; rfl
      | 3 => rfl
  exact congrArg (row W c) (tix_congr hw' _ _)

def t2 (x : S65536.Idx) : S1x65536.Idx := fun | 0 => ⟨0, Nat.one_pos⟩ | 1 => x 0
theorem re_t (x : S65536.Idx) (h : S65536.numel = S1x65536.numel) : Shape.reshapeEquiv h x = t2 x :=
  Shape.reshapeEquiv_eq_of_rowMajor h (by
    rw [Shape.rowMajor_val_two, Shape.rowMajor_val_one, show ((t2 x) 0).val = 0 from rfl, Nat.zero_mul, Nat.zero_add]
    rfl)

theorem read_row (W : S2x65536.Idx → BitVec 32) (c : Fin 2) (off h) (e : off = ![c.val, 0]) (x : S65536.Idx) :
    (tRow off h).view.read (Elt F) W x = row W c x := by
  have hs : (tRow off h).view.emb x = rix c x := by
    refine (congrArg (Rect.unit (s := S2x65536) off S1x65536.size h).emb (re_t x _)).trans ?_
    subst e
    funext i
    apply Fin.ext
    rw [Rect.emb_apply]
    match i with
    | 0 => exact (by omega : c.val + 1 * 0 = c.val)
    | 1 => exact (by omega : 0 + 1 * (x 0).val = (x 0).val)
  exact congrArg W hs

/-- A transfer of row `c` of the words leaves the table of `c`. -/
theorem row_val (W : S2x65536.Idx → BitVec 32) (f0 : S65536.Idx → BitVec 32) (c : Fin 2) (off h) (e : off = ![c.val, 0]) :
    tB.view.write (Elt F) f0 ((tRow off h).view.read (Elt F) W) Finset.univ = row W c := by
  have h1 : ∀ j, tB.view.write (Elt F) f0 ((tRow off h).view.read (Elt F) W) Finset.univ (tB.view.emb j) = (tRow off h).view.read (Elt F) W j := fun j =>
    View.write_emb_of_mem (v := tB.view) (Val := Elt F) f0 ((tRow off h).view.read (Elt F) W) (Finset.mem_univ _)
  funext x
  exact (h1 x).trans (read_row W c off h e x)

end Cert.Proof.GI
-- ==== Proof.GI.Dma.lean ====
/- THE TRANSFERS of a tile, each as a rule: a codes window into a slot, a finished slot into its block of the output, the row of the table. -/
module

public import proofs.«01_k».proof.Proof.GI.TripA
public import proofs.«01_k».proof.Proof.GI.TripB
public import proofs.«01_k».proof.Proof.GI.Geo

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

/-- The core's number, which picks the row of the words. -/
abbrev cc (L : grid0.Coords) : Fin 2 := ⟨(L 0).val, (L 0).isLt⟩
/-- Unit `t` of a tile. -/
abbrev un (L : grid0.Coords) (t : ℕ) : ℕ := (L 1).val + 16 * t

/-- The credit of a codes window and of an output block. -/
def NC : ℕ := (cSlot ![0, 0, 0, 0] inb_S2x4x8x128_S1x4x8x128_0_0_0_0).view.dmaCredit
def NO : ℕ := (oSlot ![0, 0, 0, 0] inb_S2x4x16x128_S1x4x16x128_0_0_0_0).view.dmaCredit

theorem NC_pos : 0 < NC := View.amount_pos (cSlot ![0, 0, 0, 0] inb_S2x4x8x128_S1x4x8x128_0_0_0_0).view (.dma semC0) (show 0 < S4x8x128.numel by decide)
theorem NO_pos : 0 < NO := View.amount_pos (oSlot ![0, 0, 0, 0] inb_S2x4x16x128_S1x4x16x128_0_0_0_0).view (.dma semC0) (show 0 < S4x16x128.numel by decide)

abbrev coP (q : PosShare TreeShare) (S : Finset S28x148x8x128.Idx) : sProp 𝕄 := cV.view.loc (thr d L) ↦[S]{q} co
/-- Slot `σ` idle: its contents, its cell at zero, and its share of the codes. -/
def CI (σ : ℕ) (sm : DmaSem sig) (q : PosShare TreeShare) : sProp 𝕄 :=
  iprop((∃ f, cPts (F := F) d L σ f) ∗ semVal (gc d L sm) 0 ∗ coP (F := F) d L co q Finset.univ)
/-- Slot `σ` holding the codes of unit `u`. -/
def CR (σ : ℕ) (sm : DmaSem sig) (q : PosShare TreeShare) (u : ℕ) : sProp 𝕄 :=
  iprop((∃ f, ⌜CodeOK co σ u f⌝ ∗ cPts (F := F) d L σ f) ∗ semVal (gc d L sm) 0 ∗ coP (F := F) d L co q Finset.univ)
/-- The codes of unit `u` on their way into slot `σ`. -/
def CL (σ : ℕ) (sm : DmaSem sig) (q : PosShare TreeShare) (u : ℕ) : sProp 𝕄 :=
  iprop(Transfers.Flight EC (thr d L) (.dma sm) (none : HIx 1) NC
      iprop((∃ f, ⌜CodeOK co σ u f⌝ ∗ cPts (F := F) d L σ f) ∗ coP (F := F) d L co q (win u))
    ∗ coP (F := F) d L co q (Finset.univ \ win u))
/-- A block of the output before it is written, and after. -/
def TD (u : ℕ) : sProp 𝕄 := iprop(∃ f : S12x448x2x128.Idx → BitVec 32, oV.view.loc (thr d L) ↦[blk (L 0).val u]{fullShare} f)
def DN (u : ℕ) : sProp 𝕄 := oV.view.loc (thr d L) ↦[blk (L 0).val u]{fullShare} (OUTf co W)
/-- Output slot `σ` idle, finished for unit `u`, and on its way out. -/
def OI (σ : ℕ) (sm : DmaSem sig) : sProp 𝕄 := iprop((∃ g, oPts (F := F) d L σ g) ∗ semVal (gc d L sm) 0)
def OR (σ : ℕ) (sm : DmaSem sig) (u : ℕ) : sProp 𝕄 :=
  iprop((∃ f g, ⌜CodeOK co σ u f ∧ ∀ x, (x 0).val = σ → g x = GV (row W (cc L)) f x⌝ ∗ oPts (F := F) d L σ g) ∗ semVal (gc d L sm) 0)
def OL (σ : ℕ) (sm : DmaSem sig) (u : ℕ) : sProp 𝕄 :=
  Transfers.Flight EC (thr d L) (.dma sm) (none : HIx 1) NO iprop(DN (F := F) d L co W u ∗ ∃ g, oPts (F := F) d L σ g)
/-- The waits so far: those of before, and waits of transfers. -/
def OW : sProp 𝕄 := iprop(levAts (K (F := F)).L (K (F := F)).lev ∗ ∃ W', ⌜∀ p ∈ W', p ∈ Ws ∨ p.2 = none⌝ ∗ owes (thr d L) O W')

theorem CR_CI (σ sm q u) : CR (F := F) d L co σ sm q u ⊢ CI (F := F) d L co σ sm q := by
  unfold CR CI
  iintro ⟨⟨%f, -, Hf⟩, Hs, Hc⟩
  isplitl [Hf]
  · iexists f; iexact Hf
  isplitl [Hs] <;> iassumption

theorem enq_codes (σ u : ℕ) (sm : DmaSem sig) (q) (hu : u < 84) (off h off' h') (e : off = ![u % 28, 4 * (u / 28), 0, 0]) (e' : off' = ![σ, 0, 0, 0]) (h1) (h2) (h3) :
    CI (F := F) d L co σ sm q ⊢ wp frame (wpE (defs₀ (F := F)) 𝒱₀ (thr d L) none) Set.univ
      (Prog.lift (.enqueueDma (cWin off h) (.here (cSlot off' h')) (.dma sm) h1 h2 h3)) fun _ => CL (F := F) d L co σ sm q u := by
  unfold CI CL
  iintro ⟨⟨%f, Hf⟩, Hs, Hc⟩
  ihave ⟨Hw, Hr⟩ := (pointsTo_split_subset (ℓ := cV.view.loc (thr d L)) (q := q) (f := co) (Finset.subset_univ (win u))).1 $$ Hc
  ihave Hw' := (Entails.of_eq (congrArg (fun S => coP (F := F) d L co q S) (set_cWin u off h e).symm)) $$ Hw
  iapply (Transfers.wp_dmaLocal EC 𝒱₀ (thr d L) none (src := cWin off h) (dst := cSlot off' h') (hsrc := h1) (hdst := h2) (hsem := h3) (k := .ret) (none : HIx 1) NC rfl
    NC_pos (set_cSlot σ off' h' e')) $$ [Hw' Hf Hs]
  · isplitl [Hw']; · iexact Hw'
    isplitl [Hf]; · iexact Hf
    iexact Hs
  iintro HF
  rw [wp_ret]; imodintro
  isplitl [HF]
  · iapply (Transfers.Flight_mono EC (thr d L) ?_) $$ HF
    iintro ⟨Hd, Hw⟩
    isplitl [Hd]
    · iexists _
      isplitr
      swap; · iexact Hd
      ipureintro
      exact code_val co f σ u hu off h off' h' e e'
    · iapply (Entails.of_eq (congrArg (fun S => coP (F := F) d L co q S) (set_cWin u off h e))); iexact Hw
  · iexact Hr

theorem wait_codes (hO : ∀ g, O g none = 0) (σ u : ℕ) (sm : DmaSem sig) (q) (src : Memref sig .scVector .hbm S4x8x128 .i32) (off' h') (h1) (h2) :
    iprop(OW (F := F) d L O Ws ∗ CL (F := F) d L co σ sm q u) ⊢ wp frame (wpE (defs₀ (F := F)) 𝒱₀ (thr d L) none) Set.univ
      (Prog.lift (.waitDma2 sm src (cSlot off' h') h1 h2)) fun _ => iprop(OW (F := F) d L O Ws ∗ CR (F := F) d L co σ sm q u) := by
  unfold CL OW CR
  iintro ⟨⟨#Hlv, ⟨%W', %hW, HO⟩⟩, ⟨HF, Hr⟩⟩
  ihave Hmw := (show levAts (K (F := F)).L (K (F := F)).lev ⊢ Transfers.MayWaits (thr d L) (none : HIx 1) O from (K (F := F)).mayWaits_none (thr := thr d L) hO) $$ Hlv
  ihave Hm := (Transfers.MayWaits.elim (.dma sm)) $$ Hmw
  iapply (Transfers.wp_waitLocalO EC 𝒱₀ (thr d L) none (srcw := src) (dstw := cSlot off' h') (hsrc := h1) (hdst := h2) (k := .ret) (none : HIx 1) (N := NC) rfl) $$ [HF HO Hm]
  · isplitl [HF]; · iexact HF
    isplitl [HO]; · iexact HO
    iexact Hm
  iintro ⟨⟨Hf, Hw⟩, Hs, HO⟩
  rw [wp_ret]; imodintro
  isplitl [HO]
  · isplitr; · iexact Hlv
    iexists _
    isplitr
    swap; · iexact HO
    ipureintro
    intro p hp
    rcases Finset.mem_insert.mp hp with rfl | hp
    · exact .inr rfl
    · exact hW p hp
  isplitl [Hf]; · iexact Hf
  isplitl [Hs]; · iexact Hs
  iapply (pointsTo_split_subset (ℓ := cV.view.loc (thr d L)) (q := q) (f := co) (Finset.subset_univ (win u))).2
  isplitl [Hw] <;> iassumption

theorem enq_out (σ u : ℕ) (sm : DmaSem sig) (hσ : σ < 2) (hu : u < 84) (off h off' h') (e : off = ![4 * (u / 28), 16 * (u % 28), (L 0).val, 0]) (e' : off' = ![σ, 0, 0, 0]) (h1) (h2) (h3) :
    iprop(OR (F := F) d L co W σ sm u ∗ TD (F := F) d L u) ⊢ wp frame (wpE (defs₀ (F := F)) 𝒱₀ (thr d L) none) Set.univ
      (Prog.lift (.enqueueDma (oSlot off' h') (.here (oWin off h)) (.dma sm) h1 h2 h3)) fun _ => OL (F := F) d L co W σ sm u := by
  unfold OR TD OL DN
  iintro ⟨⟨⟨%f, %g, %hfg, Hg⟩, Hs⟩, ⟨%f0, Ho⟩⟩
  ihave Hg' := (Entails.of_eq (congrArg (fun S => (oB.view.loc (thr d L) ↦[S]{fullShare} g : sProp 𝕄)) (set_oSlot σ off' h' e').symm)) $$ Hg
  iapply (Transfers.wp_dmaLocal EC 𝒱₀ (thr d L) none (src := oSlot off' h') (dst := oWin off h) (hsrc := h1) (hdst := h2) (hsem := h3) (k := .ret) (none : HIx 1) NO rfl
    NO_pos (set_oWin (L 0).val u off h e).le) $$ [Hg' Ho Hs]
  · isplitl [Hg']; · iexact Hg'
    isplitl [Ho]; · iexact Ho
    iexact Hs
  iintro HF
  rw [wp_ret]; imodintro
  iapply (Transfers.Flight_mono EC (thr d L) ?_) $$ HF
  iintro ⟨Hd, Hw⟩
  isplitl [Hd]
  · iapply (Entails.of_eq (pointsTo_congr (out_val co W (cc L) f σ u hσ hu hfg.1 g hfg.2 f0 off h off' h' e e'))); iexact Hd
  · iexists g
    iapply (Entails.of_eq (congrArg (fun S => (oB.view.loc (thr d L) ↦[S]{fullShare} g : sProp 𝕄)) (set_oSlot σ off' h' e'))); iexact Hw

theorem wait_out (hO : ∀ g, O g none = 0) (σ u : ℕ) (sm : DmaSem sig) (src : Memref sig .scVector .vmem S4x16x128 .i32) (off h) (h1) (h2) :
    iprop(OW (F := F) d L O Ws ∗ OL (F := F) d L co W σ sm u) ⊢ wp frame (wpE (defs₀ (F := F)) 𝒱₀ (thr d L) none) Set.univ
      (Prog.lift (.waitDma2 sm src (oWin off h) h1 h2)) fun _ => iprop(OW (F := F) d L O Ws ∗ OI (F := F) d L σ sm ∗ DN (F := F) d L co W u) := by
  unfold OL OW OI
  iintro ⟨⟨#Hlv, ⟨%W', %hW, HO⟩⟩, HF⟩
  ihave Hmw := (show levAts (K (F := F)).L (K (F := F)).lev ⊢ Transfers.MayWaits (thr d L) (none : HIx 1) O from (K (F := F)).mayWaits_none (thr := thr d L) hO) $$ Hlv
  ihave Hm := (Transfers.MayWaits.elim (.dma sm)) $$ Hmw
  iapply (Transfers.wp_waitLocalO EC 𝒱₀ (thr d L) none (srcw := src) (dstw := oWin off h) (hsrc := h1) (hdst := h2) (k := .ret) (none : HIx 1) (N := NO) rfl) $$ [HF HO Hm]
  · isplitl [HF]; · iexact HF
    isplitl [HO]; · iexact HO
    iexact Hm
  iintro ⟨⟨Hd, Hg⟩, Hs, HO⟩
  rw [wp_ret]; imodintro
  isplitl [HO]
  · isplitr; · iexact Hlv
    iexists _
    isplitr
    swap; · iexact HO
    ipureintro
    intro p hp
    rcases Finset.mem_insert.mp hp with rfl | hp
    · exact .inr rfl
    · exact hW p hp
  isplitl [Hg Hs]
  · isplitl [Hg] <;> iassumption
  iexact Hd

end Cert.Proof.GI
-- ==== Proof.GI.Parts.lean ====
/- ONE DOUBLE TRIP of the outer loop: unit `2p` over slot 0, then unit `2p + 1` over slot 1. -/
module

public import proofs.«01_k».proof.Proof.GI.Dma

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

/-! ## The conditions and the offsets, in closed form -/

theorem t1_trips : ∀ i : grid0.Coords, (k0_t1_loop i).trips = 3 := by decide +kernel
theorem t2_trips : k0_t2_loop.trips = 32 := by decide +kernel
theorem t3_trips : k0_t3_loop.trips = 32 := by decide +kernel
theorem cond2_iff : ∀ (i : grid0.Coords) (k : Fin (k0_t1_loop i).trips), k0_cond2 i k = 1#1 ↔ (k.val < 2 ∨ (i 1).val < 4) := by decide +kernel
theorem cond3_iff : ∀ (i : grid0.Coords) (k : Fin (k0_t1_loop i).trips), k0_cond3 i k = 1#1 ↔ 1 ≤ k.val := by decide +kernel
theorem cond4_iff : ∀ (i : grid0.Coords) (k : Fin (k0_t1_loop i).trips), k0_cond4 i k = 1#1 ↔ (k.val < 2 ∨ (i 1).val < 4) := by decide +kernel
theorem cond5_iff : ∀ (i : grid0.Coords) (k : Fin (k0_t1_loop i).trips), k0_cond5 i k = 1#1 ↔ k.val < 2 := by decide +kernel
theorem cond6_iff : ∀ (i : grid0.Coords) (k : Fin (k0_t1_loop i).trips), k0_cond6 i k = 1#1 ↔ 1 ≤ k.val := by decide +kernel
abbrev cOff (u : ℕ) : Fin 4 → ℕ := ![u % 28, 4 * (u / 28), 0, 0]
abbrev oOff (u c : ℕ) : Fin 4 → ℕ := ![4 * (u / 28), 16 * (u % 28), c, 0]
theorem o4 : ∀ (i : grid0.Coords) (k : Fin (k0_t1_loop i).trips), k0_cond2 i k = 1#1 → k0_off4 i k = cOff (un i (2 * k.val + 1)) := by decide +kernel
theorem o30 : ∀ (i : grid0.Coords) (k : Fin (k0_t1_loop i).trips), k0_off30 i k = oOff (un i (2 * k.val)) (i 0).val := by decide +kernel
theorem o32 : ∀ (i : grid0.Coords) (k : Fin (k0_t1_loop i).trips), k0_cond5 i k = 1#1 → k0_off32 i k = cOff (un i (2 * k.val + 2)) := by decide +kernel
theorem o58 : ∀ (i : grid0.Coords) (k : Fin (k0_t1_loop i).trips), k0_cond4 i k = 1#1 → k0_off58 i k = oOff (un i (2 * k.val + 1)) (i 0).val := by decide +kernel

/-! ## Small rules -/

theorem wp_dite' {α : Type} {c : Prop} [Decidable c] {p : c → Pr (F := F) L α} {q : ¬c → Pr (F := F) L α} {A A' B B' : sProp 𝕄}
    (h1 : ∀ h, A ⊢ wp frame (wpE (defs₀ (F := F)) 𝒱₀ (thr d L) none) Set.univ (p h) fun _ => B) (h2 : ∀ h, A' ⊢ wp frame (wpE (defs₀ (F := F)) 𝒱₀ (thr d L) none) Set.univ (q h) fun _ => B') :
    (if c then A else A') ⊢ wp frame (wpE (defs₀ (F := F)) 𝒱₀ (thr d L) none) Set.univ (dite c p q) fun _ => if c then B else B' := by
  by_cases h : c
  · rw [dif_pos h]; simp only [if_pos h]; exact h1 h
  · rw [dif_neg h]; simp only [if_neg h]; exact h2 h

theorem then_pure {α β : Type} {p : Pr (F := F) L α} {b : β} {A B : sProp 𝕄} (h : A ⊢ wp frame (wpE (defs₀ (F := F)) 𝒱₀ (thr d L) none) Set.univ p fun _ => B) :
    A ⊢ wp frame (wpE (defs₀ (F := F)) 𝒱₀ (thr d L) none) Set.univ (p >>= fun _ => pure b) fun _ => B := by
  rw [wp_bind]
  refine h.trans (wp_mono _ _ _ fun _ => ?_)
  rw [wp_pure]
  iintro H; imodintro; iexact H

theorem just_pure {β : Type} {b : β} {A : sProp 𝕄} : A ⊢ wp frame (wpE (defs₀ (F := F)) 𝒱₀ (thr d L) none) Set.univ (pure b) fun _ => A := by
  rw [wp_pure]
  iintro H; imodintro; iexact H

/-! ## The inner loops -/

theorem loop2 (a1 a2 a3 a4 a5 a6 : BitVec 32) (k : Fin (k0_t1_loop L).trips) (q) (u : ℕ) :
    iprop(CR (F := F) d L co 0 semC0 q u ∗ OI (F := F) d L 0 semO0 ∗ tPts (F := F) d L (row W (cc L))) ⊢ wp frame (wpE (defs₀ (F := F)) 𝒱₀ (thr d L) none) Set.univ
      (Scf.Loop.for k0_t2_loop k0_t2_ok ⟨⟩ (k0_t2_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 a3 a4 a5 a6 k))
      fun _ => iprop(CI (F := F) d L co 0 semC0 q ∗ OR (F := F) d L co W 0 semO0 u ∗ tPts (F := F) d L (row W (cc L))) := by
  unfold CR OI
  iintro ⟨⟨⟨%f, %hf, Hf⟩, Hs, Hc⟩, ⟨⟨%g, Hg⟩, Hso⟩, HT⟩
  iapply (Scf.wp_for _ _ _ _ _ _ _ _ _ (fun n _ => iprop(cPts (F := F) d L 0 f ∗ tPts (F := F) d L (row W (cc L)) ∗ oGood (F := F) d L 0 (row W (cc L)) f (upTo 0 n)))
    (fun t u' => trip2 d L a1 a2 a3 a4 a5 a6 k (row W (cc L)) f t u'))
  isplitl [Hf HT Hg]
  · isplitl [Hf]; · iexact Hf
    isplitl [HT]; · iexact HT
    iexists g
    isplitr; swap; · iexact Hg
    ipureintro
    intro x hx
    exact absurd hx.2 (Nat.not_lt_zero _)
  iintro %a ⟨Hf, HT, ⟨%g', %hg, Hg⟩⟩
  unfold CI OR
  isplitl [Hf Hs Hc]
  · isplitl [Hf]; · iexists f; iexact Hf
    isplitl [Hs] <;> iassumption
  isplitl [Hg Hso]
  · isplitl [Hg]
    · iexists f; iexists g'
      isplitr; swap; · iexact Hg
      ipureintro
      refine ⟨hf, fun x hx => hg x ⟨hx, ?_⟩⟩
      have h1 := (x 1).isLt; have h2 := (x 2).isLt
      change _ < 4 at h1; change _ < 16 at h2
      have ht : Scf.trips k0_t2_loop.lb k0_t2_loop.ub k0_t2_loop.st = 32 := t2_trips
      rw [ht]; omega
    iexact Hso
  iexact HT

theorem loop3 (a1 a2 : BitVec 32) (k : Fin (k0_t1_loop L).trips) (a3 : BitVec 32) (h4 : k0_cond4 L k = 1#1) (q) (u : ℕ) :
    iprop(CR (F := F) d L co 1 semC1 q u ∗ OI (F := F) d L 1 semO1 ∗ tPts (F := F) d L (row W (cc L))) ⊢ wp frame (wpE (defs₀ (F := F)) 𝒱₀ (thr d L) none) Set.univ
      (Scf.Loop.for k0_t3_loop (k0_t3_ok L k h4) ⟨⟩ (k0_t3_body (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 k a3 h4))
      fun _ => iprop(CI (F := F) d L co 1 semC1 q ∗ OR (F := F) d L co W 1 semO1 u ∗ tPts (F := F) d L (row W (cc L))) := by
  unfold CR OI
  iintro ⟨⟨⟨%f, %hf, Hf⟩, Hs, Hc⟩, ⟨⟨%g, Hg⟩, Hso⟩, HT⟩
  iapply (Scf.wp_for _ _ _ _ _ _ _ _ _ (fun n _ => iprop(cPts (F := F) d L 1 f ∗ tPts (F := F) d L (row W (cc L)) ∗ oGood (F := F) d L 1 (row W (cc L)) f (upTo 1 n)))
    (fun t u' => trip3 d L a1 a2 k a3 h4 (row W (cc L)) f t u'))
  isplitl [Hf HT Hg]
  · isplitl [Hf]; · iexact Hf
    isplitl [HT]; · iexact HT
    iexists g
    isplitr; swap; · iexact Hg
    ipureintro
    intro x hx
    exact absurd hx.2 (Nat.not_lt_zero _)
  iintro %a ⟨Hf, HT, ⟨%g', %hg, Hg⟩⟩
  unfold CI OR
  isplitl [Hf Hs Hc]
  · isplitl [Hf]; · iexists f; iexact Hf
    isplitl [Hs] <;> iassumption
  isplitl [Hg Hso]
  · isplitl [Hg]
    · iexists f; iexists g'
      isplitr; swap; · iexact Hg
      ipureintro
      refine ⟨hf, fun x hx => hg x ⟨hx, ?_⟩⟩
      have h1 := (x 1).isLt; have h2 := (x 2).isLt
      change _ < 4 at h1; change _ < 16 at h2
      have ht : Scf.trips k0_t3_loop.lb k0_t3_loop.ub k0_t3_loop.st = 32 := t3_trips
      rw [ht]; omega
    iexact Hso
  iexact HT

/-! ## The parts -/

set_option maxHeartbeats 1000000 in
theorem part12_spec (hO : ∀ g, O g none = 0) (a1 a2 a3 a4 a5 a6 : BitVec 32) (k : Fin (k0_t1_loop L).trips) (q0 q1) :
    iprop(OW (F := F) d L O Ws ∗ tPts (F := F) d L (row W (cc L)) ∗ CL (F := F) d L co 0 semC0 q0 (un L (2 * k.val)) ∗ CI (F := F) d L co 1 semC1 q1
        ∗ (if k0_cond3 L k = 1#1 then OL (F := F) d L co W 0 semO0 (un L (2 * k.val - 2)) else OI (F := F) d L 0 semO0)) ⊢ wp frame (wpE (defs₀ (F := F)) 𝒱₀ (thr d L) none) Set.univ
      (k0_part12 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 a3 a4 a5 a6 k)
      fun _ => iprop(OW (F := F) d L O Ws ∗ tPts (F := F) d L (row W (cc L)) ∗ CI (F := F) d L co 0 semC0 q0
        ∗ (if k0_cond2 L k = 1#1 then CL (F := F) d L co 1 semC1 q1 (un L (2 * k.val + 1)) else CI (F := F) d L co 1 semC1 q1)
        ∗ OR (F := F) d L co W 0 semO0 (un L (2 * k.val)) ∗ (if k0_cond3 L k = 1#1 then DN (F := F) d L co W (un L (2 * k.val - 2)) else iprop(emp))) := by
  have hs := (L 1).isLt
  change _ < 16 at hs
  have hk : k.val < 3 := lt_of_lt_of_eq k.isLt (t1_trips L)
  rw [k0_part12_eq_skeleton]
  unfold k0_part12_skel
  by_cases hE : k0_cond2 L k = 1#1 <;> by_cases hW : k0_cond3 L k = 1#1
  · simp only [dif_pos hE, if_pos hE, dif_pos hW, if_pos hW, wp_bind]
    iintro ⟨HW, HT, HC, HD, HO⟩
    ihave H := (wait_codes (F := F) d L co O Ws hO 0 _ semC0 q0 (cWin (k0_off3 L k) (k0_off3_inb L k)) ![0, 0, 0, 0] inb_S2x4x8x128_S1x4x8x128_0_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 1 (un L (2 * k.val + 1)) semC1 q1 (by have := (cond2_iff L k).mp hE; unfold un; omega) (k0_off4 L k) (k0_off4_inb L k hE) ![1, 0, 0, 0] inb_S2x4x8x128_S1x4x8x128_1_0_0_0
      (o4 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (wait_out (F := F) d L co W O Ws hO 0 (un L (2 * k.val - 2)) semO0 (oSlot ![0, 0, 0, 0] inb_S2x4x16x128_S1x4x16x128_0_0_0_0) (k0_off5 L k) (k0_off5_inb L k hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop2 (F := F) d L co W a1 a2 a3 a4 a5 a6 k q0 (un L (2 * k.val))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · simp only [dif_pos hE, if_pos hE, dif_neg hW, if_neg hW, wp_bind]
    iintro ⟨HW, HT, HC, HD, HO⟩
    ihave H := (wait_codes (F := F) d L co O Ws hO 0 _ semC0 q0 (cWin (k0_off3 L k) (k0_off3_inb L k)) ![0, 0, 0, 0] inb_S2x4x8x128_S1x4x8x128_0_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 1 (un L (2 * k.val + 1)) semC1 q1 (by have := (cond2_iff L k).mp hE; unfold un; omega) (k0_off4 L k) (k0_off4_inb L k hE) ![1, 0, 0, 0] inb_S2x4x8x128_S1x4x8x128_1_0_0_0
      (o4 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (loop2 (F := F) d L co W a1 a2 a3 a4 a5 a6 k q0 (un L (2 * k.val))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iempintro
  · simp only [dif_neg hE, if_neg hE, dif_pos hW, if_pos hW, wp_bind]
    iintro ⟨HW, HT, HC, HD, HO⟩
    ihave H := (wait_codes (F := F) d L co O Ws hO 0 _ semC0 q0 (cWin (k0_off3 L k) (k0_off3_inb L k)) ![0, 0, 0, 0] inb_S2x4x8x128_S1x4x8x128_0_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (wait_out (F := F) d L co W O Ws hO 0 (un L (2 * k.val - 2)) semO0 (oSlot ![0, 0, 0, 0] inb_S2x4x16x128_S1x4x16x128_0_0_0_0) (k0_off5 L k) (k0_off5_inb L k hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop2 (F := F) d L co W a1 a2 a3 a4 a5 a6 k q0 (un L (2 * k.val))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · exact absurd (cond2_iff L k) (by have h1 := mt (cond2_iff L k).mpr hE; have h2 := mt (cond3_iff L k).mpr hW; omega)

set_option maxHeartbeats 1000000 in
theorem part11_spec (hO : ∀ g, O g none = 0) (a1 a2 : BitVec 32) (k : Fin (k0_t1_loop L).trips) (a3 : BitVec 32) (h4 : k0_cond4 L k = 1#1) (q0 q1) :
    iprop(OW (F := F) d L O Ws ∗ tPts (F := F) d L (row W (cc L)) ∗ CL (F := F) d L co 1 semC1 q1 (un L (2 * k.val + 1)) ∗ CI (F := F) d L co 0 semC0 q0
        ∗ (if k0_cond6 L k = 1#1 then OL (F := F) d L co W 1 semO1 (un L (2 * k.val - 1)) else OI (F := F) d L 1 semO1)) ⊢ wp frame (wpE (defs₀ (F := F)) 𝒱₀ (thr d L) none) Set.univ
      (k0_part11 (F := F) L cV (Memref.isWhole_whole _) wV (Memref.isWhole_whole _) oV (Memref.isWhole_whole _)
        tB (Memref.isWhole_whole _) cB (Memref.isWhole_whole _) oB (Memref.isWhole_whole _) cc0_scratch3 cc0_scratch4 cc0_scratch5 a1 a2 k a3 h4)
      fun _ => iprop(OW (F := F) d L O Ws ∗ tPts (F := F) d L (row W (cc L)) ∗ CI (F := F) d L co 1 semC1 q1
        ∗ (if k0_cond5 L k = 1#1 then CL (F := F) d L co 0 semC0 q0 (un L (2 * k.val + 2)) else CI (F := F) d L co 0 semC0 q0)
        ∗ OR (F := F) d L co W 1 semO1 (un L (2 * k.val + 1)) ∗ (if k0_cond6 L k = 1#1 then DN (F := F) d L co W (un L (2 * k.val - 1)) else iprop(emp))) := by
  have hs := (L 1).isLt
  change _ < 16 at hs
  have hk : k.val < 3 := lt_of_lt_of_eq k.isLt (t1_trips L)
  rw [k0_part11_eq_skeleton]
  unfold k0_part11_skel
  by_cases hE : k0_cond5 L k = 1#1 <;> by_cases hW : k0_cond6 L k = 1#1
  · simp only [dif_pos hE, if_pos hE, dif_pos hW, if_pos hW, wp_bind]
    iintro ⟨HW, HT, HC, HD, HO⟩
    ihave H := (wait_codes (F := F) d L co O Ws hO 1 _ semC1 q1 (cWin (k0_off31 L k) (k0_off31_inb L k h4)) ![1, 0, 0, 0] inb_S2x4x8x128_S1x4x8x128_1_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 0 (un L (2 * k.val + 2)) semC0 q0 (by have := (cond5_iff L k).mp hE; unfold un; omega) (k0_off32 L k) (k0_off32_inb L k h4 hE) ![0, 0, 0, 0] inb_S2x4x8x128_S1x4x8x128_0_0_0_0
      (o32 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (wait_out (F := F) d L co W O Ws hO 1 (un L (2 * k.val - 1)) semO1 (oSlot ![1, 0, 0, 0] inb_S2x4x16x128_S1x4x16x128_1_0_0_0) (k0_off33 L k) (k0_off33_inb L k h4 hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop3 (F := F) d L co W a1 a2 k a3 h4 q1 (un L (2 * k.val + 1))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · simp only [dif_pos hE, if_pos hE, dif_neg hW, if_neg hW, wp_bind]
    iintro ⟨HW, HT, HC, HD, HO⟩
    ihave H := (wait_codes (F := F) d L co O Ws hO 1 _ semC1 q1 (cWin (k0_off31 L k) (k0_off31_inb L k h4)) ![1, 0, 0, 0] inb_S2x4x8x128_S1x4x8x128_1_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (enq_codes (F := F) d L co 0 (un L (2 * k.val + 2)) semC0 q0 (by have := (cond5_iff L k).mp hE; unfold un; omega) (k0_off32 L k) (k0_off32_inb L k h4 hE) ![0, 0, 0, 0] inb_S2x4x8x128_S1x4x8x128_0_0_0_0
      (o32 L k hE) rfl ((View.wordExact_bits rfl).reshape _ _) ((View.wordExact_bits rfl).reshape _ _) ⟨Or.inl rfl, trivial⟩) $$ HD
    iapply (wp_wand_r frame (wpE (defs₀ (F := F)) 𝒱₀ (thr d L) none) Set.univ)
    isplitl [H]; · iexact H
    iintro %_ HD
    ihave H := (loop3 (F := F) d L co W a1 a2 k a3 h4 q1 (un L (2 * k.val + 1))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iempintro
  · simp only [dif_neg hE, if_neg hE, dif_pos hW, if_pos hW, wp_bind]
    iintro ⟨HW, HT, HC, HD, HO⟩
    ihave H := (wait_codes (F := F) d L co O Ws hO 1 _ semC1 q1 (cWin (k0_off31 L k) (k0_off31_inb L k h4)) ![1, 0, 0, 0] inb_S2x4x8x128_S1x4x8x128_1_0_0_0
      ((View.wordExact_bits rfl).reshape _ _) ((View.wordExact_bits rfl).reshape _ _)) $$ [HW HC]
    · isplitl [HW] <;> iassumption
    iapply (wp_wand_r frame (wpE (defs₀ (F := F)) 𝒱₀ (thr d L) none) Set.univ)
    isplitl [H]; · iexact H
    iintro %_ ⟨HW, HC⟩
    ihave H := (wait_out (F := F) d L co W O Ws hO 1 (un L (2 * k.val - 1)) semO1 (oSlot ![1, 0, 0, 0] inb_S2x4x16x128_S1x4x16x128_1_0_0_0) (k0_off33 L k) (k0_off33_inb L k h4 hW)
      ((View.wordExact_bits rfl).reshape _ _) ((View.wordExact_bits rfl).reshape _ _)) $$ [HW HO]
    · isplitl [HW] <;> iassumption
    iapply (wp_wand_r frame (wpE (defs₀ (F := F)) 𝒱₀ (thr d L) none) Set.univ)
    isplitl [H]; · iexact H
    iintro %_ ⟨HW, HO, HN⟩
    ihave H := (loop3 (F := F) d L co W a1 a2 k a3 h4 q1 (un L (2 * k.val + 1))) $$ [HC HO HT]
    · isplitl [HC]; · iexact HC
      isplitl [HO] <;> iassumption
    iapply (wp_wand_r frame (wpE (defs₀ (F := F)) 𝒱₀ (thr d L) none) Set.univ)
    isplitl [H]; · iexact H
    iintro %_ ⟨HC, HO, HT⟩
    rw [wp_pure]
    imodintro
    isplitl [HW]; · iexact HW
    isplitl [HT]; · iexact HT
    isplitl [HC]; · iexact HC
    isplitl [HD]; · iexact HD
    isplitl [HO]; · iexact HO
    iexact HN
  · exact absurd (cond5_iff L k) (by have h1 := mt (cond5_iff L k).mpr hE; have h2 := mt (cond6_iff L k).mpr hW; omega)

end Cert.Proof.GI
-- ==== Proof.GI.Trips.lean ====
/- THE OUTER LOOP: one trip for each value of its counter, and the three trips together. -/
module

public import proofs.«01_k».proof.Proof.GI.Parts

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

set_option maxHeartbeats 1000000 in
theorem trip0 (hO : ∀ g, O g none = 0) (a v : BitVec 32) (k : Fin (k0_t1_loop L).trips) (hk : k.val = 0) (q0 q1) :
    iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1)) := by
  have hl := (L 1).isLt
  change _ < 16 at hl
  have e2 : k0_cond2 L k = 1#1 := (cond2_iff L k).mpr (by omega)
  have e3 : ¬ k0_cond3 L k = 1#1 := fun h => by have := (cond3_iff L k).mp h; omega
  have e4 : k0_cond4 L k = 1#1 := (cond4_iff L k).mpr (by omega)
  have e5 : k0_cond5 L k = 1#1 := (cond5_iff L k).mpr (by omega)
  have e6 : ¬ k0_cond6 L k = 1#1 := fun h => by have := (cond6_iff L k).mp h; omega
  have H12 := fun a1 a2 a3 a4 a5 a6 => part12_spec (F := F) d L co W O Ws hO a1 a2 a3 a4 a5 a6 k q0 q1
  simp only [if_pos e2, if_neg e3, hk, Nat.reduceMul, Nat.reduceAdd, Nat.reduceSub] at H12
  have H11 := fun a1 a2 a3 => part11_spec (F := F) d L co W O Ws hO a1 a2 k a3 e4 q0 q1
  simp only [if_pos e5, if_neg e6, hk, Nat.reduceMul, Nat.reduceAdd, Nat.reduceSub] at H11
  unfold k0_t1_body
  simp only [dif_pos e4, wp_bind]
  iintro ⟨HW, HT, HC, HD, HO, HP, HA, HB⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r
  simp only [wp_bind]
  ihave H := (enq_out (F := F) d L co W 0 (un L 0) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  ihave H := (H11 a v v65) $$ [HW HT HD HC HP]
  · isplitl [HW]; · iexact HW
    isplitl [HT]; · iexact HT
    isplitl [HD]; · iexact HD
    isplitl [HC] <;> iassumption
  iapply (wp_wand_r frame (wpE (defs₀ (F := F)) 𝒱₀ (thr d L) none) Set.univ)
  isplitl [H]; · iexact H
  iintro %r ⟨HW, HT, HD, HC, HP, HM⟩
  ihave H := (enq_out (F := F) d L co W 1 (un L 1) semO1 (by decide) (by unfold un; omega) (k0_off58 L k) (k0_off58_inb L k e4) ![1, 0, 0, 0] inb_S2x4x16x128_S1x4x16x128_1_0_0_0
    ((o58 L k e4).trans (by rw [hk])) rfl ((View.wordExact_bits rfl).reshape _ _) ((View.wordExact_bits rfl).reshape _ _) ⟨Or.inl rfl, trivial⟩) $$ [HP HB]
  · isplitl [HP] <;> iassumption
  iapply (wp_wand_r frame (wpE (defs₀ (F := F)) 𝒱₀ (thr d L) none) Set.univ)
  isplitl [H]; · iexact H
  iintro %_ HP
  simp only [wp_pure]
  imodintro
  isplitl [HW]; · iexact HW
  isplitl [HT]; · iexact HT
  isplitl [HC]; · iexact HC
  isplitl [HD]; · iexact HD
  isplitl [HO]; · iexact HO
  iexact HP

set_option maxHeartbeats 1000000 in
theorem trip1 (hO : ∀ g, O g none = 0) (a v : BitVec 32) (k : Fin (k0_t1_loop L).trips) (hk : k.val = 1) (q0 q1) :
    iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1) ∗ TD (F := F) d L (un L 2) ∗ TD (F := F) d L (un L 3)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ DN (F := F) d L co W (un L 0) ∗ DN (F := F) d L co W (un L 1)) := by
  have hl := (L 1).isLt
  change _ < 16 at hl
  have e2 : k0_cond2 L k = 1#1 := (cond2_iff L k).mpr (by omega)
  have e3 : k0_cond3 L k = 1#1 := (cond3_iff L k).mpr (by omega)
  have e4 : k0_cond4 L k = 1#1 := (cond4_iff L k).mpr (by omega)
  have e5 : k0_cond5 L k = 1#1 := (cond5_iff L k).mpr (by omega)
  have e6 : k0_cond6 L k = 1#1 := (cond6_iff L k).mpr (by omega)
  have H12 := fun a1 a2 a3 a4 a5 a6 => part12_spec (F := F) d L co W O Ws hO a1 a2 a3 a4 a5 a6 k q0 q1
  simp only [if_pos e2, if_pos e3, hk, Nat.reduceMul, Nat.reduceAdd, Nat.reduceSub] at H12
  have H11 := fun a1 a2 a3 => part11_spec (F := F) d L co W O Ws hO a1 a2 k a3 e4 q0 q1
  simp only [if_pos e5, if_pos e6, hk, Nat.reduceMul, Nat.reduceAdd, Nat.reduceSub] at H11
  unfold k0_t1_body
  simp only [dif_pos e4, wp_bind]
  iintro ⟨HW, HT, HC, HD, HO, HP, HA, HB⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r
  simp only [wp_bind]
  ihave H := (enq_out (F := F) d L co W 0 (un L 2) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  ihave H := (H11 a v v65) $$ [HW HT HD HC HP]
  · isplitl [HW]; · iexact HW
    isplitl [HT]; · iexact HT
    isplitl [HD]; · iexact HD
    isplitl [HC] <;> iassumption
  iapply (wp_wand_r frame (wpE (defs₀ (F := F)) 𝒱₀ (thr d L) none) Set.univ)
  isplitl [H]; · iexact H
  iintro %r ⟨HW, HT, HD, HC, HP, HM⟩
  ihave H := (enq_out (F := F) d L co W 1 (un L 3) semO1 (by decide) (by unfold un; omega) (k0_off58 L k) (k0_off58_inb L k e4) ![1, 0, 0, 0] inb_S2x4x16x128_S1x4x16x128_1_0_0_0
    ((o58 L k e4).trans (by rw [hk])) rfl ((View.wordExact_bits rfl).reshape _ _) ((View.wordExact_bits rfl).reshape _ _) ⟨Or.inl rfl, trivial⟩) $$ [HP HB]
  · isplitl [HP] <;> iassumption
  iapply (wp_wand_r frame (wpE (defs₀ (F := F)) 𝒱₀ (thr d L) none) Set.univ)
  isplitl [H]; · iexact H
  iintro %_ HP
  simp only [wp_pure]
  imodintro
  isplitl [HW]; · iexact HW
  isplitl [HT]; · iexact HT
  isplitl [HC]; · iexact HC
  isplitl [HD]; · iexact HD
  isplitl [HO]; · iexact HO
  isplitl [HP]; · iexact HP
  isplitl [HN] <;> iassumption

set_option maxHeartbeats 1000000 in
theorem trip2a (hO : ∀ g, O g none = 0) (a v : BitVec 32) (k : Fin (k0_t1_loop L).trips) (hk : k.val = 2) (hs : (L 1).val < 4) (q0 q1) :
    iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4) ∗ TD (F := F) d L (un L 5)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 5) ∗ DN (F := F) d L co W (un L 2) ∗ DN (F := F) d L co W (un L 3)) := by
  have hl := (L 1).isLt
  change _ < 16 at hl
  have e2 : k0_cond2 L k = 1#1 := (cond2_iff L k).mpr (by omega)
  have e3 : k0_cond3 L k = 1#1 := (cond3_iff L k).mpr (by omega)
  have e4 : k0_cond4 L k = 1#1 := (cond4_iff L k).mpr (by omega)
  have e5 : ¬ k0_cond5 L k = 1#1 := fun h => by have := (cond5_iff L k).mp h; omega
  have e6 : k0_cond6 L k = 1#1 := (cond6_iff L k).mpr (by omega)
  have H12 := fun a1 a2 a3 a4 a5 a6 => part12_spec (F := F) d L co W O Ws hO a1 a2 a3 a4 a5 a6 k q0 q1
  simp only [if_pos e2, if_pos e3, hk, Nat.reduceMul, Nat.reduceAdd, Nat.reduceSub] at H12
  have H11 := fun a1 a2 a3 => part11_spec (F := F) d L co W O Ws hO a1 a2 k a3 e4 q0 q1
  simp only [if_neg e5, if_pos e6, hk, Nat.reduceMul, Nat.reduceAdd, Nat.reduceSub] at H11
  unfold k0_t1_body
  simp only [dif_pos e4, wp_bind]
  iintro ⟨HW, HT, HC, HD, HO, HP, HA, HB⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r
  simp only [wp_bind]
  ihave H := (enq_out (F := F) d L co W 0 (un L 4) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  ihave H := (H11 a v v65) $$ [HW HT HD HC HP]
  · isplitl [HW]; · iexact HW
    isplitl [HT]; · iexact HT
    isplitl [HD]; · iexact HD
    isplitl [HC] <;> iassumption
  iapply (wp_wand_r frame (wpE (defs₀ (F := F)) 𝒱₀ (thr d L) none) Set.univ)
  isplitl [H]; · iexact H
  iintro %r ⟨HW, HT, HD, HC, HP, HM⟩
  ihave H := (enq_out (F := F) d L co W 1 (un L 5) semO1 (by decide) (by unfold un; omega) (k0_off58 L k) (k0_off58_inb L k e4) ![1, 0, 0, 0] inb_S2x4x16x128_S1x4x16x128_1_0_0_0
    ((o58 L k e4).trans (by rw [hk])) rfl ((View.wordExact_bits rfl).reshape _ _) ((View.wordExact_bits rfl).reshape _ _) ⟨Or.inl rfl, trivial⟩) $$ [HP HB]
  · isplitl [HP] <;> iassumption
  iapply (wp_wand_r frame (wpE (defs₀ (F := F)) 𝒱₀ (thr d L) none) Set.univ)
  isplitl [H]; · iexact H
  iintro %_ HP
  simp only [wp_pure]
  imodintro
  isplitl [HW]; · iexact HW
  isplitl [HT]; · iexact HT
  isplitl [HC]; · iexact HC
  isplitl [HD]; · iexact HD
  isplitl [HO]; · iexact HO
  isplitl [HP]; · iexact HP
  isplitl [HN] <;> iassumption

set_option maxHeartbeats 1000000 in
theorem trip2b (hO : ∀ g, O g none = 0) (a v : BitVec 32) (k : Fin (k0_t1_loop L).trips) (hk : k.val = 2) (hs : ¬(L 1).val < 4) (q0 q1) :
    iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4)) ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩)
      fun _ => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 3) ∗ DN (F := F) d L co W (un L 2)) := by
  have hl := (L 1).isLt
  change _ < 16 at hl
  have e2 : ¬ k0_cond2 L k = 1#1 := fun h => by have := (cond2_iff L k).mp h; omega
  have e3 : k0_cond3 L k = 1#1 := (cond3_iff L k).mpr (by omega)
  have e4 : ¬ k0_cond4 L k = 1#1 := fun h => by have := (cond4_iff L k).mp h; omega
  have e5 : ¬ k0_cond5 L k = 1#1 := fun h => by have := (cond5_iff L k).mp h; omega
  have e6 : k0_cond6 L k = 1#1 := (cond6_iff L k).mpr (by omega)
  have H12 := fun a1 a2 a3 a4 a5 a6 => part12_spec (F := F) d L co W O Ws hO a1 a2 a3 a4 a5 a6 k q0 q1
  simp only [if_neg e2, if_pos e3, hk, Nat.reduceMul, Nat.reduceAdd, Nat.reduceSub] at H12
  unfold k0_t1_body
  simp only [dif_neg e4, wp_bind]
  iintro ⟨HW, HT, HC, HD, HO, HP, HA⟩
  ihave H := (H12 a v 1#32 0#32 0#32 1#32) $$ [HW HT HC HD HO]
  · isplitl [HW]; · iexact HW
    isplitl [HT]; · iexact HT
    isplitl [HC]; · iexact HC
    isplitl [HD] <;> iassumption
  iapply (wp_wand_r frame (wpE (defs₀ (F := F)) 𝒱₀ (thr d L) none) Set.univ)
  isplitl [H]; · iexact H
  iintro %r ⟨HW, HT, HC, HD, HO, HN⟩
  obtain ⟨v65, v91⟩ := r

  ihave H := (enq_out (F := F) d L co W 0 (un L 4) semO0 (by decide) (by unfold un; omega) (k0_off30 L k) (k0_off30_inb L k) ![0, 0, 0, 0] inb_S2x4x16x128_S1x4x16x128_0_0_0_0
    ((o30 L k).trans (by rw [hk])) rfl ((View.wordExact_bits rfl).reshape _ _) ((View.wordExact_bits rfl).reshape _ _) ⟨Or.inl rfl, trivial⟩) $$ [HO HA]
  · isplitl [HO] <;> iassumption
  iapply (wp_wand_r frame (wpE (defs₀ (F := F)) 𝒱₀ (thr d L) none) Set.univ)
  isplitl [H]; · iexact H
  iintro %_ HO
  simp only [wp_pure]
  imodintro
  isplitl [HW]; · iexact HW
  isplitl [HT]; · iexact HT
  isplitl [HC]; · iexact HC
  isplitl [HD]; · iexact HD
  isplitl [HO]; · iexact HO
  isplitl [HP]; · iexact HP
  iexact HN

end Cert.Proof.GI
-- ==== Proof.GI.Task.lean ====
/- ONE SUBCORE'S TASK: the row of the table, the three double trips, and the waits for the last two blocks. -/
module

public import proofs.«01_k».proof.Proof.GI.Trips

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (co : S28x148x8x128.Idx → BitVec 32) (W : S2x65536.Idx → BitVec 32)
variable (O : CellTallies nD τ sig (HIx 1)) (Ws : Waits sig (HIx 1))

theorem t4_trips : ∀ i : grid0.Coords, (k0_t4_loop i).trips = 0 := by decide +kernel
theorem cond1_pos : ∀ i : grid0.Coords, k0_cond1 i = 1#1 := by decide +kernel
theorem cond12_pos : ∀ i : grid0.Coords, k0_cond12 i = 1#1 := by decide +kernel
theorem cond13_pos : ∀ i : grid0.Coords, k0_cond13 i = 1#1 := by decide +kernel
theorem o1 : ∀ i : grid0.Coords, k0_off1 i = ![(i 0).val, 0] := by decide +kernel
theorem o2 : ∀ i : grid0.Coords, k0_off2 i = cOff (un i 0) := by decide +kernel

/-! ## The row of the table -/

def NT : ℕ := tB.view.dmaCredit
theorem NT_pos : 0 < NT := View.amount_pos tB.view (.dma semC0) (show 0 < S65536.numel by decide)

abbrev wPts (q : PosShare TreeShare) (S : Finset S2x65536.Idx) : sProp 𝕄 := wV.view.loc (thr d L) ↦[S]{q} W
abbrev rowS (L : grid0.Coords) : Finset S2x65536.Idx := (tRow (k0_off1 L) (k0_off1_inb L)).view.set
def TL (q : PosShare TreeShare) : sProp 𝕄 :=
  iprop(Transfers.Flight EC (thr d L) (.dma semT) (none : HIx 1) NT iprop(tPts (F := F) d L (row W (cc L)) ∗ wPts (F := F) d L W q (rowS L))
    ∗ wPts (F := F) d L W q (Finset.univ \ rowS L))

theorem enq_tab (q) (h1) (h2) (h3) :
    iprop((∃ f, tPts (F := F) d L f) ∗ semVal (gc d L semT) 0 ∗ wPts (F := F) d L W q Finset.univ) ⊢ wp frame (wpE (defs₀ (F := F)) 𝒱₀ (thr d L) none) Set.univ
      (Prog.lift (.enqueueDma (tRow (k0_off1 L) (k0_off1_inb L)) (.here tB) (.dma semT) h1 h2 h3)) fun _ => TL (F := F) d L W q := by
  unfold TL
  iintro ⟨⟨%f, Hf⟩, Hs, Hc⟩
  ihave ⟨Hw, Hr⟩ := (pointsTo_split_subset (ℓ := wV.view.loc (thr d L)) (q := q) (f := W) (Finset.subset_univ (rowS L))).1 $$ Hc
  iapply (Transfers.wp_dmaLocal EC 𝒱₀ (thr d L) none (src := tRow (k0_off1 L) (k0_off1_inb L)) (dst := tB) (hsrc := h1) (hdst := h2) (hsem := h3) (k := .ret) (none : HIx 1) NT rfl
    NT_pos (Finset.subset_univ _)) $$ [Hw Hf Hs]
  · isplitl [Hw]; · iexact Hw
    isplitl [Hf]; · iexact Hf
    iexact Hs
  iintro HF
  rw [wp_ret]; imodintro
  isplitl [HF]
  · iapply (Transfers.Flight_mono EC (thr d L) ?_) $$ HF
    iintro ⟨Hd, Hw⟩
    isplitl [Hd]
    · iapply (Entails.of_eq (congrArg (fun g => tPts (F := F) d L g) (row_val (F := F) W f (cc L) (k0_off1 L) (k0_off1_inb L) (o1 L)))); iexact Hd
    · iexact Hw
  · iexact Hr

theorem wait_tab (hO : ∀ g, O g none = 0) (q) (h1) (h2) :
    iprop(OW (F := F) d L O Ws ∗ TL (F := F) d L W q) ⊢ wp frame (wpE (defs₀ (F := F)) 𝒱₀ (thr d L) none) Set.univ
      (Prog.lift (.waitDma2 semT (tRow (k0_off1 L) (k0_off1_inb L)) tB h1 h2))
      fun _ => iprop(OW (F := F) d L O Ws ∗ tPts (F := F) d L (row W (cc L)) ∗ semVal (gc d L semT) 0 ∗ wPts (F := F) d L W q Finset.univ) := by
  unfold TL OW
  iintro ⟨⟨#Hlv, ⟨%W', %hW, HO⟩⟩, ⟨HF, Hr⟩⟩
  ihave Hmw := (show levAts (K (F := F)).L (K (F := F)).lev ⊢ Transfers.MayWaits (thr d L) (none : HIx 1) O from (K (F := F)).mayWaits_none (thr := thr d L) hO) $$ Hlv
  ihave Hm := (Transfers.MayWaits.elim (.dma semT)) $$ Hmw
  iapply (Transfers.wp_waitLocalO EC 𝒱₀ (thr d L) none (srcw := tRow (k0_off1 L) (k0_off1_inb L)) (dstw := tB) (hsrc := h1) (hdst := h2) (k := .ret) (none : HIx 1) (N := NT) rfl) $$ [HF HO Hm]
  · isplitl [HF]; · iexact HF
    isplitl [HO]; · iexact HO
    iexact Hm
  iintro ⟨⟨Hf, Hw⟩, Hs, HO⟩
  rw [wp_ret]; imodintro
  isplitl [HO]
  · isplitr; · iexact Hlv
    iexists _
    isplitr
    swap; · iexact HO
    ipureintro
    intro p hp
    rcases Finset.mem_insert.mp hp with rfl | hp
    · exact .inr rfl
    · exact hW p hp
  isplitl [Hf]; · iexact Hf
  isplitl [Hs]; · iexact Hs
  iapply (pointsTo_split_subset (ℓ := wV.view.loc (thr d L)) (q := q) (f := W) (Finset.subset_univ (rowS L))).2
  isplitl [Hw] <;> iassumption

/-- What holds before trip `n`, for a subcore with six units. -/
def Ia (q0 q1 : PosShare TreeShare) : ℕ → sProp 𝕄
  | 0 => iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5))
  | 1 => iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1) ∗ TD (F := F) d L (un L 2) ∗ TD (F := F) d L (un L 3) ∗ TD (F := F) d L (un L 4) ∗ TD (F := F) d L (un L 5))
  | 2 => iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4) ∗ TD (F := F) d L (un L 5) ∗ DN (F := F) d L co W (un L 0) ∗ DN (F := F) d L co W (un L 1))
  | _ + 3 => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 5) ∗ DN (F := F) d L co W (un L 0) ∗ DN (F := F) d L co W (un L 1) ∗ DN (F := F) d L co W (un L 2) ∗ DN (F := F) d L co W (un L 3))

set_option maxHeartbeats 1000000 in
theorem stepa0 (hO : ∀ g, O g none = 0) (a v : BitVec 32) (k : Fin (k0_t1_loop L).trips) (hk : k.val = 0) (hs : (L 1).val < 4) (q0 q1) :
    Ia (F := F) d L co W O Ws q0 q1 0 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ia (F := F) d L co W O Ws q0 q1 1 := by
  unfold Ia
  iintro ⟨HW, HT, HC, HD, HO, HP, X0, X1, X2, X3, X4, X5⟩
  ihave H := (trip0 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [X4]; · iexact X4
  iexact X5

set_option maxHeartbeats 1000000 in
theorem stepa1 (hO : ∀ g, O g none = 0) (a v : BitVec 32) (k : Fin (k0_t1_loop L).trips) (hk : k.val = 1) (hs : (L 1).val < 4) (q0 q1) :
    Ia (F := F) d L co W O Ws q0 q1 1 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ia (F := F) d L co W O Ws q0 q1 2 := by
  unfold Ia
  iintro ⟨HW, HT, HC, HD, HO, HP, X0, X1, X2, X3⟩
  ihave H := (trip1 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP, N0, N1⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact N1

set_option maxHeartbeats 1000000 in
theorem stepa2 (hO : ∀ g, O g none = 0) (a v : BitVec 32) (k : Fin (k0_t1_loop L).trips) (hk : k.val = 2) (hs : (L 1).val < 4) (q0 q1) :
    Ia (F := F) d L co W O Ws q0 q1 2 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ia (F := F) d L co W O Ws q0 q1 3 := by
  unfold Ia
  iintro ⟨HW, HT, HC, HD, HO, HP, X0, X1, X2, X3⟩
  ihave H := (trip2a (F := F) d L co W O Ws hO a v k hk hs q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP, N0, N1⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact N1

theorem loop1a (hO : ∀ g, O g none = 0) (a v : BitVec 32) (hs : (L 1).val < 4) (q0 q1) :
    Ia (F := F) d L co W O Ws q0 q1 0 ⊢ wp frame (wpE (defs₀ (F := F)) 𝒱₀ (thr d L) none) Set.univ
      (Scf.Loop.for (k0_t1_loop L) (k0_t1_ok L) ⟨⟩ (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v)) fun _ => Ia (F := F) d L co W O Ws q0 q1 3 := by
  have step : ∀ (t : Fin (k0_t1_loop L).trips) (u : Unit), Ia (F := F) d L co W O Ws q0 q1 t.val ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v t u) fun _ => Ia (F := F) d L co W O Ws q0 q1 (t.val + 1) := by
    intro t u
    have ht : t.val < 3 := lt_of_lt_of_eq t.isLt (t1_trips L)
    have h3 : t.val = 0 ∨ t.val = 1 ∨ t.val = 2 := by omega
    rcases h3 with h | h | h <;> simp only [h]
    · exact stepa0 (F := F) d L co W O Ws hO a v t h hs q0 q1
    · exact stepa1 (F := F) d L co W O Ws hO a v t h hs q0 q1
    · exact stepa2 (F := F) d L co W O Ws hO a v t h hs q0 q1
  iintro H
  iapply (Scf.wp_for _ _ _ _ _ _ _ _ _ (fun n _ => Ia (F := F) d L co W O Ws q0 q1 n) step)
  isplitl [H]; · iexact H
  iintro %_ H
  have ht : Scf.trips (k0_t1_loop L).lb (k0_t1_loop L).ub (k0_t1_loop L).st = 3 := t1_trips L
  rw [ht]
  iexact H

/-- What holds before trip `n`, for a subcore with five units. -/
def Ib (q0 q1 : PosShare TreeShare) : ℕ → sProp 𝕄
  | 0 => iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5))
  | 1 => iprop(OW (F := F) d L O Ws ∗ tPts (F := F) d L (row W (cc L)) ∗ CL (F := F) d L co 0 semC0 q0 (un L 2) ∗ CI (F := F) d L co 1 semC1 q1 ∗ OL (F := F) d L co W 0 semO0 (un L 0) ∗ OL (F := F) d L co W 1 semO1 (un L 1) ∗ TD (F := F) d L (un L 2) ∗ TD (F := F) d L (un L 3) ∗ TD (F := F) d L (un L 4) ∗ TD (F := F) d L (un L 5))
  | 2 => iprop(OW (F := F) d L O Ws ∗ tPts (F := F) d L (row W (cc L)) ∗ CL (F := F) d L co 0 semC0 q0 (un L 4) ∗ CI (F := F) d L co 1 semC1 q1 ∗ OL (F := F) d L co W 0 semO0 (un L 2) ∗ OL (F := F) d L co W 1 semO1 (un L 3) ∗ TD (F := F) d L (un L 4) ∗ TD (F := F) d L (un L 5) ∗ DN (F := F) d L co W (un L 0) ∗ DN (F := F) d L co W (un L 1))
  | _ + 3 => iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 3) ∗ DN (F := F) d L co W (un L 0) ∗ DN (F := F) d L co W (un L 1) ∗ DN (F := F) d L co W (un L 2) ∗ TD (F := F) d L (un L 5))

set_option maxHeartbeats 1000000 in
theorem stepb0 (hO : ∀ g, O g none = 0) (a v : BitVec 32) (k : Fin (k0_t1_loop L).trips) (hk : k.val = 0) (hs : ¬(L 1).val < 4) (q0 q1) :
    Ib (F := F) d L co W O Ws q0 q1 0 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ib (F := F) d L co W O Ws q0 q1 1 := by
  unfold Ib
  iintro ⟨HW, HT, HC, HD, HO, HP, X0, X1, X2, X3, X4, X5⟩
  ihave H := (trip0 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [X4]; · iexact X4
  iexact X5

set_option maxHeartbeats 1000000 in
theorem stepb1 (hO : ∀ g, O g none = 0) (a v : BitVec 32) (k : Fin (k0_t1_loop L).trips) (hk : k.val = 1) (hs : ¬(L 1).val < 4) (q0 q1) :
    Ib (F := F) d L co W O Ws q0 q1 1 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ib (F := F) d L co W O Ws q0 q1 2 := by
  unfold Ib
  iintro ⟨HW, HT, HC, HD, HO, HP, X0, X1, X2, X3⟩
  ihave H := (trip1 (F := F) d L co W O Ws hO a v k hk q0 q1) $$ [HW HT HC HD HO HP X0 X1]
  · isplitl [HW]; · iexact HW
    isplitl [HT]; · iexact HT
    isplitl [HC]; · iexact HC
    isplitl [HD]; · iexact HD
    isplitl [HO]; · iexact HO
    isplitl [HP]; · iexact HP
    isplitl [X0]; · iexact X0
    iexact X1
  iapply (wp_wand_r frame (wpE (defs₀ (F := F)) 𝒱₀ (thr d L) none) Set.univ)
  isplitl [H]; · iexact H
  iintro %_ ⟨HW, HT, HC, HD, HO, HP, N0, N1⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact N1

set_option maxHeartbeats 1000000 in
theorem stepb2 (hO : ∀ g, O g none = 0) (a v : BitVec 32) (k : Fin (k0_t1_loop L).trips) (hk : k.val = 2) (hs : ¬(L 1).val < 4) (q0 q1) :
    Ib (F := F) d L co W O Ws q0 q1 2 ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v k ⟨⟩) fun _ => Ib (F := F) d L co W O Ws q0 q1 3 := by
  unfold Ib
  iintro ⟨HW, HT, HC, HD, HO, HP, X0, X1, X2, X3⟩
  ihave H := (trip2b (F := F) d L co W O Ws hO a v k hk hs q0 q1) $$ [HW HT HC HD HO HP X0]
  · isplitl [HW]; · iexact HW
    isplitl [HT]; · iexact HT
    isplitl [HC]; · iexact HC
    isplitl [HD]; · iexact HD
    isplitl [HO]; · iexact HO
    isplitl [HP]; · iexact HP
    iexact X0
  iapply (wp_wand_r frame (wpE (defs₀ (F := F)) 𝒱₀ (thr d L) none) Set.univ)
  isplitl [H]; · iexact H
  iintro %_ ⟨HW, HT, HC, HD, HO, HP, N0⟩
  isplitl [HW]; · iexact HW
  isplitl [HT]; · iexact HT
  isplitl [HC]; · iexact HC
  isplitl [HD]; · iexact HD
  isplitl [HO]; · iexact HO
  isplitl [HP]; · iexact HP
  isplitl [X2]; · iexact X2
  isplitl [X3]; · iexact X3
  isplitl [N0]; · iexact N0
  iexact X1

theorem loop1b (hO : ∀ g, O g none = 0) (a v : BitVec 32) (hs : ¬(L 1).val < 4) (q0 q1) :
    Ib (F := F) d L co W O Ws q0 q1 0 ⊢ wp frame (wpE (defs₀ (F := F)) 𝒱₀ (thr d L) none) Set.univ
      (Scf.Loop.for (k0_t1_loop L) (k0_t1_ok L) ⟨⟩ (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v)) fun _ => Ib (F := F) d L co W O Ws q0 q1 3 := by
  have step : ∀ (t : Fin (k0_t1_loop L).trips) (u : Unit), Ib (F := F) d L co W O Ws q0 q1 t.val ⊢ wp frame (wpE (defs₀ (F := F)) 𝒱₀ (thr d L) none) Set.univ
      (k0_t1_body (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5 a v t u) fun _ => Ib (F := F) d L co W O Ws q0 q1 (t.val + 1) := by
    intro t u
    have ht : t.val < 3 := lt_of_lt_of_eq t.isLt (t1_trips L)
    have h3 : t.val = 0 ∨ t.val = 1 ∨ t.val = 2 := by omega
    rcases h3 with h | h | h <;> simp only [h]
    · exact stepb0 (F := F) d L co W O Ws hO a v t h hs q0 q1
    · exact stepb1 (F := F) d L co W O Ws hO a v t h hs q0 q1
    · exact stepb2 (F := F) d L co W O Ws hO a v t h hs q0 q1
  iintro H
  iapply (Scf.wp_for _ _ _ _ _ _ _ _ _ (fun n _ => Ib (F := F) d L co W O Ws q0 q1 n) step)
  isplitl [H]; · iexact H
  iintro %_ H
  have ht : Scf.trips (k0_t1_loop L).lb (k0_t1_loop L).ub (k0_t1_loop L).st = 3 := t1_trips L
  rw [ht]
  iexact H

set_option maxHeartbeats 1000000 in
theorem part25_spec (hO : ∀ g, O g none = 0) (q q0) :
    iprop(OW (F := F) d L O Ws ∗ (∃ f, tPts (F := F) d L f) ∗ semVal (gc d L semT) 0 ∗ wPts (F := F) d L W q Finset.univ ∗ CI (F := F) d L co 0 semC0 q0) ⊢ wp frame (wpE (defs₀ (F := F)) 𝒱₀ (thr d L) none) Set.univ (k0_part25 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5) fun _ => iprop(OW (F := F) d L O Ws ∗ tPts (F := F) d L (row W (cc L)) ∗ semVal (gc d L semT) 0 ∗ wPts (F := F) d L W q Finset.univ ∗ CL (F := F) d L co 0 semC0 q0 (un L 0)) := by
  have hl := (L 1).isLt
  change _ < 16 at hl
  rw [k0_part25_eq_skeleton]
  unfold k0_part25_skel
  simp only [dif_pos (cond1_pos L), wp_bind]
  iintro ⟨HW, HT, HS, HB, HC⟩
  ihave H := (enq_tab (F := F) d L W q ((View.wordExact_bits rfl).reshape _ _) (Memref.isWhole_whole _).wordExact ⟨Or.inl rfl, trivial⟩) $$ [HT HS HB]
  · isplitl [HT]; · iexact HT
    isplitl [HS] <;> iassumption
  iapply (wp_wand_r frame (wpE (defs₀ (F := F)) 𝒱₀ (thr d L) none) Set.univ)
  isplitl [H]; · iexact H
  iintro %_ HT
  ihave H := (enq_codes (F := F) d L co 0 (un L 0) semC0 q0 (by unfold un; omega) (k0_off2 L) (k0_off2_inb L (cond1_pos L)) ![0, 0, 0, 0] inb_S2x4x8x128_S1x4x8x128_0_0_0_0
      (o2 L) rfl ((View.wordExact_bits rfl).reshape _ _) ((View.wordExact_bits rfl).reshape _ _) ⟨Or.inl rfl, trivial⟩) $$ HC
  iapply (wp_wand_r frame (wpE (defs₀ (F := F)) 𝒱₀ (thr d L) none) Set.univ)
  isplitl [H]; · iexact H
  iintro %_ HC
  ihave H := (wait_tab (F := F) d L W O Ws hO q ((View.wordExact_bits rfl).reshape _ _) (Memref.isWhole_whole _).wordExact) $$ [HW HT]
  · isplitl [HW] <;> iassumption
  iapply (wp_wand_r frame (wpE (defs₀ (F := F)) 𝒱₀ (thr d L) none) Set.univ)
  isplitl [H]; · iexact H
  iintro %_ ⟨HW, HT, HS, HB⟩
  simp only [wp_pure]
  imodintro
  isplitl [HW]; · iexact HW
  isplitl [HT]; · iexact HT
  isplitl [HS]; · iexact HS
  isplitl [HB]; · iexact HB
  iexact HC

set_option maxHeartbeats 2000000 in
theorem taska (hO : ∀ g, O g none = 0) (hs : (L 1).val < 4) (q q0 q1) :
    iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ wp frame (wpE (defs₀ (F := F)) 𝒱₀ (thr d L) none) Set.univ
      (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
      fun _ => iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ DN (F := F) d L co W (un L 0) ∗ DN (F := F) d L co W (un L 1) ∗ DN (F := F) d L co W (un L 2) ∗ DN (F := F) d L co W (un L 3) ∗ DN (F := F) d L co W (un L 4) ∗ DN (F := F) d L co W (un L 5)) := by
  rw [cc0_gather_0_eq_skeleton]
  unfold cc0_gather_0_skel
  simp only [dif_pos (cond12_pos L), dif_pos (cond13_pos L), wp_bind]
  iintro ⟨HW, HT, HS, HB, HC, HD, HO, HP, X0, X1, X2, X3, X4, X5⟩
  ihave H := (part25_spec (F := F) d L co W O Ws hO q q0) $$ [HW HT HS HB HC]
  · isplitl [HW]; · iexact HW
    isplitl [HT]; · iexact HT
    isplitl [HS]; · iexact HS
    isplitl [HB] <;> iassumption
  iapply (wp_wand_r frame (wpE (defs₀ (F := F)) 𝒱₀ (thr d L) none) Set.univ)
  isplitl [H]; · iexact H
  iintro %r ⟨HW, HT, HS, HB, HC⟩
  obtain ⟨a, v, r1, r2, r3, r4, r5⟩ := r
  simp only [wp_bind]
  ihave HI := (show iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ Ia (F := F) d L co W O Ws q0 q1 0 from .rfl) $$ [HW HT HC HD HO HP X0 X1 X2 X3 X4 X5]
  · isplitl [HW]; · iexact HW
    isplitl [HT]; · iexact HT
    isplitl [HC]; · iexact HC
    isplitl [HD]; · iexact HD
    isplitl [HO]; · iexact HO
    isplitl [HP]; · iexact HP
    isplitl [X0]; · iexact X0
    isplitl [X1]; · iexact X1
    isplitl [X2]; · iexact X2
    isplitl [X3]; · iexact X3
    isplitl [X4]; · iexact X4
    iexact X5
  ihave H := (loop1a (F := F) d L co W O Ws hO a v hs q0 q1) $$ HI
  iapply (wp_wand_r frame (wpE (defs₀ (F := F)) 𝒱₀ (thr d L) none) Set.univ)
  isplitl [H]; · iexact H
  iintro %_ HI
  iapply (Scf.wp_for _ _ _ _ _ _ _ _ _ (fun _ _ => Ia (F := F) d L co W O Ws q0 q1 3) (fun t _ => absurd (lt_of_lt_of_eq t.isLt (t4_trips L)) (Nat.not_lt_zero _)))
  isplitl [HI]; · iexact HI
  iintro %_ HI
  ihave ⟨HW, HT, HC, HD, HO, HP, N0, N1, N2, N3⟩ := (show Ia (F := F) d L co W O Ws q0 q1 3 ⊢ iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 5) ∗ DN (F := F) d L co W (un L 0) ∗ DN (F := F) d L co W (un L 1) ∗ DN (F := F) d L co W (un L 2) ∗ DN (F := F) d L co W (un L 3)) from .rfl) $$ HI
  ihave H := (wait_out (F := F) d L co W O Ws hO 0 (un L 4) semO0 (oSlot ![0, 0, 0, 0] inb_S2x4x16x128_S1x4x16x128_0_0_0_0) (k0_off115 L) (k0_off115_inb L (cond12_pos L))
      ((View.wordExact_bits rfl).reshape _ _) ((View.wordExact_bits rfl).reshape _ _)) $$ [HW HO]
  · isplitl [HW] <;> iassumption
  iapply (wp_wand_r frame (wpE (defs₀ (F := F)) 𝒱₀ (thr d L) none) Set.univ)
  isplitl [H]; · iexact H
  iintro %_ ⟨HW, HO, N4⟩
  ihave H := (wait_out (F := F) d L co W O Ws hO 1 (un L 5) semO1 (oSlot ![1, 0, 0, 0] inb_S2x4x16x128_S1x4x16x128_1_0_0_0) (k0_off116 L) (k0_off116_inb L (cond13_pos L))
      ((View.wordExact_bits rfl).reshape _ _) ((View.wordExact_bits rfl).reshape _ _)) $$ [HW HP]
  · isplitl [HW] <;> iassumption
  iapply (wp_wand_r frame (wpE (defs₀ (F := F)) 𝒱₀ (thr d L) none) Set.univ)
  isplitl [H]; · iexact H
  iintro %_ ⟨HW, HP, N5⟩
  simp only [wp_pure]
  imodintro
  isplitl [HW]; · iexact HW
  isplitl [HT]; · iexists _; iexact HT
  isplitl [HS]; · iexact HS
  isplitl [HB]; · iexact HB
  isplitl [HC]; · iexact HC
  isplitl [HD]; · iexact HD
  isplitl [HO]; · iexact HO
  isplitl [HP]; · iexact HP
  isplitl [N0]; · iexact N0
  isplitl [N1]; · iexact N1
  isplitl [N2]; · iexact N2
  isplitl [N3]; · iexact N3
  isplitl [N4]; · iexact N4
  iexact N5

set_option maxHeartbeats 2000000 in
theorem taskb (hO : ∀ g, O g none = 0) (hs : ¬(L 1).val < 4) (q q0 q1) :
    iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ wp frame (wpE (defs₀ (F := F)) 𝒱₀ (thr d L) none) Set.univ
      (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
      fun _ => iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ DN (F := F) d L co W (un L 0) ∗ DN (F := F) d L co W (un L 1) ∗ DN (F := F) d L co W (un L 2) ∗ DN (F := F) d L co W (un L 3) ∗ DN (F := F) d L co W (un L 4) ∗ TD (F := F) d L (un L 5)) := by
  rw [cc0_gather_0_eq_skeleton]
  unfold cc0_gather_0_skel
  simp only [dif_pos (cond12_pos L), dif_pos (cond13_pos L), wp_bind]
  iintro ⟨HW, HT, HS, HB, HC, HD, HO, HP, X0, X1, X2, X3, X4, X5⟩
  ihave H := (part25_spec (F := F) d L co W O Ws hO q q0) $$ [HW HT HS HB HC]
  · isplitl [HW]; · iexact HW
    isplitl [HT]; · iexact HT
    isplitl [HS]; · iexact HS
    isplitl [HB] <;> iassumption
  iapply (wp_wand_r frame (wpE (defs₀ (F := F)) 𝒱₀ (thr d L) none) Set.univ)
  isplitl [H]; · iexact H
  iintro %r ⟨HW, HT, HS, HB, HC⟩
  obtain ⟨a, v, r1, r2, r3, r4, r5⟩ := r
  simp only [wp_bind]
  ihave HI := (show iprop(OW (F := F) d L O Ws ∗ tPts (F := F) d L (row W (cc L)) ∗ CL (F := F) d L co 0 semC0 q0 (un L 0) ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ Ib (F := F) d L co W O Ws q0 q1 0 from .rfl) $$ [HW HT HC HD HO HP X0 X1 X2 X3 X4 X5]
  · isplitl [HW]; · iexact HW
    isplitl [HT]; · iexact HT
    isplitl [HC]; · iexact HC
    isplitl [HD]; · iexact HD
    isplitl [HO]; · iexact HO
    isplitl [HP]; · iexact HP
    isplitl [X0]; · iexact X0
    isplitl [X1]; · iexact X1
    isplitl [X2]; · iexact X2
    isplitl [X3]; · iexact X3
    isplitl [X4]; · iexact X4
    iexact X5
  ihave H := (loop1b (F := F) d L co W O Ws hO a v hs q0 q1) $$ HI
  iapply (wp_wand_r frame (wpE (defs₀ (F := F)) 𝒱₀ (thr d L) none) Set.univ)
  isplitl [H]; · iexact H
  iintro %_ HI
  iapply (Scf.wp_for _ _ _ _ _ _ _ _ _ (fun _ _ => Ib (F := F) d L co W O Ws q0 q1 3) (fun t _ => absurd (lt_of_lt_of_eq t.isLt (t4_trips L)) (Nat.not_lt_zero _)))
  isplitl [HI]; · iexact HI
  iintro %_ HI
  ihave ⟨HW, HT, HC, HD, HO, HP, N0, N1, N2, N3⟩ := (show Ib (F := F) d L co W O Ws q0 q1 3 ⊢ iprop(OW (F := F) d L O Ws ∗ tPts (F := F) d L (row W (cc L)) ∗ CI (F := F) d L co 0 semC0 q0 ∗ CI (F := F) d L co 1 semC1 q1 ∗ OL (F := F) d L co W 0 semO0 (un L 4) ∗ OL (F := F) d L co W 1 semO1 (un L 3) ∗ DN (F := F) d L co W (un L 0) ∗ DN (F := F) d L co W (un L 1) ∗ DN (F := F) d L co W (un L 2) ∗ TD (F := F) d L (un L 5)) from .rfl) $$ HI
  ihave H := (wait_out (F := F) d L co W O Ws hO 0 (un L 4) semO0 (oSlot ![0, 0, 0, 0] inb_S2x4x16x128_S1x4x16x128_0_0_0_0) (k0_off115 L) (k0_off115_inb L (cond12_pos L))
      ((View.wordExact_bits rfl).reshape _ _) ((View.wordExact_bits rfl).reshape _ _)) $$ [HW HO]
  · isplitl [HW] <;> iassumption
  iapply (wp_wand_r frame (wpE (defs₀ (F := F)) 𝒱₀ (thr d L) none) Set.univ)
  isplitl [H]; · iexact H
  iintro %_ ⟨HW, HO, N4⟩
  ihave H := (wait_out (F := F) d L co W O Ws hO 1 (un L 3) semO1 (oSlot ![1, 0, 0, 0] inb_S2x4x16x128_S1x4x16x128_1_0_0_0) (k0_off116 L) (k0_off116_inb L (cond13_pos L))
      ((View.wordExact_bits rfl).reshape _ _) ((View.wordExact_bits rfl).reshape _ _)) $$ [HW HP]
  · isplitl [HW] <;> iassumption
  iapply (wp_wand_r frame (wpE (defs₀ (F := F)) 𝒱₀ (thr d L) none) Set.univ)
  isplitl [H]; · iexact H
  iintro %_ ⟨HW, HP, N5⟩
  simp only [wp_pure]
  imodintro
  isplitl [HW]; · iexact HW
  isplitl [HT]; · iexists _; iexact HT
  isplitl [HS]; · iexact HS
  isplitl [HB]; · iexact HB
  isplitl [HC]; · iexact HC
  isplitl [HD]; · iexact HD
  isplitl [HO]; · iexact HO
  isplitl [HP]; · iexact HP
  isplitl [N0]; · iexact N0
  isplitl [N1]; · iexact N1
  isplitl [N2]; · iexact N2
  isplitl [N5]; · iexact N5
  isplitl [N4]; · iexact N4
  iexact N3

end Cert.Proof.GI
-- ==== Proof.GI.Tile.lean ====
/- WHAT ONE SUBCORE IS HANDED AND HANDS BACK: shares of the codes and of the words, and its blocks of the output; its own scratch opened and closed around the task. -/
module

public import proofs.«01_k».proof.Proof.GI.Task

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The output, by core, by subcore, by unit -/

/-- The unit an entry of the output belongs to. -/
def ux (x : S12x448x2x128.Idx) : ℕ := (x 0).val / 4 * 28 + (x 1).val / 16
def tileS (c s : ℕ) : Finset S12x448x2x128.Idx := Finset.univ.filter fun x => (x 2).val = c ∧ ux x % 16 = s
def halfS (c : ℕ) : Finset S12x448x2x128.Idx := Finset.univ.filter fun x => (x 2).val = c

theorem ux_lt (x : S12x448x2x128.Idx) : ux x < 84 := by
  have h0 := (x 0).isLt; have h1 := (x 1).isLt
  change _ < 12 at h0; change _ < 448 at h1
  unfold ux; omega

theorem mem_blk (c u : ℕ) (x : S12x448x2x128.Idx) : x ∈ blk c u ↔ (x 2).val = c ∧ ux x = u := by
  have h0 := (x 0).isLt; have h1 := (x 1).isLt
  change _ < 12 at h0; change _ < 448 at h1
  unfold blk ux
  simp only [Finset.mem_filter, Finset.mem_univ, true_and]
  omega
theorem mem_tileS (c s : ℕ) (x : S12x448x2x128.Idx) : x ∈ tileS c s ↔ (x 2).val = c ∧ ux x % 16 = s := by
  unfold tileS; simp only [Finset.mem_filter, Finset.mem_univ, true_and]
theorem mem_halfS (c : ℕ) (x : S12x448x2x128.Idx) : x ∈ halfS c ↔ (x 2).val = c := by
  unfold halfS; simp only [Finset.mem_filter, Finset.mem_univ, true_and]

theorem blks_cover (c s : ℕ) (hs : s < 16) : (Finset.univ : Finset (Fin 6)).biUnion (fun t => blk c (s + 16 * t.val)) = tileS c s := by
  ext x
  have hx := ux_lt x
  simp only [Finset.mem_biUnion, Finset.mem_univ, true_and, mem_blk, mem_tileS]
  constructor
  · rintro ⟨t, h1, h2⟩; exact ⟨h1, by omega⟩
  · rintro ⟨h1, h2⟩; exact ⟨⟨ux x / 16, by omega⟩, h1, by show ux x = s + 16 * (ux x / 16); omega⟩
theorem blks_disjoint (c s : ℕ) : ∀ t ∈ (Finset.univ : Finset (Fin 6)), ∀ t' ∈ (Finset.univ : Finset (Fin 6)), t ≠ t' → Disjoint (blk c (s + 16 * t.val)) (blk c (s + 16 * t'.val)) := by
  intro t _ t' _ h
  refine Finset.disjoint_left.mpr fun x hx hx' => h (Fin.ext ?_)
  have h1 := ((mem_blk _ _ _).mp hx).2; have h2 := ((mem_blk _ _ _).mp hx').2
  omega
theorem tiles_cover (c : ℕ) : (Finset.univ : Finset (Fin 16)).biUnion (fun i => tileS c i.val) = halfS c := by
  ext x
  simp only [Finset.mem_biUnion, Finset.mem_univ, true_and, mem_halfS, mem_tileS]
  constructor
  · rintro ⟨t, h1, h2⟩; exact h1
  · intro h1; exact ⟨⟨ux x % 16, by omega⟩, h1, rfl⟩
theorem tiles_disjoint (c : ℕ) : ∀ t ∈ (Finset.univ : Finset (Fin 16)), ∀ t' ∈ (Finset.univ : Finset (Fin 16)), t ≠ t' → Disjoint (tileS c t.val) (tileS c t'.val) := by
  intro t _ t' _ h
  refine Finset.disjoint_left.mpr fun x hx hx' => h (Fin.ext ?_)
  have h1 := ((mem_tileS _ _ _).mp hx).2; have h2 := ((mem_tileS _ _ _).mp hx').2
  omega
theorem halves_cover : (Finset.univ : Finset (Fin 2)).biUnion (fun c => halfS c.val) = Finset.univ := by
  ext x
  simp only [Finset.mem_biUnion, Finset.mem_univ, true_and, mem_halfS, iff_true]
  exact ⟨⟨(x 2).val, (x 2).isLt⟩, rfl⟩
theorem halves_disjoint : ∀ t ∈ (Finset.univ : Finset (Fin 2)), ∀ t' ∈ (Finset.univ : Finset (Fin 2)), t ≠ t' → Disjoint (halfS t.val) (halfS t'.val) := by
  intro t _ t' _ h
  refine Finset.disjoint_left.mpr fun x hx hx' => h (Fin.ext ?_)
  have h1 := (mem_halfS _ _).mp hx; have h2 := (mem_halfS _ _).mp hx'
  omega

/-! ## Shares -/

/-- Leaf `i` of the depth-`n` halving of a share. -/
def leaf : ℕ → PosShare TreeShare → ℕ → PosShare TreeShare
  | 0, q, _ => q
  | n + 1, q, i => if i < 2 ^ n then leaf n q.left i else leaf n q.right (i - 2 ^ n)

def sumEquiv (n : ℕ) : Fin (2 ^ n) ⊕ Fin (2 ^ n) ≃ Fin (2 ^ (n + 1)) := finSumFinEquiv.trans (finCongr (by omega))
theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i.val} f
  | 0, q => (bigSep_univ_of_subsingleton (0 : Fin 1) (Φ := fun i : Fin (2 ^ 0) => (ℓ ↦[I]{leaf 0 q i.val} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i.val} f : sProp 𝕄)), bigSep_univ_sum]
    congr 1 <;> refine bigSep_congr fun i _ => ?_
    · rw [sumEquiv_inl, leaf, if_pos i.isLt]
    · rw [sumEquiv_inr, leaf, if_neg (by omega), Nat.add_sub_cancel_left]

/-- A core's share, and a subcore's of it. -/
abbrev qc (c : ℕ) : PosShare TreeShare := leaf 1 fullShare c
abbrev xq (c s : ℕ) : PosShare TreeShare := leaf 4 (qc c) s

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-! ## The locations -/

abbrev cLoc (d : Dev nD) : Loc nD τ sig := (SparseCore.T d).loc main_v2
abbrev wLoc (d : Dev nD) : Loc nD τ sig := (SparseCore.T d).loc main_v3
abbrev oLoc (d : Dev nD) : Loc nD τ sig := (SparseCore.T d).loc main_v4

variable (co : S28x148x8x128.Idx → BitVec 32) (W : S2x65536.Idx → BitVec 32)

abbrev cPt (d : Dev nD) (q : PosShare TreeShare) : sProp 𝕄 := cLoc d ↦{q} co
abbrev wPt (d : Dev nD) (q : PosShare TreeShare) : sProp 𝕄 := wLoc d ↦{q} W
abbrev oPt (d : Dev nD) (S : Finset S12x448x2x128.Idx) (f : S12x448x2x128.Idx → BitVec 32) : sProp 𝕄 := oLoc d ↦[S]{fullShare} f

/-- What subcore `s` of core `c` is handed with the output at `f`. -/
abbrev tileP (d : Dev nD) (c s : ℕ) (f : S12x448x2x128.Idx → BitVec 32) : sProp 𝕄 :=
  iprop(cPt (F := F) co d (xq c s) ∗ wPt (F := F) W d (xq c s) ∗ oPt (F := F) d (tileS c s) f)
/-- What core `c` is handed with the output at `f`. -/
abbrev coreP (d : Dev nD) (c : ℕ) (f : S12x448x2x128.Idx → BitVec 32) : sProp 𝕄 :=
  iprop(cPt (F := F) co d (qc c) ∗ wPt (F := F) W d (qc c) ∗ oPt (F := F) d (halfS c) f)

theorem core_tiles (d : Dev nD) (c : ℕ) (f : S12x448x2x128.Idx → BitVec 32) :
    coreP (F := F) co W d c f = bigSep Finset.univ fun i : Fin 16 => tileP (F := F) co W d c i.val f := by
  rw [bigSep_sep', bigSep_sep']
  have h1 := pointsTo_leaves (F := F) (ℓ := cLoc d) Finset.univ co 4 (qc c)
  have h2 := pointsTo_leaves (F := F) (ℓ := wLoc d) Finset.univ W 4 (qc c)
  have h3 := pointsTo_biUnion (Val := Elt F) (Ix := HIx 1) (Name := ℕ) (U := UU) (Lvl := ℕ) (q := fullShare) (f := f) (Finset.univ : Finset (Fin 16)) (ℓ := oLoc d) (fun i => tileS c i.val) (tiles_disjoint c)
  refine congrArg₂ (fun A B : sProp 𝕄 => iprop(A ∗ B)) h1 (congrArg₂ (fun A B : sProp 𝕄 => iprop(A ∗ B)) h2 (Eq.trans ?_ h3))
  exact congrArg (fun S => oPt (F := F) d S f) (tiles_cover c).symm

theorem whole_cores (d : Dev nD) (f : S12x448x2x128.Idx → BitVec 32) :
    (iprop(cPt (F := F) co d fullShare ∗ wPt (F := F) W d fullShare ∗ oPt (F := F) d Finset.univ f) : sProp 𝕄)
      = bigSep Finset.univ fun c : Fin 2 => coreP (F := F) co W d c.val f := by
  rw [bigSep_sep', bigSep_sep']
  have h1 := pointsTo_leaves (F := F) (ℓ := cLoc d) Finset.univ co 1 fullShare
  have h2 := pointsTo_leaves (F := F) (ℓ := wLoc d) Finset.univ W 1 fullShare
  have h3 := pointsTo_biUnion (Val := Elt F) (Ix := HIx 1) (Name := ℕ) (U := UU) (Lvl := ℕ) (q := fullShare) (f := f) (Finset.univ : Finset (Fin 2)) (ℓ := oLoc d) (fun i => halfS i.val) halves_disjoint
  refine congrArg₂ (fun A B : sProp 𝕄 => iprop(A ∗ B)) h1 (congrArg₂ (fun A B : sProp 𝕄 => iprop(A ∗ B)) h2 (Eq.trans ?_ h3))
  exact congrArg (fun S => oPt (F := F) d S f) halves_cover.symm

section Tile
variable (d : Dev nD) (L : grid0.Coords)
variable (O : CellTallies nD τ sig (HIx 1)) (Ws : Waits sig (HIx 1))

theorem slotC_compl : (Finset.univ : Finset S2x4x8x128.Idx) \ slotC 0 = slotC 1 := by
  ext x
  have h0 := (x 0).isLt
  change _ < 2 at h0
  simp only [Finset.mem_sdiff, Finset.mem_filter, Finset.mem_univ, true_and]
  omega
theorem slotO_compl : (Finset.univ : Finset S2x4x16x128.Idx) \ slotO 0 = slotO 1 := by
  ext x
  have h0 := (x 0).isLt
  change _ < 2 at h0
  simp only [Finset.mem_sdiff, Finset.mem_filter, Finset.mem_univ, true_and]
  omega

theorem open_cB (f : S2x4x8x128.Idx → BitVec 32) : ((thr d L).loc cc0_scratch1 ↦{fullShare} f : sProp 𝕄) ⊢ iprop(cPts (F := F) d L 0 f ∗ cPts (F := F) d L 1 f) := by
  have h := (pointsTo_split_subset (Val := Elt F) (Ix := HIx 1) (Name := ℕ) (U := UU) (Lvl := ℕ) (ℓ := cB.view.loc (thr d L)) (q := fullShare) (f := f) (Finset.subset_univ (slotC 0))).1
  iintro H
  ihave ⟨H0, H1⟩ := h $$ H
  isplitl [H0]; · iexact H0
  iapply (Entails.of_eq (congrArg (fun S => (cB.view.loc (thr d L) ↦[S]{fullShare} f : sProp 𝕄)) slotC_compl)); iexact H1
theorem close_cB (f g : S2x4x8x128.Idx → BitVec 32) : (iprop(cPts (F := F) d L 0 f ∗ cPts (F := F) d L 1 g) : sProp 𝕄) ⊢ iprop(∃ h, (thr d L).loc cc0_scratch1 ↦{fullShare} h) := by
  have h := (pointsTo_split_subset (Val := Elt F) (Ix := HIx 1) (Name := ℕ) (U := UU) (Lvl := ℕ) (ℓ := cB.view.loc (thr d L)) (q := fullShare) (f := fun x : S2x4x8x128.Idx => if (x 0).val = 0 then f x else g x) (Finset.subset_univ (slotC 0))).2
  iintro ⟨H0, H1⟩
  iexists (fun x : S2x4x8x128.Idx => if (x 0).val = 0 then f x else g x)
  iapply h
  isplitl [H0]
  · iapply (Entails.of_eq (pointsTo_congr (fun x hx => (if_pos (Finset.mem_filter.mp hx).2).symm))); iexact H0
  · iapply (Entails.of_eq (congrArg (fun S => (cB.view.loc (thr d L) ↦[S]{fullShare} (fun x : S2x4x8x128.Idx => if (x 0).val = 0 then f x else g x) : sProp 𝕄)) slotC_compl.symm))
    iapply (Entails.of_eq (pointsTo_congr (fun x hx => (if_neg (by rw [(Finset.mem_filter.mp hx).2]; decide)).symm))); iexact H1

theorem open_oB (f : S2x4x16x128.Idx → BitVec 32) : ((thr d L).loc cc0_scratch2 ↦{fullShare} f : sProp 𝕄) ⊢ iprop(oPts (F := F) d L 0 f ∗ oPts (F := F) d L 1 f) := by
  have h := (pointsTo_split_subset (Val := Elt F) (Ix := HIx 1) (Name := ℕ) (U := UU) (Lvl := ℕ) (ℓ := oB.view.loc (thr d L)) (q := fullShare) (f := f) (Finset.subset_univ (slotO 0))).1
  iintro H
  ihave ⟨H0, H1⟩ := h $$ H
  isplitl [H0]; · iexact H0
  iapply (Entails.of_eq (congrArg (fun S => (oB.view.loc (thr d L) ↦[S]{fullShare} f : sProp 𝕄)) slotO_compl)); iexact H1
theorem close_oB (f g : S2x4x16x128.Idx → BitVec 32) : (iprop(oPts (F := F) d L 0 f ∗ oPts (F := F) d L 1 g) : sProp 𝕄) ⊢ iprop(∃ h, (thr d L).loc cc0_scratch2 ↦{fullShare} h) := by
  have h := (pointsTo_split_subset (Val := Elt F) (Ix := HIx 1) (Name := ℕ) (U := UU) (Lvl := ℕ) (ℓ := oB.view.loc (thr d L)) (q := fullShare) (f := fun x : S2x4x16x128.Idx => if (x 0).val = 0 then f x else g x) (Finset.subset_univ (slotO 0))).2
  iintro ⟨H0, H1⟩
  iexists (fun x : S2x4x16x128.Idx => if (x 0).val = 0 then f x else g x)
  iapply h
  isplitl [H0]
  · iapply (Entails.of_eq (pointsTo_congr (fun x hx => (if_pos (Finset.mem_filter.mp hx).2).symm))); iexact H0
  · iapply (Entails.of_eq (congrArg (fun S => (oB.view.loc (thr d L) ↦[S]{fullShare} (fun x : S2x4x16x128.Idx => if (x 0).val = 0 then f x else g x) : sProp 𝕄)) slotO_compl.symm))
    iapply (Entails.of_eq (pointsTo_congr (fun x hx => (if_neg (by rw [(Finset.mem_filter.mp hx).2]; decide)).symm))); iexact H1

theorem task (hO : ∀ g, O g none = 0) (q q0 q1) :
    iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ TD (F := F) d L (un L 0) ∗ TD (F := F) d L (un L 1) ∗ TD (F := F) d L (un L 2) ∗ TD (F := F) d L (un L 3) ∗ TD (F := F) d L (un L 4) ∗ TD (F := F) d L (un L 5)) ⊢ wp frame (wpE (defs₀ (F := F)) 𝒱₀ (thr d L) none) Set.univ
      (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
      fun _ => iprop(OW (F := F) d L O Ws ∗ (∃ f, tPts (F := F) d L f) ∗ semVal (gc d L semT) 0 ∗ wPts (F := F) d L W q Finset.univ ∗ CI (F := F) d L co 0 semC0 q0 ∗ CI (F := F) d L co 1 semC1 q1 ∗ OI (F := F) d L 0 semO0 ∗ OI (F := F) d L 1 semO1 ∗ DN (F := F) d L co W (un L 0) ∗ DN (F := F) d L co W (un L 1) ∗ DN (F := F) d L co W (un L 2) ∗ DN (F := F) d L co W (un L 3) ∗ DN (F := F) d L co W (un L 4) ∗ DN (F := F) d L co W (un L 5)) := by
  by_cases hs : (L 1).val < 4
  · exact taska (F := F) d L co W O Ws hO hs q q0 q1
  · refine (taskb (F := F) d L co W O Ws hO hs q q0 q1).trans (wp_mono _ _ _ fun _ => ?_)
    iintro ⟨HW, HT, HS, HB, HC, HD, HO, HP, N0, N1, N2, N3, N4, X5⟩
    isplitl [HW]; · iexact HW
    isplitl [HT]; · iexact HT
    isplitl [HS]; · iexact HS
    isplitl [HB]; · iexact HB
    isplitl [HC]; · iexact HC
    isplitl [HD]; · iexact HD
    isplitl [HO]; · iexact HO
    isplitl [HP]; · iexact HP
    isplitl [N0]; · iexact N0
    isplitl [N1]; · iexact N1
    isplitl [N2]; · iexact N2
    isplitl [N3]; · iexact N3
    isplitl [N4]; · iexact N4
    unfold TD DN
    icases X5 with ⟨%f, X5⟩
    iapply (Entails.of_eq (pointsTo_congr (fun x hx => absurd ((mem_blk _ _ x).mp hx).2 (by have := ux_lt x; unfold un; omega)))); iexact X5

theorem open_o (f : S12x448x2x128.Idx → BitVec 32) :
    oPt (F := F) d (tileS (L 0).val (L 1).val) f ⊢ iprop(TD (F := F) d L (un L 0) ∗ TD (F := F) d L (un L 1) ∗ TD (F := F) d L (un L 2) ∗ TD (F := F) d L (un L 3) ∗ TD (F := F) d L (un L 4) ∗ TD (F := F) d L (un L 5)) := by
  have h3 := pointsTo_biUnion (Val := Elt F) (Ix := HIx 1) (Name := ℕ) (U := UU) (Lvl := ℕ) (q := fullShare) (f := f) (Finset.univ : Finset (Fin 6)) (ℓ := oLoc d) (fun t => blk (L 0).val (un L t.val)) (blks_disjoint (L 0).val (L 1).val)
  have h4 := congrArg (fun S => oPt (F := F) d S f) (blks_cover (L 0).val (L 1).val (L 1).isLt)
  refine (Entails.of_eq (h4.symm.trans (h3.trans (bigSep_fin6 _)))).trans ?_
  iintro ⟨X0, X1, X2, X3, X4, X5⟩
  unfold TD
  isplitl [X0]; · iexists f; iexact X0
  isplitl [X1]; · iexists f; iexact X1
  isplitl [X2]; · iexists f; iexact X2
  isplitl [X3]; · iexists f; iexact X3
  isplitl [X4]; · iexists f; iexact X4
  iexists f; iexact X5

theorem close_o :
    iprop(DN (F := F) d L co W (un L 0) ∗ DN (F := F) d L co W (un L 1) ∗ DN (F := F) d L co W (un L 2) ∗ DN (F := F) d L co W (un L 3) ∗ DN (F := F) d L co W (un L 4) ∗ DN (F := F) d L co W (un L 5)) ⊢ oPt (F := F) d (tileS (L 0).val (L 1).val) (OUTf co W) := by
  have h3 := pointsTo_biUnion (Val := Elt F) (Ix := HIx 1) (Name := ℕ) (U := UU) (Lvl := ℕ) (q := fullShare) (f := OUTf co W) (Finset.univ : Finset (Fin 6)) (ℓ := oLoc d) (fun t => blk (L 0).val (un L t.val)) (blks_disjoint (L 0).val (L 1).val)
  have h4 := congrArg (fun S => oPt (F := F) d S (OUTf co W)) (blks_cover (L 0).val (L 1).val (L 1).isLt)
  iintro H
  iapply (Entails.of_eq (h4.symm.trans (h3.trans (bigSep_fin6 _))).symm)
  iexact H

set_option maxHeartbeats 1000000 in
theorem tile_body (hF : (K (F := F)).Facts) (hO : ∀ g, O g none = 0) (oi : S12x448x2x128.Idx → BitVec 32) :
    iprop(levAts (K (F := F)).L (K (F := F)).lev ∗ emp ∗ tileP (F := F) co W d (L 0).val (L 1).val oi
        ∗ scopedBufs (thr d L) ∗ scopedSems0 (thr d L) ∗ owes (thr d L) O Ws)
      ⊢ wp frame (wpE (defs₀ (F := F)) 𝒱₀ (thr d L) none) Set.univ
          (cc0_gather_0 (F := F) L cV (Memref.isWhole_whole _) wV (Memref.isWhole_whole _) oV (Memref.isWhole_whole _) tB (Memref.isWhole_whole _) cB (Memref.isWhole_whole _) oB (Memref.isWhole_whole _) cc0_scratch3 cc0_scratch4 cc0_scratch5)
          fun _ => iprop(tileP (F := F) co W d (L 0).val (L 1).val (OUTf co W)
            ∗ scopedBufs (thr d L) ∗ scopedSems0 (thr d L)
            ∗ ∃ W', ⌜∀ p ∈ W', p ∈ Ws ∨ p.2 = none ∨ p.2 = some (0 : Fin 1)⌝ ∗ owes (thr d L) O W') := by
  rw [(K (F := F)).scopedBufs_V hF d (cT L) (jT L), SparseCore.Cfg.scopedSems0_V (Val := Elt F) d (cT L) (jT L), ownSems0_V, ownBufs_V]
  iintro ⟨#Hlv, -, ⟨Hc, Hw, Ho⟩, ⟨HT, ⟨%fc, Hcb⟩, ⟨%fo, Hob⟩, Hbufs⟩, ⟨HS, SC0, SC1, SO0, SO1, Hsems⟩, HO⟩
  ihave ⟨HC0, HC1⟩ := (pointsTo_share (PosShare.mem_left_op_right (xq (L 0).val (L 1).val))).1 $$ Hc
  ihave ⟨B0, B1⟩ := (open_cB (F := F) d L fc) $$ Hcb
  ihave ⟨P0, P1⟩ := (open_oB (F := F) d L fo) $$ Hob
  ihave ⟨X0, X1, X2, X3, X4, X5⟩ := (open_o (F := F) d L oi) $$ Ho
  ihave H := (task (F := F) co W d L O Ws hO (xq (L 0).val (L 1).val) (xq (L 0).val (L 1).val).left (xq (L 0).val (L 1).val).right)
    $$ [HO HT HS Hw HC0 HC1 B0 B1 P0 P1 SC0 SC1 SO0 SO1 X0 X1 X2 X3 X4 X5]
  · isplitl [HO]
    · unfold OW
      isplitr; · iexact Hlv
      iexists Ws
      isplitr; swap; · iexact HO
      ipureintro; exact fun p hp => .inl hp
    isplitl [HT]; · iexact HT
    isplitl [HS]; · iexact HS
    isplitl [Hw]; · iexact Hw
    isplitl [HC0 B0 SC0]
    · unfold CI
      isplitl [B0]; · iexists fc; iexact B0
      isplitl [SC0]; · iexact SC0
      iexact HC0
    isplitl [HC1 B1 SC1]
    · unfold CI
      isplitl [B1]; · iexists fc; iexact B1
      isplitl [SC1]; · iexact SC1
      iexact HC1
    isplitl [P0 SO0]
    · unfold OI
      isplitl [P0]; · iexists fo; iexact P0
      iexact SO0
    isplitl [P1 SO1]
    · unfold OI
      isplitl [P1]; · iexists fo; iexact P1
      iexact SO1
    isplitl [X0]; · iexact X0
    isplitl [X1]; · iexact X1
    isplitl [X2]; · iexact X2
    isplitl [X3]; · iexact X3
    isplitl [X4]; · iexact X4
    iexact X5
  iapply (wp_wand_r frame (wpE (defs₀ (F := F)) 𝒱₀ (thr d L) none) Set.univ)
  isplitl [H]; · iexact H
  iintro %_ H
  unfold OW CI OI
  icases H with ⟨⟨-, ⟨%W', %hW, HO⟩⟩, HT, HS, Hw, ⟨⟨%f0, B0⟩, SC0, HC0⟩, ⟨⟨%f1, B1⟩, SC1, HC1⟩, ⟨⟨%g0, P0⟩, SO0⟩, ⟨⟨%g1, P1⟩, SO1⟩, HN⟩
  isplitl [HC0 HC1 Hw HN]
  · isplitl [HC0 HC1]
    · iapply (pointsTo_share (PosShare.mem_left_op_right (xq (L 0).val (L 1).val))).2
      isplitl [HC0]; · iexact HC0
      iexact HC1
    isplitl [Hw]; · iexact Hw
    iapply (close_o (F := F) co W d L); iexact HN
  isplitl [HT B0 B1 P0 P1 Hbufs]
  · isplitl [HT]; · iexact HT
    isplitl [B0 B1]; · iapply (close_cB (F := F) d L f0 f1); isplitl [B0] <;> iassumption
    isplitl [P0 P1]; · iapply (close_oB (F := F) d L g0 g1); isplitl [P0] <;> iassumption
    iexact Hbufs
  isplitl [HS SC0 SC1 SO0 SO1 Hsems]
  · isplitl [HS]; · iexact HS
    isplitl [SC0]; · iexact SC0
    isplitl [SC1]; · iexact SC1
    isplitl [SO0]; · iexact SO0
    isplitl [SO1]; · iexact SO1
    iexact Hsems
  iexists W'; isplitr
  swap; · iexact HO
  ipureintro; intro p hp
  rcases hW p hp with h | h
  · exact .inl h
  · exact .inr (.inl h)

end Tile

end Cert.Proof.GI
-- ==== Proof.GI.Launch.lean ====
/- THE CALL AND @main: the host's transposes and reshape, the two cores' thirty-two tasks, and the whole run. -/
module

public import proofs.«01_k».proof.Proof.GI.Tile

@[expose] public section

set_option maxRecDepth 65536

noncomputable section

namespace Cert.Proof.GI

open Cert.GatherIdeal Cert.GatherIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations before the call -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev op1 : HloOp τ sig (Elt F) := StableHlo.unary main_arg0 main_v0 ((transpose S224x18944 [1, 0] · transposes_S18944x224_S224x18944_1_0) : (⟨S18944x224, .i32⟩ : BufTy).Contents (Elt F) → (⟨S224x18944, .i32⟩ : BufTy).Contents (Elt F))
abbrev op2 : HloOp τ sig (Elt F) := StableHlo.reshape main_v0 main_v1 (rfl : (.i32 : EltTy) = .i32) shapeCasts_S224x18944_S28x8x148x128
abbrev op3 : HloOp τ sig (Elt F) := StableHlo.unary main_v1 main_v2 ((transpose S28x148x8x128 [0, 2, 1, 3] · transposes_S28x8x148x128_S28x148x8x128_0_2_1_3) : (⟨S28x8x148x128, .i32⟩ : BufTy).Contents (Elt F) → (⟨S28x148x8x128, .i32⟩ : BufTy).Contents (Elt F))
abbrev op4 : HloOp τ sig (Elt F) := StableHlo.unary main_arg1 main_v3 ((transpose S2x65536 [1, 0] · transposes_S65536x2_S2x65536_1_0) : (⟨S65536x2, .i32⟩ : BufTy).Contents (Elt F) → (⟨S2x65536, .i32⟩ : BufTy).Contents (Elt F))

/-- The launch contents, and the contents when the call starts. -/
def V0 (d : Dev nD) : Valuation τ sig (Elt F) := fun b => m (d, b)
def V4 (d : Dev nD) : Valuation τ sig (Elt F) := StableHlo.after [op1, op2, op3, op4] (V0 m d)

theorem V4_a0 (d : Dev nD) : V4 m d a0' = m ((SparseCore.T d).loc main_arg0) := by unfold V4; after_results <;> rfl
theorem V4_a1 (d : Dev nD) : V4 m d a1' = m ((SparseCore.T d).loc main_arg1) := by unfold V4; after_results <;> rfl
theorem V4_v4 (d : Dev nD) : V4 m d v4' = m (oLoc d) := by unfold V4; after_results <;> rfl

/-- The codes and the words as the call receives them. -/
def coM (d : Dev nD) : S28x148x8x128.Idx → BitVec 32 := V4 m d v2'
def WM (d : Dev nD) : S2x65536.Idx → BitVec 32 := V4 m d v3'
/-- The array the call leaves. -/
def OUTM (d : Dev nD) : S12x448x2x128.Idx → BitVec 32 := OUTf (coM m d) (WM m d)

theorem coM_eq (d : Dev nD) : coM m d = transpose S28x148x8x128 [0, 2, 1, 3] (shapeCast S28x8x148x128 (transpose S224x18944 [1, 0] (m ((SparseCore.T d).loc main_arg0))
    transposes_S18944x224_S224x18944_1_0) shapeCasts_S224x18944_S28x8x148x128) transposes_S28x8x148x128_S28x148x8x128_0_2_1_3 := by
  unfold coM V4; after_results <;> rfl
theorem WM_eq (d : Dev nD) : WM m d = transpose S2x65536 [1, 0] (m ((SparseCore.T d).loc main_arg1)) transposes_S65536x2_S2x65536_1_0 := by
  unfold WM V4; after_results <;> rfl

abbrev oI (d : Dev nD) : S12x448x2x128.Idx → BitVec 32 := V4 m d v4'

/-! ## What the handshakes carry -/

def P : (K (F := F)).Pay (nD := nD) (Val := Elt F) (Name := ℕ) (U := UU) where
  st := fun q d c => match q with | 0 => coreP (F := F) (coM m d) (WM m d) d c.val (oI m d)
  dn := fun q d c => match q with | 0 => coreP (F := F) (coM m d) (WM m d) d c.val (OUTM m d)
  go := fun q d c i => match q with | 0 => tileP (F := F) (coM m d) (WM m d) d c.val i.val (oI m d)
  td := fun q d c i => match q with | 0 => tileP (F := F) (coM m d) (WM m d) d c.val i.val (OUTM m d)
  x := fun _ _ => iprop(emp)

instance P_storable : (P (F := F) m).IsStorable where
  st q d c := match q with
    | 0 => (inferInstance : BI.Storable (upEmb : UEmb _ 𝕄) (coreP (F := F) (coM m d) (WM m d) d c.val (oI m d)))
  dn q d c := match q with
    | 0 => (inferInstance : BI.Storable (upEmb : UEmb _ 𝕄) (coreP (F := F) (coM m d) (WM m d) d c.val (OUTM m d)))
  go q d c i := match q with
    | 0 => (inferInstance : BI.Storable (upEmb : UEmb _ 𝕄) (tileP (F := F) (coM m d) (WM m d) d c.val i.val (oI m d)))
  td q d c i := match q with
    | 0 => (inferInstance : BI.Storable (upEmb : UEmb _ 𝕄) (tileP (F := F) (coM m d) (WM m d) d c.val i.val (OUTM m d)))

/-! ## The obligation of a task, and the split of a core's hand-over -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_0 (coordsV c s) cV (Memref.isWhole_whole _) wV (Memref.isWhole_whole _) oV (Memref.isWhole_whole _) tB (Memref.isWhole_whole _) cB (Memref.isWhole_whole _) oB (Memref.isWhole_whole _) cc0_scratch3 cc0_scratch4 cc0_scratch5) ⟨⟩ c s := rfl

theorem tileObl (hF : (K (F := F)).Facts) : (K (F := F)).TileObl (D (F := F)) 𝒱 (P m) v₀ 0 := by
  intro d c i O Ws hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (F := F) (coM m d) (WM m d) d (coordsV ⟨_, hci.1⟩ ⟨_, hci.2⟩) O Ws hF hO (oI m d)

theorem bigSep_tasks (Φ : ℕ → sProp 𝕄) :
    (bigSep Finset.univ fun i : Fin ((K (F := F)).nSub 0) => Φ i.val) = bigSep Finset.univ fun i : Fin 16 => Φ i.val := rfl
theorem bigSep_cores (Φ : ℕ → sProp 𝕄) :
    (bigSep Finset.univ fun i : Fin ((K (F := F)).nCore 0) => Φ i.val) = bigSep Finset.univ fun i : Fin 2 => Φ i.val := rfl

theorem vecSplit : (K (F := F)).VecSplit' (P m) 0 := by
  intro d c
  show coreP (F := F) (coM m d) (WM m d) d c.val (oI m d) ⊢ |={Set.univ}=> iprop(
      (bigSep Finset.univ fun i : Fin ((K (F := F)).nSub 0) => tileP (F := F) (coM m d) (WM m d) d c.val i.val (oI m d))
      ∗ ((bigSep Finset.univ fun i : Fin ((K (F := F)).nSub 0) => tileP (F := F) (coM m d) (WM m d) d c.val i.val (OUTM m d))
          -∗ coreP (F := F) (coM m d) (WM m d) d c.val (OUTM m d)))
  rw [bigSep_tasks (F := F) (fun i => tileP (F := F) (coM m d) (WM m d) d c.val i (oI m d)),
    bigSep_tasks (F := F) (fun i => tileP (F := F) (coM m d) (WM m d) d c.val i (OUTM m d))]
  iintro H; imodintro
  isplitl [H]
  · iapply (Entails.of_eq (core_tiles (F := F) (coM m d) (WM m d) d c.val (oI m d))); iexact H
  iintro H
  iapply (Entails.of_eq (core_tiles (F := F) (coM m d) (WM m d) d c.val (OUTM m d)).symm); iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev S7 : Finset (DevRef τ sig) := {a0', a1', v0', v1', v2', v3', v4'}

theorem held_S7 (d : Dev nD) (V : Valuation τ sig (Elt F)) :
    (StableHlo.held (T d) S7 V : sProp 𝕄) = iprop(((SparseCore.T d).loc main_arg0 ↦{fullShare} V a0') ∗ ((SparseCore.T d).loc main_arg1 ↦{fullShare} V a1')
      ∗ ((SparseCore.T d).loc main_v0 ↦{fullShare} V v0') ∗ ((SparseCore.T d).loc main_v1 ↦{fullShare} V v1')
      ∗ (cLoc d ↦{fullShare} V v2') ∗ (wLoc d ↦{fullShare} V v3') ∗ oLoc d ↦{fullShare} V v4') := by
  unfold StableHlo.held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (V : (b : Ref sig .tc) → Buf (Elt F) ((d.tc : Thread nD τ).loc b)) :
    (unscopedBufs d V : sProp 𝕄) = iprop(((SparseCore.T d).loc main_arg0 ↦{fullShare} V main_arg0) ∗ ((SparseCore.T d).loc main_arg1 ↦{fullShare} V main_arg1)
      ∗ ((SparseCore.T d).loc main_v0 ↦{fullShare} V main_v0) ∗ ((SparseCore.T d).loc main_v1 ↦{fullShare} V main_v1)
      ∗ (cLoc d ↦{fullShare} V main_v2) ∗ (wLoc d ↦{fullShare} V main_v3) ∗ oLoc d ↦{fullShare} V main_v4) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = StableHlo.held (T d) S7 (V0 m d) := by
  rw [unscopedBufs_eq, held_S7]; rfl

theorem st0_eq (d : Dev nD) : (bigSep Finset.univ fun c : Fin ((K (F := F)).nCore 0) => (P m).st 0 d c)
    = iprop(cPt (F := F) (coM m d) d fullShare ∗ wPt (F := F) (WM m d) d fullShare ∗ oPt (F := F) d Finset.univ (oI m d)) :=
  (whole_cores (F := F) (coM m d) (WM m d) d (oI m d)).symm
theorem dn0_eq (d : Dev nD) : (bigSep Finset.univ fun c : Fin ((K (F := F)).nCore 0) => (P m).dn 0 d c)
    = iprop(cPt (F := F) (coM m d) d fullShare ∗ wPt (F := F) (WM m d) d fullShare ∗ oPt (F := F) d Finset.univ (OUTM m d)) :=
  (whole_cores (F := F) (coM m d) (WM m d) d (OUTM m d)).symm

/-- What @main leaves the claim: the two arguments at their launch contents and the result. -/
abbrev FIN (d : Dev nD) : sProp 𝕄 := iprop(((SparseCore.T d).loc main_arg0 ↦{fullShare} m ((SparseCore.T d).loc main_arg0))
  ∗ ((SparseCore.T d).loc main_arg1 ↦{fullShare} m ((SparseCore.T d).loc main_arg1)) ∗ oLoc d ↦{fullShare} (OUTM m d : Buf (Elt F) (oLoc d)))

theorem h1 : (op1 (F := F)).bufs ⊆ S7 := show ({a0', v0'} : Finset (DevRef τ sig)) ⊆ S7 by decide
theorem h2 : (op2 (F := F)).bufs ⊆ S7 := show ({v0', v1'} : Finset (DevRef τ sig)) ⊆ S7 by decide
theorem h3 : (op3 (F := F)).bufs ⊆ S7 := show ({v1', v2'} : Finset (DevRef τ sig)) ⊆ S7 by decide
theorem h4 : (op4 (F := F)).bufs ⊆ S7 := show ({a1', v3'} : Finset (DevRef τ sig)) ⊆ S7 by decide

theorem V4_fold (d : Dev nD) : (op4 (F := F)).result ((op3 (F := F)).result ((op2 (F := F)).result ((op1 (F := F)).result (V0 m d)))) = V4 m d := rfl

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := op1) (S := S7) h1 (V := V0 m d)) $$ [Hb Hheld]
  · isplitl [Hb] <;> iassumption
  iintro ⟨Hb, Hheld⟩
  rw [wp_ret]; imodintro
  iapply (StableHlo.wp_hlo_within 𝒱 (SparseCore.T d) none Set.univ (op := op2) (S := S7) h2 (V := (op1 (F := F)).result (V0 m d))) $$ [Hb Hheld]
  · isplitl [Hb] <;> iassumption
  iintro ⟨Hb, Hheld⟩
  rw [wp_ret]; imodintro
  iapply (StableHlo.wp_hlo_within 𝒱 (SparseCore.T d) none Set.univ (op := op3) (S := S7) h3 (V := (op2 (F := F)).result ((op1 (F := F)).result (V0 m d)))) $$ [Hb Hheld]
  · isplitl [Hb] <;> iassumption
  iintro ⟨Hb, Hheld⟩
  rw [wp_ret]; imodintro
  iapply (StableHlo.wp_hlo_within 𝒱 (SparseCore.T d) none Set.univ (op := op4) (S := S7) h4 (V := (op3 (F := F)).result ((op2 (F := F)).result ((op1 (F := F)).result (V0 m d))))) $$ [Hb Hheld]
  · isplitl [Hb] <;> iassumption
  iintro ⟨Hb, Hheld⟩
  rw [wp_ret]; imodintro
  ihave Hheld' := (Entails.of_eq (congrArg (StableHlo.held (SparseCore.T d) S7) (V4_fold m d))) $$ Hheld
  ihave Hh := (Entails.of_eq (held_S7 (F := F) d (V4 m d))) $$ Hheld'
  icases Hh with ⟨Ha0, Ha1, -, -, Hc, Hw, Ho⟩
  iapply ((K (F := F)).wp_run (D (F := F)) 𝒱 (EH := EH) (P := P m) κ d 0) $$ [Hst Ha0 Ha1 Hc Hw Ho Hb Hts]
  isplitr; · iexact Hctx
  isplitl [Hst]; · iexact Hst
  isplitl [Hc Hw Ho]
  · rw [st0_eq]
    isplitl [Hc]; · iexact Hc
    isplitl [Hw]; · iexact Hw
    iexact Ho
  iintro ⟨Hst, Hdn⟩
  ihave Hdn' := (Entails.of_eq (dn0_eq m d)) $$ Hdn
  icases Hdn' with ⟨-, -, Ho⟩
  imodintro
  isplitl [Hst]; · iexact Hst
  isplitr [Hb Hts]
  · isplitl [Ha0]; · iapply (Entails.of_eq (congrArg (fun f => ((SparseCore.T d).loc main_arg0 ↦{fullShare} f : sProp 𝕄)) (V4_a0 m d))); iexact Ha0
    isplitl [Ha1]; · iapply (Entails.of_eq (congrArg (fun f => ((SparseCore.T d).loc main_arg1 ↦{fullShare} f : sProp 𝕄)) (V4_a1 m d))); iexact Ha1
    iexact Ho
  isplitl [Hb] <;> iassumption

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem (oLoc d) = OUTM m d

theorem hfin (d : Dev nD) (s' : Phys nD τ sig (Elt F)) : iprop(FIN m d ∗ SI s') ⊢ (⌜fq m d s'⌝ : sProp 𝕄) := by
  iintro ⟨⟨Hx, Ha, Ho⟩, HSI⟩
  ihave H := (persistent_entails_right (SI_pointsTo_agree (st := s') (ℓ := (SparseCore.T d).loc main_arg0) (I := Finset.univ) (q := fullShare) (f := m ((SparseCore.T d).loc main_arg0)))) $$ [HSI Hx]
  · isplitl [HSI] <;> iassumption
  icases H with ⟨%hx, HSI, -⟩
  ihave H := (persistent_entails_right (SI_pointsTo_agree (st := s') (ℓ := (SparseCore.T d).loc main_arg1) (I := Finset.univ) (q := fullShare) (f := m ((SparseCore.T d).loc main_arg1)))) $$ [HSI Ha]
  · isplitl [HSI] <;> iassumption
  icases H with ⟨%ha, HSI, -⟩
  ihave H := (SI_pointsTo_agree (st := s') (ℓ := oLoc d) (I := Finset.univ) (q := fullShare) (f := (OUTM m d : Buf (Elt F) (oLoc d)))) $$ [HSI Ho]
  · isplitl [HSI] <;> iassumption
  icases H with %ho
  ipureintro
  exact ⟨funext fun i => hx i (Finset.mem_univ i), funext fun i => ha i (Finset.mem_univ i), funext fun i => ho i (Finset.mem_univ i)⟩

/-! ## The run -/

def QC : PUnit × MemSt nD τ sig (Elt F) → Prop := fun r => (∀ c : Dev nD,
    r.2.mem ((SparseCore.T c).loc main_arg0) = m ((SparseCore.T c).loc main_arg0) ∧ r.2.mem ((SparseCore.T c).loc main_arg1) = m ((SparseCore.T c).loc main_arg1)
      ∧ r.2.mem (oLoc c) = OUTM m c) ∧ r.2.sem = fun _ => 0

/-- Every weakly fair execution ends, the arguments unchanged, the result at `OUTM`, every counter at zero. -/
theorem run_main [∀ e, Nonempty (Elt F e)] : θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GI
-- ==== Proof.Lookup.lean ====
/- THE GATHER'S EQUATION: the array the gather kernel leaves is the array the table lookup leaves. -/
module

public import proofs.«01_k».proof.Proof.GI.Launch
public import proofs.«01_k».proof.Proof.Gen.LookupIdeal
public import proofs.«01_k».proof.Proof.Gen.LookupIdeal.Run
public import Idealize.ShloMosaic.Lib.Pipeline.ValueKit

@[expose] public section

set_option maxRecDepth 65536

noncomputable section

namespace Cert.Proof.Lookup

open Idealize.ShloMosaic Idealize.ShloMosaic.TcCoe Idealize.SL.Sem Idealize.ShloMosaic.StableHlo
open Cert.LookupIdeal Cert.LookupIdeal.Gen

/-- The two indices of every code word, along a last axis. -/
def refIdx (a : IVec S18944x224 32) : IVec S18944x224x2 32 :=
  concatenate S18944x224x2 2 [⟨S18944x224x1, (broadcastInDim S18944x224x1 ![0, 1] bcast_S18944x224_S18944x224x1_0_1 (andi a (broadcastInDim S18944x224 ![] bcast_S_S18944x224 (constantI S_ 32 65535#32))))⟩, ⟨S18944x224x1, (broadcastInDim S18944x224x1 ![0, 1] bcast_S18944x224_S18944x224x1_0_1 (andi (Host.shrui a (broadcastInDim S18944x224 ![] bcast_S_S18944x224 (constantI S_ 32 16#32))) (broadcastInDim S18944x224 ![] bcast_S_S18944x224 (constantI S_ 32 65535#32))))⟩] concatenates_S18944x224x1_S18944x224x1_S18944x224x2_d2

/-- The start indices the lookup is given. -/
def refSel (a : IVec S18944x224 32) : IVec S18944x224x2x1 32 :=
  broadcastInDim S18944x224x2x1 ![0, 1, 2] bcast_S18944x224x2_S18944x224x2x1_0_1_2 (select (cmpi .slt (refIdx a) (broadcastInDim S18944x224x2 ![] bcast_S_S18944x224x2 (constantI S_ 32 0#32))) (addi (refIdx a) (broadcastInDim S18944x224x2 ![] bcast_S_S18944x224x2 (constantI S_ 32 65536#32))) (refIdx a))

/-- The lookup's result. -/
def refOut (a : IVec S18944x224 32) (w : IVec S65536x2 32) : IVec S12x448x2x128 32 :=
  extractStridedSlice S12x448x2x128 ![0, 0, 0, 0] (transpose S148x448x2x128 [0, 2, 3, 1] (shapeCast S148x128x448x2 (Host.gather gather_S65536x2_S18944x224x2x1_S18944x224x2x2_3_0_n_n_0_3_12 w (refSel a)) shapeCasts_S18944x224x2x2_S148x128x448x2) transposes_S148x128x448x2_S148x448x2x128_0_2_3_1) slices_S148x448x2x128_S12x448x2x128_0_0_0_0

theorem shr_and (w : BitVec 32) : (w >>> (16#32)) &&& 65535#32 = w >>> 16 := by
  apply BitVec.eq_of_toNat_eq
  rw [BitVec.toNat_and]
  have h := w.isLt
  simp only [BitVec.ushiftRight_eq', BitVec.toNat_ushiftRight, BitVec.toNat_ofNat]
  rw [show (65535 % 2 ^ 32 : ℕ) = 2 ^ 16 - 1 from rfl, Nat.and_two_pow_sub_one_eq_mod, show (16 % 2 ^ 32 : ℕ) = 16 from rfl, Nat.shiftRight_eq_div_pow]
  omega

theorem refIdx_apply (a : IVec S18944x224 32) (i : Fin 18944) (j : Fin 224) (h : Fin 2) :
    refIdx a (ix3 i j h) = GI.hw h.val (a (ix2 i j)) := by
  unfold refIdx
  match h with
  | ⟨0, h0⟩ =>
    rw [concatenate_pair_apply_left (t := S18944x224x2) (s₁ := S18944x224x1) (s₂ := S18944x224x1) (2 : Fin 3) _ _ _ (ix3 i j ⟨0, h0⟩) rfl (ix3 i j 0) (fun b => by match b with | 0 => rfl | 1 => rfl | 2 => rfl)]
    rw [broadcastInDim_apply (k := ix2 i j) (hk := fun b => by match b with | 0 => rfl | 1 => rfl)]
    rfl
  | ⟨1, h1⟩ =>
    rw [concatenate_pair_apply_right (t := S18944x224x2) (s₁ := S18944x224x1) (s₂ := S18944x224x1) (2 : Fin 3) _ _ _ (ix3 i j ⟨1, h1⟩) rfl rfl (ix3 i j 0) (fun b hb => by match b with | 0 => rfl | 1 => rfl | 2 => exact absurd rfl hb) rfl]
    rw [broadcastInDim_apply (k := ix2 i j) (hk := fun b => by match b with | 0 => rfl | 1 => rfl)]
    exact shr_and _

theorem not_slt (w : BitVec 32) (h : w.toNat < 65536) : w.slt 0#32 = false := by
  rw [BitVec.slt_eq_decide]
  have e : w.toInt = (w.toNat : Int) := by rw [BitVec.toInt_eq_toNat_of_lt]; omega
  rw [e]
  simp

theorem refSel_apply (a : IVec S18944x224 32) (i : Fin 18944) (j : Fin 224) (h : Fin 2) :
    refSel a (ix4 i j h 0) = GI.hw h.val (a (ix2 i j)) := by
  unfold refSel
  rw [broadcastInDim_apply (k := ix3 i j h) (hk := fun b => by match b with | 0 => rfl | 1 => rfl | 2 => rfl)]
  show Scalar.select (BitVec.ofBool ((refIdx a (ix3 i j h)).slt 0#32)) _ (refIdx a (ix3 i j h)) = _
  rw [refIdx_apply, not_slt _ (GI.hw_lt _ _)]
  rfl

/-- The lookup read at an index: the row of the words at the start index. -/
theorem gather_apply (w : IVec S65536x2 32) (idx : IVec S18944x224x2x1 32) (i : Fin 18944) (j : Fin 224) (h c : Fin 2) (k : ℕ) (hk : k < 65536)
    (e : (idx (ix4 i j h 0)).toNat = k) :
    Host.gather gather_S65536x2_S18944x224x2x1_S18944x224x2x2_3_0_n_n_0_3_12 w idx (ix4 i j h c) = w (ix2 ⟨k, hk⟩ c) := by
  unfold Host.gather
  refine congrArg w (funext fun b => Fin.ext ?_)
  match b with
  | ⟨0, _⟩ =>
    show GatherDims.start _ (ix4 i j h c) idx 0 + GatherDims.batchCoord _ (ix4 i j h c) 0 + GatherDims.offCoord _ (ix4 i j h c) 0 = k
    rw [GatherDims.batchCoord_eq_zero _ _ _ (by decide), GatherDims.offCoord_eq_zero _ _ _ (by decide)]
    simp only [Nat.add_zero]
    unfold GatherDims.start
    rw [dif_pos (by decide)]
    have hs : ∀ p, gather_S65536x2_S18944x224x2x1_S18944x224x2x2_3_0_n_n_0_3_12.siIdx (ix4 i j h c) p = ix4 i j h 0 := by
      intro p
      funext b
      apply Fin.ext
      match b with
      | ⟨0, _⟩ => rfl
      | ⟨1, _⟩ => rfl
      | ⟨2, _⟩ => rfl
      | ⟨3, _⟩ => have := p.isLt; change p.val < 1 at this; show p.val = 0; omega
    rw [hs]
    have e' : (idx (ix4 i j h 0)).toInt = (k : Int) := by rw [BitVec.toInt_eq_toNat_of_lt (by omega), e]
    rw [e']
    show min k 65535 = k
    omega
  | ⟨1, _⟩ =>
    show GatherDims.start _ (ix4 i j h c) idx 1 + GatherDims.batchCoord _ (ix4 i j h c) 1 + GatherDims.offCoord _ (ix4 i j h c) 1 = c.val
    rw [GatherDims.batchCoord_eq_zero _ _ _ (by decide)]
    unfold GatherDims.start
    rw [dif_neg (by decide)]
    unfold GatherDims.offCoord
    rw [dif_pos (by decide)]
    simp only [Nat.zero_add, Nat.add_zero]
    rfl

/-- The lookup's result at tile, row, word and lane. -/
theorem refOut_apply (a : IVec S18944x224 32) (w : IVec S65536x2 32) (t : Fin 12) (k : Fin 448) (c : Fin 2) (l : Fin 128) :
    refOut a w (ix4 t k c l) = w (ix2 ⟨(GI.hw (k.val % 2) (a (ix2 ⟨128 * t.val + l.val, by omega⟩ ⟨k.val / 2, by omega⟩))).toNat, GI.hw_lt _ _⟩ c) := by
  unfold refOut
  rw [extractStridedSlice_apply (k := (ix4 ⟨t.val, by omega⟩ k c l : S148x448x2x128.Idx)) (hk := fun b => by
    match b with
    | 0 => show t.val = 0 + t.val; omega
    | 1 => show k.val = 0 + k.val; omega
    | 2 => show c.val = 0 + c.val; omega
    | 3 => show l.val = 0 + l.val; omega)]
  rw [transpose_apply (k := (ix4 ⟨t.val, by omega⟩ l k c : S148x128x448x2.Idx)) (hk := fun b => by match b with | 0 => rfl | 1 => rfl | 2 => rfl | 3 => rfl)]
  rw [shapeCast_apply (k := (ix4 ⟨128 * t.val + l.val, by omega⟩ ⟨k.val / 2, by omega⟩ ⟨k.val % 2, by omega⟩ c : S18944x224x2x2.Idx)) (hk := by
    rw [Shape.rowMajor_val_four, Shape.rowMajor_val_four]
    show (((128 * t.val + l.val) * 224 + k.val / 2) * 2 + k.val % 2) * 2 + c.val = ((t.val * 128 + l.val) * 448 + k.val) * 2 + c.val
    omega)]
  refine gather_apply w _ _ _ _ _ _ _ ?_
  rw [refSel_apply]

variable (m : (ℓ : Loc Cert.GatherIdeal.nD Cert.GatherIdeal.τ Cert.GatherIdeal.sig) → Buf (Elt Ideal) ℓ)

theorem co_apply (d : Dev Cert.GatherIdeal.nD) (t : Fin 12) (k : Fin 448) (c : Fin 2) (l : Fin 128) :
    GI.coM m d (GI.odx (ix4 t k c l)) = (m ((d.tc : Thread Cert.GatherIdeal.nD Cert.GatherIdeal.τ).loc Cert.GatherIdeal.main_arg0) : IVec S18944x224 32)
      (ix2 ⟨128 * t.val + l.val, by omega⟩ ⟨k.val / 2, by omega⟩) := by
  rw [GI.coM_eq]
  rw [transpose_apply (k := (ix4 ⟨k.val / 16, by omega⟩ ⟨k.val % 16 / 2, by omega⟩ ⟨t.val, by omega⟩ l : Cert.GatherIdeal.S28x8x148x128.Idx)) (hk := fun b => by match b with | 0 => rfl | 1 => rfl | 2 => rfl | 3 => rfl)]
  rw [shapeCast_apply (k := (ix2 ⟨k.val / 2, by omega⟩ ⟨128 * t.val + l.val, by omega⟩ : Cert.GatherIdeal.S224x18944.Idx)) (hk := by
    rw [Shape.rowMajor_val_two, Shape.rowMajor_val_four]
    show k.val / 2 * 18944 + (128 * t.val + l.val) = ((k.val / 16 * 8 + k.val % 16 / 2) * 148 + t.val) * 128 + l.val
    omega)]
  rw [transpose_apply (k := (ix2 ⟨128 * t.val + l.val, by omega⟩ ⟨k.val / 2, by omega⟩ : Cert.GatherIdeal.S18944x224.Idx)) (hk := fun b => by match b with | 0 => rfl | 1 => rfl)]

theorem W_apply (d : Dev Cert.GatherIdeal.nD) (c : Fin 2) (n : Fin 65536) :
    GI.WM m d (ix2 c n) = (m ((d.tc : Thread Cert.GatherIdeal.nD Cert.GatherIdeal.τ).loc Cert.GatherIdeal.main_arg1) : IVec S65536x2 32) (ix2 n c) := by
  rw [GI.WM_eq]
  rw [transpose_apply (k := (ix2 n c : Cert.GatherIdeal.S65536x2.Idx)) (hk := fun b => by match b with | 0 => rfl | 1 => rfl)]

/-- The kernel's array is the lookup's, at tile, row, word and lane. -/
theorem out_at (d : Dev Cert.GatherIdeal.nD) (t : Fin 12) (k : Fin 448) (c : Fin 2) (l : Fin 128) :
    GI.OUTM m d (ix4 t k c l) = refOut (m ((d.tc : Thread Cert.GatherIdeal.nD Cert.GatherIdeal.τ).loc Cert.GatherIdeal.main_arg0)) (m ((d.tc : Thread Cert.GatherIdeal.nD Cert.GatherIdeal.τ).loc Cert.GatherIdeal.main_arg1)) (ix4 t k c l) := by
  refine Eq.trans ?_ (refOut_apply _ _ t k c l).symm
  have e : (GI.hw (k.val % 2) (GI.coM m d (GI.odx (ix4 t k c l)))).toNat < 65536 := GI.hw_lt _ _
  have h : GI.OUTM m d (ix4 t k c l) = GI.WM m d (ix2 c ⟨(GI.hw (k.val % 2) (GI.coM m d (GI.odx (ix4 t k c l)))).toNat, e⟩) :=
    congrArg (GI.WM m d) (funext fun a => by match a with | ⟨0, _⟩ => rfl | ⟨1, _⟩ => rfl)
  refine h.trans ((W_apply m d c _).trans ?_)
  refine congrArg _ (congrArg (fun n : Fin 65536 => ix2 n c) (Fin.ext ?_))
  exact congrArg (fun v => (GI.hw (k.val % 2) v).toNat) (co_apply m d t k c l)

/-- The kernel's array is the lookup's. -/
theorem out_eq (d : Dev Cert.GatherIdeal.nD) :
    GI.OUTM m d = refOut (m ((d.tc : Thread Cert.GatherIdeal.nD Cert.GatherIdeal.τ).loc Cert.GatherIdeal.main_arg0)) (m ((d.tc : Thread Cert.GatherIdeal.nD Cert.GatherIdeal.τ).loc Cert.GatherIdeal.main_arg1)) := by
  funext y
  have hy : y = ix4 (y 0) (y 1) (y 2) (y 3) := funext fun a => by match a with | ⟨0, _⟩ => rfl | ⟨1, _⟩ => rfl | ⟨2, _⟩ => rfl | ⟨3, _⟩ => rfl
  exact (congrArg (GI.OUTM m d) hy).trans ((out_at m d (y 0) (y 1) (y 2) (y 3)).trans (congrArg (refOut _ _) hy.symm))

end Cert.Proof.Lookup
-- ==== Proof.GatherClaims.lean ====
/- THE GATHER'S CLAIMS: the frames of the two gather programs and of the lookup, and the equality of their results. -/
module

public import proofs.«01_k».proof.Defs
public import proofs.«01_k».proof.Proof.G.Launch
public import proofs.«01_k».proof.Proof.GI.Launch
public import proofs.«01_k».proof.Proof.Lookup
public import Idealize.ShloMosaic.Adequacy
public import Idealize.ShloMosaic.Init

@[expose] public section

noncomputable section

namespace Cert.Proof

open Idealize.ShloMosaic Idealize.SL.Sem

theorem gather_frame : Cert.quiescent_Gather (hGather := Cert.Gather.Gen.facts) := fun m g _ =>
  (θ_run _ _ _).mono (fun _ h => ⟨fun c => ⟨(h.1 c).1, (h.1 c).2.1⟩, h.2⟩) (Cert.Proof.G.run_main (F := Bits) m g)

theorem gatherIdeal_frame : Cert.quiescent_GatherIdeal (hGatherIdeal := Cert.GatherIdeal.Gen.facts) := fun m g _ =>
  (θ_run _ _ _).mono (fun _ h => ⟨fun c => ⟨(h.1 c).1, (h.1 c).2.1⟩, h.2⟩) (Cert.Proof.GI.run_main (F := Ideal) m g)

theorem lookupIdeal_frame : Cert.quiescent_LookupIdeal (hLookupIdeal := Cert.LookupIdeal.Gen.facts) := fun m g _ =>
  (θ_run _ _ _).mono (fun r h => ⟨fun c => (h c).2, sem_eq_zero_of_no_sems (by decide) r.2⟩) (Cert.LookupIdeal.Value.run (F := Ideal) m g)

theorem gather_algebraic : Cert.algebraic_GatherIdeal_LookupIdeal (hGatherIdeal := Cert.GatherIdeal.Gen.facts)
    (hLookupIdeal := Cert.LookupIdeal.Gen.facts) := by
  intro m g m' g' _ hargs
  refine ⟨fun c => Cert.Proof.GI.OUTM m c, ?_, ?_⟩
  · exact (θ_run _ _ _).mono (fun _ h c => ⟨(h.1 c).2.2, (h.1 c).1, (h.1 c).2.1⟩) (Cert.Proof.GI.run_main (F := Ideal) m g)
  · refine (θ_run _ _ _).mono (fun r h c => ?_) (Cert.LookupIdeal.Value.run (F := Ideal) m' g')
    obtain ⟨h0, h1⟩ := hargs c
    refine ⟨((h c).1).trans (Eq.trans ?_ (Cert.Proof.Lookup.out_eq m c).symm), (h c).2⟩
    rw [← h0, ← h1]
    rfl

end Cert.Proof

end
-- ==== Proof.lean ====
/- THE CERTIFICATE: the frames of the matmul programs (generated), the equation of the kernel's and the reference's results
   over the extended reals (Proof/Equation.lean), and the gather's claims (Proof/GatherClaims.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.LookupIdeal
public import proofs.«01_k».proof.Proof.Gen.LookupIdeal.Run
public import proofs.«01_k».proof.Proof.KernelRun
public import proofs.«01_k».proof.Proof.Equation
public import proofs.«01_k».proof.Proof.GatherClaims
public import Idealize.ShloMosaic.Adequacy
public import Idealize.ShloMosaic.Init

@[expose] public section

noncomputable section

namespace Cert.Proof

open Idealize.ShloMosaic Idealize.SL.Sem Cert.Kernel

/-- The two results are one array: the reference's run and the kernel's run, at the equation of Proof/Equation.lean. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W7 m g c (Proc.devRef .tc Cert.KernelIdeal.main_v8), ?_, ?_⟩
  · exact (θ_run _ _ _).mono (fun _ h => h.1) (Cert.Proof.Run.run m g)
  · refine (θ_run _ _ _).mono (fun r h c => ?_) (Cert.ReferenceIdeal.Value.run (F := Ideal) m' g')
    obtain ⟨h0, h1, h2, h3, h4⟩ := hargs c
    refine ⟨((h c).1).trans (Eq.trans ?_ (W7_v8 m g c).symm), (h c).2⟩
    rw [reg_eq]
    refine congrArg (fun f => shapeCast Cert.KernelIdeal.S3x640x18944 f Cert.KernelIdeal.Gen.facts.shapeCasts_S1920x18944_S3x640x18944) ?_
    funext i
    rw [show i = ix2 (i 0) (i 1) from funext fun a => by match a with | ⟨0, _⟩ => rfl | ⟨1, _⟩ => rfl]
    exact chainAt_eq m m' c h0 h1 h2 h3 h4 (i 0) (i 1)

theorem claim : Cert.Claim := ⟨Cert.Kernel.Gen.facts, Cert.KernelIdeal.Gen.facts, Cert.ReferenceIdeal.Gen.facts,
  Cert.Gather.Gen.facts, Cert.GatherIdeal.Gen.facts, Cert.LookupIdeal.Gen.facts,
  fun m ρ _ => Cert.Kernel.Gen.frame m ρ, fun m ρ _ => Cert.KernelIdeal.Gen.frame m ρ, fun m ρ _ => Cert.ReferenceIdeal.Gen.frame m ρ,
  gather_frame, gatherIdeal_frame, lookupIdeal_frame, trivial, algebraic, trivial, gather_algebraic⟩

end Cert.Proof

end
